-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "scale_log2e" .f32 0x3E0293EE#32 (((Real.sqrt 128)⁻¹ * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S56x32x3x128x128 : Shape := ⟨5, ![56, 32, 3, 128, 128]⟩
abbrev S56x2048x128 : Shape := ⟨3, ![56, 2048, 128]⟩
abbrev S56x16x128x128 : Shape := ⟨4, ![56, 16, 128, 128]⟩
abbrev S56x16x64x128 : Shape := ⟨4, ![56, 16, 64, 128]⟩
abbrev S1x2048x56x128 : Shape := ⟨4, ![1, 2048, 56, 128]⟩
abbrev S1x2048x56 : Shape := ⟨3, ![1, 2048, 56]⟩
abbrev S_ : Shape := ⟨0, ![]⟩

class Facts : Prop where
  bcast_S_S56x32x3x128x128 : S_.BroadcastsInDim S56x32x3x128x128 (![] : Fin 0 → Fin S56x32x3x128x128.rank)
  bcast_S_S56x2048x128 : S_.BroadcastsInDim S56x2048x128 (![] : Fin 0 → Fin S56x2048x128.rank)

variable [Facts]

def fn {F : FTy → Type} [FloatOps F] (main_arg0 : FVec F S56x32x3x128x128 .bf16) (main_arg1 : FVec F S56x2048x128 .f32) (main_arg2 : FVec F S56x16x128x128 .bf16) (main_arg3 : FVec F S56x16x64x128 .f32) (main_arg4 : FVec F S1x2048x56x128 .bf16) (main_arg5 : FVec F S1x2048x56 .f32) : IVec S56x32x3x128x128 1 × IVec S56x2048x128 1 :=
  let main_v0 : FVec F S56x32x3x128x128 .bf16 := Host.absf main_arg0
  let main_cst : FVec F S_ .bf16 := constant S_ .bf16 0x7F80#16
  let main_v1 : FVec F S56x32x3x128x128 .bf16 := broadcastInDim S56x32x3x128x128 ![] bcast_S_S56x32x3x128x128 main_cst
  let main_v2 : IVec S56x32x3x128x128 1 := cmpf .olt main_v0 main_v1
  let main_v3 : FVec F S56x2048x128 .f32 := Host.absf main_arg1
  let main_cst_0 : FVec F S_ .f32 := constant S_ .f32 0x7F800000#32
  let main_v4 : FVec F S56x2048x128 .f32 := broadcastInDim S56x2048x128 ![] bcast_S_S56x2048x128 main_cst_0
  let main_v5 : IVec S56x2048x128 1 := cmpf .olt main_v3 main_v4
  (main_v2, main_v5)
-- ==== Kernel.lean ====
abbrev S56x32x3x128x128 : Shape := ⟨5, ![56, 32, 3, 128, 128]⟩
abbrev S56x2048x128 : Shape := ⟨3, ![56, 2048, 128]⟩
abbrev S56x16x128x128 : Shape := ⟨4, ![56, 16, 128, 128]⟩
abbrev S56x16x64x128 : Shape := ⟨4, ![56, 16, 64, 128]⟩
abbrev S1x2048x56x128 : Shape := ⟨4, ![1, 2048, 56, 128]⟩
abbrev S1x2048x56 : Shape := ⟨3, ![1, 2048, 56]⟩
abbrev S2048x7168 : Shape := ⟨2, ![2048, 7168]⟩
abbrev S2048x56 : Shape := ⟨2, ![2048, 56]⟩
abbrev S56x2048 : Shape := ⟨2, ![56, 2048]⟩
abbrev S56x16x128 : Shape := ⟨3, ![56, 16, 128]⟩
abbrev S1x32x3x128x128 : Shape := ⟨5, ![1, 32, 3, 128, 128]⟩
abbrev S1x2048x128 : Shape := ⟨3, ![1, 2048, 128]⟩
abbrev S1x16x128x128 : Shape := ⟨4, ![1, 16, 128, 128]⟩
abbrev S1x16x64x128 : Shape := ⟨4, ![1, 16, 64, 128]⟩
abbrev S2048x128 : Shape := ⟨2, ![2048, 128]⟩
abbrev S1x16x128 : Shape := ⟨3, ![1, 16, 128]⟩
abbrev S2048x256 : Shape := ⟨2, ![2048, 256]⟩
abbrev S128x2048 : Shape := ⟨2, ![128, 2048]⟩
abbrev S16x128 : Shape := ⟨2, ![16, 128]⟩
abbrev S16 : Shape := ⟨1, ![16]⟩
abbrev S16x1 : Shape := ⟨2, ![16, 1]⟩
abbrev S1x128 : Shape := ⟨2, ![1, 128]⟩
abbrev S128x128 : Shape := ⟨2, ![128, 128]⟩
abbrev S256x128 : Shape := ⟨2, ![256, 128]⟩
abbrev S128x256 : Shape := ⟨2, ![128, 256]⟩
abbrev S1x1x1x128x128 : Shape := ⟨5, ![1, 1, 1, 128, 128]⟩
abbrev S1x1x128x128 : Shape := ⟨4, ![1, 1, 128, 128]⟩
abbrev S256x256 : Shape := ⟨2, ![256, 256]⟩
abbrev S1x64x128 : Shape := ⟨3, ![1, 64, 128]⟩
abbrev S64x128 : Shape := ⟨2, ![64, 128]⟩
abbrev S1x1x64x128 : Shape := ⟨4, ![1, 1, 64, 128]⟩
abbrev S256x64 : Shape := ⟨2, ![256, 64]⟩
abbrev S64x256 : Shape := ⟨2, ![64, 256]⟩
abbrev S64x64 : Shape := ⟨2, ![64, 64]⟩
abbrev S192x128 : Shape := ⟨2, ![192, 128]⟩
abbrev S192x256 : Shape := ⟨2, ![192, 256]⟩
abbrev S192x64 : Shape := ⟨2, ![192, 64]⟩
abbrev S1x256 : Shape := ⟨2, ![1, 256]⟩
abbrev S32x8x256 : Shape := ⟨3, ![32, 8, 256]⟩
abbrev S8x256 : Shape := ⟨2, ![8, 256]⟩
abbrev S256 : Shape := ⟨1, ![256]⟩

abbrev nBuf : Space → Nat
  | .hbm => 11
  | .vmem => 21
  | .smem => 0
  | _ => 0

abbrev bufTy : (tb : Table) → Fin (tcTables nBuf tb) → BufTy
  | .hbm, ⟨0, _⟩ => ⟨S56x32x3x128x128, .bf16⟩
  | .hbm, ⟨1, _⟩ => ⟨S56x2048x128, .f32⟩
  | .hbm, ⟨2, _⟩ => ⟨S56x16x128x128, .bf16⟩
  | .hbm, ⟨3, _⟩ => ⟨S56x16x64x128, .f32⟩
  | .hbm, ⟨4, _⟩ => ⟨S1x2048x56x128, .bf16⟩
  | .hbm, ⟨5, _⟩ => ⟨S1x2048x56, .f32⟩
  | .hbm, ⟨6, _⟩ => ⟨S2048x7168, .bf16⟩
  | .hbm, ⟨7, _⟩ => ⟨S2048x56, .f32⟩
  | .hbm, ⟨8, _⟩ => ⟨S56x2048, .f32⟩
  | .hbm, ⟨9, _⟩ => ⟨S56x16x128, .f32⟩
  | .hbm, ⟨10, _⟩ => ⟨S2048x7168, .bf16⟩
  | .local _ .vmem, ⟨0, _⟩ => ⟨S1x32x3x128x128, .bf16⟩
  | .local _ .vmem, ⟨1, _⟩ => ⟨S1x32x3x128x128, .bf16⟩
  | .local _ .vmem, ⟨2, _⟩ => ⟨S1x2048x128, .f32⟩
  | .local _ .vmem, ⟨3, _⟩ => ⟨S1x2048x128, .f32⟩
  | .local _ .vmem, ⟨4, _⟩ => ⟨S1x16x128x128, .bf16⟩
  | .local _ .vmem, ⟨5, _⟩ => ⟨S1x16x128x128, .bf16⟩
  | .local _ .vmem, ⟨6, _⟩ => ⟨S1x16x64x128, .f32⟩
  | .local _ .vmem, ⟨7, _⟩ => ⟨S1x16x64x128, .f32⟩
  | .local _ .vmem, ⟨8, _⟩ => ⟨S2048x128, .bf16⟩
  | .local _ .vmem, ⟨9, _⟩ => ⟨S2048x128, .bf16⟩
  | .local _ .vmem, ⟨10, _⟩ => ⟨S1x16x128, .f32⟩
  | .local _ .vmem, ⟨11, _⟩ => ⟨S1x16x128, .f32⟩
  | .local _ .vmem, ⟨12, _⟩ => ⟨S2048x128, .bf16⟩
  | .local _ .vmem, ⟨13, _⟩ => ⟨S2048x128, .bf16⟩
  | .local _ .vmem, ⟨14, _⟩ => ⟨S2048x128, .bf16⟩
  | .local _ .vmem, ⟨15, _⟩ => ⟨S2048x128, .bf16⟩
  | .local _ .vmem, ⟨16, _⟩ => ⟨S2048x128, .bf16⟩
  | .local _ .vmem, ⟨17, _⟩ => ⟨S2048x256, .f32⟩
  | .local _ .vmem, ⟨18, _⟩ => ⟨S128x2048, .bf16⟩
  | .local _ .vmem, ⟨19, _⟩ => ⟨S2048x128, .f32⟩
  | .local _ .vmem, ⟨20, _⟩ => ⟨S16x128, .f32⟩
  | _, _ => ⟨S56x32x3x128x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_scratch6 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![56], ![false]⟩

@[reducible] def k0_t1_loop : Scf.Loop 32 :=
  let c0_i32 : BitVec 32 := 0#32
  let c8_i32_52 : BitVec 32 := 8#32
  let v201 : BitVec 32 := Scalar.addi c0_i32 c8_i32_52
  let c1_i32_53 : BitVec 32 := 1#32
  ⟨c0_i32, v201, c1_i32_53⟩
def k0_mult1 (k0_t1 : Fin k0_t1_loop.trips) : BitVec 32 :=
  let c0_i32 : BitVec 32 := 0#32
  let c1_i32_53 : BitVec 32 := 1#32
  let arg15 : BitVec 32 := Scf.iv c0_i32 c1_i32_53 k0_t1
  let c256_i32 : BitVec 32 := 256#32
  let v202 : BitVec 32 := Scalar.muli arg15 c256_i32
  v202
def k0_off1 (k0_t1 : Fin k0_t1_loop.trips) : Fin 2 → Nat :=
  let c0_i32 : BitVec 32 := 0#32
  let c1_i32_53 : BitVec 32 := 1#32
  let arg15 : BitVec 32 := Scf.iv c0_i32 c1_i32_53 k0_t1
  let c256_i32 : BitVec 32 := 256#32
  let v202 : BitVec 32 := Scalar.muli arg15 c256_i32
  let v203 : BitVec 32 := v202
  let v204 : Index := Scalar.indexCast v203
  let c0_55 : Index := 0#32
  ![v204.toNat, 0]
def k0_off2 (k0_t1 : Fin k0_t1_loop.trips) : Fin 2 → Nat :=
  let c0_56 : Index := 0#32
  let c0_i32 : BitVec 32 := 0#32
  let c1_i32_53 : BitVec 32 := 1#32
  let arg15 : BitVec 32 := Scf.iv c0_i32 c1_i32_53 k0_t1
  let c256_i32 : BitVec 32 := 256#32
  let v202 : BitVec 32 := Scalar.muli arg15 c256_i32
  let v203 : BitVec 32 := v202
  let v208 : Index := Scalar.indexCast v203
  ![0, v208.toNat]
def k0_off3 (k0_t1 : Fin k0_t1_loop.trips) (c0_i32_58 : BitVec 32) : Fin 5 → Nat :=
  let c0_59 : Index := 0#32
  let c0_i32 : BitVec 32 := 0#32
  let c1_i32_53 : BitVec 32 := 1#32
  let arg15 : BitVec 32 := Scf.iv c0_i32 c1_i32_53 k0_t1
  let c4_i32_57 : BitVec 32 := 4#32
  let v212 : BitVec 32 := Scalar.muli arg15 c4_i32_57
  let v213 : BitVec 32 := Scalar.addi v212 c0_i32_58
  let v214 : Index := Scalar.indexCast v213
  let c0_60 : Index := 0#32
  let c0_61 : Index := 0#32
  let c0_62 : Index := 0#32
  ![0, v214.toNat, 0, 0, 0]
def k0_off4 (k0_t1 : Fin k0_t1_loop.trips) (c0_i32_58 : BitVec 32) : Fin 5 → Nat :=
  let c0_63 : Index := 0#32
  let c0_i32 : BitVec 32 := 0#32
  let c1_i32_53 : BitVec 32 := 1#32
  let arg15 : BitVec 32 := Scf.iv c0_i32 c1_i32_53 k0_t1
  let c4_i32_57 : BitVec 32 := 4#32
  let v212 : BitVec 32 := Scalar.muli arg15 c4_i32_57
  let v213 : BitVec 32 := Scalar.addi v212 c0_i32_58
  let v217 : Index := Scalar.indexCast v213
  let c1 : Index := 1#32
  let c0_64 : Index := 0#32
  let c0_65 : Index := 0#32
  ![0, v217.toNat, 1, 0, 0]
def k0_off5 (k0_t1 : Fin k0_t1_loop.trips) (c0_i32_58 : BitVec 32) : Fin 5 → Nat :=
  let c0_66 : Index := 0#32
  let c0_i32 : BitVec 32 := 0#32
  let c1_i32_53 : BitVec 32 := 1#32
  let arg15 : BitVec 32 := Scf.iv c0_i32 c1_i32_53 k0_t1
  let c4_i32_57 : BitVec 32 := 4#32
  let v212 : BitVec 32 := Scalar.muli arg15 c4_i32_57
  let v213 : BitVec 32 := Scalar.addi v212 c0_i32_58
  let v220 : Index := Scalar.indexCast v213
  let c2 : Index := 2#32
  let c0_67 : Index := 0#32
  let c0_68 : Index := 0#32
  ![0, v220.toNat, 2, 0, 0]
def k0_off6 (k0_t1 : Fin k0_t1_loop.trips) (c0_i32_70 : BitVec 32) : Fin 4 → Nat :=
  let c0_71 : Index := 0#32
  let c0_i32 : BitVec 32 := 0#32
  let c1_i32_53 : BitVec 32 := 1#32
  let arg15 : BitVec 32 := Scf.iv c0_i32 c1_i32_53 k0_t1
  let c2_i32_69 : BitVec 32 := 2#32
  let v223 : BitVec 32 := Scalar.muli arg15 c2_i32_69
  let v224 : BitVec 32 := Scalar.addi v223 c0_i32_70
  let v225 : Index := Scalar.indexCast v224
  let c0_72 : Index := 0#32
  let c0_73 : Index := 0#32
  ![0, v225.toNat, 0, 0]
@[reducible] def k0_t2_loop (k0_t1 : Fin k0_t1_loop.trips) : Scf.Loop 32 :=
  let c0_i32_75 : BitVec 32 := 0#32
  let c0_i32 : BitVec 32 := 0#32
  let c1_i32_53 : BitVec 32 := 1#32
  let arg15 : BitVec 32 := Scf.iv c0_i32 c1_i32_53 k0_t1
  let v235 : BitVec 32 := Scalar.subi arg15 c0_i32_75
  let c1_i32_77 : BitVec 32 := 1#32
  let v237 : BitVec 32 := Scalar.divsi v235 c1_i32_77
  let v238 : BitVec 32 := Scalar.muli v237 c1_i32_77
  let v239 : BitVec 32 := Scalar.addi c0_i32_75 v238
  let c1_i32_78 : BitVec 32 := 1#32
  ⟨c0_i32_75, v239, c1_i32_78⟩
def k0_mult2 (k0_t1 : Fin k0_t1_loop.trips) (k0_t2 : Fin (k0_t2_loop k0_t1).trips) : BitVec 32 :=
  let c0_i32_75 : BitVec 32 := 0#32
  let c1_i32_78 : BitVec 32 := 1#32
  let arg16 : BitVec 32 := Scf.iv c0_i32_75 c1_i32_78 k0_t2
  let c256_i32_250 : BitVec 32 := 256#32
  let v639 : BitVec 32 := Scalar.muli arg16 c256_i32_250
  v639
def k0_off7 (k0_t1 : Fin k0_t1_loop.trips) (k0_t2 : Fin (k0_t2_loop k0_t1).trips) : Fin 2 → Nat :=
  let c0_i32_75 : BitVec 32 := 0#32
  let c1_i32_78 : BitVec 32 := 1#32
  let arg16 : BitVec 32 := Scf.iv c0_i32_75 c1_i32_78 k0_t2
  let c256_i32_250 : BitVec 32 := 256#32
  let v639 : BitVec 32 := Scalar.muli arg16 c256_i32_250
  let v640 : BitVec 32 := v639
  let v641 : Index := Scalar.indexCast v640
  let c0_251 : Index := 0#32
  ![v641.toNat, 0]
def k0_off8 (k0_t1 : Fin k0_t1_loop.trips) (k0_t2 : Fin (k0_t2_loop k0_t1).trips) : Fin 2 → Nat :=
  let c0_i32_75 : BitVec 32 := 0#32
  let c1_i32_78 : BitVec 32 := 1#32
  let arg16 : BitVec 32 := Scf.iv c0_i32_75 c1_i32_78 k0_t2
  let c256_i32_250 : BitVec 32 := 256#32
  let v639 : BitVec 32 := Scalar.muli arg16 c256_i32_250
  let v640 : BitVec 32 := v639
  let v676 : Index := Scalar.indexCast v640
  let c0_259 : Index := 0#32
  ![v676.toNat, 0]
@[reducible] def k0_t3_loop (k0_t1 : Fin k0_t1_loop.trips) : Scf.Loop 32 :=
  let c0_i32_75 : BitVec 32 := 0#32
  let c0_i32 : BitVec 32 := 0#32
  let c1_i32_53 : BitVec 32 := 1#32
  let arg15 : BitVec 32 := Scf.iv c0_i32 c1_i32_53 k0_t1
  let v235 : BitVec 32 := Scalar.subi arg15 c0_i32_75
  let c1_i32_77 : BitVec 32 := 1#32
  let v237 : BitVec 32 := Scalar.divsi v235 c1_i32_77
  let v238 : BitVec 32 := Scalar.muli v237 c1_i32_77
  let v239 : BitVec 32 := Scalar.addi c0_i32_75 v238
  let v236 : BitVec 32 := Scalar.addi c0_i32_75 v235
  let c1_i32_79 : BitVec 32 := 1#32
  ⟨v239, v236, c1_i32_79⟩
def k0_mult3 (k0_t1 : Fin k0_t1_loop.trips) (k0_t3 : Fin (k0_t3_loop k0_t1).trips) : BitVec 32 :=
  let c0_i32_75 : BitVec 32 := 0#32
  let c0_i32 : BitVec 32 := 0#32
  let c1_i32_53 : BitVec 32 := 1#32
  let arg15 : BitVec 32 := Scf.iv c0_i32 c1_i32_53 k0_t1
  let v235 : BitVec 32 := Scalar.subi arg15 c0_i32_75
  let c1_i32_77 : BitVec 32 := 1#32
  let v237 : BitVec 32 := Scalar.divsi v235 c1_i32_77
  let v238 : BitVec 32 := Scalar.muli v237 c1_i32_77
  let v239 : BitVec 32 := Scalar.addi c0_i32_75 v238
  let c1_i32_79 : BitVec 32 := 1#32
  let arg16 : BitVec 32 := Scf.iv v239 c1_i32_79 k0_t3
  let c256_i32_250 : BitVec 32 := 256#32
  let v639 : BitVec 32 := Scalar.muli arg16 c256_i32_250
  v639
def k0_off9 (k0_t1 : Fin k0_t1_loop.trips) (k0_t3 : Fin (k0_t3_loop k0_t1).trips) : Fin 2 → Nat :=
  let c0_i32_75 : BitVec 32 := 0#32
  let c0_i32 : BitVec 32 := 0#32
  let c1_i32_53 : BitVec 32 := 1#32
  let arg15 : BitVec 32 := Scf.iv c0_i32 c1_i32_53 k0_t1
  let v235 : BitVec 32 := Scalar.subi arg15 c0_i32_75
  let c1_i32_77 : BitVec 32 := 1#32
  let v237 : BitVec 32 := Scalar.divsi v235 c1_i32_77
  let v238 : BitVec 32 := Scalar.muli v237 c1_i32_77
  let v239 : BitVec 32 := Scalar.addi c0_i32_75 v238
  let c1_i32_79 : BitVec 32 := 1#32
  let arg16 : BitVec 32 := Scf.iv v239 c1_i32_79 k0_t3
  let c256_i32_250 : BitVec 32 := 256#32
  let v639 : BitVec 32 := Scalar.muli arg16 c256_i32_250
  let v640 : BitVec 32 := v639
  let v641 : Index := Scalar.indexCast v640
  let c0_251 : Index := 0#32
  ![v641.toNat, 0]
def k0_off10 (k0_t1 : Fin k0_t1_loop.trips) (k0_t3 : Fin (k0_t3_loop k0_t1).trips) : Fin 2 → Nat :=
  let c0_i32_75 : BitVec 32 := 0#32
  let c0_i32 : BitVec 32 := 0#32
  let c1_i32_53 : BitVec 32 := 1#32
  let arg15 : BitVec 32 := Scf.iv c0_i32 c1_i32_53 k0_t1
  let v235 : BitVec 32 := Scalar.subi arg15 c0_i32_75
  let c1_i32_77 : BitVec 32 := 1#32
  let v237 : BitVec 32 := Scalar.divsi v235 c1_i32_77
  let v238 : BitVec 32 := Scalar.muli v237 c1_i32_77
  let v239 : BitVec 32 := Scalar.addi c0_i32_75 v238
  let c1_i32_79 : BitVec 32 := 1#32
  let arg16 : BitVec 32 := Scf.iv v239 c1_i32_79 k0_t3
  let c256_i32_250 : BitVec 32 := 256#32
  let v639 : BitVec 32 := Scalar.muli arg16 c256_i32_250
  let v640 : BitVec 32 := v639
  let v676 : Index := Scalar.indexCast v640
  let c0_259 : Index := 0#32
  ![v676.toNat, 0]
def k0_mult4 (k0_t1 : Fin k0_t1_loop.trips) : BitVec 32 :=
  let c0_i32 : BitVec 32 := 0#32
  let c1_i32_53 : BitVec 32 := 1#32
  let arg15 : BitVec 32 := Scf.iv c0_i32 c1_i32_53 k0_t1
  let c256_i32 : BitVec 32 := 256#32
  let v202 : BitVec 32 := Scalar.muli arg15 c256_i32
  let v203 : BitVec 32 := v202
  let c0_i32_80 : BitVec 32 := 0#32
  let v242 : BitVec 32 := Scalar.addi v203 c0_i32_80
  v242
def k0_off11 (k0_t1 : Fin k0_t1_loop.trips) (c0_i32_80 : BitVec 32) : Fin 3 → Nat :=
  let c0_81 : Index := 0#32
  let c0_i32 : BitVec 32 := 0#32
  let c1_i32_53 : BitVec 32 := 1#32
  let arg15 : BitVec 32 := Scf.iv c0_i32 c1_i32_53 k0_t1
  let c256_i32 : BitVec 32 := 256#32
  let v202 : BitVec 32 := Scalar.muli arg15 c256_i32
  let v203 : BitVec 32 := v202
  let v242 : BitVec 32 := Scalar.addi v203 c0_i32_80
  let v243 : BitVec 32 := v242
  let v244 : Index := Scalar.indexCast v243
  let c0_82 : Index := 0#32
  ![0, v244.toNat, 0]
def k0_off12 (k0_t1 : Fin k0_t1_loop.trips) (c0_i32_80 : BitVec 32) : Fin 2 → Nat :=
  let c0_i32 : BitVec 32 := 0#32
  let c1_i32_53 : BitVec 32 := 1#32
  let arg15 : BitVec 32 := Scf.iv c0_i32 c1_i32_53 k0_t1
  let c256_i32 : BitVec 32 := 256#32
  let v202 : BitVec 32 := Scalar.muli arg15 c256_i32
  let v203 : BitVec 32 := v202
  let v242 : BitVec 32 := Scalar.addi v203 c0_i32_80
  let v243 : BitVec 32 := v242
  let v254 : Index := Scalar.indexCast v243
  let c0_83 : Index := 0#32
  ![v254.toNat, 0]
def k0_off13 (k0_t1 : Fin k0_t1_loop.trips) (c0_i32_87 : BitVec 32) : Fin 4 → Nat :=
  let c0_88 : Index := 0#32
  let c0_i32 : BitVec 32 := 0#32
  let c1_i32_53 : BitVec 32 := 1#32
  let arg15 : BitVec 32 := Scf.iv c0_i32 c1_i32_53 k0_t1
  let c2_i32_86 : BitVec 32 := 2#32
  let v266 : BitVec 32 := Scalar.muli arg15 c2_i32_86
  let v267 : BitVec 32 := Scalar.addi v266 c0_i32_87
  let v268 : Index := Scalar.indexCast v267
  let c0_89 : Index := 0#32
  let c0_90 : Index := 0#32
  ![0, v268.toNat, 0, 0]
def k0_off14 (k0_t1 : Fin k0_t1_loop.trips) : Fin 2 → Nat :=
  let c0_i32 : BitVec 32 := 0#32
  let c1_i32_53 : BitVec 32 := 1#32
  let arg15 : BitVec 32 := Scf.iv c0_i32 c1_i32_53 k0_t1
  let c256_i32 : BitVec 32 := 256#32
  let v202 : BitVec 32 := Scalar.muli arg15 c256_i32
  let v203 : BitVec 32 := v202
  let c0_i32_80 : BitVec 32 := 0#32
  let v242 : BitVec 32 := Scalar.addi v203 c0_i32_80
  let v243 : BitVec 32 := v242
  let v271 : Index := Scalar.indexCast v243
  let c0_91 : Index := 0#32
  ![v271.toNat, 0]
@[reducible] def k0_t4_loop (k0_t1 : Fin k0_t1_loop.trips) : Scf.Loop 32 :=
  let c0_i32_112 : BitVec 32 := 0#32
  let c0_i32 : BitVec 32 := 0#32
  let c1_i32_53 : BitVec 32 := 1#32
  let arg15 : BitVec 32 := Scf.iv c0_i32 c1_i32_53 k0_t1
  let v298 : BitVec 32 := Scalar.subi arg15 c0_i32_112
  let c1_i32_114 : BitVec 32 := 1#32
  let v300 : BitVec 32 := Scalar.divsi v298 c1_i32_114
  let v301 : BitVec 32 := Scalar.muli v300 c1_i32_114
  let v302 : BitVec 32 := Scalar.addi c0_i32_112 v301
  let c1_i32_115 : BitVec 32 := 1#32
  ⟨c0_i32_112, v302, c1_i32_115⟩
def k0_mult5 (k0_t1 : Fin k0_t1_loop.trips) (k0_t4 : Fin (k0_t4_loop k0_t1).trips) : BitVec 32 :=
  let c0_i32_112 : BitVec 32 := 0#32
  let c1_i32_115 : BitVec 32 := 1#32
  let arg16 : BitVec 32 := Scf.iv c0_i32_112 c1_i32_115 k0_t4
  let c256_i32_250 : BitVec 32 := 256#32
  let v639 : BitVec 32 := Scalar.muli arg16 c256_i32_250
  v639
def k0_off15 (k0_t1 : Fin k0_t1_loop.trips) (k0_t4 : Fin (k0_t4_loop k0_t1).trips) : Fin 2 → Nat :=
  let c0_i32_112 : BitVec 32 := 0#32
  let c1_i32_115 : BitVec 32 := 1#32
  let arg16 : BitVec 32 := Scf.iv c0_i32_112 c1_i32_115 k0_t4
  let c256_i32_250 : BitVec 32 := 256#32
  let v639 : BitVec 32 := Scalar.muli arg16 c256_i32_250
  let v640 : BitVec 32 := v639
  let v641 : Index := Scalar.indexCast v640
  let c0_251 : Index := 0#32
  ![v641.toNat, 0]
def k0_off16 (k0_t1 : Fin k0_t1_loop.trips) (k0_t4 : Fin (k0_t4_loop k0_t1).trips) : Fin 2 → Nat :=
  let c0_i32_112 : BitVec 32 := 0#32
  let c1_i32_115 : BitVec 32 := 1#32
  let arg16 : BitVec 32 := Scf.iv c0_i32_112 c1_i32_115 k0_t4
  let c256_i32_250 : BitVec 32 := 256#32
  let v639 : BitVec 32 := Scalar.muli arg16 c256_i32_250
  let v640 : BitVec 32 := v639
  let v676 : Index := Scalar.indexCast v640
  let c64_259 : Index := 64#32
  ![v676.toNat, 64]
@[reducible] def k0_t5_loop (k0_t1 : Fin k0_t1_loop.trips) : Scf.Loop 32 :=
  let c0_i32_112 : BitVec 32 := 0#32
  let c0_i32 : BitVec 32 := 0#32
  let c1_i32_53 : BitVec 32 := 1#32
  let arg15 : BitVec 32 := Scf.iv c0_i32 c1_i32_53 k0_t1
  let v298 : BitVec 32 := Scalar.subi arg15 c0_i32_112
  let c1_i32_114 : BitVec 32 := 1#32
  let v300 : BitVec 32 := Scalar.divsi v298 c1_i32_114
  let v301 : BitVec 32 := Scalar.muli v300 c1_i32_114
  let v302 : BitVec 32 := Scalar.addi c0_i32_112 v301
  let v299 : BitVec 32 := Scalar.addi c0_i32_112 v298
  let c1_i32_116 : BitVec 32 := 1#32
  ⟨v302, v299, c1_i32_116⟩
def k0_mult6 (k0_t1 : Fin k0_t1_loop.trips) (k0_t5 : Fin (k0_t5_loop k0_t1).trips) : BitVec 32 :=
  let c0_i32_112 : BitVec 32 := 0#32
  let c0_i32 : BitVec 32 := 0#32
  let c1_i32_53 : BitVec 32 := 1#32
  let arg15 : BitVec 32 := Scf.iv c0_i32 c1_i32_53 k0_t1
  let v298 : BitVec 32 := Scalar.subi arg15 c0_i32_112
  let c1_i32_114 : BitVec 32 := 1#32
  let v300 : BitVec 32 := Scalar.divsi v298 c1_i32_114
  let v301 : BitVec 32 := Scalar.muli v300 c1_i32_114
  let v302 : BitVec 32 := Scalar.addi c0_i32_112 v301
  let c1_i32_116 : BitVec 32 := 1#32
  let arg16 : BitVec 32 := Scf.iv v302 c1_i32_116 k0_t5
  let c256_i32_250 : BitVec 32 := 256#32
  let v639 : BitVec 32 := Scalar.muli arg16 c256_i32_250
  v639
def k0_off17 (k0_t1 : Fin k0_t1_loop.trips) (k0_t5 : Fin (k0_t5_loop k0_t1).trips) : Fin 2 → Nat :=
  let c0_i32_112 : BitVec 32 := 0#32
  let c0_i32 : BitVec 32 := 0#32
  let c1_i32_53 : BitVec 32 := 1#32
  let arg15 : BitVec 32 := Scf.iv c0_i32 c1_i32_53 k0_t1
  let v298 : BitVec 32 := Scalar.subi arg15 c0_i32_112
  let c1_i32_114 : BitVec 32 := 1#32
  let v300 : BitVec 32 := Scalar.divsi v298 c1_i32_114
  let v301 : BitVec 32 := Scalar.muli v300 c1_i32_114
  let v302 : BitVec 32 := Scalar.addi c0_i32_112 v301
  let c1_i32_116 : BitVec 32 := 1#32
  let arg16 : BitVec 32 := Scf.iv v302 c1_i32_116 k0_t5
  let c256_i32_250 : BitVec 32 := 256#32
  let v639 : BitVec 32 := Scalar.muli arg16 c256_i32_250
  let v640 : BitVec 32 := v639
  let v641 : Index := Scalar.indexCast v640
  let c0_251 : Index := 0#32
  ![v641.toNat, 0]
def k0_off18 (k0_t1 : Fin k0_t1_loop.trips) (k0_t5 : Fin (k0_t5_loop k0_t1).trips) : Fin 2 → Nat :=
  let c0_i32_112 : BitVec 32 := 0#32
  let c0_i32 : BitVec 32 := 0#32
  let c1_i32_53 : BitVec 32 := 1#32
  let arg15 : BitVec 32 := Scf.iv c0_i32 c1_i32_53 k0_t1
  let v298 : BitVec 32 := Scalar.subi arg15 c0_i32_112
  let c1_i32_114 : BitVec 32 := 1#32
  let v300 : BitVec 32 := Scalar.divsi v298 c1_i32_114
  let v301 : BitVec 32 := Scalar.muli v300 c1_i32_114
  let v302 : BitVec 32 := Scalar.addi c0_i32_112 v301
  let c1_i32_116 : BitVec 32 := 1#32
  let arg16 : BitVec 32 := Scf.iv v302 c1_i32_116 k0_t5
  let c256_i32_250 : BitVec 32 := 256#32
  let v639 : BitVec 32 := Scalar.muli arg16 c256_i32_250
  let v640 : BitVec 32 := v639
  let v676 : Index := Scalar.indexCast v640
  let c64_259 : Index := 64#32
  ![v676.toNat, 64]
def k0_off19 (k0_t1 : Fin k0_t1_loop.trips) : Fin 2 → Nat :=
  let c0_i32 : BitVec 32 := 0#32
  let c1_i32_53 : BitVec 32 := 1#32
  let arg15 : BitVec 32 := Scf.iv c0_i32 c1_i32_53 k0_t1
  let c256_i32 : BitVec 32 := 256#32
  let v202 : BitVec 32 := Scalar.muli arg15 c256_i32
  let v203 : BitVec 32 := v202
  let v305 : Index := Scalar.indexCast v203
  let c0_117 : Index := 0#32
  ![v305.toNat, 0]
def k0_off20 (k0_t1 : Fin k0_t1_loop.trips) : Fin 2 → Nat :=
  let c0_i32 : BitVec 32 := 0#32
  let c1_i32_53 : BitVec 32 := 1#32
  let arg15 : BitVec 32 := Scf.iv c0_i32 c1_i32_53 k0_t1
  let c256_i32 : BitVec 32 := 256#32
  let v202 : BitVec 32 := Scalar.muli arg15 c256_i32
  let v203 : BitVec 32 := v202
  let v340 : Index := Scalar.indexCast v203
  let c64 : Index := 64#32
  ![v340.toNat, 64]
def k0_mult7 (k0_t1 : Fin k0_t1_loop.trips) : BitVec 32 :=
  let c0_i32 : BitVec 32 := 0#32
  let c1_i32_53 : BitVec 32 := 1#32
  let arg15 : BitVec 32 := Scf.iv c0_i32 c1_i32_53 k0_t1
  let c256_i32 : BitVec 32 := 256#32
  let v202 : BitVec 32 := Scalar.muli arg15 c256_i32
  let v203 : BitVec 32 := v202
  let c64_i32_125 : BitVec 32 := 64#32
  let v344 : BitVec 32 := Scalar.addi v203 c64_i32_125
  v344
def k0_off21 (k0_t1 : Fin k0_t1_loop.trips) : Fin 2 → Nat :=
  let c0_i32 : BitVec 32 := 0#32
  let c1_i32_53 : BitVec 32 := 1#32
  let arg15 : BitVec 32 := Scf.iv c0_i32 c1_i32_53 k0_t1
  let c256_i32 : BitVec 32 := 256#32
  let v202 : BitVec 32 := Scalar.muli arg15 c256_i32
  let v203 : BitVec 32 := v202
  let c64_i32_125 : BitVec 32 := 64#32
  let v344 : BitVec 32 := Scalar.addi v203 c64_i32_125
  let v345 : BitVec 32 := v344
  let v374 : Index := Scalar.indexCast v345
  let c64_136 : Index := 64#32
  ![v374.toNat, 64]
@[reducible] def k0_t6_loop (k0_t1 : Fin k0_t1_loop.trips) : Scf.Loop 32 :=
  let c0_i32_157 : BitVec 32 := 0#32
  let c0_i32 : BitVec 32 := 0#32
  let c1_i32_53 : BitVec 32 := 1#32
  let arg15 : BitVec 32 := Scf.iv c0_i32 c1_i32_53 k0_t1
  let v401 : BitVec 32 := Scalar.subi arg15 c0_i32_157
  let c1_i32_159 : BitVec 32 := 1#32
  let v403 : BitVec 32 := Scalar.divsi v401 c1_i32_159
  let v404 : BitVec 32 := Scalar.muli v403 c1_i32_159
  let v405 : BitVec 32 := Scalar.addi c0_i32_157 v404
  let c1_i32_160 : BitVec 32 := 1#32
  ⟨c0_i32_157, v405, c1_i32_160⟩
def k0_mult8 (k0_t1 : Fin k0_t1_loop.trips) (k0_t6 : Fin (k0_t6_loop k0_t1).trips) : BitVec 32 :=
  let c0_i32_157 : BitVec 32 := 0#32
  let c1_i32_160 : BitVec 32 := 1#32
  let arg16 : BitVec 32 := Scf.iv c0_i32_157 c1_i32_160 k0_t6
  let c256_i32_250 : BitVec 32 := 256#32
  let v639 : BitVec 32 := Scalar.muli arg16 c256_i32_250
  v639
def k0_off22 (k0_t1 : Fin k0_t1_loop.trips) (k0_t6 : Fin (k0_t6_loop k0_t1).trips) : Fin 2 → Nat :=
  let c0_i32_157 : BitVec 32 := 0#32
  let c1_i32_160 : BitVec 32 := 1#32
  let arg16 : BitVec 32 := Scf.iv c0_i32_157 c1_i32_160 k0_t6
  let c256_i32_250 : BitVec 32 := 256#32
  let v639 : BitVec 32 := Scalar.muli arg16 c256_i32_250
  let v640 : BitVec 32 := v639
  let v641 : Index := Scalar.indexCast v640
  let c0_251 : Index := 0#32
  ![v641.toNat, 0]
def k0_off23 (k0_t1 : Fin k0_t1_loop.trips) (k0_t6 : Fin (k0_t6_loop k0_t1).trips) : Fin 2 → Nat :=
  let c0_i32_157 : BitVec 32 := 0#32
  let c1_i32_160 : BitVec 32 := 1#32
  let arg16 : BitVec 32 := Scf.iv c0_i32_157 c1_i32_160 k0_t6
  let c256_i32_250 : BitVec 32 := 256#32
  let v639 : BitVec 32 := Scalar.muli arg16 c256_i32_250
  let v640 : BitVec 32 := v639
  let v676 : Index := Scalar.indexCast v640
  let c128_259 : Index := 128#32
  ![v676.toNat, 128]
@[reducible] def k0_t7_loop (k0_t1 : Fin k0_t1_loop.trips) : Scf.Loop 32 :=
  let c0_i32_157 : BitVec 32 := 0#32
  let c0_i32 : BitVec 32 := 0#32
  let c1_i32_53 : BitVec 32 := 1#32
  let arg15 : BitVec 32 := Scf.iv c0_i32 c1_i32_53 k0_t1
  let v401 : BitVec 32 := Scalar.subi arg15 c0_i32_157
  let c1_i32_159 : BitVec 32 := 1#32
  let v403 : BitVec 32 := Scalar.divsi v401 c1_i32_159
  let v404 : BitVec 32 := Scalar.muli v403 c1_i32_159
  let v405 : BitVec 32 := Scalar.addi c0_i32_157 v404
  let v402 : BitVec 32 := Scalar.addi c0_i32_157 v401
  let c1_i32_161 : BitVec 32 := 1#32
  ⟨v405, v402, c1_i32_161⟩
def k0_mult9 (k0_t1 : Fin k0_t1_loop.trips) (k0_t7 : Fin (k0_t7_loop k0_t1).trips) : BitVec 32 :=
  let c0_i32_157 : BitVec 32 := 0#32
  let c0_i32 : BitVec 32 := 0#32
  let c1_i32_53 : BitVec 32 := 1#32
  let arg15 : BitVec 32 := Scf.iv c0_i32 c1_i32_53 k0_t1
  let v401 : BitVec 32 := Scalar.subi arg15 c0_i32_157
  let c1_i32_159 : BitVec 32 := 1#32
  let v403 : BitVec 32 := Scalar.divsi v401 c1_i32_159
  let v404 : BitVec 32 := Scalar.muli v403 c1_i32_159
  let v405 : BitVec 32 := Scalar.addi c0_i32_157 v404
  let c1_i32_161 : BitVec 32 := 1#32
  let arg16 : BitVec 32 := Scf.iv v405 c1_i32_161 k0_t7
  let c256_i32_250 : BitVec 32 := 256#32
  let v639 : BitVec 32 := Scalar.muli arg16 c256_i32_250
  v639
def k0_off24 (k0_t1 : Fin k0_t1_loop.trips) (k0_t7 : Fin (k0_t7_loop k0_t1).trips) : Fin 2 → Nat :=
  let c0_i32_157 : BitVec 32 := 0#32
  let c0_i32 : BitVec 32 := 0#32
  let c1_i32_53 : BitVec 32 := 1#32
  let arg15 : BitVec 32 := Scf.iv c0_i32 c1_i32_53 k0_t1
  let v401 : BitVec 32 := Scalar.subi arg15 c0_i32_157
  let c1_i32_159 : BitVec 32 := 1#32
  let v403 : BitVec 32 := Scalar.divsi v401 c1_i32_159
  let v404 : BitVec 32 := Scalar.muli v403 c1_i32_159
  let v405 : BitVec 32 := Scalar.addi c0_i32_157 v404
  let c1_i32_161 : BitVec 32 := 1#32
  let arg16 : BitVec 32 := Scf.iv v405 c1_i32_161 k0_t7
  let c256_i32_250 : BitVec 32 := 256#32
  let v639 : BitVec 32 := Scalar.muli arg16 c256_i32_250
  let v640 : BitVec 32 := v639
  let v641 : Index := Scalar.indexCast v640
  let c0_251 : Index := 0#32
  ![v641.toNat, 0]
def k0_off25 (k0_t1 : Fin k0_t1_loop.trips) (k0_t7 : Fin (k0_t7_loop k0_t1).trips) : Fin 2 → Nat :=
  let c0_i32_157 : BitVec 32 := 0#32
  let c0_i32 : BitVec 32 := 0#32
  let c1_i32_53 : BitVec 32 := 1#32
  let arg15 : BitVec 32 := Scf.iv c0_i32 c1_i32_53 k0_t1
  let v401 : BitVec 32 := Scalar.subi arg15 c0_i32_157
  let c1_i32_159 : BitVec 32 := 1#32
  let v403 : BitVec 32 := Scalar.divsi v401 c1_i32_159
  let v404 : BitVec 32 := Scalar.muli v403 c1_i32_159
  let v405 : BitVec 32 := Scalar.addi c0_i32_157 v404
  let c1_i32_161 : BitVec 32 := 1#32
  let arg16 : BitVec 32 := Scf.iv v405 c1_i32_161 k0_t7
  let c256_i32_250 : BitVec 32 := 256#32
  let v639 : BitVec 32 := Scalar.muli arg16 c256_i32_250
  let v640 : BitVec 32 := v639
  let v676 : Index := Scalar.indexCast v640
  let c128_259 : Index := 128#32
  ![v676.toNat, 128]
def k0_off26 (k0_t1 : Fin k0_t1_loop.trips) : Fin 2 → Nat :=
  let c0_i32 : BitVec 32 := 0#32
  let c1_i32_53 : BitVec 32 := 1#32
  let arg15 : BitVec 32 := Scf.iv c0_i32 c1_i32_53 k0_t1
  let c256_i32 : BitVec 32 := 256#32
  let v202 : BitVec 32 := Scalar.muli arg15 c256_i32
  let v203 : BitVec 32 := v202
  let v408 : Index := Scalar.indexCast v203
  let c0_162 : Index := 0#32
  ![v408.toNat, 0]
def k0_off27 (k0_t1 : Fin k0_t1_loop.trips) : Fin 2 → Nat :=
  let c0_i32 : BitVec 32 := 0#32
  let c1_i32_53 : BitVec 32 := 1#32
  let arg15 : BitVec 32 := Scf.iv c0_i32 c1_i32_53 k0_t1
  let c256_i32 : BitVec 32 := 256#32
  let v202 : BitVec 32 := Scalar.muli arg15 c256_i32
  let v203 : BitVec 32 := v202
  let v443 : Index := Scalar.indexCast v203
  let c128_170 : Index := 128#32
  ![v443.toNat, 128]
def k0_mult10 (k0_t1 : Fin k0_t1_loop.trips) : BitVec 32 :=
  let c0_i32 : BitVec 32 := 0#32
  let c1_i32_53 : BitVec 32 := 1#32
  let arg15 : BitVec 32 := Scf.iv c0_i32 c1_i32_53 k0_t1
  let c256_i32 : BitVec 32 := 256#32
  let v202 : BitVec 32 := Scalar.muli arg15 c256_i32
  let v203 : BitVec 32 := v202
  let c128_i32 : BitVec 32 := 128#32
  let v447 : BitVec 32 := Scalar.addi v203 c128_i32
  v447
def k0_off28 (k0_t1 : Fin k0_t1_loop.trips) : Fin 2 → Nat :=
  let c0_i32 : BitVec 32 := 0#32
  let c1_i32_53 : BitVec 32 := 1#32
  let arg15 : BitVec 32 := Scf.iv c0_i32 c1_i32_53 k0_t1
  let c256_i32 : BitVec 32 := 256#32
  let v202 : BitVec 32 := Scalar.muli arg15 c256_i32
  let v203 : BitVec 32 := v202
  let c128_i32 : BitVec 32 := 128#32
  let v447 : BitVec 32 := Scalar.addi v203 c128_i32
  let v448 : BitVec 32 := v447
  let v476 : Index := Scalar.indexCast v448
  let c128_181 : Index := 128#32
  ![v476.toNat, 128]
@[reducible] def k0_t8_loop (k0_t1 : Fin k0_t1_loop.trips) : Scf.Loop 32 :=
  let c0_i32_201 : BitVec 32 := 0#32
  let c0_i32 : BitVec 32 := 0#32
  let c1_i32_53 : BitVec 32 := 1#32
  let arg15 : BitVec 32 := Scf.iv c0_i32 c1_i32_53 k0_t1
  let v503 : BitVec 32 := Scalar.subi arg15 c0_i32_201
  let c1_i32_203 : BitVec 32 := 1#32
  let v505 : BitVec 32 := Scalar.divsi v503 c1_i32_203
  let v506 : BitVec 32 := Scalar.muli v505 c1_i32_203
  let v507 : BitVec 32 := Scalar.addi c0_i32_201 v506
  let c1_i32_204 : BitVec 32 := 1#32
  ⟨c0_i32_201, v507, c1_i32_204⟩
def k0_mult11 (k0_t1 : Fin k0_t1_loop.trips) (k0_t8 : Fin (k0_t8_loop k0_t1).trips) : BitVec 32 :=
  let c0_i32_201 : BitVec 32 := 0#32
  let c1_i32_204 : BitVec 32 := 1#32
  let arg16 : BitVec 32 := Scf.iv c0_i32_201 c1_i32_204 k0_t8
  let c256_i32_250 : BitVec 32 := 256#32
  let v639 : BitVec 32 := Scalar.muli arg16 c256_i32_250
  v639
def k0_off29 (k0_t1 : Fin k0_t1_loop.trips) (k0_t8 : Fin (k0_t8_loop k0_t1).trips) : Fin 2 → Nat :=
  let c0_i32_201 : BitVec 32 := 0#32
  let c1_i32_204 : BitVec 32 := 1#32
  let arg16 : BitVec 32 := Scf.iv c0_i32_201 c1_i32_204 k0_t8
  let c256_i32_250 : BitVec 32 := 256#32
  let v639 : BitVec 32 := Scalar.muli arg16 c256_i32_250
  let v640 : BitVec 32 := v639
  let v641 : Index := Scalar.indexCast v640
  let c0_251 : Index := 0#32
  ![v641.toNat, 0]
def k0_off30 (k0_t1 : Fin k0_t1_loop.trips) (k0_t8 : Fin (k0_t8_loop k0_t1).trips) : Fin 2 → Nat :=
  let c0_i32_201 : BitVec 32 := 0#32
  let c1_i32_204 : BitVec 32 := 1#32
  let arg16 : BitVec 32 := Scf.iv c0_i32_201 c1_i32_204 k0_t8
  let c256_i32_250 : BitVec 32 := 256#32
  let v639 : BitVec 32 := Scalar.muli arg16 c256_i32_250
  let v640 : BitVec 32 := v639
  let v676 : Index := Scalar.indexCast v640
  let c192_259 : Index := 192#32
  ![v676.toNat, 192]
@[reducible] def k0_t9_loop (k0_t1 : Fin k0_t1_loop.trips) : Scf.Loop 32 :=
  let c0_i32_201 : BitVec 32 := 0#32
  let c0_i32 : BitVec 32 := 0#32
  let c1_i32_53 : BitVec 32 := 1#32
  let arg15 : BitVec 32 := Scf.iv c0_i32 c1_i32_53 k0_t1
  let v503 : BitVec 32 := Scalar.subi arg15 c0_i32_201
  let c1_i32_203 : BitVec 32 := 1#32
  let v505 : BitVec 32 := Scalar.divsi v503 c1_i32_203
  let v506 : BitVec 32 := Scalar.muli v505 c1_i32_203
  let v507 : BitVec 32 := Scalar.addi c0_i32_201 v506
  let v504 : BitVec 32 := Scalar.addi c0_i32_201 v503
  let c1_i32_205 : BitVec 32 := 1#32
  ⟨v507, v504, c1_i32_205⟩
def k0_mult12 (k0_t1 : Fin k0_t1_loop.trips) (k0_t9 : Fin (k0_t9_loop k0_t1).trips) : BitVec 32 :=
  let c0_i32_201 : BitVec 32 := 0#32
  let c0_i32 : BitVec 32 := 0#32
  let c1_i32_53 : BitVec 32 := 1#32
  let arg15 : BitVec 32 := Scf.iv c0_i32 c1_i32_53 k0_t1
  let v503 : BitVec 32 := Scalar.subi arg15 c0_i32_201
  let c1_i32_203 : BitVec 32 := 1#32
  let v505 : BitVec 32 := Scalar.divsi v503 c1_i32_203
  let v506 : BitVec 32 := Scalar.muli v505 c1_i32_203
  let v507 : BitVec 32 := Scalar.addi c0_i32_201 v506
  let c1_i32_205 : BitVec 32 := 1#32
  let arg16 : BitVec 32 := Scf.iv v507 c1_i32_205 k0_t9
  let c256_i32_250 : BitVec 32 := 256#32
  let v639 : BitVec 32 := Scalar.muli arg16 c256_i32_250
  v639
def k0_off31 (k0_t1 : Fin k0_t1_loop.trips) (k0_t9 : Fin (k0_t9_loop k0_t1).trips) : Fin 2 → Nat :=
  let c0_i32_201 : BitVec 32 := 0#32
  let c0_i32 : BitVec 32 := 0#32
  let c1_i32_53 : BitVec 32 := 1#32
  let arg15 : BitVec 32 := Scf.iv c0_i32 c1_i32_53 k0_t1
  let v503 : BitVec 32 := Scalar.subi arg15 c0_i32_201
  let c1_i32_203 : BitVec 32 := 1#32
  let v505 : BitVec 32 := Scalar.divsi v503 c1_i32_203
  let v506 : BitVec 32 := Scalar.muli v505 c1_i32_203
  let v507 : BitVec 32 := Scalar.addi c0_i32_201 v506
  let c1_i32_205 : BitVec 32 := 1#32
  let arg16 : BitVec 32 := Scf.iv v507 c1_i32_205 k0_t9
  let c256_i32_250 : BitVec 32 := 256#32
  let v639 : BitVec 32 := Scalar.muli arg16 c256_i32_250
  let v640 : BitVec 32 := v639
  let v641 : Index := Scalar.indexCast v640
  let c0_251 : Index := 0#32
  ![v641.toNat, 0]
def k0_off32 (k0_t1 : Fin k0_t1_loop.trips) (k0_t9 : Fin (k0_t9_loop k0_t1).trips) : Fin 2 → Nat :=
  let c0_i32_201 : BitVec 32 := 0#32
  let c0_i32 : BitVec 32 := 0#32
  let c1_i32_53 : BitVec 32 := 1#32
  let arg15 : BitVec 32 := Scf.iv c0_i32 c1_i32_53 k0_t1
  let v503 : BitVec 32 := Scalar.subi arg15 c0_i32_201
  let c1_i32_203 : BitVec 32 := 1#32
  let v505 : BitVec 32 := Scalar.divsi v503 c1_i32_203
  let v506 : BitVec 32 := Scalar.muli v505 c1_i32_203
  let v507 : BitVec 32 := Scalar.addi c0_i32_201 v506
  let c1_i32_205 : BitVec 32 := 1#32
  let arg16 : BitVec 32 := Scf.iv v507 c1_i32_205 k0_t9
  let c256_i32_250 : BitVec 32 := 256#32
  let v639 : BitVec 32 := Scalar.muli arg16 c256_i32_250
  let v640 : BitVec 32 := v639
  let v676 : Index := Scalar.indexCast v640
  let c192_259 : Index := 192#32
  ![v676.toNat, 192]
def k0_off33 (k0_t1 : Fin k0_t1_loop.trips) : Fin 2 → Nat :=
  let c0_i32 : BitVec 32 := 0#32
  let c1_i32_53 : BitVec 32 := 1#32
  let arg15 : BitVec 32 := Scf.iv c0_i32 c1_i32_53 k0_t1
  let c256_i32 : BitVec 32 := 256#32
  let v202 : BitVec 32 := Scalar.muli arg15 c256_i32
  let v203 : BitVec 32 := v202
  let v510 : Index := Scalar.indexCast v203
  let c0_206 : Index := 0#32
  ![v510.toNat, 0]
def k0_off34 (k0_t1 : Fin k0_t1_loop.trips) : Fin 2 → Nat :=
  let c0_i32 : BitVec 32 := 0#32
  let c1_i32_53 : BitVec 32 := 1#32
  let arg15 : BitVec 32 := Scf.iv c0_i32 c1_i32_53 k0_t1
  let c256_i32 : BitVec 32 := 256#32
  let v202 : BitVec 32 := Scalar.muli arg15 c256_i32
  let v203 : BitVec 32 := v202
  let v545 : Index := Scalar.indexCast v203
  let c192 : Index := 192#32
  ![v545.toNat, 192]
def k0_mult13 (k0_t1 : Fin k0_t1_loop.trips) : BitVec 32 :=
  let c0_i32 : BitVec 32 := 0#32
  let c1_i32_53 : BitVec 32 := 1#32
  let arg15 : BitVec 32 := Scf.iv c0_i32 c1_i32_53 k0_t1
  let c256_i32 : BitVec 32 := 256#32
  let v202 : BitVec 32 := Scalar.muli arg15 c256_i32
  let v203 : BitVec 32 := v202
  let c192_i32 : BitVec 32 := 192#32
  let v549 : BitVec 32 := Scalar.addi v203 c192_i32
  v549
def k0_off35 (k0_t1 : Fin k0_t1_loop.trips) : Fin 2 → Nat :=
  let c0_i32 : BitVec 32 := 0#32
  let c1_i32_53 : BitVec 32 := 1#32
  let arg15 : BitVec 32 := Scf.iv c0_i32 c1_i32_53 k0_t1
  let c256_i32 : BitVec 32 := 256#32
  let v202 : BitVec 32 := Scalar.muli arg15 c256_i32
  let v203 : BitVec 32 := v202
  let c192_i32 : BitVec 32 := 192#32
  let v549 : BitVec 32 := Scalar.addi v203 c192_i32
  let v550 : BitVec 32 := v549
  let v579 : Index := Scalar.indexCast v550
  let c192_224 : Index := 192#32
  ![v579.toNat, 192]
def k0_off36 (k0_t1 : Fin k0_t1_loop.trips) : Fin 2 → Nat :=
  let c2_i32_225 : BitVec 32 := 2#32
  let c0_i32 : BitVec 32 := 0#32
  let c1_i32_53 : BitVec 32 := 1#32
  let arg15 : BitVec 32 := Scf.iv c0_i32 c1_i32_53 k0_t1
  let v583 : BitVec 32 := Scalar.muli c2_i32_225 arg15
  let v584 : Index := Scalar.indexCast v583
  let c0_226 : Index := 0#32
  ![v584.toNat, 0]
def k0_off37 (k0_t1 : Fin k0_t1_loop.trips) : Fin 2 → Nat :=
  let c2_i32_227 : BitVec 32 := 2#32
  let c0_i32 : BitVec 32 := 0#32
  let c1_i32_53 : BitVec 32 := 1#32
  let arg15 : BitVec 32 := Scf.iv c0_i32 c1_i32_53 k0_t1
  let v586 : BitVec 32 := Scalar.muli c2_i32_227 arg15
  let c1_i32_228 : BitVec 32 := 1#32
  let v587 : BitVec 32 := Scalar.addi v586 c1_i32_228
  let v588 : Index := Scalar.indexCast v587
  let c0_229 : Index := 0#32
  ![v588.toNat, 0]
def k0_off38 (k0_t1 : Fin k0_t1_loop.trips) : Fin 2 → Nat :=
  let c0_i32 : BitVec 32 := 0#32
  let c1_i32_53 : BitVec 32 := 1#32
  let arg15 : BitVec 32 := Scf.iv c0_i32 c1_i32_53 k0_t1
  let c256_i32 : BitVec 32 := 256#32
  let v202 : BitVec 32 := Scalar.muli arg15 c256_i32
  let v203 : BitVec 32 := v202
  let v596 : Index := Scalar.indexCast v203
  let c0_231 : Index := 0#32
  ![v596.toNat, 0]
@[reducible] def k0_t10_loop (k0_t1 : Fin k0_t1_loop.trips) : Scf.Loop 32 :=
  let c0_i32_236 : BitVec 32 := 0#32
  let c0_i32 : BitVec 32 := 0#32
  let c1_i32_53 : BitVec 32 := 1#32
  let arg15 : BitVec 32 := Scf.iv c0_i32 c1_i32_53 k0_t1
  let v610 : BitVec 32 := Scalar.subi arg15 c0_i32_236
  let c1_i32_237 : BitVec 32 := 1#32
  let v612 : BitVec 32 := Scalar.divsi v610 c1_i32_237
  let v613 : BitVec 32 := Scalar.muli v612 c1_i32_237
  let v614 : BitVec 32 := Scalar.addi c0_i32_236 v613
  let c1_i32_238 : BitVec 32 := 1#32
  ⟨c0_i32_236, v614, c1_i32_238⟩
def k0_mult14 (k0_t1 : Fin k0_t1_loop.trips) (k0_t10 : Fin (k0_t10_loop k0_t1).trips) : BitVec 32 :=
  let c0_i32_236 : BitVec 32 := 0#32
  let c1_i32_238 : BitVec 32 := 1#32
  let arg16 : BitVec 32 := Scf.iv c0_i32_236 c1_i32_238 k0_t10
  let c256_i32_250 : BitVec 32 := 256#32
  let v639 : BitVec 32 := Scalar.muli arg16 c256_i32_250
  v639
def k0_off39 (k0_t1 : Fin k0_t1_loop.trips) (k0_t10 : Fin (k0_t10_loop k0_t1).trips) : Fin 2 → Nat :=
  let c0_i32_236 : BitVec 32 := 0#32
  let c1_i32_238 : BitVec 32 := 1#32
  let arg16 : BitVec 32 := Scf.iv c0_i32_236 c1_i32_238 k0_t10
  let c256_i32_250 : BitVec 32 := 256#32
  let v639 : BitVec 32 := Scalar.muli arg16 c256_i32_250
  let v640 : BitVec 32 := v639
  let v641 : Index := Scalar.indexCast v640
  let c0_251 : Index := 0#32
  ![v641.toNat, 0]
def k0_off40 (k0_t1 : Fin k0_t1_loop.trips) (k0_t10 : Fin (k0_t10_loop k0_t1).trips) : Fin 2 → Nat :=
  let c0_i32_236 : BitVec 32 := 0#32
  let c1_i32_238 : BitVec 32 := 1#32
  let arg16 : BitVec 32 := Scf.iv c0_i32_236 c1_i32_238 k0_t10
  let c256_i32_250 : BitVec 32 := 256#32
  let v639 : BitVec 32 := Scalar.muli arg16 c256_i32_250
  let v640 : BitVec 32 := v639
  let v643 : Index := Scalar.indexCast v640
  let c0_252 : Index := 0#32
  ![v643.toNat, 0]
@[reducible] def k0_t11_loop (k0_t1 : Fin k0_t1_loop.trips) : Scf.Loop 32 :=
  let c0_i32_236 : BitVec 32 := 0#32
  let c0_i32 : BitVec 32 := 0#32
  let c1_i32_53 : BitVec 32 := 1#32
  let arg15 : BitVec 32 := Scf.iv c0_i32 c1_i32_53 k0_t1
  let v610 : BitVec 32 := Scalar.subi arg15 c0_i32_236
  let c1_i32_237 : BitVec 32 := 1#32
  let v612 : BitVec 32 := Scalar.divsi v610 c1_i32_237
  let v613 : BitVec 32 := Scalar.muli v612 c1_i32_237
  let v614 : BitVec 32 := Scalar.addi c0_i32_236 v613
  let v611 : BitVec 32 := Scalar.addi c0_i32_236 v610
  let c1_i32_239 : BitVec 32 := 1#32
  ⟨v614, v611, c1_i32_239⟩
def k0_mult15 (k0_t1 : Fin k0_t1_loop.trips) (k0_t11 : Fin (k0_t11_loop k0_t1).trips) : BitVec 32 :=
  let c0_i32_236 : BitVec 32 := 0#32
  let c0_i32 : BitVec 32 := 0#32
  let c1_i32_53 : BitVec 32 := 1#32
  let arg15 : BitVec 32 := Scf.iv c0_i32 c1_i32_53 k0_t1
  let v610 : BitVec 32 := Scalar.subi arg15 c0_i32_236
  let c1_i32_237 : BitVec 32 := 1#32
  let v612 : BitVec 32 := Scalar.divsi v610 c1_i32_237
  let v613 : BitVec 32 := Scalar.muli v612 c1_i32_237
  let v614 : BitVec 32 := Scalar.addi c0_i32_236 v613
  let c1_i32_239 : BitVec 32 := 1#32
  let arg16 : BitVec 32 := Scf.iv v614 c1_i32_239 k0_t11
  let c256_i32_250 : BitVec 32 := 256#32
  let v639 : BitVec 32 := Scalar.muli arg16 c256_i32_250
  v639
def k0_off41 (k0_t1 : Fin k0_t1_loop.trips) (k0_t11 : Fin (k0_t11_loop k0_t1).trips) : Fin 2 → Nat :=
  let c0_i32_236 : BitVec 32 := 0#32
  let c0_i32 : BitVec 32 := 0#32
  let c1_i32_53 : BitVec 32 := 1#32
  let arg15 : BitVec 32 := Scf.iv c0_i32 c1_i32_53 k0_t1
  let v610 : BitVec 32 := Scalar.subi arg15 c0_i32_236
  let c1_i32_237 : BitVec 32 := 1#32
  let v612 : BitVec 32 := Scalar.divsi v610 c1_i32_237
  let v613 : BitVec 32 := Scalar.muli v612 c1_i32_237
  let v614 : BitVec 32 := Scalar.addi c0_i32_236 v613
  let c1_i32_239 : BitVec 32 := 1#32
  let arg16 : BitVec 32 := Scf.iv v614 c1_i32_239 k0_t11
  let c256_i32_250 : BitVec 32 := 256#32
  let v639 : BitVec 32 := Scalar.muli arg16 c256_i32_250
  let v640 : BitVec 32 := v639
  let v641 : Index := Scalar.indexCast v640
  let c0_251 : Index := 0#32
  ![v641.toNat, 0]
def k0_off42 (k0_t1 : Fin k0_t1_loop.trips) (k0_t11 : Fin (k0_t11_loop k0_t1).trips) : Fin 2 → Nat :=
  let c0_i32_236 : BitVec 32 := 0#32
  let c0_i32 : BitVec 32 := 0#32
  let c1_i32_53 : BitVec 32 := 1#32
  let arg15 : BitVec 32 := Scf.iv c0_i32 c1_i32_53 k0_t1
  let v610 : BitVec 32 := Scalar.subi arg15 c0_i32_236
  let c1_i32_237 : BitVec 32 := 1#32
  let v612 : BitVec 32 := Scalar.divsi v610 c1_i32_237
  let v613 : BitVec 32 := Scalar.muli v612 c1_i32_237
  let v614 : BitVec 32 := Scalar.addi c0_i32_236 v613
  let c1_i32_239 : BitVec 32 := 1#32
  let arg16 : BitVec 32 := Scf.iv v614 c1_i32_239 k0_t11
  let c256_i32_250 : BitVec 32 := 256#32
  let v639 : BitVec 32 := Scalar.muli arg16 c256_i32_250
  let v640 : BitVec 32 := v639
  let v643 : Index := Scalar.indexCast v640
  let c0_252 : Index := 0#32
  ![v643.toNat, 0]
@[reducible] def k0_t12_loop (k0_t1 : Fin k0_t1_loop.trips) : Scf.Loop 32 :=
  let c0_i32_244 : BitVec 32 := 0#32
  let c0_i32 : BitVec 32 := 0#32
  let c1_i32_53 : BitVec 32 := 1#32
  let arg15 : BitVec 32 := Scf.iv c0_i32 c1_i32_53 k0_t1
  let c1_i32_241 : BitVec 32 := 1#32
  let v621 : BitVec 32 := Scalar.addi arg15 c1_i32_241
  let v624 : BitVec 32 := Scalar.subi v621 c0_i32_244
  let c1_i32_245 : BitVec 32 := 1#32
  let v626 : BitVec 32 := Scalar.divsi v624 c1_i32_245
  let v627 : BitVec 32 := Scalar.muli v626 c1_i32_245
  let v628 : BitVec 32 := Scalar.addi c0_i32_244 v627
  let c1_i32_246 : BitVec 32 := 1#32
  ⟨c0_i32_244, v628, c1_i32_246⟩
def k0_mult16 (k0_t1 : Fin k0_t1_loop.trips) (k0_t12 : Fin (k0_t12_loop k0_t1).trips) : BitVec 32 :=
  let c0_i32_244 : BitVec 32 := 0#32
  let c1_i32_246 : BitVec 32 := 1#32
  let arg16 : BitVec 32 := Scf.iv c0_i32_244 c1_i32_246 k0_t12
  let c256_i32_250 : BitVec 32 := 256#32
  let v639 : BitVec 32 := Scalar.muli arg16 c256_i32_250
  v639
def k0_off43 (k0_t1 : Fin k0_t1_loop.trips) (k0_t12 : Fin (k0_t12_loop k0_t1).trips) : Fin 2 → Nat :=
  let c0_i32_244 : BitVec 32 := 0#32
  let c1_i32_246 : BitVec 32 := 1#32
  let arg16 : BitVec 32 := Scf.iv c0_i32_244 c1_i32_246 k0_t12
  let c256_i32_250 : BitVec 32 := 256#32
  let v639 : BitVec 32 := Scalar.muli arg16 c256_i32_250
  let v640 : BitVec 32 := v639
  let v641 : Index := Scalar.indexCast v640
  let c0_251 : Index := 0#32
  ![v641.toNat, 0]
def k0_off44 (k0_t1 : Fin k0_t1_loop.trips) (k0_t12 : Fin (k0_t12_loop k0_t1).trips) : Fin 2 → Nat :=
  let c0_253 : Index := 0#32
  let c0_i32_244 : BitVec 32 := 0#32
  let c1_i32_246 : BitVec 32 := 1#32
  let arg16 : BitVec 32 := Scf.iv c0_i32_244 c1_i32_246 k0_t12
  let c256_i32_250 : BitVec 32 := 256#32
  let v639 : BitVec 32 := Scalar.muli arg16 c256_i32_250
  let v640 : BitVec 32 := v639
  let v649 : Index := Scalar.indexCast v640
  ![0, v649.toNat]
@[reducible] def k0_t13_loop (k0_t1 : Fin k0_t1_loop.trips) : Scf.Loop 32 :=
  let c0_i32_244 : BitVec 32 := 0#32
  let c0_i32 : BitVec 32 := 0#32
  let c1_i32_53 : BitVec 32 := 1#32
  let arg15 : BitVec 32 := Scf.iv c0_i32 c1_i32_53 k0_t1
  let c1_i32_241 : BitVec 32 := 1#32
  let v621 : BitVec 32 := Scalar.addi arg15 c1_i32_241
  let v624 : BitVec 32 := Scalar.subi v621 c0_i32_244
  let c1_i32_245 : BitVec 32 := 1#32
  let v626 : BitVec 32 := Scalar.divsi v624 c1_i32_245
  let v627 : BitVec 32 := Scalar.muli v626 c1_i32_245
  let v628 : BitVec 32 := Scalar.addi c0_i32_244 v627
  let v625 : BitVec 32 := Scalar.addi c0_i32_244 v624
  let c1_i32_247 : BitVec 32 := 1#32
  ⟨v628, v625, c1_i32_247⟩
def k0_mult17 (k0_t1 : Fin k0_t1_loop.trips) (k0_t13 : Fin (k0_t13_loop k0_t1).trips) : BitVec 32 :=
  let c0_i32_244 : BitVec 32 := 0#32
  let c0_i32 : BitVec 32 := 0#32
  let c1_i32_53 : BitVec 32 := 1#32
  let arg15 : BitVec 32 := Scf.iv c0_i32 c1_i32_53 k0_t1
  let c1_i32_241 : BitVec 32 := 1#32
  let v621 : BitVec 32 := Scalar.addi arg15 c1_i32_241
  let v624 : BitVec 32 := Scalar.subi v621 c0_i32_244
  let c1_i32_245 : BitVec 32 := 1#32
  let v626 : BitVec 32 := Scalar.divsi v624 c1_i32_245
  let v627 : BitVec 32 := Scalar.muli v626 c1_i32_245
  let v628 : BitVec 32 := Scalar.addi c0_i32_244 v627
  let c1_i32_247 : BitVec 32 := 1#32
  let arg16 : BitVec 32 := Scf.iv v628 c1_i32_247 k0_t13
  let c256_i32_250 : BitVec 32 := 256#32
  let v639 : BitVec 32 := Scalar.muli arg16 c256_i32_250
  v639
def k0_off45 (k0_t1 : Fin k0_t1_loop.trips) (k0_t13 : Fin (k0_t13_loop k0_t1).trips) : Fin 2 → Nat :=
  let c0_i32_244 : BitVec 32 := 0#32
  let c0_i32 : BitVec 32 := 0#32
  let c1_i32_53 : BitVec 32 := 1#32
  let arg15 : BitVec 32 := Scf.iv c0_i32 c1_i32_53 k0_t1
  let c1_i32_241 : BitVec 32 := 1#32
  let v621 : BitVec 32 := Scalar.addi arg15 c1_i32_241
  let v624 : BitVec 32 := Scalar.subi v621 c0_i32_244
  let c1_i32_245 : BitVec 32 := 1#32
  let v626 : BitVec 32 := Scalar.divsi v624 c1_i32_245
  let v627 : BitVec 32 := Scalar.muli v626 c1_i32_245
  let v628 : BitVec 32 := Scalar.addi c0_i32_244 v627
  let c1_i32_247 : BitVec 32 := 1#32
  let arg16 : BitVec 32 := Scf.iv v628 c1_i32_247 k0_t13
  let c256_i32_250 : BitVec 32 := 256#32
  let v639 : BitVec 32 := Scalar.muli arg16 c256_i32_250
  let v640 : BitVec 32 := v639
  let v641 : Index := Scalar.indexCast v640
  let c0_251 : Index := 0#32
  ![v641.toNat, 0]
def k0_off46 (k0_t1 : Fin k0_t1_loop.trips) (k0_t13 : Fin (k0_t13_loop k0_t1).trips) : Fin 2 → Nat :=
  let c0_253 : Index := 0#32
  let c0_i32_244 : BitVec 32 := 0#32
  let c0_i32 : BitVec 32 := 0#32
  let c1_i32_53 : BitVec 32 := 1#32
  let arg15 : BitVec 32 := Scf.iv c0_i32 c1_i32_53 k0_t1
  let c1_i32_241 : BitVec 32 := 1#32
  let v621 : BitVec 32 := Scalar.addi arg15 c1_i32_241
  let v624 : BitVec 32 := Scalar.subi v621 c0_i32_244
  let c1_i32_245 : BitVec 32 := 1#32
  let v626 : BitVec 32 := Scalar.divsi v624 c1_i32_245
  let v627 : BitVec 32 := Scalar.muli v626 c1_i32_245
  let v628 : BitVec 32 := Scalar.addi c0_i32_244 v627
  let c1_i32_247 : BitVec 32 := 1#32
  let arg16 : BitVec 32 := Scf.iv v628 c1_i32_247 k0_t13
  let c256_i32_250 : BitVec 32 := 256#32
  let v639 : BitVec 32 := Scalar.muli arg16 c256_i32_250
  let v640 : BitVec 32 := v639
  let v649 : Index := Scalar.indexCast v640
  ![0, v649.toNat]
def cc0_transform_0 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x32x3x128x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x16x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
variable {F : FTy → Type} [FloatOps F] [Named F]
def κ : String → Option EReal := fun
  | "log2e" => some (((Real.log 2)⁻¹ : ℝ) : EReal)
  | "scale_log2e" => some (((Real.sqrt 128)⁻¹ * (Real.log 2)⁻¹ : ℝ) : EReal)
  | _ => none
-- ==== ReferenceIdeal.lean ====
abbrev S56x32x3x128x128 : Shape := ⟨5, ![56, 32, 3, 128, 128]⟩
abbrev S56x2048x128 : Shape := ⟨3, ![56, 2048, 128]⟩
abbrev S56x16x128x128 : Shape := ⟨4, ![56, 16, 128, 128]⟩
abbrev S56x16x64x128 : Shape := ⟨4, ![56, 16, 64, 128]⟩
abbrev S1x2048x56x128 : Shape := ⟨4, ![1, 2048, 56, 128]⟩
abbrev S1x2048x56 : Shape := ⟨3, ![1, 2048, 56]⟩
abbrev S56x32x1x128x128 : Shape := ⟨5, ![56, 32, 1, 128, 128]⟩
abbrev S56x32x128x128 : Shape := ⟨4, ![56, 32, 128, 128]⟩
abbrev S56x32x64x128 : Shape := ⟨4, ![56, 32, 64, 128]⟩
abbrev S56x16x128x2x64 : Shape := ⟨5, ![56, 16, 128, 2, 64]⟩
abbrev S56x16x2x128x64 : Shape := ⟨5, ![56, 16, 2, 128, 64]⟩
abbrev S56x32x128x64 : Shape := ⟨4, ![56, 32, 128, 64]⟩
abbrev S56x16x64x2x64 : Shape := ⟨5, ![56, 16, 64, 2, 64]⟩
abbrev S56x16x2x64x64 : Shape := ⟨5, ![56, 16, 2, 64, 64]⟩
abbrev S56x32x64x64 : Shape := ⟨4, ![56, 32, 64, 64]⟩
abbrev S2048x56x128 : Shape := ⟨3, ![2048, 56, 128]⟩
abbrev S2048x56 : Shape := ⟨2, ![2048, 56]⟩
abbrev S_ : Shape := ⟨0, ![]⟩
abbrev S56x2048 : Shape := ⟨2, ![56, 2048]⟩
abbrev S56x32x64 : Shape := ⟨3, ![56, 32, 64]⟩
abbrev S1x32x1x1 : Shape := ⟨4, ![1, 32, 1, 1]⟩
abbrev S1x1x64x64 : Shape := ⟨4, ![1, 1, 64, 64]⟩
abbrev S32x56x64x128 : Shape := ⟨4, ![32, 56, 64, 128]⟩
abbrev S56x1x128x64 : Shape := ⟨4, ![56, 1, 128, 64]⟩
abbrev S56x128x64 : Shape := ⟨3, ![56, 128, 64]⟩
abbrev S56x1x64x64 : Shape := ⟨4, ![56, 1, 64, 64]⟩
abbrev S56x64x64 : Shape := ⟨3, ![56, 64, 64]⟩
abbrev S56x1x64 : Shape := ⟨3, ![56, 1, 64]⟩
abbrev S56x64 : Shape := ⟨2, ![56, 64]⟩
abbrev S56x1x1x64 : Shape := ⟨4, ![56, 1, 1, 64]⟩
abbrev S56x32x64x1 : Shape := ⟨4, ![56, 32, 64, 1]⟩
abbrev S1x32x64x64 : Shape := ⟨4, ![1, 32, 64, 64]⟩
abbrev S56x2048x64 : Shape := ⟨3, ![56, 2048, 64]⟩
abbrev S56x64x128 : Shape := ⟨3, ![56, 64, 128]⟩
abbrev S56x64x1 : Shape := ⟨3, ![56, 64, 1]⟩
abbrev S1x56x64x128 : Shape := ⟨4, ![1, 56, 64, 128]⟩
abbrev S56x1x128x128 : Shape := ⟨4, ![56, 1, 128, 128]⟩
abbrev S56x128x128 : Shape := ⟨3, ![56, 128, 128]⟩
abbrev S32x64x56x128 : Shape := ⟨4, ![32, 64, 56, 128]⟩
abbrev S2048x7168 : Shape := ⟨2, ![2048, 7168]⟩

abbrev nBuf : Space → Nat
  | .hbm => 175
  | .vmem => 0
  | .smem => 0
  | _ => 0

abbrev hbmTy0_0 (i : Nat) : BufTy := match i % 128 with
  | 0 => ⟨S56x32x3x128x128, .bf16⟩
  | 1 => ⟨S56x2048x128, .f32⟩
  | 2 => ⟨S56x16x128x128, .bf16⟩
  | 3 => ⟨S56x16x64x128, .f32⟩
  | 4 => ⟨S1x2048x56x128, .bf16⟩
  | 5 => ⟨S1x2048x56, .f32⟩
  | 6 => ⟨S56x32x1x128x128, .bf16⟩
  | 7 => ⟨S56x32x128x128, .bf16⟩
  | 8 => ⟨S56x32x128x128, .f32⟩
  | 9 => ⟨S56x32x1x128x128, .bf16⟩
  | 10 => ⟨S56x32x128x128, .bf16⟩
  | 11 => ⟨S56x32x128x128, .f32⟩
  | 12 => ⟨S56x32x128x128, .f32⟩
  | 13 => ⟨S56x32x1x128x128, .bf16⟩
  | 14 => ⟨S56x32x128x128, .bf16⟩
  | 15 => ⟨S56x32x128x128, .f32⟩
  | 16 => ⟨S56x32x128x128, .f32⟩
  | 17 => ⟨S56x32x64x128, .f32⟩
  | 18 => ⟨S56x16x128x2x64, .bf16⟩
  | 19 => ⟨S56x16x2x128x64, .bf16⟩
  | 20 => ⟨S56x32x128x64, .bf16⟩
  | 21 => ⟨S56x16x64x2x64, .f32⟩
  | 22 => ⟨S56x16x2x64x64, .f32⟩
  | 23 => ⟨S56x32x64x64, .f32⟩
  | 24 => ⟨S2048x56x128, .bf16⟩
  | 25 => ⟨S56x2048x128, .bf16⟩
  | 26 => ⟨S2048x56, .f32⟩
  | 27 => ⟨S_, .f32⟩
  | 28 => ⟨S_, .f32⟩
  | 29 => ⟨S2048x56, .f32⟩
  | 30 => ⟨S56x2048, .f32⟩
  | 31 => ⟨S56x32x64, .f32⟩
  | 32 => ⟨S_, .f32⟩
  | 33 => ⟨S_, .f32⟩
  | 34 => ⟨S_, .f32⟩
  | 35 => ⟨S_, .f32⟩
  | 36 => ⟨S1x32x1x1, .i32⟩
  | 37 => ⟨S1x1x64x64, .i32⟩
  | 38 => ⟨S1x1x64x64, .i32⟩
  | 39 => ⟨S1x1x64x64, .i1⟩
  | 40 => ⟨S_, .f32⟩
  | 41 => ⟨S56x32x64x128, .f32⟩
  | 42 => ⟨S_, .bf16⟩
  | 43 => ⟨S32x56x64x128, .bf16⟩
  | 44 => ⟨S_, .i32⟩
  | 45 => ⟨S_, .i32⟩
  | 46 => ⟨S56x32x128x64, .bf16⟩
  | 47 => ⟨S1x32x1x1, .i32⟩
  | 48 => ⟨S56x32x64x64, .f32⟩
  | 49 => ⟨S_, .f32⟩
  | 50 => ⟨S56x32x64, .f32⟩
  | 51 => ⟨S1x1x64x64, .i1⟩
  | 52 => ⟨S56x2048x128, .bf16⟩
  | 53 => ⟨S56x32x128x128, .f32⟩
  | 54 => ⟨S56x32x64x128, .f32⟩
  | 55 => ⟨S_, .i32⟩
  | 56 => ⟨S_, .i32⟩
  | 57 => ⟨S56x32x64x128, .f32⟩
  | 58 => ⟨S32x56x64x128, .bf16⟩
  | 59 => ⟨S_, .i32⟩
  | 60 => ⟨S_, .i1⟩
  | 61 => ⟨S_, .i32⟩
  | 62 => ⟨S_, .i32⟩
  | 63 => ⟨S56x32x64x128, .bf16⟩
  | 64 => ⟨S_, .i32⟩
  | 65 => ⟨S_, .i1⟩
  | 66 => ⟨S_, .i32⟩
  | 67 => ⟨S_, .i32⟩
  | 68 => ⟨S_, .i32⟩
  | 69 => ⟨S_, .i32⟩
  | 70 => ⟨S_, .i32⟩
  | 71 => ⟨S_, .i32⟩
  | 72 => ⟨S_, .i32⟩
  | 73 => ⟨S56x1x128x64, .bf16⟩
  | 74 => ⟨S56x128x64, .bf16⟩
  | 75 => ⟨S56x32x64x64, .f32⟩
  | 76 => ⟨S_, .i32⟩
  | 77 => ⟨S1x32x1x1, .i32⟩
  | 78 => ⟨S1x32x1x1, .i1⟩
  | 79 => ⟨S_, .i32⟩
  | 80 => ⟨S_, .i1⟩
  | 81 => ⟨S_, .i32⟩
  | 82 => ⟨S_, .i32⟩
  | 83 => ⟨S_, .i32⟩
  | 84 => ⟨S_, .i32⟩
  | 85 => ⟨S_, .i32⟩
  | 86 => ⟨S_, .i32⟩
  | 87 => ⟨S_, .i32⟩
  | 88 => ⟨S56x1x64x64, .f32⟩
  | 89 => ⟨S56x64x64, .f32⟩
  | 90 => ⟨S56x1x64x64, .f32⟩
  | 91 => ⟨S56x32x64x64, .i1⟩
  | 92 => ⟨S56x32x64x64, .f32⟩
  | 93 => ⟨S56x32x64x64, .f32⟩
  | 94 => ⟨S56x32x64x64, .f32⟩
  | 95 => ⟨S56x32x64x64, .f32⟩
  | 96 => ⟨S_, .i32⟩
  | 97 => ⟨S_, .i1⟩
  | 98 => ⟨S_, .i32⟩
  | 99 => ⟨S_, .i32⟩
  | 100 => ⟨S_, .i32⟩
  | 101 => ⟨S_, .i32⟩
  | 102 => ⟨S_, .i32⟩
  | 103 => ⟨S_, .i32⟩
  | 104 => ⟨S56x1x64, .f32⟩
  | 105 => ⟨S56x64, .f32⟩
  | 106 => ⟨S56x1x1x64, .f32⟩
  | 107 => ⟨S56x32x64x64, .f32⟩
  | 108 => ⟨S56x32x64x64, .f32⟩
  | 109 => ⟨S56x32x64x1, .f32⟩
  | 110 => ⟨S56x32x64x64, .f32⟩
  | 111 => ⟨S56x32x64x64, .f32⟩
  | 112 => ⟨S_, .i32⟩
  | 113 => ⟨S1x32x1x1, .i32⟩
  | 114 => ⟨S1x32x1x1, .i1⟩
  | 115 => ⟨S_, .i32⟩
  | 116 => ⟨S1x32x1x1, .i32⟩
  | 117 => ⟨S1x32x1x1, .i1⟩
  | 118 => ⟨S1x32x64x64, .i1⟩
  | 119 => ⟨S1x32x64x64, .i1⟩
  | 120 => ⟨S1x32x64x64, .i1⟩
  | 121 => ⟨S1x32x64x64, .i1⟩
  | 122 => ⟨S1x32x64x64, .i1⟩
  | 123 => ⟨S_, .f32⟩
  | 124 => ⟨S_, .f32⟩
  | 125 => ⟨S56x32x64x64, .i1⟩
  | 126 => ⟨S56x32x64x64, .f32⟩
  | 127 => ⟨S56x32x64x64, .f32⟩
  | _ => ⟨S56x32x3x128x128, .bf16⟩

abbrev hbmTy0_1 (i : Nat) : BufTy := match i % 128 with
  | 0 => ⟨S56x2048x64, .f32⟩
  | 1 => ⟨S_, .f32⟩
  | 2 => ⟨S56x64, .f32⟩
  | 3 => ⟨S56x1x64, .f32⟩
  | 4 => ⟨S56x2048x64, .f32⟩
  | 5 => ⟨S56x2048x64, .f32⟩
  | 6 => ⟨S56x2048x64, .f32⟩
  | 7 => ⟨S_, .f32⟩
  | 8 => ⟨S56x64, .f32⟩
  | 9 => ⟨S56x2048x64, .bf16⟩
  | 10 => ⟨S56x64x128, .f32⟩
  | 11 => ⟨S56x64x1, .f32⟩
  | 12 => ⟨S56x64x128, .f32⟩
  | 13 => ⟨S56x64x128, .f32⟩
  | 14 => ⟨S56x64x128, .bf16⟩
  | 15 => ⟨S1x56x64x128, .bf16⟩
  | 16 => ⟨S_, .i32⟩
  | 17 => ⟨S_, .i1⟩
  | 18 => ⟨S_, .i32⟩
  | 19 => ⟨S_, .i32⟩
  | 20 => ⟨S_, .i32⟩
  | 21 => ⟨S_, .i32⟩
  | 22 => ⟨S_, .i32⟩
  | 23 => ⟨S_, .i32⟩
  | 24 => ⟨S_, .i32⟩
  | 25 => ⟨S32x56x64x128, .bf16⟩
  | 26 => ⟨S_, .i32⟩
  | 27 => ⟨S1x32x1x1, .i32⟩
  | 28 => ⟨S1x32x1x1, .i1⟩
  | 29 => ⟨S_, .i32⟩
  | 30 => ⟨S_, .i1⟩
  | 31 => ⟨S_, .i32⟩
  | 32 => ⟨S_, .i32⟩
  | 33 => ⟨S_, .i32⟩
  | 34 => ⟨S_, .i32⟩
  | 35 => ⟨S_, .i32⟩
  | 36 => ⟨S_, .i32⟩
  | 37 => ⟨S_, .i32⟩
  | 38 => ⟨S56x1x128x128, .f32⟩
  | 39 => ⟨S56x128x128, .f32⟩
  | 40 => ⟨S56x32x64x128, .f32⟩
  | 41 => ⟨S56x32x64x128, .i1⟩
  | 42 => ⟨S56x32x64x128, .f32⟩
  | 43 => ⟨S_, .i32⟩
  | 44 => ⟨S_, .i32⟩
  | 45 => ⟨S32x64x56x128, .bf16⟩
  | 46 => ⟨S2048x7168, .bf16⟩
  | _ => ⟨S56x32x3x128x128, .bf16⟩

abbrev hbmTy (i : Nat) : BufTy := match i / 128 with
  | 0 => hbmTy0_0 i
  | 1 => hbmTy0_1 i
  | _ => ⟨S56x32x3x128x128, .bf16⟩

abbrev bufTy : (tb : Table) → Fin (tcTables nBuf tb) → BufTy
  | .hbm, ⟨i, _⟩ => hbmTy i
  | _, _ => ⟨S56x32x3x128x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_call0_cst : Ref sig .tc := ⟨.hbm, 27, rfl⟩
abbrev main_call0_v0 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst : Ref sig .tc := ⟨.hbm, 32, rfl⟩
abbrev main_v24 : Ref sig .tc := ⟨.hbm, 33, rfl⟩
abbrev main_cst_0 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_1 : Ref sig .tc := ⟨.hbm, 40, rfl⟩
abbrev main_v30 : Ref sig .tc := ⟨.hbm, 41, rfl⟩
abbrev main_cst_2 : Ref sig .tc := ⟨.hbm, 42, rfl⟩
abbrev main_v31 : Ref sig .tc := ⟨.hbm, 43, rfl⟩
abbrev main_c : Ref sig .tc := ⟨.hbm, 44, rfl⟩
abbrev main_c_3 : Ref sig .tc := ⟨.hbm, 45, rfl⟩
abbrev main_v32_0 : Ref sig .tc := ⟨.hbm, 46, rfl⟩
abbrev main_v32_1 : Ref sig .tc := ⟨.hbm, 47, rfl⟩
abbrev main_v32_2 : Ref sig .tc := ⟨.hbm, 48, rfl⟩
abbrev main_v32_3 : Ref sig .tc := ⟨.hbm, 49, rfl⟩
abbrev main_v32_4 : Ref sig .tc := ⟨.hbm, 50, rfl⟩
abbrev main_v32_5 : Ref sig .tc := ⟨.hbm, 51, rfl⟩
abbrev main_v32_6 : Ref sig .tc := ⟨.hbm, 52, rfl⟩
abbrev main_v32_7 : Ref sig .tc := ⟨.hbm, 53, rfl⟩
abbrev main_v32_8 : Ref sig .tc := ⟨.hbm, 54, rfl⟩
abbrev main_v32_9 : Ref sig .tc := ⟨.hbm, 55, rfl⟩
abbrev main_v32_10 : Ref sig .tc := ⟨.hbm, 56, rfl⟩
abbrev main_v32_11 : Ref sig .tc := ⟨.hbm, 57, rfl⟩
abbrev main_v32_12 : Ref sig .tc := ⟨.hbm, 58, rfl⟩
abbrev main_while0c_c_16 : Ref sig .tc := ⟨.hbm, 59, rfl⟩
abbrev main_while0c_v35 : Ref sig .tc := ⟨.hbm, 60, rfl⟩
abbrev main_while0b_c_16 : Ref sig .tc := ⟨.hbm, 61, rfl⟩
abbrev main_while0b_v35 : Ref sig .tc := ⟨.hbm, 62, rfl⟩
abbrev main_while0b_v36 : Ref sig .tc := ⟨.hbm, 63, rfl⟩
abbrev main_while0b_call1_c : Ref sig .tc := ⟨.hbm, 64, rfl⟩
abbrev main_while0b_call1_v0 : Ref sig .tc := ⟨.hbm, 65, rfl⟩
abbrev main_while0b_call1_v1 : Ref sig .tc := ⟨.hbm, 66, rfl⟩
abbrev main_while0b_call1_c_0 : Ref sig .tc := ⟨.hbm, 67, rfl⟩
abbrev main_while0b_call1_v2 : Ref sig .tc := ⟨.hbm, 68, rfl⟩
abbrev main_while0b_call1_v3 : Ref sig .tc := ⟨.hbm, 69, rfl⟩
abbrev main_while0b_call1_c_1 : Ref sig .tc := ⟨.hbm, 70, rfl⟩
abbrev main_while0b_call1_c_2 : Ref sig .tc := ⟨.hbm, 71, rfl⟩
abbrev main_while0b_call1_c_3 : Ref sig .tc := ⟨.hbm, 72, rfl⟩
abbrev main_while0b_call1_v4 : Ref sig .tc := ⟨.hbm, 73, rfl⟩
abbrev main_while0b_v37 : Ref sig .tc := ⟨.hbm, 74, rfl⟩
abbrev main_while0b_v38 : Ref sig .tc := ⟨.hbm, 75, rfl⟩
abbrev main_while0b_v39 : Ref sig .tc := ⟨.hbm, 76, rfl⟩
abbrev main_while0b_v40 : Ref sig .tc := ⟨.hbm, 77, rfl⟩
abbrev main_while0b_v41 : Ref sig .tc := ⟨.hbm, 78, rfl⟩
abbrev main_while0b_call2_c : Ref sig .tc := ⟨.hbm, 79, rfl⟩
abbrev main_while0b_call2_v0 : Ref sig .tc := ⟨.hbm, 80, rfl⟩
abbrev main_while0b_call2_v1 : Ref sig .tc := ⟨.hbm, 81, rfl⟩
abbrev main_while0b_call2_c_0 : Ref sig .tc := ⟨.hbm, 82, rfl⟩
abbrev main_while0b_call2_v2 : Ref sig .tc := ⟨.hbm, 83, rfl⟩
abbrev main_while0b_call2_v3 : Ref sig .tc := ⟨.hbm, 84, rfl⟩
abbrev main_while0b_call2_c_1 : Ref sig .tc := ⟨.hbm, 85, rfl⟩
abbrev main_while0b_call2_c_2 : Ref sig .tc := ⟨.hbm, 86, rfl⟩
abbrev main_while0b_call2_c_3 : Ref sig .tc := ⟨.hbm, 87, rfl⟩
abbrev main_while0b_call2_v4 : Ref sig .tc := ⟨.hbm, 88, rfl⟩
abbrev main_while0b_v42 : Ref sig .tc := ⟨.hbm, 89, rfl⟩
abbrev main_while0b_v43 : Ref sig .tc := ⟨.hbm, 90, rfl⟩
abbrev main_while0b_call3_v0 : Ref sig .tc := ⟨.hbm, 91, rfl⟩
abbrev main_while0b_call3_v1 : Ref sig .tc := ⟨.hbm, 92, rfl⟩
abbrev main_while0b_v44 : Ref sig .tc := ⟨.hbm, 93, rfl⟩
abbrev main_while0b_v45 : Ref sig .tc := ⟨.hbm, 94, rfl⟩
abbrev main_while0b_v46 : Ref sig .tc := ⟨.hbm, 95, rfl⟩
abbrev main_while0b_call4_c : Ref sig .tc := ⟨.hbm, 96, rfl⟩
abbrev main_while0b_call4_v0 : Ref sig .tc := ⟨.hbm, 97, rfl⟩
abbrev main_while0b_call4_v1 : Ref sig .tc := ⟨.hbm, 98, rfl⟩
abbrev main_while0b_call4_c_0 : Ref sig .tc := ⟨.hbm, 99, rfl⟩
abbrev main_while0b_call4_v2 : Ref sig .tc := ⟨.hbm, 100, rfl⟩
abbrev main_while0b_call4_v3 : Ref sig .tc := ⟨.hbm, 101, rfl⟩
abbrev main_while0b_call4_c_1 : Ref sig .tc := ⟨.hbm, 102, rfl⟩
abbrev main_while0b_call4_c_2 : Ref sig .tc := ⟨.hbm, 103, rfl⟩
abbrev main_while0b_call4_v4 : Ref sig .tc := ⟨.hbm, 104, rfl⟩
abbrev main_while0b_v47 : Ref sig .tc := ⟨.hbm, 105, rfl⟩
abbrev main_while0b_v48 : Ref sig .tc := ⟨.hbm, 106, rfl⟩
abbrev main_while0b_v49 : Ref sig .tc := ⟨.hbm, 107, rfl⟩
abbrev main_while0b_v50 : Ref sig .tc := ⟨.hbm, 108, rfl⟩
abbrev main_while0b_v51 : Ref sig .tc := ⟨.hbm, 109, rfl⟩
abbrev main_while0b_v52 : Ref sig .tc := ⟨.hbm, 110, rfl⟩
abbrev main_while0b_v53 : Ref sig .tc := ⟨.hbm, 111, rfl⟩
abbrev main_while0b_v54 : Ref sig .tc := ⟨.hbm, 112, rfl⟩
abbrev main_while0b_v55 : Ref sig .tc := ⟨.hbm, 113, rfl⟩
abbrev main_while0b_v56 : Ref sig .tc := ⟨.hbm, 114, rfl⟩
abbrev main_while0b_v57 : Ref sig .tc := ⟨.hbm, 115, rfl⟩
abbrev main_while0b_v58 : Ref sig .tc := ⟨.hbm, 116, rfl⟩
abbrev main_while0b_v59 : Ref sig .tc := ⟨.hbm, 117, rfl⟩
abbrev main_while0b_v60 : Ref sig .tc := ⟨.hbm, 118, rfl⟩
abbrev main_while0b_v61 : Ref sig .tc := ⟨.hbm, 119, rfl⟩
abbrev main_while0b_v62 : Ref sig .tc := ⟨.hbm, 120, rfl⟩
abbrev main_while0b_v63 : Ref sig .tc := ⟨.hbm, 121, rfl⟩
abbrev main_while0b_v64 : Ref sig .tc := ⟨.hbm, 122, rfl⟩
abbrev main_while0b_cst_17 : Ref sig .tc := ⟨.hbm, 123, rfl⟩
abbrev main_while0b_call5_v0 : Ref sig .tc := ⟨.hbm, 124, rfl⟩
abbrev main_while0b_call5_v1 : Ref sig .tc := ⟨.hbm, 125, rfl⟩
abbrev main_while0b_call5_v2 : Ref sig .tc := ⟨.hbm, 126, rfl⟩
abbrev main_while0b_v65 : Ref sig .tc := ⟨.hbm, 127, rfl⟩
abbrev main_while0b_v66 : Ref sig .tc := ⟨.hbm, 128, rfl⟩
abbrev main_while0b_cst_18 : Ref sig .tc := ⟨.hbm, 129, rfl⟩
abbrev main_while0b_v67 : Ref sig .tc := ⟨.hbm, 130, rfl⟩
abbrev main_while0b_v68 : Ref sig .tc := ⟨.hbm, 131, rfl⟩
abbrev main_while0b_v69 : Ref sig .tc := ⟨.hbm, 132, rfl⟩
abbrev main_while0b_v70 : Ref sig .tc := ⟨.hbm, 133, rfl⟩
abbrev main_while0b_v71 : Ref sig .tc := ⟨.hbm, 134, rfl⟩
abbrev main_while0b_cst_19 : Ref sig .tc := ⟨.hbm, 135, rfl⟩
abbrev main_while0b_v72 : Ref sig .tc := ⟨.hbm, 136, rfl⟩
abbrev main_while0b_v73 : Ref sig .tc := ⟨.hbm, 137, rfl⟩
abbrev main_while0b_v74 : Ref sig .tc := ⟨.hbm, 138, rfl⟩
abbrev main_while0b_v75 : Ref sig .tc := ⟨.hbm, 139, rfl⟩
abbrev main_while0b_v76 : Ref sig .tc := ⟨.hbm, 140, rfl⟩
abbrev main_while0b_v77 : Ref sig .tc := ⟨.hbm, 141, rfl⟩
abbrev main_while0b_v78 : Ref sig .tc := ⟨.hbm, 142, rfl⟩
abbrev main_while0b_call6_v0 : Ref sig .tc := ⟨.hbm, 143, rfl⟩
abbrev main_while0b_call6_c : Ref sig .tc := ⟨.hbm, 144, rfl⟩
abbrev main_while0b_call6_v1 : Ref sig .tc := ⟨.hbm, 145, rfl⟩
abbrev main_while0b_call6_v2 : Ref sig .tc := ⟨.hbm, 146, rfl⟩
abbrev main_while0b_call6_c_0 : Ref sig .tc := ⟨.hbm, 147, rfl⟩
abbrev main_while0b_call6_v3 : Ref sig .tc := ⟨.hbm, 148, rfl⟩
abbrev main_while0b_call6_v4 : Ref sig .tc := ⟨.hbm, 149, rfl⟩
abbrev main_while0b_call6_c_1 : Ref sig .tc := ⟨.hbm, 150, rfl⟩
abbrev main_while0b_call6_c_2 : Ref sig .tc := ⟨.hbm, 151, rfl⟩
abbrev main_while0b_call6_c_3 : Ref sig .tc := ⟨.hbm, 152, rfl⟩
abbrev main_while0b_v79 : Ref sig .tc := ⟨.hbm, 153, rfl⟩
abbrev main_while0b_v80 : Ref sig .tc := ⟨.hbm, 154, rfl⟩
abbrev main_while0b_v81 : Ref sig .tc := ⟨.hbm, 155, rfl⟩
abbrev main_while0b_v82 : Ref sig .tc := ⟨.hbm, 156, rfl⟩
abbrev main_while0b_call7_c : Ref sig .tc := ⟨.hbm, 157, rfl⟩
abbrev main_while0b_call7_v0 : Ref sig .tc := ⟨.hbm, 158, rfl⟩
abbrev main_while0b_call7_v1 : Ref sig .tc := ⟨.hbm, 159, rfl⟩
abbrev main_while0b_call7_c_0 : Ref sig .tc := ⟨.hbm, 160, rfl⟩
abbrev main_while0b_call7_v2 : Ref sig .tc := ⟨.hbm, 161, rfl⟩
abbrev main_while0b_call7_v3 : Ref sig .tc := ⟨.hbm, 162, rfl⟩
abbrev main_while0b_call7_c_1 : Ref sig .tc := ⟨.hbm, 163, rfl⟩
abbrev main_while0b_call7_c_2 : Ref sig .tc := ⟨.hbm, 164, rfl⟩
abbrev main_while0b_call7_c_3 : Ref sig .tc := ⟨.hbm, 165, rfl⟩
abbrev main_while0b_call7_v4 : Ref sig .tc := ⟨.hbm, 166, rfl⟩
abbrev main_while0b_v83 : Ref sig .tc := ⟨.hbm, 167, rfl⟩
abbrev main_while0b_v84 : Ref sig .tc := ⟨.hbm, 168, rfl⟩
abbrev main_while0b_call8_v0 : Ref sig .tc := ⟨.hbm, 169, rfl⟩
abbrev main_while0b_v85 : Ref sig .tc := ⟨.hbm, 170, rfl⟩
abbrev main_while0b_c_20 : Ref sig .tc := ⟨.hbm, 171, rfl⟩
abbrev main_while0b_v86 : Ref sig .tc := ⟨.hbm, 172, rfl⟩
abbrev main_v33 : Ref sig .tc := ⟨.hbm, 173, rfl⟩
abbrev main_v34 : Ref sig .tc := ⟨.hbm, 174, rfl⟩

abbrev nD : Nat := 1
abbrev τ : Topo := Topo.v7x

variable {F : FTy → Type} [FloatOps F]

abbrev main_while0_count : Scf.Loop 32 := ⟨0#32, 32#32, 1#32⟩
-- ==== Proof.FrameK.lean ====
/-
  The frame of the attention kernel: the body run once from its fourteen buffers, the eight group trips by an invariant that keeps
  the six inputs at their contents and says nothing of the output and the scratch, and the launch.
-/
module

public import proofs.«01_k».proof.Proof.Gen.Kernel.Frame
public import proofs.«01_k».proof.Proof.Gen.Kernel.Skeleton
public import proofs.«01_k».proof.Proof.Gen.Kernel.Loops
public import Idealize.ShloMosaic.Lib.LoopRemainder
public import Idealize.ShloMosaic.Lib.Pipeline.Frame
public import Idealize.ShloMosaic.Lib.Tactic

@[expose] public section

set_option maxRecDepth 16384
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-- The six inputs at their contents, the output and the seven scratch buffers at any. -/
abbrev Held (c : Dev nD) (arg1 : Memref sig .tc .vmem S1x32x3x128x128 .bf16) (arg2 : Memref sig .tc .vmem S1x2048x128 .f32) (arg3 : Memref sig .tc .vmem S1x16x128x128 .bf16) (arg4 : Memref sig .tc .vmem S1x16x64x128 .f32) (arg5 : Memref sig .tc .vmem S2048x128 .bf16) (arg6 : Memref sig .tc .vmem S1x16x128 .f32) (arg7 : Memref sig .tc .vmem S2048x128 .bf16) (arg8 : Memref sig .tc .vmem S2048x128 .bf16) (arg9 : Memref sig .tc .vmem S2048x128 .bf16) (arg10 : Memref sig .tc .vmem S2048x128 .bf16) (arg11 : Memref sig .tc .vmem S2048x256 .f32) (arg12 : Memref sig .tc .vmem S128x2048 .bf16) (arg13 : Memref sig .tc .vmem S2048x128 .f32) (arg14 : Memref sig .tc .vmem S16x128 .f32) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) : sProp 𝕄 :=
  iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (∃ f : BufTy.Contents (Elt F) arg7.view.ty, (arg7.view.loc (c : Thread nD τ) ↦[arg7.view.set]{fullShare} f)) ∗ (∃ f : BufTy.Contents (Elt F) arg8.view.ty, (arg8.view.loc (c : Thread nD τ) ↦[arg8.view.set]{fullShare} f)) ∗ (∃ f : BufTy.Contents (Elt F) arg9.view.ty, (arg9.view.loc (c : Thread nD τ) ↦[arg9.view.set]{fullShare} f)) ∗ (∃ f : BufTy.Contents (Elt F) arg10.view.ty, (arg10.view.loc (c : Thread nD τ) ↦[arg10.view.set]{fullShare} f)) ∗ (∃ f : BufTy.Contents (Elt F) arg11.view.ty, (arg11.view.loc (c : Thread nD τ) ↦[arg11.view.set]{fullShare} f)) ∗ (∃ f : BufTy.Contents (Elt F) arg12.view.ty, (arg12.view.loc (c : Thread nD τ) ↦[arg12.view.set]{fullShare} f)) ∗ (∃ f : BufTy.Contents (Elt F) arg13.view.ty, (arg13.view.loc (c : Thread nD τ) ↦[arg13.view.set]{fullShare} f)) ∗ (∃ f : BufTy.Contents (Elt F) arg14.view.ty, (arg14.view.loc (c : Thread nD τ) ↦[arg14.view.set]{fullShare} f)))

/-- A program sequenced after another: the first's result met by the second. -/
theorem seq_spec {α β : Type} {c : Dev nD} {P Q : sProp 𝕄} {R : β → sProp 𝕄} {p : Prog (TpuEff nD τ sig (Elt F) Λ₀ .tc) α}
    {k : α → Prog (TpuEff nD τ sig (Elt F) Λ₀ .tc) β}
    (h : P ⊢ wp frame (wpE (defs₀ (F := F)) Variants.none (c : Thread nD τ) none) Set.univ p (fun _ => Q))
    (hk : ∀ a, Q ⊢ wp frame (wpE (defs₀ (F := F)) Variants.none (c : Thread nD τ) none) Set.univ (k a) R) :
    P ⊢ wp frame (wpE (defs₀ (F := F)) Variants.none (c : Thread nD τ) none) Set.univ (p >>= k) R := by
  rw [wp_bind]
  iintro H
  iapply (wp_wand_r frame (wpE (defs₀ (F := F)) Variants.none (c : Thread nD τ) none) Set.univ)
  isplitl [H]
  · iapply h; iexact H
  · iintro %a H
    iapply (hk a); iexact H

variable (c : Dev nD) (i : grid0.Coords) (arg1 : Memref sig .tc .vmem S1x32x3x128x128 .bf16) (harg1 : arg1.IsWhole) (arg2 : Memref sig .tc .vmem S1x2048x128 .f32) (harg2 : arg2.IsWhole) (arg3 : Memref sig .tc .vmem S1x16x128x128 .bf16) (harg3 : arg3.IsWhole) (arg4 : Memref sig .tc .vmem S1x16x64x128 .f32) (harg4 : arg4.IsWhole) (arg5 : Memref sig .tc .vmem S2048x128 .bf16) (harg5 : arg5.IsWhole) (arg6 : Memref sig .tc .vmem S1x16x128 .f32) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S2048x256 .f32) (harg11 : arg11.IsWhole) (arg12 : Memref sig .tc .vmem S128x2048 .bf16) (harg12 : arg12.IsWhole) (arg13 : Memref sig .tc .vmem S2048x128 .f32) (harg13 : arg13.IsWhole) (arg14 : Memref sig .tc .vmem S16x128 .f32) (harg14 : arg14.IsWhole)
  (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty)

theorem part1_keeps (c0_i32 : BitVec 32) (c1_i32_53 : BitVec 32) (k0_t1 : Fin k0_t1_loop.trips) :
    Held (F := F) c arg1 arg2 arg3 arg4 arg5 arg6 arg7 arg8 arg9 arg10 arg11 arg12 arg13 arg14 X1 X2 X3 X4 X5 X6
      ⊢ wp frame (wpE (defs₀ (F := F)) Variants.none (c : Thread nD τ) none) Set.univ
          (k0_part1 (F := F) i arg1 harg1 arg2 harg2 arg3 harg3 arg4 harg4 arg5 harg5 arg6 harg6 arg7 harg7 arg8 harg8 arg9 harg9 arg10 harg10 arg11 harg11 arg12 harg12 arg13 harg13 arg14 harg14 c0_i32 c1_i32_53 k0_t1) (fun _ => Held (F := F) c arg1 arg2 arg3 arg4 arg5 arg6 arg7 arg8 arg9 arg10 arg11 arg12 arg13 arg14 X1 X2 X3 X4 X5 X6) := by
  rw [k0_part1_eq_skeleton]; unfold k0_part1_skel
  iintro ⟨H1, H2, H3, H4, H5, H6, ⟨%f7, H7⟩, ⟨%f8, H8⟩, ⟨%f9, H9⟩, ⟨%f10, H10⟩, ⟨%f11, H11⟩, ⟨%f12, H12⟩, ⟨%f13, H13⟩, ⟨%f14, H14⟩⟩
  sl_exec
  sl_step
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  iexists _; iexact H14

theorem part2_keeps (k0_t1 : Fin k0_t1_loop.trips) (arg15 : BitVec 32) (v203 : BitVec 32) (v230 : FVec F S256x256 .bf16) (v234 : FVec F S256x256 .bf16) (c0_i32_75 : BitVec 32) (c0_i32_76 : BitVec 32) :
    Held (F := F) c arg1 arg2 arg3 arg4 arg5 arg6 arg7 arg8 arg9 arg10 arg11 arg12 arg13 arg14 X1 X2 X3 X4 X5 X6
      ⊢ wp frame (wpE (defs₀ (F := F)) Variants.none (c : Thread nD τ) none) Set.univ
          (k0_part2 (F := F) i arg1 harg1 arg2 harg2 arg3 harg3 arg4 harg4 arg5 harg5 arg6 harg6 arg7 harg7 arg8 harg8 arg9 harg9 arg10 harg10 arg11 harg11 arg12 harg12 arg13 harg13 arg14 harg14 k0_t1 arg15 v203 v230 v234 c0_i32_75 c0_i32_76) (fun _ => Held (F := F) c arg1 arg2 arg3 arg4 arg5 arg6 arg7 arg8 arg9 arg10 arg11 arg12 arg13 arg14 X1 X2 X3 X4 X5 X6) := by
  rw [k0_part2_eq_skeleton]; unfold k0_part2_skel
  iintro ⟨H1, H2, H3, H4, H5, H6, ⟨%f7, H7⟩, ⟨%f8, H8⟩, ⟨%f9, H9⟩, ⟨%f10, H10⟩, ⟨%f11, H11⟩, ⟨%f12, H12⟩, ⟨%f13, H13⟩, ⟨%f14, H14⟩⟩
  sl_exec
  sl_step
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  iexists _; iexact H14

theorem part3_keeps (k0_t1 : Fin k0_t1_loop.trips) (arg15 : BitVec 32) (v203 : BitVec 32) (c4_i32_92 : BitVec 32) :
    Held (F := F) c arg1 arg2 arg3 arg4 arg5 arg6 arg7 arg8 arg9 arg10 arg11 arg12 arg13 arg14 X1 X2 X3 X4 X5 X6
      ⊢ wp frame (wpE (defs₀ (F := F)) Variants.none (c : Thread nD τ) none) Set.univ
          (k0_part3 (F := F) i arg1 harg1 arg2 harg2 arg3 harg3 arg4 harg4 arg5 harg5 arg6 harg6 arg7 harg7 arg8 harg8 arg9 harg9 arg10 harg10 arg11 harg11 arg12 harg12 arg13 harg13 arg14 harg14 k0_t1 arg15 v203 c4_i32_92) (fun _ => Held (F := F) c arg1 arg2 arg3 arg4 arg5 arg6 arg7 arg8 arg9 arg10 arg11 arg12 arg13 arg14 X1 X2 X3 X4 X5 X6) := by
  rw [k0_part3_eq_skeleton]; unfold k0_part3_skel
  iintro ⟨H1, H2, H3, H4, H5, H6, ⟨%f7, H7⟩, ⟨%f8, H8⟩, ⟨%f9, H9⟩, ⟨%f10, H10⟩, ⟨%f11, H11⟩, ⟨%f12, H12⟩, ⟨%f13, H13⟩, ⟨%f14, H14⟩⟩
  sl_exec
  sl_step
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  iexists _; iexact H14

theorem part4_keeps (k0_t1 : Fin k0_t1_loop.trips) (v203 : BitVec 32) (v293 : FVec F S256x256 .bf16) (v297 : FVec F S256x256 .bf16) (v306 : Vec F S64x128 .bf16) (v308 : Vec F S64x128 .bf16) :
    Held (F := F) c arg1 arg2 arg3 arg4 arg5 arg6 arg7 arg8 arg9 arg10 arg11 arg12 arg13 arg14 X1 X2 X3 X4 X5 X6
      ⊢ wp frame (wpE (defs₀ (F := F)) Variants.none (c : Thread nD τ) none) Set.univ
          (k0_part4 (F := F) i arg1 harg1 arg2 harg2 arg3 harg3 arg4 harg4 arg5 harg5 arg6 harg6 arg7 harg7 arg8 harg8 arg9 harg9 arg10 harg10 arg11 harg11 arg12 harg12 arg13 harg13 arg14 harg14 k0_t1 v203 v293 v297 v306 v308) (fun _ => Held (F := F) c arg1 arg2 arg3 arg4 arg5 arg6 arg7 arg8 arg9 arg10 arg11 arg12 arg13 arg14 X1 X2 X3 X4 X5 X6) := by
  rw [k0_part4_eq_skeleton]; unfold k0_part4_skel
  iintro ⟨H1, H2, H3, H4, H5, H6, ⟨%f7, H7⟩, ⟨%f8, H8⟩, ⟨%f9, H9⟩, ⟨%f10, H10⟩, ⟨%f11, H11⟩, ⟨%f12, H12⟩, ⟨%f13, H13⟩, ⟨%f14, H14⟩⟩
  sl_exec
  sl_step
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  iexists _; iexact H14

theorem part5_keeps (k0_t1 : Fin k0_t1_loop.trips) (arg15 : BitVec 32) (v345 : BitVec 32) (v349 : FVec F S64x128 .bf16) (v352 : FVec F S64x128 .bf16) (v354 : FVec F S64x128 .f32) :
    Held (F := F) c arg1 arg2 arg3 arg4 arg5 arg6 arg7 arg8 arg9 arg10 arg11 arg12 arg13 arg14 X1 X2 X3 X4 X5 X6
      ⊢ wp frame (wpE (defs₀ (F := F)) Variants.none (c : Thread nD τ) none) Set.univ
          (k0_part5 (F := F) i arg1 harg1 arg2 harg2 arg3 harg3 arg4 harg4 arg5 harg5 arg6 harg6 arg7 harg7 arg8 harg8 arg9 harg9 arg10 harg10 arg11 harg11 arg12 harg12 arg13 harg13 arg14 harg14 k0_t1 arg15 v345 v349 v352 v354) (fun _ => Held (F := F) c arg1 arg2 arg3 arg4 arg5 arg6 arg7 arg8 arg9 arg10 arg11 arg12 arg13 arg14 X1 X2 X3 X4 X5 X6) := by
  rw [k0_part5_eq_skeleton]; unfold k0_part5_skel
  iintro ⟨H1, H2, H3, H4, H5, H6, ⟨%f7, H7⟩, ⟨%f8, H8⟩, ⟨%f9, H9⟩, ⟨%f10, H10⟩, ⟨%f11, H11⟩, ⟨%f12, H12⟩, ⟨%f13, H13⟩, ⟨%f14, H14⟩⟩
  sl_exec
  sl_step
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  iexists _; iexact H14

theorem part6_keeps (k0_t1 : Fin k0_t1_loop.trips) (arg15 : BitVec 32) (v203 : BitVec 32) (v382 : FVec F S128x128 .bf16) (v385 : FVec F S128x128 .bf16) (v387 : Vec F S1x1x1x128x128 .bf16) :
    Held (F := F) c arg1 arg2 arg3 arg4 arg5 arg6 arg7 arg8 arg9 arg10 arg11 arg12 arg13 arg14 X1 X2 X3 X4 X5 X6
      ⊢ wp frame (wpE (defs₀ (F := F)) Variants.none (c : Thread nD τ) none) Set.univ
          (k0_part6 (F := F) i arg1 harg1 arg2 harg2 arg3 harg3 arg4 harg4 arg5 harg5 arg6 harg6 arg7 harg7 arg8 harg8 arg9 harg9 arg10 harg10 arg11 harg11 arg12 harg12 arg13 harg13 arg14 harg14 k0_t1 arg15 v203 v382 v385 v387) (fun _ => Held (F := F) c arg1 arg2 arg3 arg4 arg5 arg6 arg7 arg8 arg9 arg10 arg11 arg12 arg13 arg14 X1 X2 X3 X4 X5 X6) := by
  rw [k0_part6_eq_skeleton]; unfold k0_part6_skel
  iintro ⟨H1, H2, H3, H4, H5, H6, ⟨%f7, H7⟩, ⟨%f8, H8⟩, ⟨%f9, H9⟩, ⟨%f10, H10⟩, ⟨%f11, H11⟩, ⟨%f12, H12⟩, ⟨%f13, H13⟩, ⟨%f14, H14⟩⟩
  sl_exec
  sl_step
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  iexists _; iexact H14

theorem part7_keeps (k0_t1 : Fin k0_t1_loop.trips) (arg15 : BitVec 32) (v203 : BitVec 32) (v417 : FVec F S128x256 .f32) (v423 : FVec F S128x128 .bf16) (v426 : FVec F S128x128 .bf16) (v429 : FVec F S128x128 .bf16) :
    Held (F := F) c arg1 arg2 arg3 arg4 arg5 arg6 arg7 arg8 arg9 arg10 arg11 arg12 arg13 arg14 X1 X2 X3 X4 X5 X6
      ⊢ wp frame (wpE (defs₀ (F := F)) Variants.none (c : Thread nD τ) none) Set.univ
          (k0_part7 (F := F) i arg1 harg1 arg2 harg2 arg3 harg3 arg4 harg4 arg5 harg5 arg6 harg6 arg7 harg7 arg8 harg8 arg9 harg9 arg10 harg10 arg11 harg11 arg12 harg12 arg13 harg13 arg14 harg14 k0_t1 arg15 v203 v417 v423 v426 v429) (fun _ => Held (F := F) c arg1 arg2 arg3 arg4 arg5 arg6 arg7 arg8 arg9 arg10 arg11 arg12 arg13 arg14 X1 X2 X3 X4 X5 X6) := by
  rw [k0_part7_eq_skeleton]; unfold k0_part7_skel
  iintro ⟨H1, H2, H3, H4, H5, H6, ⟨%f7, H7⟩, ⟨%f8, H8⟩, ⟨%f9, H9⟩, ⟨%f10, H10⟩, ⟨%f11, H11⟩, ⟨%f12, H12⟩, ⟨%f13, H13⟩, ⟨%f14, H14⟩⟩
  sl_exec
  sl_step
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  iexists _; iexact H14

theorem part8_keeps (k0_t1 : Fin k0_t1_loop.trips) (arg15 : BitVec 32) (v448 : BitVec 32) (v472 : BitVec 32) :
    Held (F := F) c arg1 arg2 arg3 arg4 arg5 arg6 arg7 arg8 arg9 arg10 arg11 arg12 arg13 arg14 X1 X2 X3 X4 X5 X6
      ⊢ wp frame (wpE (defs₀ (F := F)) Variants.none (c : Thread nD τ) none) Set.univ
          (k0_part8 (F := F) i arg1 harg1 arg2 harg2 arg3 harg3 arg4 harg4 arg5 harg5 arg6 harg6 arg7 harg7 arg8 harg8 arg9 harg9 arg10 harg10 arg11 harg11 arg12 harg12 arg13 harg13 arg14 harg14 k0_t1 arg15 v448 v472) (fun _ => Held (F := F) c arg1 arg2 arg3 arg4 arg5 arg6 arg7 arg8 arg9 arg10 arg11 arg12 arg13 arg14 X1 X2 X3 X4 X5 X6) := by
  rw [k0_part8_eq_skeleton]; unfold k0_part8_skel
  iintro ⟨H1, H2, H3, H4, H5, H6, ⟨%f7, H7⟩, ⟨%f8, H8⟩, ⟨%f9, H9⟩, ⟨%f10, H10⟩, ⟨%f11, H11⟩, ⟨%f12, H12⟩, ⟨%f13, H13⟩, ⟨%f14, H14⟩⟩
  sl_exec
  sl_step
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  iexists _; iexact H14

theorem part9_keeps (k0_t1 : Fin k0_t1_loop.trips) (v203 : BitVec 32) (v498 : FVec F S256x256 .bf16) (v502 : FVec F S256x256 .bf16) (c0_i32_201 : BitVec 32) (c0_i32_202 : BitVec 32) (v503 : BitVec 32) (c1_i32_203 : BitVec 32) :
    Held (F := F) c arg1 arg2 arg3 arg4 arg5 arg6 arg7 arg8 arg9 arg10 arg11 arg12 arg13 arg14 X1 X2 X3 X4 X5 X6
      ⊢ wp frame (wpE (defs₀ (F := F)) Variants.none (c : Thread nD τ) none) Set.univ
          (k0_part9 (F := F) i arg1 harg1 arg2 harg2 arg3 harg3 arg4 harg4 arg5 harg5 arg6 harg6 arg7 harg7 arg8 harg8 arg9 harg9 arg10 harg10 arg11 harg11 arg12 harg12 arg13 harg13 arg14 harg14 k0_t1 v203 v498 v502 c0_i32_201 c0_i32_202 v503 c1_i32_203) (fun _ => Held (F := F) c arg1 arg2 arg3 arg4 arg5 arg6 arg7 arg8 arg9 arg10 arg11 arg12 arg13 arg14 X1 X2 X3 X4 X5 X6) := by
  rw [k0_part9_eq_skeleton]; unfold k0_part9_skel
  iintro ⟨H1, H2, H3, H4, H5, H6, ⟨%f7, H7⟩, ⟨%f8, H8⟩, ⟨%f9, H9⟩, ⟨%f10, H10⟩, ⟨%f11, H11⟩, ⟨%f12, H12⟩, ⟨%f13, H13⟩, ⟨%f14, H14⟩⟩
  sl_exec
  sl_step
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  iexists _; iexact H14

theorem part10_keeps (k0_t1 : Fin k0_t1_loop.trips) (arg15 : BitVec 32) (v203 : BitVec 32) (c192_i32 : BitVec 32) :
    Held (F := F) c arg1 arg2 arg3 arg4 arg5 arg6 arg7 arg8 arg9 arg10 arg11 arg12 arg13 arg14 X1 X2 X3 X4 X5 X6
      ⊢ wp frame (wpE (defs₀ (F := F)) Variants.none (c : Thread nD τ) none) Set.univ
          (k0_part10 (F := F) i arg1 harg1 arg2 harg2 arg3 harg3 arg4 harg4 arg5 harg5 arg6 harg6 arg7 harg7 arg8 harg8 arg9 harg9 arg10 harg10 arg11 harg11 arg12 harg12 arg13 harg13 arg14 harg14 k0_t1 arg15 v203 c192_i32) (fun _ => Held (F := F) c arg1 arg2 arg3 arg4 arg5 arg6 arg7 arg8 arg9 arg10 arg11 arg12 arg13 arg14 X1 X2 X3 X4 X5 X6) := by
  rw [k0_part10_eq_skeleton]; unfold k0_part10_skel
  iintro ⟨H1, H2, H3, H4, H5, H6, ⟨%f7, H7⟩, ⟨%f8, H8⟩, ⟨%f9, H9⟩, ⟨%f10, H10⟩, ⟨%f11, H11⟩, ⟨%f12, H12⟩, ⟨%f13, H13⟩, ⟨%f14, H14⟩⟩
  sl_exec
  sl_step
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  iexists _; iexact H14

theorem part11_keeps (k0_t1 : Fin k0_t1_loop.trips) (arg15 : BitVec 32) (v203 : BitVec 32) (v585 : Vec F S1x128 .f32) :
    Held (F := F) c arg1 arg2 arg3 arg4 arg5 arg6 arg7 arg8 arg9 arg10 arg11 arg12 arg13 arg14 X1 X2 X3 X4 X5 X6
      ⊢ wp frame (wpE (defs₀ (F := F)) Variants.none (c : Thread nD τ) none) Set.univ
          (k0_part11 (F := F) i arg1 harg1 arg2 harg2 arg3 harg3 arg4 harg4 arg5 harg5 arg6 harg6 arg7 harg7 arg8 harg8 arg9 harg9 arg10 harg10 arg11 harg11 arg12 harg12 arg13 harg13 arg14 harg14 k0_t1 arg15 v203 v585) (fun _ => Held (F := F) c arg1 arg2 arg3 arg4 arg5 arg6 arg7 arg8 arg9 arg10 arg11 arg12 arg13 arg14 X1 X2 X3 X4 X5 X6) := by
  rw [k0_part11_eq_skeleton]; unfold k0_part11_skel
  iintro ⟨H1, H2, H3, H4, H5, H6, ⟨%f7, H7⟩, ⟨%f8, H8⟩, ⟨%f9, H9⟩, ⟨%f10, H10⟩, ⟨%f11, H11⟩, ⟨%f12, H12⟩, ⟨%f13, H13⟩, ⟨%f14, H14⟩⟩
  sl_exec
  sl_step
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  iexists _; iexact H14

theorem part12_keeps  :
    Held (F := F) c arg1 arg2 arg3 arg4 arg5 arg6 arg7 arg8 arg9 arg10 arg11 arg12 arg13 arg14 X1 X2 X3 X4 X5 X6
      ⊢ wp frame (wpE (defs₀ (F := F)) Variants.none (c : Thread nD τ) none) Set.univ
          (k0_part12 (F := F) i arg1 harg1 arg2 harg2 arg3 harg3 arg4 harg4 arg5 harg5 arg6 harg6 arg7 harg7 arg8 harg8 arg9 harg9 arg10 harg10 arg11 harg11 arg12 harg12 arg13 harg13 arg14 harg14 ) (fun _ => Held (F := F) c arg1 arg2 arg3 arg4 arg5 arg6 arg7 arg8 arg9 arg10 arg11 arg12 arg13 arg14 X1 X2 X3 X4 X5 X6) := by
  rw [k0_part12_eq_skeleton]; unfold k0_part12_skel
  iintro ⟨H1, H2, H3, H4, H5, H6, ⟨%f7, H7⟩, ⟨%f8, H8⟩, ⟨%f9, H9⟩, ⟨%f10, H10⟩, ⟨%f11, H11⟩, ⟨%f12, H12⟩, ⟨%f13, H13⟩, ⟨%f14, H14⟩⟩
  sl_exec
  sl_step
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  iexists _; iexact H14

theorem part13_keeps (v2 : IVec S16x128 32) (v3 : IVec S16x128 32) (v33 : FVec F S16x128 .f32) (v35 : IVec S16x128 1) (v36 : FVec F S16x128 .f32) (v37 : FVec F S16x128 .f32) :
    Held (F := F) c arg1 arg2 arg3 arg4 arg5 arg6 arg7 arg8 arg9 arg10 arg11 arg12 arg13 arg14 X1 X2 X3 X4 X5 X6
      ⊢ wp frame (wpE (defs₀ (F := F)) Variants.none (c : Thread nD τ) none) Set.univ
          (k0_part13 (F := F) i arg1 harg1 arg2 harg2 arg3 harg3 arg4 harg4 arg5 harg5 arg6 harg6 arg7 harg7 arg8 harg8 arg9 harg9 arg10 harg10 arg11 harg11 arg12 harg12 arg13 harg13 arg14 harg14 v2 v3 v33 v35 v36 v37) (fun _ => Held (F := F) c arg1 arg2 arg3 arg4 arg5 arg6 arg7 arg8 arg9 arg10 arg11 arg12 arg13 arg14 X1 X2 X3 X4 X5 X6) := by
  rw [k0_part13_eq_skeleton]; unfold k0_part13_skel
  iintro ⟨H1, H2, H3, H4, H5, H6, ⟨%f7, H7⟩, ⟨%f8, H8⟩, ⟨%f9, H9⟩, ⟨%f10, H10⟩, ⟨%f11, H11⟩, ⟨%f12, H12⟩, ⟨%f13, H13⟩, ⟨%f14, H14⟩⟩
  sl_exec
  sl_step
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  iexists _; iexact H14

theorem part14_keeps (v3 : IVec S16x128 32) (v45 : FVec F S16x128 .f32) (v77 : FVec F S16x128 .f32) (v78 : IVec S16x128 32) :
    Held (F := F) c arg1 arg2 arg3 arg4 arg5 arg6 arg7 arg8 arg9 arg10 arg11 arg12 arg13 arg14 X1 X2 X3 X4 X5 X6
      ⊢ wp frame (wpE (defs₀ (F := F)) Variants.none (c : Thread nD τ) none) Set.univ
          (k0_part14 (F := F) i arg1 harg1 arg2 harg2 arg3 harg3 arg4 harg4 arg5 harg5 arg6 harg6 arg7 harg7 arg8 harg8 arg9 harg9 arg10 harg10 arg11 harg11 arg12 harg12 arg13 harg13 arg14 harg14 v3 v45 v77 v78) (fun _ => Held (F := F) c arg1 arg2 arg3 arg4 arg5 arg6 arg7 arg8 arg9 arg10 arg11 arg12 arg13 arg14 X1 X2 X3 X4 X5 X6) := by
  rw [k0_part14_eq_skeleton]; unfold k0_part14_skel
  iintro ⟨H1, H2, H3, H4, H5, H6, ⟨%f7, H7⟩, ⟨%f8, H8⟩, ⟨%f9, H9⟩, ⟨%f10, H10⟩, ⟨%f11, H11⟩, ⟨%f12, H12⟩, ⟨%f13, H13⟩, ⟨%f14, H14⟩⟩
  sl_exec
  sl_step
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  iexists _; iexact H14

theorem part15_keeps (v85 : FVec F S16x128 .f32) (v120 : FVec F S128x128 .f32) :
    Held (F := F) c arg1 arg2 arg3 arg4 arg5 arg6 arg7 arg8 arg9 arg10 arg11 arg12 arg13 arg14 X1 X2 X3 X4 X5 X6
      ⊢ wp frame (wpE (defs₀ (F := F)) Variants.none (c : Thread nD τ) none) Set.univ
          (k0_part15 (F := F) i arg1 harg1 arg2 harg2 arg3 harg3 arg4 harg4 arg5 harg5 arg6 harg6 arg7 harg7 arg8 harg8 arg9 harg9 arg10 harg10 arg11 harg11 arg12 harg12 arg13 harg13 arg14 harg14 v85 v120) (fun _ => Held (F := F) c arg1 arg2 arg3 arg4 arg5 arg6 arg7 arg8 arg9 arg10 arg11 arg12 arg13 arg14 X1 X2 X3 X4 X5 X6) := by
  rw [k0_part15_eq_skeleton]; unfold k0_part15_skel
  iintro ⟨H1, H2, H3, H4, H5, H6, ⟨%f7, H7⟩, ⟨%f8, H8⟩, ⟨%f9, H9⟩, ⟨%f10, H10⟩, ⟨%f11, H11⟩, ⟨%f12, H12⟩, ⟨%f13, H13⟩, ⟨%f14, H14⟩⟩
  sl_exec
  sl_step
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  iexists _; iexact H14

theorem part16_keeps (v85 : FVec F S16x128 .f32) (v162 : FVec F S128x128 .f32) :
    Held (F := F) c arg1 arg2 arg3 arg4 arg5 arg6 arg7 arg8 arg9 arg10 arg11 arg12 arg13 arg14 X1 X2 X3 X4 X5 X6
      ⊢ wp frame (wpE (defs₀ (F := F)) Variants.none (c : Thread nD τ) none) Set.univ
          (k0_part16 (F := F) i arg1 harg1 arg2 harg2 arg3 harg3 arg4 harg4 arg5 harg5 arg6 harg6 arg7 harg7 arg8 harg8 arg9 harg9 arg10 harg10 arg11 harg11 arg12 harg12 arg13 harg13 arg14 harg14 v85 v162) (fun _ => Held (F := F) c arg1 arg2 arg3 arg4 arg5 arg6 arg7 arg8 arg9 arg10 arg11 arg12 arg13 arg14 X1 X2 X3 X4 X5 X6) := by
  rw [k0_part16_eq_skeleton]; unfold k0_part16_skel
  iintro ⟨H1, H2, H3, H4, H5, H6, ⟨%f7, H7⟩, ⟨%f8, H8⟩, ⟨%f9, H9⟩, ⟨%f10, H10⟩, ⟨%f11, H11⟩, ⟨%f12, H12⟩, ⟨%f13, H13⟩, ⟨%f14, H14⟩⟩
  sl_exec
  sl_step
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  iexists _; iexact H14

/-- One group's trip keeps what is held. -/
theorem group_trip (c0_i32 c1_i32_53 : BitVec 32) (k : Fin k0_t1_loop.trips) (u : Unit) :
    Held (F := F) c arg1 arg2 arg3 arg4 arg5 arg6 arg7 arg8 arg9 arg10 arg11 arg12 arg13 arg14 X1 X2 X3 X4 X5 X6
      ⊢ wp frame (wpE (defs₀ (F := F)) Variants.none (c : Thread nD τ) none) Set.univ
          (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 c0_i32 c1_i32_53 k u) (fun _ => Held (F := F) c arg1 arg2 arg3 arg4 arg5 arg6 arg7 arg8 arg9 arg10 arg11 arg12 arg13 arg14 X1 X2 X3 X4 X5 X6) := by
  unfold k0_t1_body
  refine seq_spec (part1_keeps c i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 _ _ _) ?_
  intro a1
  refine seq_spec (part2_keeps c i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 _ _ _ _ _ _ _) ?_
  intro a2
  refine seq_spec (part3_keeps c i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 _ _ _ _) ?_
  intro a3
  refine seq_spec (part4_keeps c i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 _ _ _ _ _ _) ?_
  intro a4
  refine seq_spec (part5_keeps c i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 _ _ _ _ _ _) ?_
  intro a5
  refine seq_spec (part6_keeps c i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 _ _ _ _ _ _) ?_
  intro a6
  refine seq_spec (part7_keeps c i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 _ _ _ _ _ _ _) ?_
  intro a7
  refine seq_spec (part8_keeps c i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 _ _ _ _) ?_
  intro a8
  refine seq_spec (part9_keeps c i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 _ _ _ _ _ _ _ _) ?_
  intro a9
  refine seq_spec (part10_keeps c i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 _ _ _ _) ?_
  intro a10
  refine seq_spec (part11_keeps c i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 _ _ _ _) ?_
  intro a11
  iintro ⟨H1, H2, H3, H4, H5, H6, ⟨%f7, H7⟩, ⟨%f8, H8⟩, ⟨%f9, H9⟩, ⟨%f10, H10⟩, ⟨%f11, H11⟩, ⟨%f12, H12⟩, ⟨%f13, H13⟩, ⟨%f14, H14⟩⟩
  sl_exec
  sl_step
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  iexists _; iexact H14

/-- The eight groups by the invariant that says what is held. -/
@[instance_reducible, sl_loop] def loopInv_k0_t1 (c0_i32 c1_i32_53 : BitVec 32) :
    LoopInvTy_k0_t1 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 c0_i32 c1_i32_53 where
  inv _ _ := Held (F := F) c arg1 arg2 arg3 arg4 arg5 arg6 arg7 arg8 arg9 arg10 arg11 arg12 arg13 arg14 X1 X2 X3 X4 X5 X6
  step k acc := group_trip c i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 c0_i32 c1_i32_53 k acc

/-- The whole body keeps what is held. -/
theorem body_keeps :
    Held (F := F) c arg1 arg2 arg3 arg4 arg5 arg6 arg7 arg8 arg9 arg10 arg11 arg12 arg13 arg14 X1 X2 X3 X4 X5 X6
      ⊢ wp frame (wpE (defs₀ (F := F)) Variants.none (c : Thread nD τ) none) Set.univ
          (cc0_attn (F := F) i arg1 harg1 arg2 harg2 arg3 harg3 arg4 harg4 arg5 harg5 arg6 harg6 arg7 harg7 arg8 harg8 arg9 harg9 arg10 harg10 arg11 harg11 arg12 harg12 arg13 harg13 arg14 harg14) (fun _ => Held (F := F) c arg1 arg2 arg3 arg4 arg5 arg6 arg7 arg8 arg9 arg10 arg11 arg12 arg13 arg14 X1 X2 X3 X4 X5 X6) := by
  rw [cc0_attn_eq_skeleton]; unfold cc0_attn_skel
  refine seq_spec (part12_keeps c i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 ) ?_
  intro a12
  refine seq_spec (part13_keeps c i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 _ _ _ _ _ _) ?_
  intro a13
  refine seq_spec (part14_keeps c i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 _ _ _ _) ?_
  intro a14
  refine seq_spec (part15_keeps c i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 _ _) ?_
  intro a15
  refine seq_spec (part16_keeps c i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 _ _) ?_
  intro a16
  iintro ⟨H1, H2, H3, H4, H5, H6, ⟨%f7, H7⟩, ⟨%f8, H8⟩, ⟨%f9, H9⟩, ⟨%f10, H10⟩, ⟨%f11, H11⟩, ⟨%f12, H12⟩, ⟨%f13, H13⟩, ⟨%f14, H14⟩⟩
  sl_exec
  sl_step
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  iexists _; iexact H14

end Cert.Kernel.Hand

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output window is forgotten: nothing here reads what the kernel leaves in it. -/
def forgets0 : Fin 7 → Bool := fun | 6 => true | _ => false

/-- The proof data on core `c`: each array as the region finds it, the inputs' blocks left in place, what the body leaves in
    the output unnamed, the class invariant (the scratch at any contents), full shares, nothing owed. -/
def dats (_ : Fin 1) (c : Dev nD) : Dat τ (Elt F) Unit ℕ (UR sig nD τ) ℕ cfg0 c where
  A w := V m c (Pipeline.arrRef spec0 w)
  after w t := match w with
    | 0 => iblk m c 0 t | 1 => iblk m c 1 t | 2 => iblk m c 2 t | 3 => iblk m c 3 t | 4 => iblk m c 4 t | 5 => iblk m c 5 t
    | 6 => Pipeline.Dat.unnamed (cfg := cfg0) 6 t
  Φ _ := Pipeline.ΦA spec0 c
  q _ := fullShare
  owed _ := 0

theorem A_eq (c : Dev nD) (w : Fin cfg0.W) : (dats m 0 c).A w = V m c (Pipeline.arrRef spec0 w) := by dsimp only [dats]
theorem Phi_eq (c : Dev nD) (t) : (dats m 0 c).Φ t = Pipeline.ΦA spec0 c := by dsimp only [dats]

/-- The class invariant, conjunct by conjunct: each scratch buffer owned at some contents, the generator register at some state. -/
theorem PhiA_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)
          ∗ (∃ d, owns (c : Thread nD τ) (Memref.whole cc0_scratch2) fullShare d) ∗ (∃ d, owns (c : Thread nD τ) (Memref.whole cc0_scratch3) fullShare d)
          ∗ (∃ d, owns (c : Thread nD τ) (Memref.whole cc0_scratch4) fullShare d) ∗ (∃ d, owns (c : Thread nD τ) (Memref.whole cc0_scratch5) fullShare d)
          ∗ (∃ d, owns (c : Thread nD τ) (Memref.whole cc0_scratch6) fullShare d)) ∗ (∃ r, prngReg c r)) := by
  unfold Pipeline.ΦA; rw [scopedRest0_eq]; simp only [owns_whole]; try rfl

/-- The body's triple, for any continuation: from the inputs' staging buffers at their blocks, the output's and the scratch at
    anything, back to the same. -/
theorem body_run (c : Dev nD) (i : grid0.Coords) (arg1 : Memref sig .tc .vmem S1x32x3x128x128 .bf16) (harg1 : arg1.IsWhole) (arg2 : Memref sig .tc .vmem S1x2048x128 .f32) (harg2 : arg2.IsWhole) (arg3 : Memref sig .tc .vmem S1x16x128x128 .bf16) (harg3 : arg3.IsWhole) (arg4 : Memref sig .tc .vmem S1x16x64x128 .f32) (harg4 : arg4.IsWhole) (arg5 : Memref sig .tc .vmem S2048x128 .bf16) (harg5 : arg5.IsWhole) (arg6 : Memref sig .tc .vmem S1x16x128 .f32) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S2048x256 .f32) (harg11 : arg11.IsWhole) (arg12 : Memref sig .tc .vmem S128x2048 .bf16) (harg12 : arg12.IsWhole) (arg13 : Memref sig .tc .vmem S2048x128 .f32) (harg13 : arg13.IsWhole) (arg14 : Memref sig .tc .vmem S16x128 .f32) (harg14 : arg14.IsWhole)
    (X1 : S1x32x3x128x128.Idx → Elt F .bf16) (X2 : S1x2048x128.Idx → Elt F .f32) (X3 : S1x16x128x128.Idx → Elt F .bf16) (X4 : S1x16x64x128.Idx → Elt F .f32) (X5 : S2048x128.Idx → Elt F .bf16) (X6 : S1x16x128.Idx → Elt F .f32) (K : PUnit → sProp 𝕄) :
    iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
      ⊢ wp frame (wpE (defs₀ (F := F)) Variants.none c none) Set.univ (cc0_attn i arg1 harg1 arg2 harg2 arg3 harg3 arg4 harg4 arg5 harg5 arg6 harg6 arg7 harg7 arg8 harg8 arg9 harg9 arg10 harg10 arg11 harg11 arg12 harg12 arg13 harg13 arg14 harg14) K := by
  unfold owns
  iintro ⟨⟨%f1, %h1, H1⟩, ⟨%f2, %h2, H2⟩, ⟨%f3, %h3, H3⟩, ⟨%f4, %h4, H4⟩, ⟨%f5, %h5, H5⟩, ⟨%f6, %h6, H6⟩, ⟨%d7, %f7, -, H7⟩,
    ⟨%d8, %f8, -, H8⟩, ⟨%d9, %f9, -, H9⟩, ⟨%d10, %f10, -, H10⟩, ⟨%d11, %f11, -, H11⟩, ⟨%d12, %f12, -, H12⟩, ⟨%d13, %f13, -, H13⟩,
    ⟨%d14, %f14, -, H14⟩, Hk⟩
  iapply (wp_wand_r frame (wpE (defs₀ (F := F)) Variants.none (c : Thread nD τ) none) Set.univ)
  isplitl [H1 H2 H3 H4 H5 H6 H7 H8 H9 H10 H11 H12 H13 H14]
  · iapply (body_keeps (F := F) c i arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f5 f6)
    isplitl [H1]; · iexact H1
    isplitl [H2]; · iexact H2
    isplitl [H3]; · iexact H3
    isplitl [H4]; · iexact H4
    isplitl [H5]; · iexact H5
    isplitl [H6]; · iexact H6
    isplitl [H7]; · iexists f7; iexact H7
    isplitl [H8]; · iexists f8; iexact H8
    isplitl [H9]; · iexists f9; iexact H9
    isplitl [H10]; · iexists f10; iexact H10
    isplitl [H11]; · iexists f11; iexact H11
    isplitl [H12]; · iexists f12; iexact H12
    isplitl [H13]; · iexists f13; iexact H13
    iexists f14; iexact H14
  iintro %u ⟨H1, H2, H3, H4, H5, H6, ⟨%g7, H7⟩, ⟨%g8, H8⟩, ⟨%g9, H9⟩, ⟨%g10, H10⟩, ⟨%g11, H11⟩, ⟨%g12, H12⟩, ⟨%g13, H13⟩, ⟨%g14, H14⟩⟩
  iapply Hk
  isplitl [H1]; · iexists f1; isplitr; swap; (· iexact H1); ipureintro; exact h1
  isplitl [H2]; · iexists f2; isplitr; swap; (· iexact H2); ipureintro; exact h2
  isplitl [H3]; · iexists f3; isplitr; swap; (· iexact H3); ipureintro; exact h3
  isplitl [H4]; · iexists f4; isplitr; swap; (· iexact H4); ipureintro; exact h4
  isplitl [H5]; · iexists f5; isplitr; swap; (· iexact H5); ipureintro; exact h5
  isplitl [H6]; · iexists f6; isplitr; swap; (· iexact H6); ipureintro; exact h6
  isplitl [H7]; · iexists _, g7; isplitr; swap; (· iexact H7); ipureintro; rfl
  isplitl [H8]; · iexists _, g8; isplitr; swap; (· iexact H8); ipureintro; rfl
  isplitl [H9]; · iexists _, g9; isplitr; swap; (· iexact H9); ipureintro; rfl
  isplitl [H10]; · iexists _, g10; isplitr; swap; (· iexact H10); ipureintro; rfl
  isplitl [H11]; · iexists _, g11; isplitr; swap; (· iexact H11); ipureintro; rfl
  isplitl [H12]; · iexists _, g12; isplitr; swap; (· iexact H12); ipureintro; rfl
  isplitl [H13]; · iexists _, g13; isplitr; swap; (· iexact H13); ipureintro; rfl
  iexists _, g14; isplitr; swap; (· iexact H14); ipureintro; rfl

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare d))
def bodyPost (c : Dev nD) (t : Fin cfg0.N) : sProp 𝕄 :=
  iprop((dats m 0 c).Φ t.succ ∗ (dats m 0 c).owesAt () t.succ
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ owns (c : Thread nD τ) (st0_5 t) fullShare (iblk m c 5 t)
    ∗ (∃ d, owns (c : Thread nD τ) (st0_6 t) fullShare d))

/-- The body at the point: the invariant opened, the body run, the invariant closed. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0_of m (dats m 0 c) (A_eq m c 0) (fun _ => rfl) t, before0_1_of m (dats m 0 c) (A_eq m c 1) (fun _ => rfl) t,
    before0_2_of m (dats m 0 c) (A_eq m c 2) (fun _ => rfl) t, before0_3_of m (dats m 0 c) (A_eq m c 3) (fun _ => rfl) t,
    before0_4_of m (dats m 0 c) (A_eq m c 4) (fun _ => rfl) t, before0_5_of m (dats m 0 c) (A_eq m c 5) (fun _ => rfl) t]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA_eq]
  iintro ⟨⟨⟨S0, S1, S2, S3, S4, S5, S6⟩, Hg⟩, HO, ⟨%d0, H0⟩, ⟨%d1, H1⟩, ⟨%d2, H2⟩, ⟨%d3, H3⟩, ⟨%d4, H4⟩, ⟨%d5, H5⟩, H6⟩
  iapply (body_run (F := F) c _ _ _ _ _ _ _ _ _ _ _ _ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [S0]; · iexact S0
  isplitl [S1]; · iexact S1
  isplitl [S2]; · iexact S2
  isplitl [S3]; · iexact S3
  isplitl [S4]; · iexact S4
  isplitl [S5]; · iexact S5
  isplitl [S6]; · iexact S6
  iintro ⟨H0, H1, H2, H3, H4, H5, H6, S0, S1, S2, S3, S4, S5, S6⟩
  isplitl [S0 S1 S2 S3 S4 S5 S6 Hg]
  · isplitl [S0 S1 S2 S3 S4 S5 S6]
    · isplitl [S0]; · iexact S0
      isplitl [S1]; · iexact S1
      isplitl [S2]; · iexact S2
      isplitl [S3]; · iexact S3
      isplitl [S4]; · iexact S4
      isplitl [S5]; · iexact S5
      iexact S6
    iexact Hg
  isplitl [HO]; · iexact HO
  isplitl [H0]; · iexact H0
  isplitl [H1]; · iexact H1
  isplitl [H2]; · iexact H2
  isplitl [H3]; · iexact H3
  isplitl [H4]; · iexact H4
  isplitl [H5]; · iexact H5
  iexact H6

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation with the output forgotten. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- From any memory with zero counters the program terminates; every final state has the arrays as the relational data say and
    every semaphore counter at zero. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := Phi_eq m)

/-- The argument arrays end as they began, and every semaphore counter at zero. -/
theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(Pipeline.RDat.FramePost.arr_in h.1 c 0 rfl).trans (V_main_arg0 m c),
      (Pipeline.RDat.FramePost.arr_in h.1 c 1 rfl).trans (V_main_arg1 m c),
      (Pipeline.RDat.FramePost.arr_in h.1 c 2 rfl).trans (V_main_arg2 m c),
      (Pipeline.RDat.FramePost.arr_in h.1 c 3 rfl).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩, h.2⟩) (run_main m ρ)

end Cert.Kernel.Hand

end
-- ==== Proof.FrameKI.lean ====
/-
  The frame of the attention kernel: the body run once from its fourteen buffers, the eight group trips by an invariant that keeps
  the six inputs at their contents and says nothing of the output and the scratch, and the launch.
-/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.LoopRemainder
public import Idealize.ShloMosaic.Lib.Pipeline.Frame
public import Idealize.ShloMosaic.Lib.Tactic

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

/-- The six inputs at their contents, the output and the seven scratch buffers at any. -/
abbrev Held (c : Dev nD) (arg1 : Memref sig .tc .vmem S1x32x3x128x128 .bf16) (arg2 : Memref sig .tc .vmem S1x2048x128 .f32) (arg3 : Memref sig .tc .vmem S1x16x128x128 .bf16) (arg4 : Memref sig .tc .vmem S1x16x64x128 .f32) (arg5 : Memref sig .tc .vmem S2048x128 .bf16) (arg6 : Memref sig .tc .vmem S1x16x128 .f32) (arg7 : Memref sig .tc .vmem S2048x128 .bf16) (arg8 : Memref sig .tc .vmem S2048x128 .bf16) (arg9 : Memref sig .tc .vmem S2048x128 .bf16) (arg10 : Memref sig .tc .vmem S2048x128 .bf16) (arg11 : Memref sig .tc .vmem S2048x256 .f32) (arg12 : Memref sig .tc .vmem S128x2048 .bf16) (arg13 : Memref sig .tc .vmem S2048x128 .f32) (arg14 : Memref sig .tc .vmem S16x128 .f32) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) : sProp 𝕄 :=
  iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (∃ f : BufTy.Contents (Elt F) arg7.view.ty, (arg7.view.loc (c : Thread nD τ) ↦[arg7.view.set]{fullShare} f)) ∗ (∃ f : BufTy.Contents (Elt F) arg8.view.ty, (arg8.view.loc (c : Thread nD τ) ↦[arg8.view.set]{fullShare} f)) ∗ (∃ f : BufTy.Contents (Elt F) arg9.view.ty, (arg9.view.loc (c : Thread nD τ) ↦[arg9.view.set]{fullShare} f)) ∗ (∃ f : BufTy.Contents (Elt F) arg10.view.ty, (arg10.view.loc (c : Thread nD τ) ↦[arg10.view.set]{fullShare} f)) ∗ (∃ f : BufTy.Contents (Elt F) arg11.view.ty, (arg11.view.loc (c : Thread nD τ) ↦[arg11.view.set]{fullShare} f)) ∗ (∃ f : BufTy.Contents (Elt F) arg12.view.ty, (arg12.view.loc (c : Thread nD τ) ↦[arg12.view.set]{fullShare} f)) ∗ (∃ f : BufTy.Contents (Elt F) arg13.view.ty, (arg13.view.loc (c : Thread nD τ) ↦[arg13.view.set]{fullShare} f)) ∗ (∃ f : BufTy.Contents (Elt F) arg14.view.ty, (arg14.view.loc (c : Thread nD τ) ↦[arg14.view.set]{fullShare} f)))

/-- A program sequenced after another: the first's result met by the second. -/
theorem seq_spec {α β : Type} {c : Dev nD} {P Q : sProp 𝕄} {R : β → sProp 𝕄} {p : Prog (TpuEff nD τ sig (Elt F) Λ₀ .tc) α}
    {k : α → Prog (TpuEff nD τ sig (Elt F) Λ₀ .tc) β}
    (h : P ⊢ wp frame (wpE (defs₀ (F := F)) Variants.none (c : Thread nD τ) none) Set.univ p (fun _ => Q))
    (hk : ∀ a, Q ⊢ wp frame (wpE (defs₀ (F := F)) Variants.none (c : Thread nD τ) none) Set.univ (k a) R) :
    P ⊢ wp frame (wpE (defs₀ (F := F)) Variants.none (c : Thread nD τ) none) Set.univ (p >>= k) R := by
  rw [wp_bind]
  iintro H
  iapply (wp_wand_r frame (wpE (defs₀ (F := F)) Variants.none (c : Thread nD τ) none) Set.univ)
  isplitl [H]
  · iapply h; iexact H
  · iintro %a H
    iapply (hk a); iexact H

variable (c : Dev nD) (i : grid0.Coords) (arg1 : Memref sig .tc .vmem S1x32x3x128x128 .bf16) (harg1 : arg1.IsWhole) (arg2 : Memref sig .tc .vmem S1x2048x128 .f32) (harg2 : arg2.IsWhole) (arg3 : Memref sig .tc .vmem S1x16x128x128 .bf16) (harg3 : arg3.IsWhole) (arg4 : Memref sig .tc .vmem S1x16x64x128 .f32) (harg4 : arg4.IsWhole) (arg5 : Memref sig .tc .vmem S2048x128 .bf16) (harg5 : arg5.IsWhole) (arg6 : Memref sig .tc .vmem S1x16x128 .f32) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S2048x256 .f32) (harg11 : arg11.IsWhole) (arg12 : Memref sig .tc .vmem S128x2048 .bf16) (harg12 : arg12.IsWhole) (arg13 : Memref sig .tc .vmem S2048x128 .f32) (harg13 : arg13.IsWhole) (arg14 : Memref sig .tc .vmem S16x128 .f32) (harg14 : arg14.IsWhole)
  (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty)

theorem part1_keeps (c0_i32 : BitVec 32) (c1_i32_53 : BitVec 32) (k0_t1 : Fin k0_t1_loop.trips) :
    Held (F := F) c arg1 arg2 arg3 arg4 arg5 arg6 arg7 arg8 arg9 arg10 arg11 arg12 arg13 arg14 X1 X2 X3 X4 X5 X6
      ⊢ wp frame (wpE (defs₀ (F := F)) Variants.none (c : Thread nD τ) none) Set.univ
          (k0_part1 (F := F) i arg1 harg1 arg2 harg2 arg3 harg3 arg4 harg4 arg5 harg5 arg6 harg6 arg7 harg7 arg8 harg8 arg9 harg9 arg10 harg10 arg11 harg11 arg12 harg12 arg13 harg13 arg14 harg14 c0_i32 c1_i32_53 k0_t1) (fun _ => Held (F := F) c arg1 arg2 arg3 arg4 arg5 arg6 arg7 arg8 arg9 arg10 arg11 arg12 arg13 arg14 X1 X2 X3 X4 X5 X6) := by
  rw [k0_part1_eq_skeleton]; unfold k0_part1_skel
  iintro ⟨H1, H2, H3, H4, H5, H6, ⟨%f7, H7⟩, ⟨%f8, H8⟩, ⟨%f9, H9⟩, ⟨%f10, H10⟩, ⟨%f11, H11⟩, ⟨%f12, H12⟩, ⟨%f13, H13⟩, ⟨%f14, H14⟩⟩
  sl_exec
  sl_step
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  iexists _; iexact H14

theorem part2_keeps (k0_t1 : Fin k0_t1_loop.trips) (arg15 : BitVec 32) (v203 : BitVec 32) (v230 : FVec F S256x256 .bf16) (v234 : FVec F S256x256 .bf16) (c0_i32_75 : BitVec 32) (c0_i32_76 : BitVec 32) :
    Held (F := F) c arg1 arg2 arg3 arg4 arg5 arg6 arg7 arg8 arg9 arg10 arg11 arg12 arg13 arg14 X1 X2 X3 X4 X5 X6
      ⊢ wp frame (wpE (defs₀ (F := F)) Variants.none (c : Thread nD τ) none) Set.univ
          (k0_part2 (F := F) i arg1 harg1 arg2 harg2 arg3 harg3 arg4 harg4 arg5 harg5 arg6 harg6 arg7 harg7 arg8 harg8 arg9 harg9 arg10 harg10 arg11 harg11 arg12 harg12 arg13 harg13 arg14 harg14 k0_t1 arg15 v203 v230 v234 c0_i32_75 c0_i32_76) (fun _ => Held (F := F) c arg1 arg2 arg3 arg4 arg5 arg6 arg7 arg8 arg9 arg10 arg11 arg12 arg13 arg14 X1 X2 X3 X4 X5 X6) := by
  rw [k0_part2_eq_skeleton]; unfold k0_part2_skel
  iintro ⟨H1, H2, H3, H4, H5, H6, ⟨%f7, H7⟩, ⟨%f8, H8⟩, ⟨%f9, H9⟩, ⟨%f10, H10⟩, ⟨%f11, H11⟩, ⟨%f12, H12⟩, ⟨%f13, H13⟩, ⟨%f14, H14⟩⟩
  sl_exec
  sl_step
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  iexists _; iexact H14

theorem part3_keeps (k0_t1 : Fin k0_t1_loop.trips) (arg15 : BitVec 32) (v203 : BitVec 32) (c4_i32_92 : BitVec 32) :
    Held (F := F) c arg1 arg2 arg3 arg4 arg5 arg6 arg7 arg8 arg9 arg10 arg11 arg12 arg13 arg14 X1 X2 X3 X4 X5 X6
      ⊢ wp frame (wpE (defs₀ (F := F)) Variants.none (c : Thread nD τ) none) Set.univ
          (k0_part3 (F := F) i arg1 harg1 arg2 harg2 arg3 harg3 arg4 harg4 arg5 harg5 arg6 harg6 arg7 harg7 arg8 harg8 arg9 harg9 arg10 harg10 arg11 harg11 arg12 harg12 arg13 harg13 arg14 harg14 k0_t1 arg15 v203 c4_i32_92) (fun _ => Held (F := F) c arg1 arg2 arg3 arg4 arg5 arg6 arg7 arg8 arg9 arg10 arg11 arg12 arg13 arg14 X1 X2 X3 X4 X5 X6) := by
  rw [k0_part3_eq_skeleton]; unfold k0_part3_skel
  iintro ⟨H1, H2, H3, H4, H5, H6, ⟨%f7, H7⟩, ⟨%f8, H8⟩, ⟨%f9, H9⟩, ⟨%f10, H10⟩, ⟨%f11, H11⟩, ⟨%f12, H12⟩, ⟨%f13, H13⟩, ⟨%f14, H14⟩⟩
  sl_exec
  sl_step
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  iexists _; iexact H14

theorem part4_keeps (k0_t1 : Fin k0_t1_loop.trips) (v203 : BitVec 32) (v293 : FVec F S256x256 .bf16) (v297 : FVec F S256x256 .bf16) (v306 : Vec F S64x128 .bf16) (v308 : Vec F S64x128 .bf16) :
    Held (F := F) c arg1 arg2 arg3 arg4 arg5 arg6 arg7 arg8 arg9 arg10 arg11 arg12 arg13 arg14 X1 X2 X3 X4 X5 X6
      ⊢ wp frame (wpE (defs₀ (F := F)) Variants.none (c : Thread nD τ) none) Set.univ
          (k0_part4 (F := F) i arg1 harg1 arg2 harg2 arg3 harg3 arg4 harg4 arg5 harg5 arg6 harg6 arg7 harg7 arg8 harg8 arg9 harg9 arg10 harg10 arg11 harg11 arg12 harg12 arg13 harg13 arg14 harg14 k0_t1 v203 v293 v297 v306 v308) (fun _ => Held (F := F) c arg1 arg2 arg3 arg4 arg5 arg6 arg7 arg8 arg9 arg10 arg11 arg12 arg13 arg14 X1 X2 X3 X4 X5 X6) := by
  rw [k0_part4_eq_skeleton]; unfold k0_part4_skel
  iintro ⟨H1, H2, H3, H4, H5, H6, ⟨%f7, H7⟩, ⟨%f8, H8⟩, ⟨%f9, H9⟩, ⟨%f10, H10⟩, ⟨%f11, H11⟩, ⟨%f12, H12⟩, ⟨%f13, H13⟩, ⟨%f14, H14⟩⟩
  sl_exec
  sl_step
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  iexists _; iexact H14

theorem part5_keeps (k0_t1 : Fin k0_t1_loop.trips) (arg15 : BitVec 32) (v345 : BitVec 32) (v349 : FVec F S64x128 .bf16) (v352 : FVec F S64x128 .bf16) (v354 : FVec F S64x128 .f32) :
    Held (F := F) c arg1 arg2 arg3 arg4 arg5 arg6 arg7 arg8 arg9 arg10 arg11 arg12 arg13 arg14 X1 X2 X3 X4 X5 X6
      ⊢ wp frame (wpE (defs₀ (F := F)) Variants.none (c : Thread nD τ) none) Set.univ
          (k0_part5 (F := F) i arg1 harg1 arg2 harg2 arg3 harg3 arg4 harg4 arg5 harg5 arg6 harg6 arg7 harg7 arg8 harg8 arg9 harg9 arg10 harg10 arg11 harg11 arg12 harg12 arg13 harg13 arg14 harg14 k0_t1 arg15 v345 v349 v352 v354) (fun _ => Held (F := F) c arg1 arg2 arg3 arg4 arg5 arg6 arg7 arg8 arg9 arg10 arg11 arg12 arg13 arg14 X1 X2 X3 X4 X5 X6) := by
  rw [k0_part5_eq_skeleton]; unfold k0_part5_skel
  iintro ⟨H1, H2, H3, H4, H5, H6, ⟨%f7, H7⟩, ⟨%f8, H8⟩, ⟨%f9, H9⟩, ⟨%f10, H10⟩, ⟨%f11, H11⟩, ⟨%f12, H12⟩, ⟨%f13, H13⟩, ⟨%f14, H14⟩⟩
  sl_exec
  sl_step
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  iexists _; iexact H14

theorem part6_keeps (k0_t1 : Fin k0_t1_loop.trips) (arg15 : BitVec 32) (v203 : BitVec 32) (v382 : FVec F S128x128 .bf16) (v385 : FVec F S128x128 .bf16) (v387 : Vec F S1x1x1x128x128 .bf16) :
    Held (F := F) c arg1 arg2 arg3 arg4 arg5 arg6 arg7 arg8 arg9 arg10 arg11 arg12 arg13 arg14 X1 X2 X3 X4 X5 X6
      ⊢ wp frame (wpE (defs₀ (F := F)) Variants.none (c : Thread nD τ) none) Set.univ
          (k0_part6 (F := F) i arg1 harg1 arg2 harg2 arg3 harg3 arg4 harg4 arg5 harg5 arg6 harg6 arg7 harg7 arg8 harg8 arg9 harg9 arg10 harg10 arg11 harg11 arg12 harg12 arg13 harg13 arg14 harg14 k0_t1 arg15 v203 v382 v385 v387) (fun _ => Held (F := F) c arg1 arg2 arg3 arg4 arg5 arg6 arg7 arg8 arg9 arg10 arg11 arg12 arg13 arg14 X1 X2 X3 X4 X5 X6) := by
  rw [k0_part6_eq_skeleton]; unfold k0_part6_skel
  iintro ⟨H1, H2, H3, H4, H5, H6, ⟨%f7, H7⟩, ⟨%f8, H8⟩, ⟨%f9, H9⟩, ⟨%f10, H10⟩, ⟨%f11, H11⟩, ⟨%f12, H12⟩, ⟨%f13, H13⟩, ⟨%f14, H14⟩⟩
  sl_exec
  sl_step
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  iexists _; iexact H14

theorem part7_keeps (k0_t1 : Fin k0_t1_loop.trips) (arg15 : BitVec 32) (v203 : BitVec 32) (v417 : FVec F S128x256 .f32) (v423 : FVec F S128x128 .bf16) (v426 : FVec F S128x128 .bf16) (v429 : FVec F S128x128 .bf16) :
    Held (F := F) c arg1 arg2 arg3 arg4 arg5 arg6 arg7 arg8 arg9 arg10 arg11 arg12 arg13 arg14 X1 X2 X3 X4 X5 X6
      ⊢ wp frame (wpE (defs₀ (F := F)) Variants.none (c : Thread nD τ) none) Set.univ
          (k0_part7 (F := F) i arg1 harg1 arg2 harg2 arg3 harg3 arg4 harg4 arg5 harg5 arg6 harg6 arg7 harg7 arg8 harg8 arg9 harg9 arg10 harg10 arg11 harg11 arg12 harg12 arg13 harg13 arg14 harg14 k0_t1 arg15 v203 v417 v423 v426 v429) (fun _ => Held (F := F) c arg1 arg2 arg3 arg4 arg5 arg6 arg7 arg8 arg9 arg10 arg11 arg12 arg13 arg14 X1 X2 X3 X4 X5 X6) := by
  rw [k0_part7_eq_skeleton]; unfold k0_part7_skel
  iintro ⟨H1, H2, H3, H4, H5, H6, ⟨%f7, H7⟩, ⟨%f8, H8⟩, ⟨%f9, H9⟩, ⟨%f10, H10⟩, ⟨%f11, H11⟩, ⟨%f12, H12⟩, ⟨%f13, H13⟩, ⟨%f14, H14⟩⟩
  sl_exec
  sl_step
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  iexists _; iexact H14

theorem part8_keeps (k0_t1 : Fin k0_t1_loop.trips) (arg15 : BitVec 32) (v448 : BitVec 32) (v472 : BitVec 32) :
    Held (F := F) c arg1 arg2 arg3 arg4 arg5 arg6 arg7 arg8 arg9 arg10 arg11 arg12 arg13 arg14 X1 X2 X3 X4 X5 X6
      ⊢ wp frame (wpE (defs₀ (F := F)) Variants.none (c : Thread nD τ) none) Set.univ
          (k0_part8 (F := F) i arg1 harg1 arg2 harg2 arg3 harg3 arg4 harg4 arg5 harg5 arg6 harg6 arg7 harg7 arg8 harg8 arg9 harg9 arg10 harg10 arg11 harg11 arg12 harg12 arg13 harg13 arg14 harg14 k0_t1 arg15 v448 v472) (fun _ => Held (F := F) c arg1 arg2 arg3 arg4 arg5 arg6 arg7 arg8 arg9 arg10 arg11 arg12 arg13 arg14 X1 X2 X3 X4 X5 X6) := by
  rw [k0_part8_eq_skeleton]; unfold k0_part8_skel
  iintro ⟨H1, H2, H3, H4, H5, H6, ⟨%f7, H7⟩, ⟨%f8, H8⟩, ⟨%f9, H9⟩, ⟨%f10, H10⟩, ⟨%f11, H11⟩, ⟨%f12, H12⟩, ⟨%f13, H13⟩, ⟨%f14, H14⟩⟩
  sl_exec
  sl_step
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  iexists _; iexact H14

theorem part9_keeps (k0_t1 : Fin k0_t1_loop.trips) (v203 : BitVec 32) (v498 : FVec F S256x256 .bf16) (v502 : FVec F S256x256 .bf16) (c0_i32_201 : BitVec 32) (c0_i32_202 : BitVec 32) (v503 : BitVec 32) (c1_i32_203 : BitVec 32) :
    Held (F := F) c arg1 arg2 arg3 arg4 arg5 arg6 arg7 arg8 arg9 arg10 arg11 arg12 arg13 arg14 X1 X2 X3 X4 X5 X6
      ⊢ wp frame (wpE (defs₀ (F := F)) Variants.none (c : Thread nD τ) none) Set.univ
          (k0_part9 (F := F) i arg1 harg1 arg2 harg2 arg3 harg3 arg4 harg4 arg5 harg5 arg6 harg6 arg7 harg7 arg8 harg8 arg9 harg9 arg10 harg10 arg11 harg11 arg12 harg12 arg13 harg13 arg14 harg14 k0_t1 v203 v498 v502 c0_i32_201 c0_i32_202 v503 c1_i32_203) (fun _ => Held (F := F) c arg1 arg2 arg3 arg4 arg5 arg6 arg7 arg8 arg9 arg10 arg11 arg12 arg13 arg14 X1 X2 X3 X4 X5 X6) := by
  rw [k0_part9_eq_skeleton]; unfold k0_part9_skel
  iintro ⟨H1, H2, H3, H4, H5, H6, ⟨%f7, H7⟩, ⟨%f8, H8⟩, ⟨%f9, H9⟩, ⟨%f10, H10⟩, ⟨%f11, H11⟩, ⟨%f12, H12⟩, ⟨%f13, H13⟩, ⟨%f14, H14⟩⟩
  sl_exec
  sl_step
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  iexists _; iexact H14

theorem part10_keeps (k0_t1 : Fin k0_t1_loop.trips) (arg15 : BitVec 32) (v203 : BitVec 32) (c192_i32 : BitVec 32) :
    Held (F := F) c arg1 arg2 arg3 arg4 arg5 arg6 arg7 arg8 arg9 arg10 arg11 arg12 arg13 arg14 X1 X2 X3 X4 X5 X6
      ⊢ wp frame (wpE (defs₀ (F := F)) Variants.none (c : Thread nD τ) none) Set.univ
          (k0_part10 (F := F) i arg1 harg1 arg2 harg2 arg3 harg3 arg4 harg4 arg5 harg5 arg6 harg6 arg7 harg7 arg8 harg8 arg9 harg9 arg10 harg10 arg11 harg11 arg12 harg12 arg13 harg13 arg14 harg14 k0_t1 arg15 v203 c192_i32) (fun _ => Held (F := F) c arg1 arg2 arg3 arg4 arg5 arg6 arg7 arg8 arg9 arg10 arg11 arg12 arg13 arg14 X1 X2 X3 X4 X5 X6) := by
  rw [k0_part10_eq_skeleton]; unfold k0_part10_skel
  iintro ⟨H1, H2, H3, H4, H5, H6, ⟨%f7, H7⟩, ⟨%f8, H8⟩, ⟨%f9, H9⟩, ⟨%f10, H10⟩, ⟨%f11, H11⟩, ⟨%f12, H12⟩, ⟨%f13, H13⟩, ⟨%f14, H14⟩⟩
  sl_exec
  sl_step
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  iexists _; iexact H14

theorem part11_keeps (k0_t1 : Fin k0_t1_loop.trips) (arg15 : BitVec 32) (v203 : BitVec 32) (v585 : Vec F S1x128 .f32) :
    Held (F := F) c arg1 arg2 arg3 arg4 arg5 arg6 arg7 arg8 arg9 arg10 arg11 arg12 arg13 arg14 X1 X2 X3 X4 X5 X6
      ⊢ wp frame (wpE (defs₀ (F := F)) Variants.none (c : Thread nD τ) none) Set.univ
          (k0_part11 (F := F) i arg1 harg1 arg2 harg2 arg3 harg3 arg4 harg4 arg5 harg5 arg6 harg6 arg7 harg7 arg8 harg8 arg9 harg9 arg10 harg10 arg11 harg11 arg12 harg12 arg13 harg13 arg14 harg14 k0_t1 arg15 v203 v585) (fun _ => Held (F := F) c arg1 arg2 arg3 arg4 arg5 arg6 arg7 arg8 arg9 arg10 arg11 arg12 arg13 arg14 X1 X2 X3 X4 X5 X6) := by
  rw [k0_part11_eq_skeleton]; unfold k0_part11_skel
  iintro ⟨H1, H2, H3, H4, H5, H6, ⟨%f7, H7⟩, ⟨%f8, H8⟩, ⟨%f9, H9⟩, ⟨%f10, H10⟩, ⟨%f11, H11⟩, ⟨%f12, H12⟩, ⟨%f13, H13⟩, ⟨%f14, H14⟩⟩
  sl_exec
  sl_step
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  iexists _; iexact H14

theorem part12_keeps  :
    Held (F := F) c arg1 arg2 arg3 arg4 arg5 arg6 arg7 arg8 arg9 arg10 arg11 arg12 arg13 arg14 X1 X2 X3 X4 X5 X6
      ⊢ wp frame (wpE (defs₀ (F := F)) Variants.none (c : Thread nD τ) none) Set.univ
          (k0_part12 (F := F) i arg1 harg1 arg2 harg2 arg3 harg3 arg4 harg4 arg5 harg5 arg6 harg6 arg7 harg7 arg8 harg8 arg9 harg9 arg10 harg10 arg11 harg11 arg12 harg12 arg13 harg13 arg14 harg14 ) (fun _ => Held (F := F) c arg1 arg2 arg3 arg4 arg5 arg6 arg7 arg8 arg9 arg10 arg11 arg12 arg13 arg14 X1 X2 X3 X4 X5 X6) := by
  rw [k0_part12_eq_skeleton]; unfold k0_part12_skel
  iintro ⟨H1, H2, H3, H4, H5, H6, ⟨%f7, H7⟩, ⟨%f8, H8⟩, ⟨%f9, H9⟩, ⟨%f10, H10⟩, ⟨%f11, H11⟩, ⟨%f12, H12⟩, ⟨%f13, H13⟩, ⟨%f14, H14⟩⟩
  sl_exec
  sl_step
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  iexists _; iexact H14

theorem part13_keeps (v2 : IVec S16x128 32) (v3 : IVec S16x128 32) (v33 : FVec F S16x128 .f32) (v35 : IVec S16x128 1) (v36 : FVec F S16x128 .f32) (v37 : FVec F S16x128 .f32) :
    Held (F := F) c arg1 arg2 arg3 arg4 arg5 arg6 arg7 arg8 arg9 arg10 arg11 arg12 arg13 arg14 X1 X2 X3 X4 X5 X6
      ⊢ wp frame (wpE (defs₀ (F := F)) Variants.none (c : Thread nD τ) none) Set.univ
          (k0_part13 (F := F) i arg1 harg1 arg2 harg2 arg3 harg3 arg4 harg4 arg5 harg5 arg6 harg6 arg7 harg7 arg8 harg8 arg9 harg9 arg10 harg10 arg11 harg11 arg12 harg12 arg13 harg13 arg14 harg14 v2 v3 v33 v35 v36 v37) (fun _ => Held (F := F) c arg1 arg2 arg3 arg4 arg5 arg6 arg7 arg8 arg9 arg10 arg11 arg12 arg13 arg14 X1 X2 X3 X4 X5 X6) := by
  rw [k0_part13_eq_skeleton]; unfold k0_part13_skel
  iintro ⟨H1, H2, H3, H4, H5, H6, ⟨%f7, H7⟩, ⟨%f8, H8⟩, ⟨%f9, H9⟩, ⟨%f10, H10⟩, ⟨%f11, H11⟩, ⟨%f12, H12⟩, ⟨%f13, H13⟩, ⟨%f14, H14⟩⟩
  sl_exec
  sl_step
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  iexists _; iexact H14

theorem part14_keeps (v3 : IVec S16x128 32) (v45 : FVec F S16x128 .f32) (v77 : FVec F S16x128 .f32) (v78 : IVec S16x128 32) :
    Held (F := F) c arg1 arg2 arg3 arg4 arg5 arg6 arg7 arg8 arg9 arg10 arg11 arg12 arg13 arg14 X1 X2 X3 X4 X5 X6
      ⊢ wp frame (wpE (defs₀ (F := F)) Variants.none (c : Thread nD τ) none) Set.univ
          (k0_part14 (F := F) i arg1 harg1 arg2 harg2 arg3 harg3 arg4 harg4 arg5 harg5 arg6 harg6 arg7 harg7 arg8 harg8 arg9 harg9 arg10 harg10 arg11 harg11 arg12 harg12 arg13 harg13 arg14 harg14 v3 v45 v77 v78) (fun _ => Held (F := F) c arg1 arg2 arg3 arg4 arg5 arg6 arg7 arg8 arg9 arg10 arg11 arg12 arg13 arg14 X1 X2 X3 X4 X5 X6) := by
  rw [k0_part14_eq_skeleton]; unfold k0_part14_skel
  iintro ⟨H1, H2, H3, H4, H5, H6, ⟨%f7, H7⟩, ⟨%f8, H8⟩, ⟨%f9, H9⟩, ⟨%f10, H10⟩, ⟨%f11, H11⟩, ⟨%f12, H12⟩, ⟨%f13, H13⟩, ⟨%f14, H14⟩⟩
  sl_exec
  sl_step
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  iexists _; iexact H14

theorem part15_keeps (v85 : FVec F S16x128 .f32) (v120 : FVec F S128x128 .f32) :
    Held (F := F) c arg1 arg2 arg3 arg4 arg5 arg6 arg7 arg8 arg9 arg10 arg11 arg12 arg13 arg14 X1 X2 X3 X4 X5 X6
      ⊢ wp frame (wpE (defs₀ (F := F)) Variants.none (c : Thread nD τ) none) Set.univ
          (k0_part15 (F := F) i arg1 harg1 arg2 harg2 arg3 harg3 arg4 harg4 arg5 harg5 arg6 harg6 arg7 harg7 arg8 harg8 arg9 harg9 arg10 harg10 arg11 harg11 arg12 harg12 arg13 harg13 arg14 harg14 v85 v120) (fun _ => Held (F := F) c arg1 arg2 arg3 arg4 arg5 arg6 arg7 arg8 arg9 arg10 arg11 arg12 arg13 arg14 X1 X2 X3 X4 X5 X6) := by
  rw [k0_part15_eq_skeleton]; unfold k0_part15_skel
  iintro ⟨H1, H2, H3, H4, H5, H6, ⟨%f7, H7⟩, ⟨%f8, H8⟩, ⟨%f9, H9⟩, ⟨%f10, H10⟩, ⟨%f11, H11⟩, ⟨%f12, H12⟩, ⟨%f13, H13⟩, ⟨%f14, H14⟩⟩
  sl_exec
  sl_step
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  iexists _; iexact H14

theorem part16_keeps (v85 : FVec F S16x128 .f32) (v162 : FVec F S128x128 .f32) :
    Held (F := F) c arg1 arg2 arg3 arg4 arg5 arg6 arg7 arg8 arg9 arg10 arg11 arg12 arg13 arg14 X1 X2 X3 X4 X5 X6
      ⊢ wp frame (wpE (defs₀ (F := F)) Variants.none (c : Thread nD τ) none) Set.univ
          (k0_part16 (F := F) i arg1 harg1 arg2 harg2 arg3 harg3 arg4 harg4 arg5 harg5 arg6 harg6 arg7 harg7 arg8 harg8 arg9 harg9 arg10 harg10 arg11 harg11 arg12 harg12 arg13 harg13 arg14 harg14 v85 v162) (fun _ => Held (F := F) c arg1 arg2 arg3 arg4 arg5 arg6 arg7 arg8 arg9 arg10 arg11 arg12 arg13 arg14 X1 X2 X3 X4 X5 X6) := by
  rw [k0_part16_eq_skeleton]; unfold k0_part16_skel
  iintro ⟨H1, H2, H3, H4, H5, H6, ⟨%f7, H7⟩, ⟨%f8, H8⟩, ⟨%f9, H9⟩, ⟨%f10, H10⟩, ⟨%f11, H11⟩, ⟨%f12, H12⟩, ⟨%f13, H13⟩, ⟨%f14, H14⟩⟩
  sl_exec
  sl_step
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  iexists _; iexact H14

/-- One group's trip keeps what is held. -/
theorem group_trip (c0_i32 c1_i32_53 : BitVec 32) (k : Fin k0_t1_loop.trips) (u : Unit) :
    Held (F := F) c arg1 arg2 arg3 arg4 arg5 arg6 arg7 arg8 arg9 arg10 arg11 arg12 arg13 arg14 X1 X2 X3 X4 X5 X6
      ⊢ wp frame (wpE (defs₀ (F := F)) Variants.none (c : Thread nD τ) none) Set.univ
          (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 c0_i32 c1_i32_53 k u) (fun _ => Held (F := F) c arg1 arg2 arg3 arg4 arg5 arg6 arg7 arg8 arg9 arg10 arg11 arg12 arg13 arg14 X1 X2 X3 X4 X5 X6) := by
  unfold k0_t1_body
  refine seq_spec (part1_keeps c i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 _ _ _) ?_
  intro a1
  refine seq_spec (part2_keeps c i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 _ _ _ _ _ _ _) ?_
  intro a2
  refine seq_spec (part3_keeps c i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 _ _ _ _) ?_
  intro a3
  refine seq_spec (part4_keeps c i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 _ _ _ _ _ _) ?_
  intro a4
  refine seq_spec (part5_keeps c i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 _ _ _ _ _ _) ?_
  intro a5
  refine seq_spec (part6_keeps c i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 _ _ _ _ _ _) ?_
  intro a6
  refine seq_spec (part7_keeps c i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 _ _ _ _ _ _ _) ?_
  intro a7
  refine seq_spec (part8_keeps c i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 _ _ _ _) ?_
  intro a8
  refine seq_spec (part9_keeps c i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 _ _ _ _ _ _ _ _) ?_
  intro a9
  refine seq_spec (part10_keeps c i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 _ _ _ _) ?_
  intro a10
  refine seq_spec (part11_keeps c i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 _ _ _ _) ?_
  intro a11
  iintro ⟨H1, H2, H3, H4, H5, H6, ⟨%f7, H7⟩, ⟨%f8, H8⟩, ⟨%f9, H9⟩, ⟨%f10, H10⟩, ⟨%f11, H11⟩, ⟨%f12, H12⟩, ⟨%f13, H13⟩, ⟨%f14, H14⟩⟩
  sl_exec
  sl_step
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  iexists _; iexact H14

/-- The eight groups by the invariant that says what is held. -/
@[instance_reducible, sl_loop] def loopInv_k0_t1 (c0_i32 c1_i32_53 : BitVec 32) :
    LoopInvTy_k0_t1 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 c0_i32 c1_i32_53 where
  inv _ _ := Held (F := F) c arg1 arg2 arg3 arg4 arg5 arg6 arg7 arg8 arg9 arg10 arg11 arg12 arg13 arg14 X1 X2 X3 X4 X5 X6
  step k acc := group_trip c i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 c0_i32 c1_i32_53 k acc

/-- The whole body keeps what is held. -/
theorem body_keeps :
    Held (F := F) c arg1 arg2 arg3 arg4 arg5 arg6 arg7 arg8 arg9 arg10 arg11 arg12 arg13 arg14 X1 X2 X3 X4 X5 X6
      ⊢ wp frame (wpE (defs₀ (F := F)) Variants.none (c : Thread nD τ) none) Set.univ
          (cc0_attn (F := F) i arg1 harg1 arg2 harg2 arg3 harg3 arg4 harg4 arg5 harg5 arg6 harg6 arg7 harg7 arg8 harg8 arg9 harg9 arg10 harg10 arg11 harg11 arg12 harg12 arg13 harg13 arg14 harg14) (fun _ => Held (F := F) c arg1 arg2 arg3 arg4 arg5 arg6 arg7 arg8 arg9 arg10 arg11 arg12 arg13 arg14 X1 X2 X3 X4 X5 X6) := by
  rw [cc0_attn_eq_skeleton]; unfold cc0_attn_skel
  refine seq_spec (part12_keeps c i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 ) ?_
  intro a12
  refine seq_spec (part13_keeps c i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 _ _ _ _ _ _) ?_
  intro a13
  refine seq_spec (part14_keeps c i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 _ _ _ _) ?_
  intro a14
  refine seq_spec (part15_keeps c i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 _ _) ?_
  intro a15
  refine seq_spec (part16_keeps c i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 _ _) ?_
  intro a16
  iintro ⟨H1, H2, H3, H4, H5, H6, ⟨%f7, H7⟩, ⟨%f8, H8⟩, ⟨%f9, H9⟩, ⟨%f10, H10⟩, ⟨%f11, H11⟩, ⟨%f12, H12⟩, ⟨%f13, H13⟩, ⟨%f14, H14⟩⟩
  sl_exec
  sl_step
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  iexists _; iexact H14

end Cert.KernelIdeal.Hand

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The output window is forgotten: nothing here reads what the kernel leaves in it. -/
def forgets0 : Fin 7 → Bool := fun | 6 => true | _ => false

/-- The proof data on core `c`: each array as the region finds it, the inputs' blocks left in place, what the body leaves in
    the output unnamed, the class invariant (the scratch at any contents), full shares, nothing owed. -/
def dats (_ : Fin 1) (c : Dev nD) : Dat τ (Elt F) Unit ℕ (UR sig nD τ) ℕ cfg0 c where
  A w := V m c (Pipeline.arrRef spec0 w)
  after w t := match w with
    | 0 => iblk m c 0 t | 1 => iblk m c 1 t | 2 => iblk m c 2 t | 3 => iblk m c 3 t | 4 => iblk m c 4 t | 5 => iblk m c 5 t
    | 6 => Pipeline.Dat.unnamed (cfg := cfg0) 6 t
  Φ _ := Pipeline.ΦA spec0 c
  q _ := fullShare
  owed _ := 0

theorem A_eq (c : Dev nD) (w : Fin cfg0.W) : (dats m 0 c).A w = V m c (Pipeline.arrRef spec0 w) := by dsimp only [dats]
theorem Phi_eq (c : Dev nD) (t) : (dats m 0 c).Φ t = Pipeline.ΦA spec0 c := by dsimp only [dats]

/-- The class invariant, conjunct by conjunct: each scratch buffer owned at some contents, the generator register at some state. -/
theorem PhiA_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)
          ∗ (∃ d, owns (c : Thread nD τ) (Memref.whole cc0_scratch2) fullShare d) ∗ (∃ d, owns (c : Thread nD τ) (Memref.whole cc0_scratch3) fullShare d)
          ∗ (∃ d, owns (c : Thread nD τ) (Memref.whole cc0_scratch4) fullShare d) ∗ (∃ d, owns (c : Thread nD τ) (Memref.whole cc0_scratch5) fullShare d)
          ∗ (∃ d, owns (c : Thread nD τ) (Memref.whole cc0_scratch6) fullShare d)) ∗ (∃ r, prngReg c r)) := by
  unfold Pipeline.ΦA; rw [scopedRest0_eq]; simp only [owns_whole]; try rfl

/-- The body's triple, for any continuation: from the inputs' staging buffers at their blocks, the output's and the scratch at
    anything, back to the same. -/
theorem body_run (c : Dev nD) (i : grid0.Coords) (arg1 : Memref sig .tc .vmem S1x32x3x128x128 .bf16) (harg1 : arg1.IsWhole) (arg2 : Memref sig .tc .vmem S1x2048x128 .f32) (harg2 : arg2.IsWhole) (arg3 : Memref sig .tc .vmem S1x16x128x128 .bf16) (harg3 : arg3.IsWhole) (arg4 : Memref sig .tc .vmem S1x16x64x128 .f32) (harg4 : arg4.IsWhole) (arg5 : Memref sig .tc .vmem S2048x128 .bf16) (harg5 : arg5.IsWhole) (arg6 : Memref sig .tc .vmem S1x16x128 .f32) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S2048x256 .f32) (harg11 : arg11.IsWhole) (arg12 : Memref sig .tc .vmem S128x2048 .bf16) (harg12 : arg12.IsWhole) (arg13 : Memref sig .tc .vmem S2048x128 .f32) (harg13 : arg13.IsWhole) (arg14 : Memref sig .tc .vmem S16x128 .f32) (harg14 : arg14.IsWhole)
    (X1 : S1x32x3x128x128.Idx → Elt F .bf16) (X2 : S1x2048x128.Idx → Elt F .f32) (X3 : S1x16x128x128.Idx → Elt F .bf16) (X4 : S1x16x64x128.Idx → Elt F .f32) (X5 : S2048x128.Idx → Elt F .bf16) (X6 : S1x16x128.Idx → Elt F .f32) (K : PUnit → sProp 𝕄) :
    iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
      ⊢ wp frame (wpE (defs₀ (F := F)) Variants.none c none) Set.univ (cc0_attn i arg1 harg1 arg2 harg2 arg3 harg3 arg4 harg4 arg5 harg5 arg6 harg6 arg7 harg7 arg8 harg8 arg9 harg9 arg10 harg10 arg11 harg11 arg12 harg12 arg13 harg13 arg14 harg14) K := by
  unfold owns
  iintro ⟨⟨%f1, %h1, H1⟩, ⟨%f2, %h2, H2⟩, ⟨%f3, %h3, H3⟩, ⟨%f4, %h4, H4⟩, ⟨%f5, %h5, H5⟩, ⟨%f6, %h6, H6⟩, ⟨%d7, %f7, -, H7⟩,
    ⟨%d8, %f8, -, H8⟩, ⟨%d9, %f9, -, H9⟩, ⟨%d10, %f10, -, H10⟩, ⟨%d11, %f11, -, H11⟩, ⟨%d12, %f12, -, H12⟩, ⟨%d13, %f13, -, H13⟩,
    ⟨%d14, %f14, -, H14⟩, Hk⟩
  iapply (wp_wand_r frame (wpE (defs₀ (F := F)) Variants.none (c : Thread nD τ) none) Set.univ)
  isplitl [H1 H2 H3 H4 H5 H6 H7 H8 H9 H10 H11 H12 H13 H14]
  · iapply (body_keeps (F := F) c i arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f5 f6)
    isplitl [H1]; · iexact H1
    isplitl [H2]; · iexact H2
    isplitl [H3]; · iexact H3
    isplitl [H4]; · iexact H4
    isplitl [H5]; · iexact H5
    isplitl [H6]; · iexact H6
    isplitl [H7]; · iexists f7; iexact H7
    isplitl [H8]; · iexists f8; iexact H8
    isplitl [H9]; · iexists f9; iexact H9
    isplitl [H10]; · iexists f10; iexact H10
    isplitl [H11]; · iexists f11; iexact H11
    isplitl [H12]; · iexists f12; iexact H12
    isplitl [H13]; · iexists f13; iexact H13
    iexists f14; iexact H14
  iintro %u ⟨H1, H2, H3, H4, H5, H6, ⟨%g7, H7⟩, ⟨%g8, H8⟩, ⟨%g9, H9⟩, ⟨%g10, H10⟩, ⟨%g11, H11⟩, ⟨%g12, H12⟩, ⟨%g13, H13⟩, ⟨%g14, H14⟩⟩
  iapply Hk
  isplitl [H1]; · iexists f1; isplitr; swap; (· iexact H1); ipureintro; exact h1
  isplitl [H2]; · iexists f2; isplitr; swap; (· iexact H2); ipureintro; exact h2
  isplitl [H3]; · iexists f3; isplitr; swap; (· iexact H3); ipureintro; exact h3
  isplitl [H4]; · iexists f4; isplitr; swap; (· iexact H4); ipureintro; exact h4
  isplitl [H5]; · iexists f5; isplitr; swap; (· iexact H5); ipureintro; exact h5
  isplitl [H6]; · iexists f6; isplitr; swap; (· iexact H6); ipureintro; exact h6
  isplitl [H7]; · iexists _, g7; isplitr; swap; (· iexact H7); ipureintro; rfl
  isplitl [H8]; · iexists _, g8; isplitr; swap; (· iexact H8); ipureintro; rfl
  isplitl [H9]; · iexists _, g9; isplitr; swap; (· iexact H9); ipureintro; rfl
  isplitl [H10]; · iexists _, g10; isplitr; swap; (· iexact H10); ipureintro; rfl
  isplitl [H11]; · iexists _, g11; isplitr; swap; (· iexact H11); ipureintro; rfl
  isplitl [H12]; · iexists _, g12; isplitr; swap; (· iexact H12); ipureintro; rfl
  isplitl [H13]; · iexists _, g13; isplitr; swap; (· iexact H13); ipureintro; rfl
  iexists _, g14; isplitr; swap; (· iexact H14); ipureintro; rfl

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare d))
def bodyPost (c : Dev nD) (t : Fin cfg0.N) : sProp 𝕄 :=
  iprop((dats m 0 c).Φ t.succ ∗ (dats m 0 c).owesAt () t.succ
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ owns (c : Thread nD τ) (st0_5 t) fullShare (iblk m c 5 t)
    ∗ (∃ d, owns (c : Thread nD τ) (st0_6 t) fullShare d))

/-- The body at the point: the invariant opened, the body run, the invariant closed. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0_of m (dats m 0 c) (A_eq m c 0) (fun _ => rfl) t, before0_1_of m (dats m 0 c) (A_eq m c 1) (fun _ => rfl) t,
    before0_2_of m (dats m 0 c) (A_eq m c 2) (fun _ => rfl) t, before0_3_of m (dats m 0 c) (A_eq m c 3) (fun _ => rfl) t,
    before0_4_of m (dats m 0 c) (A_eq m c 4) (fun _ => rfl) t, before0_5_of m (dats m 0 c) (A_eq m c 5) (fun _ => rfl) t]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA_eq]
  iintro ⟨⟨⟨S0, S1, S2, S3, S4, S5, S6⟩, Hg⟩, HO, ⟨%d0, H0⟩, ⟨%d1, H1⟩, ⟨%d2, H2⟩, ⟨%d3, H3⟩, ⟨%d4, H4⟩, ⟨%d5, H5⟩, H6⟩
  iapply (body_run (F := F) c _ _ _ _ _ _ _ _ _ _ _ _ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [S0]; · iexact S0
  isplitl [S1]; · iexact S1
  isplitl [S2]; · iexact S2
  isplitl [S3]; · iexact S3
  isplitl [S4]; · iexact S4
  isplitl [S5]; · iexact S5
  isplitl [S6]; · iexact S6
  iintro ⟨H0, H1, H2, H3, H4, H5, H6, S0, S1, S2, S3, S4, S5, S6⟩
  isplitl [S0 S1 S2 S3 S4 S5 S6 Hg]
  · isplitl [S0 S1 S2 S3 S4 S5 S6]
    · isplitl [S0]; · iexact S0
      isplitl [S1]; · iexact S1
      isplitl [S2]; · iexact S2
      isplitl [S3]; · iexact S3
      isplitl [S4]; · iexact S4
      isplitl [S5]; · iexact S5
      iexact S6
    iexact Hg
  isplitl [HO]; · iexact HO
  isplitl [H0]; · iexact H0
  isplitl [H1]; · iexact H1
  isplitl [H2]; · iexact H2
  isplitl [H3]; · iexact H3
  isplitl [H4]; · iexact H4
  isplitl [H5]; · iexact H5
  iexact H6

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation with the output forgotten. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- From any memory with zero counters the program terminates; every final state has the arrays as the relational data say and
    every semaphore counter at zero. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := Phi_eq m)

/-- The argument arrays end as they began, and every semaphore counter at zero. -/
theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(Pipeline.RDat.FramePost.arr_in h.1 c 0 rfl).trans (V_main_arg0 m c),
      (Pipeline.RDat.FramePost.arr_in h.1 c 1 rfl).trans (V_main_arg1 m c),
      (Pipeline.RDat.FramePost.arr_in h.1 c 2 rfl).trans (V_main_arg2 m c),
      (Pipeline.RDat.FramePost.arr_in h.1 c 3 rfl).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩, h.2⟩) (run_main m ρ)

end Cert.KernelIdeal.Hand

end
-- ==== Proof.Closed.lean ====
/-
  The kernel's index arithmetic in closed form: trip counts of its loops and the offsets of its loads and stores.
-/
module

public import proofs.«01_k».proof.Proof.Gen.KernelIdeal

@[expose] public section

set_option maxRecDepth 16384

namespace Cert.KernelIdeal.Hand

open Cert.KernelIdeal Cert.KernelIdeal.Gen
open Idealize.ShloMosaic Idealize.ShloMosaic.TcCoe

theorem trips1 : k0_t1_loop.trips = 8 := by decide +kernel
theorem trips2 : ∀ g : Fin k0_t1_loop.trips, (k0_t2_loop g).trips = g.val := by decide +kernel
theorem trips3 : ∀ g : Fin k0_t1_loop.trips, (k0_t3_loop g).trips = 0 := by decide +kernel
theorem trips4 : ∀ g : Fin k0_t1_loop.trips, (k0_t4_loop g).trips = g.val := by decide +kernel
theorem trips5 : ∀ g : Fin k0_t1_loop.trips, (k0_t5_loop g).trips = 0 := by decide +kernel
theorem trips6 : ∀ g : Fin k0_t1_loop.trips, (k0_t6_loop g).trips = g.val := by decide +kernel
theorem trips7 : ∀ g : Fin k0_t1_loop.trips, (k0_t7_loop g).trips = 0 := by decide +kernel
theorem trips8 : ∀ g : Fin k0_t1_loop.trips, (k0_t8_loop g).trips = g.val := by decide +kernel
theorem trips9 : ∀ g : Fin k0_t1_loop.trips, (k0_t9_loop g).trips = 0 := by decide +kernel
theorem trips10 : ∀ g : Fin k0_t1_loop.trips, (k0_t10_loop g).trips = g.val := by decide +kernel
theorem trips11 : ∀ g : Fin k0_t1_loop.trips, (k0_t11_loop g).trips = 0 := by decide +kernel
theorem trips12 : ∀ g : Fin k0_t1_loop.trips, (k0_t12_loop g).trips = g.val + 1 := by decide +kernel
theorem trips13 : ∀ g : Fin k0_t1_loop.trips, (k0_t13_loop g).trips = 0 := by decide +kernel
theorem off1_eq : ∀ g : Fin k0_t1_loop.trips, k0_off1 g = ![256 * g.val, 0] := by decide +kernel
theorem off2_eq : ∀ g : Fin k0_t1_loop.trips, k0_off2 g = ![0, 256 * g.val] := by decide +kernel
theorem off14_eq : ∀ g : Fin k0_t1_loop.trips, k0_off14 g = ![256 * g.val, 0] := by decide +kernel
theorem off19_eq : ∀ g : Fin k0_t1_loop.trips, k0_off19 g = ![256 * g.val, 0] := by decide +kernel
theorem off20_eq : ∀ g : Fin k0_t1_loop.trips, k0_off20 g = ![256 * g.val, 64] := by decide +kernel
theorem off21_eq : ∀ g : Fin k0_t1_loop.trips, k0_off21 g = ![256 * g.val + 64, 64] := by decide +kernel
theorem off26_eq : ∀ g : Fin k0_t1_loop.trips, k0_off26 g = ![256 * g.val, 0] := by decide +kernel
theorem off27_eq : ∀ g : Fin k0_t1_loop.trips, k0_off27 g = ![256 * g.val, 128] := by decide +kernel
theorem off28_eq : ∀ g : Fin k0_t1_loop.trips, k0_off28 g = ![256 * g.val + 128, 128] := by decide +kernel
theorem off33_eq : ∀ g : Fin k0_t1_loop.trips, k0_off33 g = ![256 * g.val, 0] := by decide +kernel
theorem off34_eq : ∀ g : Fin k0_t1_loop.trips, k0_off34 g = ![256 * g.val, 192] := by decide +kernel
theorem off35_eq : ∀ g : Fin k0_t1_loop.trips, k0_off35 g = ![256 * g.val + 192, 192] := by decide +kernel
theorem off36_eq : ∀ g : Fin k0_t1_loop.trips, k0_off36 g = ![2 * g.val, 0] := by decide +kernel
theorem off37_eq : ∀ g : Fin k0_t1_loop.trips, k0_off37 g = ![2 * g.val + 1, 0] := by decide +kernel
theorem off38_eq : ∀ g : Fin k0_t1_loop.trips, k0_off38 g = ![256 * g.val, 0] := by decide +kernel
theorem off7_eq : ∀ (g : Fin k0_t1_loop.trips) (t : Fin (k0_t2_loop g).trips), k0_off7 g t = ![256 * t.val, 0] := by decide +kernel
theorem off8_eq : ∀ (g : Fin k0_t1_loop.trips) (t : Fin (k0_t2_loop g).trips), k0_off8 g t = ![256 * t.val, 0] := by decide +kernel
theorem off15_eq : ∀ (g : Fin k0_t1_loop.trips) (t : Fin (k0_t4_loop g).trips), k0_off15 g t = ![256 * t.val, 0] := by decide +kernel
theorem off16_eq : ∀ (g : Fin k0_t1_loop.trips) (t : Fin (k0_t4_loop g).trips), k0_off16 g t = ![256 * t.val, 64] := by decide +kernel
theorem off22_eq : ∀ (g : Fin k0_t1_loop.trips) (t : Fin (k0_t6_loop g).trips), k0_off22 g t = ![256 * t.val, 0] := by decide +kernel
theorem off23_eq : ∀ (g : Fin k0_t1_loop.trips) (t : Fin (k0_t6_loop g).trips), k0_off23 g t = ![256 * t.val, 128] := by decide +kernel
theorem off29_eq : ∀ (g : Fin k0_t1_loop.trips) (t : Fin (k0_t8_loop g).trips), k0_off29 g t = ![256 * t.val, 0] := by decide +kernel
theorem off30_eq : ∀ (g : Fin k0_t1_loop.trips) (t : Fin (k0_t8_loop g).trips), k0_off30 g t = ![256 * t.val, 192] := by decide +kernel
theorem off39_eq : ∀ (g : Fin k0_t1_loop.trips) (t : Fin (k0_t10_loop g).trips), k0_off39 g t = ![256 * t.val, 0] := by decide +kernel
theorem off40_eq : ∀ (g : Fin k0_t1_loop.trips) (t : Fin (k0_t10_loop g).trips), k0_off40 g t = ![256 * t.val, 0] := by decide +kernel
theorem off43_eq : ∀ (g : Fin k0_t1_loop.trips) (t : Fin (k0_t12_loop g).trips), k0_off43 g t = ![256 * t.val, 0] := by decide +kernel
theorem off44_eq : ∀ (g : Fin k0_t1_loop.trips) (t : Fin (k0_t12_loop g).trips), k0_off44 g t = ![0, 256 * t.val] := by decide +kernel
theorem off3_eq : ∀ (g : Fin k0_t1_loop.trips) (r : Fin 4), k0_off3 g (BitVec.ofNat 32 r.val) = ![0, 4 * g.val + r.val, 0, 0, 0] := by decide +kernel
theorem off4_eq : ∀ (g : Fin k0_t1_loop.trips) (r : Fin 4), k0_off4 g (BitVec.ofNat 32 r.val) = ![0, 4 * g.val + r.val, 1, 0, 0] := by decide +kernel
theorem off5_eq : ∀ (g : Fin k0_t1_loop.trips) (r : Fin 4), k0_off5 g (BitVec.ofNat 32 r.val) = ![0, 4 * g.val + r.val, 2, 0, 0] := by decide +kernel
theorem off6_eq : ∀ (g : Fin k0_t1_loop.trips) (r : Fin 2), k0_off6 g (BitVec.ofNat 32 r.val) = ![0, 2 * g.val + r.val, 0, 0] := by decide +kernel
theorem off13_eq : ∀ (g : Fin k0_t1_loop.trips) (r : Fin 2), k0_off13 g (BitVec.ofNat 32 r.val) = ![0, 2 * g.val + r.val, 0, 0] := by decide +kernel
theorem off11_eq : ∀ (g : Fin k0_t1_loop.trips) (r : Fin 4), k0_off11 g (BitVec.ofNat 32 (64 * r.val)) = ![0, 256 * g.val + 64 * r.val, 0] := by decide +kernel
theorem off12_eq : ∀ (g : Fin k0_t1_loop.trips) (r : Fin 4), k0_off12 g (BitVec.ofNat 32 (64 * r.val)) = ![256 * g.val + 64 * r.val, 0] := by decide +kernel

end Cert.KernelIdeal.Hand
-- ==== Proof.Base.lean ====
/-
  The attention kernel's buffers as arrays of extended reals: what a load reads, what a store leaves, and the rules by which
  a sequence of programs and a loop carry such a state.
-/
module

public import proofs.«01_k».proof.Proof.Gen.KernelIdeal.Skeleton
public import proofs.«01_k».proof.Proof.Closed
public import Idealize.ShloMosaic.Lib.Updates.Memory
public import Idealize.ShloMosaic.Lib.Updates.Loop
public import Idealize.ShloMosaic.Lib.Tactic
public import Idealize.ShloMosaic.Lib.Pointwise

@[expose] public section

set_option maxRecDepth 16384
set_option maxHeartbeats 400000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Updates
open Idealize.ShloMosaic.LaneScatter (Blk iter)

local notation "𝕄" => MT nD τ sig Unit (Elt Ideal) ℕ (UR sig nD τ) ℕ

/-- The block of size `h` by `w` at place `o` of an array. -/
def ldv (h w : ℕ) (o : ℕ × ℕ) (A : Arr EReal) : (Blk h w).Idx → EReal := fun ι => A (o.1 + (ι 0).val, o.2 + (ι 1).val)

/-- An array with the block `v` put at place `o`. -/
def stv {h w : ℕ} (o : ℕ × ℕ) (v : (Blk h w).Idx → EReal) (A : Arr EReal) : Arr EReal := fun p =>
  if hp : (o.1 ≤ p.1 ∧ p.1 < o.1 + h) ∧ (o.2 ≤ p.2 ∧ p.2 < o.2 + w) then
    v (ix2 ⟨p.1 - o.1, by omega⟩ ⟨p.2 - o.2, by omega⟩)
  else A p

theorem ld_eq32 {κ : Kind} {sp : Space} {R C h w : ℕ} {v : View sig κ sp (Blk R C) .f32} {f : v.ty.Contents (Elt Ideal)}
    {A : Arr EReal} (hA : IsArr (v.read (Elt Ideal) f) A) {off : Fin 2 → ℕ} {o : ℕ × ℕ} (ho : off = ![o.1, o.2])
    (inb : ∀ a, off a + (Blk h w).size a ≤ (Blk R C).size a) :
    View.readAt (Elt Ideal) v (Rect.unit (s := Blk R C) off (Blk h w).size inb).toLoadRect f = ldv h w o A :=
  funext fun ι => isArr_load hA ho inb ι

theorem ld_eq16 {κ : Kind} {sp : Space} {R C h w : ℕ} {v : View sig κ sp (Blk R C) .bf16} {f : v.ty.Contents (Elt Ideal)}
    {A : Arr EReal} (hA : IsArr (v.read (Elt Ideal) f) A) {off : Fin 2 → ℕ} {o : ℕ × ℕ} (ho : off = ![o.1, o.2])
    (inb : ∀ a, off a + (Blk h w).size a ≤ (Blk R C).size a) :
    View.readAt (Elt Ideal) v (Rect.unit (s := Blk R C) off (Blk h w).size inb).toLoadRect f = ldv h w o A :=
  funext fun ι => isArr_load hA ho inb ι

theorem st_eq32 {κ : Kind} {sp : Space} {R C h w : ℕ} {v : View sig κ sp (Blk R C) .f32} {f : v.ty.Contents (Elt Ideal)}
    {L : List (View.Piece (Elt Ideal) (Blk R C) .f32)} {A : Arr EReal} (hA : IsArr (v.read (Elt Ideal) (v.writes (Elt Ideal) f L)) A)
    {off : Fin 2 → ℕ} {o : ℕ × ℕ} (ho : off = ![o.1, o.2]) (inb : ∀ a, off a + (Blk h w).size a ≤ (Blk R C).size a)
    (pay : (Blk h w).Idx → EReal) :
    IsArr (v.read (Elt Ideal) (v.writes (Elt Ideal) f (⟨Rect.unit (s := Blk R C) off (Blk h w).size inb, pay⟩ :: L))) (stv o pay A) := by
  by_cases hz : 0 < h ∧ 0 < w
  · refine (isArr_writes_cons hA ho inb (isArr_ofBlk hz.1 hz.2 pay)).congr ?_
    intro a b ha hb
    unfold stv
    split
    · rename_i hp
      rw [storeAt_hit (by exact ⟨⟨hp.1, hp.2⟩, trivial⟩)]
      unfold ofBlk
      congr 1
      funext x
      match x with
      | ⟨0, _⟩ => refine Fin.ext ?_; show min (a - o.1) (h - 1) = a - o.1; have := hp.1; simp only at this; omega
      | ⟨1, _⟩ => refine Fin.ext ?_; show min (b - o.2) (w - 1) = b - o.2; have := hp.2; simp only at this; omega
    · rename_i hp
      rw [storeAt_miss (fun h => hp h.1)]
  · refine (isArr_writes_cons hA ho inb (W := fun _ => 0) (fun ι => ?_)).congr ?_
    · exfalso; have h0 : (ι 0).val < h := (ι 0).isLt; have h1 : (ι 1).val < w := (ι 1).isLt; omega
    · intro a b ha hb
      have hn : ¬ ((o.1 ≤ a ∧ a < o.1 + h) ∧ (o.2 ≤ b ∧ b < o.2 + w)) := by omega
      unfold stv
      rw [dif_neg hn, storeAt_miss (fun h => hn h.1)]

theorem st_eq16 {κ : Kind} {sp : Space} {R C h w : ℕ} {v : View sig κ sp (Blk R C) .bf16} {f : v.ty.Contents (Elt Ideal)}
    {L : List (View.Piece (Elt Ideal) (Blk R C) .bf16)} {A : Arr EReal} (hA : IsArr (v.read (Elt Ideal) (v.writes (Elt Ideal) f L)) A)
    {off : Fin 2 → ℕ} {o : ℕ × ℕ} (ho : off = ![o.1, o.2]) (inb : ∀ a, off a + (Blk h w).size a ≤ (Blk R C).size a)
    (pay : (Blk h w).Idx → EReal) :
    IsArr (v.read (Elt Ideal) (v.writes (Elt Ideal) f (⟨Rect.unit (s := Blk R C) off (Blk h w).size inb, pay⟩ :: L))) (stv o pay A) := by
  by_cases hz : 0 < h ∧ 0 < w
  · refine (isArr_writes_cons hA ho inb (isArr_ofBlk hz.1 hz.2 pay)).congr ?_
    intro a b ha hb
    unfold stv
    split
    · rename_i hp
      rw [storeAt_hit (by exact ⟨⟨hp.1, hp.2⟩, trivial⟩)]
      unfold ofBlk
      congr 1
      funext x
      match x with
      | ⟨0, _⟩ => refine Fin.ext ?_; show min (a - o.1) (h - 1) = a - o.1; have := hp.1; simp only at this; omega
      | ⟨1, _⟩ => refine Fin.ext ?_; show min (b - o.2) (w - 1) = b - o.2; have := hp.2; simp only at this; omega
    · rename_i hp
      rw [storeAt_miss (fun h => hp h.1)]
  · refine (isArr_writes_cons hA ho inb (W := fun _ => 0) (fun ι => ?_)).congr ?_
    · exfalso; have h0 : (ι 0).val < h := (ι 0).isLt; have h1 : (ι 1).val < w := (ι 1).isLt; omega
    · intro a b ha hb
      have hn : ¬ ((o.1 ≤ a ∧ a < o.1 + h) ∧ (o.2 ≤ b ∧ b < o.2 + w)) := by omega
      unfold stv
      rw [dif_neg hn, storeAt_miss (fun h => hn h.1)]

theorem st1_eq32 {κ : Kind} {sp : Space} {R C h w : ℕ} {v : View sig κ sp (Blk R C) .f32} {f : v.ty.Contents (Elt Ideal)}
    {A : Arr EReal} (hA : IsArr (v.read (Elt Ideal) f) A)
    {off : Fin 2 → ℕ} {o : ℕ × ℕ} (ho : off = ![o.1, o.2]) (inb : ∀ a, off a + (Blk h w).size a ≤ (Blk R C).size a)
    (pay : (Blk h w).Idx → EReal) :
    IsArr (v.read (Elt Ideal) (v.writes (Elt Ideal) f [⟨Rect.unit (s := Blk R C) off (Blk h w).size inb, pay⟩])) (stv o pay A) :=
  st_eq32 (L := []) hA ho inb pay

theorem st1_eq16 {κ : Kind} {sp : Space} {R C h w : ℕ} {v : View sig κ sp (Blk R C) .bf16} {f : v.ty.Contents (Elt Ideal)}
    {A : Arr EReal} (hA : IsArr (v.read (Elt Ideal) f) A)
    {off : Fin 2 → ℕ} {o : ℕ × ℕ} (ho : off = ![o.1, o.2]) (inb : ∀ a, off a + (Blk h w).size a ≤ (Blk R C).size a)
    (pay : (Blk h w).Idx → EReal) :
    IsArr (v.read (Elt Ideal) (v.writes (Elt Ideal) f [⟨Rect.unit (s := Blk R C) off (Blk h w).size inb, pay⟩])) (stv o pay A) :=
  st_eq16 (L := []) hA ho inb pay

/-- A store that covers the whole array. -/
theorem stw_eq32 {κ : Kind} {sp : Space} {R C : ℕ} {v : View sig κ sp (Blk R C) .f32} {f : v.ty.Contents (Elt Ideal)}
    {L : List (View.Piece (Elt Ideal) (Blk R C) .f32)} {A : Arr EReal} {off : Fin 2 → ℕ} (inb : ∀ a, off a + (Blk R C).size a ≤ (Blk R C).size a)
    (pay : (Blk R C).Idx → EReal) (hA : IsArr pay A) :
    IsArr (v.read (Elt Ideal) (v.writes (Elt Ideal) f (⟨Rect.unit (s := Blk R C) off (Blk R C).size inb, pay⟩ :: L))) A :=
  isArr_writes_whole f L inb hA

/-- The eight buffers that the kernel writes, as arrays: the output and the seven scratch buffers. -/
structure Scr where
  a7 : Arr EReal
  a8 : Arr EReal
  a9 : Arr EReal
  a10 : Arr EReal
  a11 : Arr EReal
  a12 : Arr EReal
  a13 : Arr EReal
  a14 : Arr EReal

/-- The six inputs at their contents, the eight written buffers at the arrays of `A`. -/
abbrev St (c : Dev nD) (arg1 : Memref sig .tc .vmem S1x32x3x128x128 .bf16) (arg2 : Memref sig .tc .vmem S1x2048x128 .f32) (arg3 : Memref sig .tc .vmem S1x16x128x128 .bf16) (arg4 : Memref sig .tc .vmem S1x16x64x128 .f32) (arg5 : Memref sig .tc .vmem S2048x128 .bf16) (arg6 : Memref sig .tc .vmem S1x16x128 .f32) (arg7 : Memref sig .tc .vmem S2048x128 .bf16) (arg8 : Memref sig .tc .vmem S2048x128 .bf16) (arg9 : Memref sig .tc .vmem S2048x128 .bf16) (arg10 : Memref sig .tc .vmem S2048x128 .bf16) (arg11 : Memref sig .tc .vmem S2048x256 .f32) (arg12 : Memref sig .tc .vmem S128x2048 .bf16) (arg13 : Memref sig .tc .vmem S2048x128 .f32) (arg14 : Memref sig .tc .vmem S16x128 .f32) (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (A : Scr) : sProp 𝕄 :=
  iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (∃ f : BufTy.Contents (Elt Ideal) arg7.view.ty, ⌜IsArr (arg7.view.read (Elt Ideal) f) A.a7⌝ ∗ (arg7.view.loc (c : Thread nD τ) ↦[arg7.view.set]{fullShare} f)) ∗ (∃ f : BufTy.Contents (Elt Ideal) arg8.view.ty, ⌜IsArr (arg8.view.read (Elt Ideal) f) A.a8⌝ ∗ (arg8.view.loc (c : Thread nD τ) ↦[arg8.view.set]{fullShare} f)) ∗ (∃ f : BufTy.Contents (Elt Ideal) arg9.view.ty, ⌜IsArr (arg9.view.read (Elt Ideal) f) A.a9⌝ ∗ (arg9.view.loc (c : Thread nD τ) ↦[arg9.view.set]{fullShare} f)) ∗ (∃ f : BufTy.Contents (Elt Ideal) arg10.view.ty, ⌜IsArr (arg10.view.read (Elt Ideal) f) A.a10⌝ ∗ (arg10.view.loc (c : Thread nD τ) ↦[arg10.view.set]{fullShare} f)) ∗ (∃ f : BufTy.Contents (Elt Ideal) arg11.view.ty, ⌜IsArr (arg11.view.read (Elt Ideal) f) A.a11⌝ ∗ (arg11.view.loc (c : Thread nD τ) ↦[arg11.view.set]{fullShare} f)) ∗ (∃ f : BufTy.Contents (Elt Ideal) arg12.view.ty, ⌜IsArr (arg12.view.read (Elt Ideal) f) A.a12⌝ ∗ (arg12.view.loc (c : Thread nD τ) ↦[arg12.view.set]{fullShare} f)) ∗ (∃ f : BufTy.Contents (Elt Ideal) arg13.view.ty, ⌜IsArr (arg13.view.read (Elt Ideal) f) A.a13⌝ ∗ (arg13.view.loc (c : Thread nD τ) ↦[arg13.view.set]{fullShare} f)) ∗ (∃ f : BufTy.Contents (Elt Ideal) arg14.view.ty, ⌜IsArr (arg14.view.read (Elt Ideal) f) A.a14⌝ ∗ (arg14.view.loc (c : Thread nD τ) ↦[arg14.view.set]{fullShare} f)))

/-- A program that ends with the value `r`, sequenced before another. -/
theorem seq_val {α β : Type} {c : Dev nD} {P Q : sProp 𝕄} {R : β → sProp 𝕄} {p : Prog (TpuEff nD τ sig (Elt Ideal) Λ₀ .tc) α} {r : α}
    {k : α → Prog (TpuEff nD τ sig (Elt Ideal) Λ₀ .tc) β}
    (h : P ⊢ wp frame (wpE (defs₀ (F := Ideal)) Variants.none (c : Thread nD τ) none) Set.univ p (fun a => iprop(⌜a = r⌝ ∗ Q)))
    (hk : Q ⊢ wp frame (wpE (defs₀ (F := Ideal)) Variants.none (c : Thread nD τ) none) Set.univ (k r) R) :
    P ⊢ wp frame (wpE (defs₀ (F := Ideal)) Variants.none (c : Thread nD τ) none) Set.univ (p >>= k) R := by
  rw [wp_bind]
  iintro H
  iapply (wp_wand_r frame (wpE (defs₀ (F := Ideal)) Variants.none (c : Thread nD τ) none) Set.univ)
  isplitl [H]
  · iapply h; iexact H
  · iintro %a ⟨%ha, H⟩
    subst ha
    iapply hk; iexact H

/-- A loop before a program: each trip carries the state by `step`. -/
theorem loop_val {X σ β : Type} {c : Dev nD} (own : X → σ → sProp 𝕄) {R : β → sProp 𝕄} (l : Scf.Loop 32) (ok : l.OK) (init : σ)
    (body : Fin l.trips → σ → Prog (TpuEff nD τ sig (Elt Ideal) Λ₀ .tc) σ) (step : ℕ → X → X)
    {k : σ → Prog (TpuEff nD τ sig (Elt Ideal) Λ₀ .tc) β}
    (hstep : ∀ (t : Fin l.trips) x a, own x a ⊢ wp frame (wpE (defs₀ (F := Ideal)) Variants.none (c : Thread nD τ) none) Set.univ (body t a) (fun a' => own (step t.val x) a'))
    (x : X) (hk : ∀ a, own (iter step l.trips x) a ⊢ wp frame (wpE (defs₀ (F := Ideal)) Variants.none (c : Thread nD τ) none) Set.univ (k a) R) :
    own x init ⊢ wp frame (wpE (defs₀ (F := Ideal)) Variants.none (c : Thread nD τ) none) Set.univ (Scf.Loop.for l ok init body >>= k) R := by
  have h0 : own x init = own (iter step 0 x) init := rfl
  rw [h0]
  iintro H
  iapply (Scf.wp_for_bind frame (wpE (defs₀ (F := Ideal)) Variants.none (c : Thread nD τ) none) Set.univ l.lb l.ub l.st ok init body
    (fun n a => own (iter step n x) a) (fun t a => hstep t _ a)) $$ [H]
  · iexact H
  · iintro %a H
    iapply (hk a); iexact H

/-- A loop of no trips before a program. -/
theorem loop_none {σ β : Type} {c : Dev nD} {P : σ → sProp 𝕄} {R : β → sProp 𝕄} (l : Scf.Loop 32) (ok : l.OK) (init : σ)
    (body : Fin l.trips → σ → Prog (TpuEff nD τ sig (Elt Ideal) Λ₀ .tc) σ) (h0 : l.trips = 0)
    {k : σ → Prog (TpuEff nD τ sig (Elt Ideal) Λ₀ .tc) β} (hk : ∀ a, P a ⊢ wp frame (wpE (defs₀ (F := Ideal)) Variants.none (c : Thread nD τ) none) Set.univ (k a) R) :
    P init ⊢ wp frame (wpE (defs₀ (F := Ideal)) Variants.none (c : Thread nD τ) none) Set.univ (Scf.Loop.for l ok init body >>= k) R :=
  loop_val (X := Unit) (fun _ a => P a) l ok init body (fun _ x => x) (fun t => absurd t.isLt (by omega)) () hk

/-- A loop of no trips is skipped. -/
theorem loop_skip {σ β : Type} {c : Dev nD} {P : sProp 𝕄} {R : β → sProp 𝕄} (l : Scf.Loop 32) (ok : l.OK) (init : σ)
    (body : Fin l.trips → σ → Prog (TpuEff nD τ sig (Elt Ideal) Λ₀ .tc) σ) (h0 : l.trips = 0)
    {k : σ → Prog (TpuEff nD τ sig (Elt Ideal) Λ₀ .tc) β} (hk : P ⊢ wp frame (wpE (defs₀ (F := Ideal)) Variants.none (c : Thread nD τ) none) Set.univ (k init) R) :
    P ⊢ wp frame (wpE (defs₀ (F := Ideal)) Variants.none (c : Thread nD τ) none) Set.univ (Scf.Loop.for l ok init body >>= k) R := by
  have h := loop_none (c := c) (P := fun a => iprop(⌜a = init⌝ ∗ P)) (R := R) l ok init body h0 (k := k) (by
    intro a
    iintro ⟨%ha, H⟩
    subst ha
    iapply hk; iexact H)
  iintro H
  iapply h
  isplitr
  · ipureintro; rfl
  · iexact H

end Cert.KernelIdeal.Hand
-- ==== Proof.Trips.lean ====
/-
  The trips of the kernel's loops on the arrays: what each load reads and each store leaves.
-/
module

public import proofs.«01_k».proof.Proof.Gen.KernelIdeal.Skeleton
public import proofs.«01_k».proof.Proof.Closed
public import Idealize.ShloMosaic.Lib.Updates.Memory
public import Idealize.ShloMosaic.Lib.Updates.Loop
public import Idealize.ShloMosaic.Lib.Tactic
public import Idealize.ShloMosaic.Lib.Pointwise
public import proofs.«01_k».proof.Proof.Base

@[expose] public section

set_option maxRecDepth 16384
set_option maxHeartbeats 400000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Updates
open Idealize.ShloMosaic.LaneScatter (Blk iter)

local notation "𝕄" => MT nD τ sig Unit (Elt Ideal) ℕ (UR sig nD τ) ℕ
variable (c : Dev nD) (i : grid0.Coords) (arg1 : Memref sig .tc .vmem S1x32x3x128x128 .bf16) (harg1 : arg1.IsWhole) (arg2 : Memref sig .tc .vmem S1x2048x128 .f32) (harg2 : arg2.IsWhole) (arg3 : Memref sig .tc .vmem S1x16x128x128 .bf16) (harg3 : arg3.IsWhole) (arg4 : Memref sig .tc .vmem S1x16x64x128 .f32) (harg4 : arg4.IsWhole) (arg5 : Memref sig .tc .vmem S2048x128 .bf16) (harg5 : arg5.IsWhole) (arg6 : Memref sig .tc .vmem S1x16x128 .f32) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S2048x256 .f32) (harg11 : arg11.IsWhole) (arg12 : Memref sig .tc .vmem S128x2048 .bf16) (harg12 : arg12.IsWhole) (arg13 : Memref sig .tc .vmem S2048x128 .f32) (harg13 : arg13.IsWhole) (arg14 : Memref sig .tc .vmem S16x128 .f32) (harg14 : arg14.IsWhole) (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty)

/-- One trip of loop 2 on the arrays. -/
def t2_fn (g t : ℕ) (v230 : FVec Ideal S256x256 .bf16) (v234 : FVec Ideal S256x256 .bf16) (A : Scr) : Scr := { A with a8 := (stv (h := 256) (w := 128) (256 * t, 0) (k0_pay14 (F := Ideal) v230 v234 (ldv 256 128 (256 * t, 0) A.a8) (ldv 256 128 (256 * t, 0) A.a9) (ldv 256 128 (256 * t, 0) A.a10)) A.a8), a9 := (stv (h := 256) (w := 128) (256 * t, 0) (k0_pay15 (F := Ideal) v230 v234 (ldv 256 128 (256 * t, 0) A.a8) (ldv 256 128 (256 * t, 0) A.a9) (ldv 256 128 (256 * t, 0) A.a10)) A.a9), a10 := (stv (h := 256) (w := 128) (256 * t, 0) (k0_pay16 (F := Ideal) v230 v234 (ldv 256 128 (256 * t, 0) A.a8) (ldv 256 128 (256 * t, 0) A.a9) (ldv 256 128 (256 * t, 0) A.a10)) A.a10), a11 := (stv (h := 256) (w := 128) (256 * t, 0) (k0_pay17 (F := Ideal) v234 (ldv 256 128 (256 * t, 0) A.a8) (ldv 256 128 (256 * t, 0) A.a10)) A.a11) }

theorem t2_val (g : Fin k0_t1_loop.trips) (t : Fin (k0_t2_loop g).trips) (arg15 : BitVec 32) (v203 : BitVec 32) (v230 : FVec Ideal S256x256 .bf16) (v234 : FVec Ideal S256x256 .bf16) (c0_i32_75 : BitVec 32) (c0_i32_76 : BitVec 32) (acc : BitVec 32) (A : Scr) :
    St c arg1 arg2 arg3 arg4 arg5 arg6 arg7 arg8 arg9 arg10 arg11 arg12 arg13 arg14 X1 X2 X3 X4 X5 X6 A ⊢ wp frame (wpE (defs₀ (F := Ideal)) Variants.none (c : Thread nD τ) none) Set.univ (k0_t2_body (F := Ideal) i arg1 harg1 arg2 harg2 arg3 harg3 arg4 harg4 arg5 harg5 arg6 harg6 arg7 harg7 arg8 harg8 arg9 harg9 arg10 harg10 arg11 harg11 arg12 harg12 arg13 harg13 arg14 harg14 g arg15 v203 v230 v234 c0_i32_75 c0_i32_76 t acc) (fun _ => St c arg1 arg2 arg3 arg4 arg5 arg6 arg7 arg8 arg9 arg10 arg11 arg12 arg13 arg14 X1 X2 X3 X4 X5 X6 (t2_fn g.val t.val v230 v234 A)) := by
  unfold k0_t2_body
  iintro ⟨H1, H2, H3, H4, H5, H6, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩⟩
  sl_exec
  sl_step
  try rw [ld_eq16 (h := 256) (w := 128) (o := (256 * t.val, 0)) h8 (off7_eq g t)]
  try rw [ld_eq16 (h := 256) (w := 128) (o := (256 * t.val, 0)) h9 (off7_eq g t)]
  try rw [ld_eq16 (h := 256) (w := 128) (o := (256 * t.val, 0)) h10 (off7_eq g t)]
  try rw [ld_eq32 (h := 256) (w := 128) (o := (256 * t.val, 0)) h11 (off8_eq g t)]
  isplitl [H1]; · iexact H1
  isplitl [H2]; · iexact H2
  isplitl [H3]; · iexact H3
  isplitl [H4]; · iexact H4
  isplitl [H5]; · iexact H5
  isplitl [H6]; · iexact H6
  isplitl [H7]
  · iexists _; isplitr; swap; · iexact H7
    ipureintro; unfold t2_fn; exact h7
  isplitl [H8]
  · iexists _; isplitr; swap; · iexact H8
    ipureintro; unfold t2_fn; exact (st1_eq16 h8 (off7_eq g t) _ _)
  isplitl [H9]
  · iexists _; isplitr; swap; · iexact H9
    ipureintro; unfold t2_fn; exact (st1_eq16 h9 (off7_eq g t) _ _)
  isplitl [H10]
  · iexists _; isplitr; swap; · iexact H10
    ipureintro; unfold t2_fn; exact (st1_eq16 h10 (off7_eq g t) _ _)
  isplitl [H11]
  · iexists _; isplitr; swap; · iexact H11
    ipureintro; unfold t2_fn; exact (st1_eq32 h11 (off8_eq g t) _ _)
  isplitl [H12]
  · iexists _; isplitr; swap; · iexact H12
    ipureintro; unfold t2_fn; exact h12
  isplitl [H13]
  · iexists _; isplitr; swap; · iexact H13
    ipureintro; unfold t2_fn; exact h13
  iexists _; isplitr; swap; · iexact H14
  ipureintro; unfold t2_fn; exact h14

/-- One trip of loop 4 on the arrays. -/
def t4_fn (g t : ℕ) (v278 : Vec Ideal S1x1x1x128x128 .bf16) (v281 : Vec Ideal S1x1x1x128x128 .bf16) (v284 : Vec Ideal S1x1x1x128x128 .bf16) (v289 : Vec Ideal S1x1x128x128 .bf16) (A : Scr) : Scr := { A with a8 := (stv (h := 256) (w := 128) (256 * t, 0) (k0_pay43 (F := Ideal) v278 v281 v284 v289 (ldv 256 128 (256 * t, 0) A.a8) (ldv 256 128 (256 * t, 0) A.a9) (ldv 256 128 (256 * t, 0) A.a10)) A.a8), a9 := (stv (h := 256) (w := 128) (256 * t, 0) (k0_pay44 (F := Ideal) v278 v281 v284 v289 (ldv 256 128 (256 * t, 0) A.a8) (ldv 256 128 (256 * t, 0) A.a9) (ldv 256 128 (256 * t, 0) A.a10)) A.a9), a10 := (stv (h := 256) (w := 128) (256 * t, 0) (k0_pay45 (F := Ideal) v278 v281 v284 v289 (ldv 256 128 (256 * t, 0) A.a8) (ldv 256 128 (256 * t, 0) A.a9) (ldv 256 128 (256 * t, 0) A.a10)) A.a10), a11 := (stv (h := 256) (w := 64) (256 * t, 64) (k0_pay46 (F := Ideal) v278 v284 v289 (ldv 256 128 (256 * t, 0) A.a8) (ldv 256 128 (256 * t, 0) A.a10)) A.a11) }

theorem t4_val (g : Fin k0_t1_loop.trips) (t : Fin (k0_t4_loop g).trips) (arg15 : BitVec 32) (v203 : BitVec 32) (c4_i32_92 : BitVec 32) (v278 : Vec Ideal S1x1x1x128x128 .bf16) (v281 : Vec Ideal S1x1x1x128x128 .bf16) (v284 : Vec Ideal S1x1x1x128x128 .bf16) (v289 : Vec Ideal S1x1x128x128 .bf16) (acc : BitVec 32) (A : Scr) :
    St c arg1 arg2 arg3 arg4 arg5 arg6 arg7 arg8 arg9 arg10 arg11 arg12 arg13 arg14 X1 X2 X3 X4 X5 X6 A ⊢ wp frame (wpE (defs₀ (F := Ideal)) Variants.none (c : Thread nD τ) none) Set.univ (k0_t4_body (F := Ideal) i arg1 harg1 arg2 harg2 arg3 harg3 arg4 harg4 arg5 harg5 arg6 harg6 arg7 harg7 arg8 harg8 arg9 harg9 arg10 harg10 arg11 harg11 arg12 harg12 arg13 harg13 arg14 harg14 g arg15 v203 c4_i32_92 v278 v281 v284 v289 t acc) (fun _ => St c arg1 arg2 arg3 arg4 arg5 arg6 arg7 arg8 arg9 arg10 arg11 arg12 arg13 arg14 X1 X2 X3 X4 X5 X6 (t4_fn g.val t.val v278 v281 v284 v289 A)) := by
  unfold k0_t4_body
  iintro ⟨H1, H2, H3, H4, H5, H6, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩⟩
  sl_exec
  sl_step
  try rw [ld_eq16 (h := 256) (w := 128) (o := (256 * t.val, 0)) h8 (off15_eq g t)]
  try rw [ld_eq16 (h := 256) (w := 128) (o := (256 * t.val, 0)) h9 (off15_eq g t)]
  try rw [ld_eq16 (h := 256) (w := 128) (o := (256 * t.val, 0)) h10 (off15_eq g t)]
  try rw [ld_eq32 (h := 256) (w := 64) (o := (256 * t.val, 64)) h11 (off16_eq g t)]
  isplitl [H1]; · iexact H1
  isplitl [H2]; · iexact H2
  isplitl [H3]; · iexact H3
  isplitl [H4]; · iexact H4
  isplitl [H5]; · iexact H5
  isplitl [H6]; · iexact H6
  isplitl [H7]
  · iexists _; isplitr; swap; · iexact H7
    ipureintro; unfold t4_fn; exact h7
  isplitl [H8]
  · iexists _; isplitr; swap; · iexact H8
    ipureintro; unfold t4_fn; exact (st1_eq16 h8 (off15_eq g t) _ _)
  isplitl [H9]
  · iexists _; isplitr; swap; · iexact H9
    ipureintro; unfold t4_fn; exact (st1_eq16 h9 (off15_eq g t) _ _)
  isplitl [H10]
  · iexists _; isplitr; swap; · iexact H10
    ipureintro; unfold t4_fn; exact (st1_eq16 h10 (off15_eq g t) _ _)
  isplitl [H11]
  · iexists _; isplitr; swap; · iexact H11
    ipureintro; unfold t4_fn; exact (st1_eq32 h11 (off16_eq g t) _ _)
  isplitl [H12]
  · iexists _; isplitr; swap; · iexact H12
    ipureintro; unfold t4_fn; exact h12
  isplitl [H13]
  · iexists _; isplitr; swap; · iexact H13
    ipureintro; unfold t4_fn; exact h13
  iexists _; isplitr; swap; · iexact H14
  ipureintro; unfold t4_fn; exact h14

/-- One trip of loop 6 on the arrays. -/
def t6_fn (g t : ℕ) (v382 : FVec Ideal S128x128 .bf16) (v385 : FVec Ideal S128x128 .bf16) (v387 : Vec Ideal S1x1x1x128x128 .bf16) (v392 : Vec Ideal S1x1x128x128 .bf16) (A : Scr) : Scr := { A with a8 := (stv (h := 256) (w := 128) (256 * t, 0) (k0_pay83 (F := Ideal) v382 v385 v387 v392 (ldv 256 128 (256 * t, 0) A.a8) (ldv 256 128 (256 * t, 0) A.a9) (ldv 256 128 (256 * t, 0) A.a10)) A.a8), a9 := (stv (h := 256) (w := 128) (256 * t, 0) (k0_pay84 (F := Ideal) v382 v385 v387 v392 (ldv 256 128 (256 * t, 0) A.a8) (ldv 256 128 (256 * t, 0) A.a9) (ldv 256 128 (256 * t, 0) A.a10)) A.a9), a10 := (stv (h := 256) (w := 128) (256 * t, 0) (k0_pay85 (F := Ideal) v382 v385 v387 v392 (ldv 256 128 (256 * t, 0) A.a8) (ldv 256 128 (256 * t, 0) A.a9) (ldv 256 128 (256 * t, 0) A.a10)) A.a10), a11 := (stv (h := 256) (w := 128) (256 * t, 128) (k0_pay86 (F := Ideal) v382 v387 v392 (ldv 256 128 (256 * t, 0) A.a8) (ldv 256 128 (256 * t, 0) A.a10)) A.a11) }

theorem t6_val (g : Fin k0_t1_loop.trips) (t : Fin (k0_t6_loop g).trips) (arg15 : BitVec 32) (v203 : BitVec 32) (v382 : FVec Ideal S128x128 .bf16) (v385 : FVec Ideal S128x128 .bf16) (v387 : Vec Ideal S1x1x1x128x128 .bf16) (v392 : Vec Ideal S1x1x128x128 .bf16) (acc : BitVec 32) (A : Scr) :
    St c arg1 arg2 arg3 arg4 arg5 arg6 arg7 arg8 arg9 arg10 arg11 arg12 arg13 arg14 X1 X2 X3 X4 X5 X6 A ⊢ wp frame (wpE (defs₀ (F := Ideal)) Variants.none (c : Thread nD τ) none) Set.univ (k0_t6_body (F := Ideal) i arg1 harg1 arg2 harg2 arg3 harg3 arg4 harg4 arg5 harg5 arg6 harg6 arg7 harg7 arg8 harg8 arg9 harg9 arg10 harg10 arg11 harg11 arg12 harg12 arg13 harg13 arg14 harg14 g arg15 v203 v382 v385 v387 v392 t acc) (fun _ => St c arg1 arg2 arg3 arg4 arg5 arg6 arg7 arg8 arg9 arg10 arg11 arg12 arg13 arg14 X1 X2 X3 X4 X5 X6 (t6_fn g.val t.val v382 v385 v387 v392 A)) := by
  unfold k0_t6_body
  iintro ⟨H1, H2, H3, H4, H5, H6, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩⟩
  sl_exec
  sl_step
  try rw [ld_eq16 (h := 256) (w := 128) (o := (256 * t.val, 0)) h8 (off22_eq g t)]
  try rw [ld_eq16 (h := 256) (w := 128) (o := (256 * t.val, 0)) h9 (off22_eq g t)]
  try rw [ld_eq16 (h := 256) (w := 128) (o := (256 * t.val, 0)) h10 (off22_eq g t)]
  try rw [ld_eq32 (h := 256) (w := 128) (o := (256 * t.val, 128)) h11 (off23_eq g t)]
  isplitl [H1]; · iexact H1
  isplitl [H2]; · iexact H2
  isplitl [H3]; · iexact H3
  isplitl [H4]; · iexact H4
  isplitl [H5]; · iexact H5
  isplitl [H6]; · iexact H6
  isplitl [H7]
  · iexists _; isplitr; swap; · iexact H7
    ipureintro; unfold t6_fn; exact h7
  isplitl [H8]
  · iexists _; isplitr; swap; · iexact H8
    ipureintro; unfold t6_fn; exact (st1_eq16 h8 (off22_eq g t) _ _)
  isplitl [H9]
  · iexists _; isplitr; swap; · iexact H9
    ipureintro; unfold t6_fn; exact (st1_eq16 h9 (off22_eq g t) _ _)
  isplitl [H10]
  · iexists _; isplitr; swap; · iexact H10
    ipureintro; unfold t6_fn; exact (st1_eq16 h10 (off22_eq g t) _ _)
  isplitl [H11]
  · iexists _; isplitr; swap; · iexact H11
    ipureintro; unfold t6_fn; exact (st1_eq32 h11 (off23_eq g t) _ _)
  isplitl [H12]
  · iexists _; isplitr; swap; · iexact H12
    ipureintro; unfold t6_fn; exact h12
  isplitl [H13]
  · iexists _; isplitr; swap; · iexact H13
    ipureintro; unfold t6_fn; exact h13
  iexists _; isplitr; swap; · iexact H14
  ipureintro; unfold t6_fn; exact h14

/-- One trip of loop 8 on the arrays. -/
def t8_fn (g t : ℕ) (v498 : FVec Ideal S256x256 .bf16) (v502 : FVec Ideal S256x256 .bf16) (A : Scr) : Scr := { A with a8 := (stv (h := 256) (w := 128) (256 * t, 0) (k0_pay122 (F := Ideal) v498 v502 (ldv 256 128 (256 * t, 0) A.a8) (ldv 256 128 (256 * t, 0) A.a9) (ldv 256 128 (256 * t, 0) A.a10)) A.a8), a9 := (stv (h := 256) (w := 128) (256 * t, 0) (k0_pay123 (F := Ideal) v498 v502 (ldv 256 128 (256 * t, 0) A.a8) (ldv 256 128 (256 * t, 0) A.a9) (ldv 256 128 (256 * t, 0) A.a10)) A.a9), a10 := (stv (h := 256) (w := 128) (256 * t, 0) (k0_pay124 (F := Ideal) v498 v502 (ldv 256 128 (256 * t, 0) A.a8) (ldv 256 128 (256 * t, 0) A.a9) (ldv 256 128 (256 * t, 0) A.a10)) A.a10), a11 := (stv (h := 256) (w := 64) (256 * t, 192) (k0_pay125 (F := Ideal) v502 (ldv 256 128 (256 * t, 0) A.a8) (ldv 256 128 (256 * t, 0) A.a10)) A.a11) }

theorem t8_val (g : Fin k0_t1_loop.trips) (t : Fin (k0_t8_loop g).trips) (v203 : BitVec 32) (v498 : FVec Ideal S256x256 .bf16) (v502 : FVec Ideal S256x256 .bf16) (c0_i32_201 : BitVec 32) (c0_i32_202 : BitVec 32) (v503 : BitVec 32) (c1_i32_203 : BitVec 32) (acc : BitVec 32) (A : Scr) :
    St c arg1 arg2 arg3 arg4 arg5 arg6 arg7 arg8 arg9 arg10 arg11 arg12 arg13 arg14 X1 X2 X3 X4 X5 X6 A ⊢ wp frame (wpE (defs₀ (F := Ideal)) Variants.none (c : Thread nD τ) none) Set.univ (k0_t8_body (F := Ideal) i arg1 harg1 arg2 harg2 arg3 harg3 arg4 harg4 arg5 harg5 arg6 harg6 arg7 harg7 arg8 harg8 arg9 harg9 arg10 harg10 arg11 harg11 arg12 harg12 arg13 harg13 arg14 harg14 g v203 v498 v502 c0_i32_201 c0_i32_202 v503 c1_i32_203 t acc) (fun _ => St c arg1 arg2 arg3 arg4 arg5 arg6 arg7 arg8 arg9 arg10 arg11 arg12 arg13 arg14 X1 X2 X3 X4 X5 X6 (t8_fn g.val t.val v498 v502 A)) := by
  unfold k0_t8_body
  iintro ⟨H1, H2, H3, H4, H5, H6, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩⟩
  sl_exec
  sl_step
  try rw [ld_eq16 (h := 256) (w := 128) (o := (256 * t.val, 0)) h8 (off29_eq g t)]
  try rw [ld_eq16 (h := 256) (w := 128) (o := (256 * t.val, 0)) h9 (off29_eq g t)]
  try rw [ld_eq16 (h := 256) (w := 128) (o := (256 * t.val, 0)) h10 (off29_eq g t)]
  try rw [ld_eq32 (h := 256) (w := 64) (o := (256 * t.val, 192)) h11 (off30_eq g t)]
  isplitl [H1]; · iexact H1
  isplitl [H2]; · iexact H2
  isplitl [H3]; · iexact H3
  isplitl [H4]; · iexact H4
  isplitl [H5]; · iexact H5
  isplitl [H6]; · iexact H6
  isplitl [H7]
  · iexists _; isplitr; swap; · iexact H7
    ipureintro; unfold t8_fn; exact h7
  isplitl [H8]
  · iexists _; isplitr; swap; · iexact H8
    ipureintro; unfold t8_fn; exact (st1_eq16 h8 (off29_eq g t) _ _)
  isplitl [H9]
  · iexists _; isplitr; swap; · iexact H9
    ipureintro; unfold t8_fn; exact (st1_eq16 h9 (off29_eq g t) _ _)
  isplitl [H10]
  · iexists _; isplitr; swap; · iexact H10
    ipureintro; unfold t8_fn; exact (st1_eq16 h10 (off29_eq g t) _ _)
  isplitl [H11]
  · iexists _; isplitr; swap; · iexact H11
    ipureintro; unfold t8_fn; exact (st1_eq32 h11 (off30_eq g t) _ _)
  isplitl [H12]
  · iexists _; isplitr; swap; · iexact H12
    ipureintro; unfold t8_fn; exact h12
  isplitl [H13]
  · iexists _; isplitr; swap; · iexact H13
    ipureintro; unfold t8_fn; exact h13
  iexists _; isplitr; swap; · iexact H14
  ipureintro; unfold t8_fn; exact h14

/-- One trip of loop 10 on the arrays. -/
def t10_fn (g t : ℕ)  (A : Scr) : Scr := { A with a11 := (stv (h := 256) (w := 256) (256 * t, 0) (k0_pay156 (F := Ideal) (ldv 256 128 (256 * t, 0) A.a13) (ldv 256 256 (256 * t, 0) A.a11)) A.a11) }

theorem t10_val (g : Fin k0_t1_loop.trips) (t : Fin (k0_t10_loop g).trips) (arg15 : BitVec 32) (v203 : BitVec 32) (v585 : Vec Ideal S1x128 .f32) (arg17 : FVec Ideal S8x256 .f32) (A : Scr) :
    St c arg1 arg2 arg3 arg4 arg5 arg6 arg7 arg8 arg9 arg10 arg11 arg12 arg13 arg14 X1 X2 X3 X4 X5 X6 A ⊢ wp frame (wpE (defs₀ (F := Ideal)) Variants.none (c : Thread nD τ) none) Set.univ (k0_t10_body (F := Ideal) i arg1 harg1 arg2 harg2 arg3 harg3 arg4 harg4 arg5 harg5 arg6 harg6 arg7 harg7 arg8 harg8 arg9 harg9 arg10 harg10 arg11 harg11 arg12 harg12 arg13 harg13 arg14 harg14 g arg15 v203 v585 t arg17) (fun a => iprop(⌜a = (k0_pay157 (F := Ideal) arg17 (ldv 256 128 (256 * t.val, 0) A.a13) (ldv 256 256 (256 * t.val, 0) A.a11))⌝ ∗ St c arg1 arg2 arg3 arg4 arg5 arg6 arg7 arg8 arg9 arg10 arg11 arg12 arg13 arg14 X1 X2 X3 X4 X5 X6 (t10_fn g.val t.val  A))) := by
  unfold k0_t10_body
  iintro ⟨H1, H2, H3, H4, H5, H6, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩⟩
  sl_exec
  sl_step
  try rw [ld_eq32 (h := 256) (w := 128) (o := (256 * t.val, 0)) h13 (off39_eq g t)]
  try rw [ld_eq32 (h := 256) (w := 256) (o := (256 * t.val, 0)) h11 (off40_eq g t)]
  isplitr
  · ipureintro; rfl
  isplitl [H1]; · iexact H1
  isplitl [H2]; · iexact H2
  isplitl [H3]; · iexact H3
  isplitl [H4]; · iexact H4
  isplitl [H5]; · iexact H5
  isplitl [H6]; · iexact H6
  isplitl [H7]
  · iexists _; isplitr; swap; · iexact H7
    ipureintro; unfold t10_fn; exact h7
  isplitl [H8]
  · iexists _; isplitr; swap; · iexact H8
    ipureintro; unfold t10_fn; exact h8
  isplitl [H9]
  · iexists _; isplitr; swap; · iexact H9
    ipureintro; unfold t10_fn; exact h9
  isplitl [H10]
  · iexists _; isplitr; swap; · iexact H10
    ipureintro; unfold t10_fn; exact h10
  isplitl [H11]
  · iexists _; isplitr; swap; · iexact H11
    ipureintro; unfold t10_fn; exact (st1_eq32 h11 (off40_eq g t) _ _)
  isplitl [H12]
  · iexists _; isplitr; swap; · iexact H12
    ipureintro; unfold t10_fn; exact h12
  isplitl [H13]
  · iexists _; isplitr; swap; · iexact H13
    ipureintro; unfold t10_fn; exact h13
  iexists _; isplitr; swap; · iexact H14
  ipureintro; unfold t10_fn; exact h14

theorem t12_val (g : Fin k0_t1_loop.trips) (t : Fin (k0_t12_loop g).trips) (arg15 : BitVec 32) (v203 : BitVec 32) (v585 : Vec Ideal S1x128 .f32) (v589 : Vec Ideal S1x128 .f32) (v616 : FVec Ideal S8x256 .f32) (arg17 : FVec Ideal S8x256 .f32) (arg18 : FVec Ideal S128x256 .f32) (A : Scr) :
    St c arg1 arg2 arg3 arg4 arg5 arg6 arg7 arg8 arg9 arg10 arg11 arg12 arg13 arg14 X1 X2 X3 X4 X5 X6 A ⊢ wp frame (wpE (defs₀ (F := Ideal)) Variants.none (c : Thread nD τ) none) Set.univ (k0_t12_body (F := Ideal) i arg1 harg1 arg2 harg2 arg3 harg3 arg4 harg4 arg5 harg5 arg6 harg6 arg7 harg7 arg8 harg8 arg9 harg9 arg10 harg10 arg11 harg11 arg12 harg12 arg13 harg13 arg14 harg14 g arg15 v203 v585 v589 v616 t (arg17, arg18)) (fun a => iprop(⌜a = (k0_pay165 (F := Ideal) v585 v589 v616 arg17 (ldv 256 256 (256 * t.val, 0) A.a11), k0_pay166 (F := Ideal) v585 v589 v616 arg18 (ldv 256 256 (256 * t.val, 0) A.a11) (ldv 128 256 (0, 256 * t.val) A.a12))⌝ ∗ St c arg1 arg2 arg3 arg4 arg5 arg6 arg7 arg8 arg9 arg10 arg11 arg12 arg13 arg14 X1 X2 X3 X4 X5 X6 A)) := by
  unfold k0_t12_body
  iintro ⟨H1, H2, H3, H4, H5, H6, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩⟩
  sl_exec
  sl_step
  try rw [ld_eq32 (h := 256) (w := 256) (o := (256 * t.val, 0)) h11 (off43_eq g t)]
  try rw [ld_eq16 (h := 128) (w := 256) (o := (0, 256 * t.val)) h12 (off44_eq g t)]
  isplitr
  · ipureintro; rfl
  isplitl [H1]; · iexact H1
  isplitl [H2]; · iexact H2
  isplitl [H3]; · iexact H3
  isplitl [H4]; · iexact H4
  isplitl [H5]; · iexact H5
  isplitl [H6]; · iexact H6
  isplitl [H7]
  · iexists _; isplitr; swap; · iexact H7
    ipureintro; exact h7
  isplitl [H8]
  · iexists _; isplitr; swap; · iexact H8
    ipureintro; exact h8
  isplitl [H9]
  · iexists _; isplitr; swap; · iexact H9
    ipureintro; exact h9
  isplitl [H10]
  · iexists _; isplitr; swap; · iexact H10
    ipureintro; exact h10
  isplitl [H11]
  · iexists _; isplitr; swap; · iexact H11
    ipureintro; exact h11
  isplitl [H12]
  · iexists _; isplitr; swap; · iexact H12
    ipureintro; exact h12
  isplitl [H13]
  · iexists _; isplitr; swap; · iexact H13
    ipureintro; exact h13
  iexists _; isplitr; swap; · iexact H14
  ipureintro; exact h14

end Cert.KernelIdeal.Hand
-- ==== Proof.PartsA.lean ====
/-
  Parts of the kernel on the arrays.
-/
module

public import proofs.«01_k».proof.Proof.Gen.KernelIdeal.Skeleton
public import proofs.«01_k».proof.Proof.Closed
public import Idealize.ShloMosaic.Lib.Updates.Memory
public import Idealize.ShloMosaic.Lib.Updates.Loop
public import Idealize.ShloMosaic.Lib.Tactic
public import Idealize.ShloMosaic.Lib.Pointwise
public import proofs.«01_k».proof.Proof.Trips
@[expose] public section

set_option maxRecDepth 16384
set_option maxHeartbeats 400000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Updates
open Idealize.ShloMosaic.LaneScatter (Blk iter)

local notation "𝕄" => MT nD τ sig Unit (Elt Ideal) ℕ (UR sig nD τ) ℕ
variable (c : Dev nD) (i : grid0.Coords) (arg1 : Memref sig .tc .vmem S1x32x3x128x128 .bf16) (harg1 : arg1.IsWhole) (arg2 : Memref sig .tc .vmem S1x2048x128 .f32) (harg2 : arg2.IsWhole) (arg3 : Memref sig .tc .vmem S1x16x128x128 .bf16) (harg3 : arg3.IsWhole) (arg4 : Memref sig .tc .vmem S1x16x64x128 .f32) (harg4 : arg4.IsWhole) (arg5 : Memref sig .tc .vmem S2048x128 .bf16) (harg5 : arg5.IsWhole) (arg6 : Memref sig .tc .vmem S1x16x128 .f32) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S2048x256 .f32) (harg11 : arg11.IsWhole) (arg12 : Memref sig .tc .vmem S128x2048 .bf16) (harg12 : arg12.IsWhole) (arg13 : Memref sig .tc .vmem S2048x128 .f32) (harg13 : arg13.IsWhole) (arg14 : Memref sig .tc .vmem S16x128 .f32) (harg14 : arg14.IsWhole) (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty)

abbrev l205 (g : Fin k0_t1_loop.trips) (arg5 : Memref sig .tc .vmem S2048x128 .bf16) (X5 : BufTy.Contents (Elt Ideal) arg5.view.ty) : Vec Ideal S256x128 .bf16 := View.readAt (Elt Ideal) arg5.view (Rect.unit (s := S2048x128) (k0_off1 g) S256x128.size (k0_off1_inb g)).toLoadRect X5
abbrev l215 (g : Fin k0_t1_loop.trips) (arg1 : Memref sig .tc .vmem S1x32x3x128x128 .bf16) (X1 : BufTy.Contents (Elt Ideal) arg1.view.ty) : Vec Ideal S1x1x1x128x128 .bf16 := View.readAt (Elt Ideal) arg1.view (Rect.unit (s := S1x32x3x128x128) (k0_off3 g 0#32) S1x1x1x128x128.size (k0_off3_inb g 0)).toLoadRect X1
abbrev l218 (g : Fin k0_t1_loop.trips) (arg1 : Memref sig .tc .vmem S1x32x3x128x128 .bf16) (X1 : BufTy.Contents (Elt Ideal) arg1.view.ty) : Vec Ideal S1x1x1x128x128 .bf16 := View.readAt (Elt Ideal) arg1.view (Rect.unit (s := S1x32x3x128x128) (k0_off4 g 0#32) S1x1x1x128x128.size (k0_off4_inb g 0)).toLoadRect X1
abbrev l221 (g : Fin k0_t1_loop.trips) (arg1 : Memref sig .tc .vmem S1x32x3x128x128 .bf16) (X1 : BufTy.Contents (Elt Ideal) arg1.view.ty) : Vec Ideal S1x1x1x128x128 .bf16 := View.readAt (Elt Ideal) arg1.view (Rect.unit (s := S1x32x3x128x128) (k0_off5 g 0#32) S1x1x1x128x128.size (k0_off5_inb g 0)).toLoadRect X1
abbrev l226 (g : Fin k0_t1_loop.trips) (arg3 : Memref sig .tc .vmem S1x16x128x128 .bf16) (X3 : BufTy.Contents (Elt Ideal) arg3.view.ty) : Vec Ideal S1x1x128x128 .bf16 := View.readAt (Elt Ideal) arg3.view (Rect.unit (s := S1x16x128x128) (k0_off6 g 0#32) S1x1x128x128.size (k0_off6_inb g 0)).toLoadRect X3

/-- Part 1 of the kernel on the arrays. -/
def p1_fn (g : ℕ) (v205 : Vec Ideal S256x128 .bf16) (A : Scr) : Scr :=
  { A with a12 := (stv (h := 128) (w := 256) (0, 256 * g) (k0_pay5 (F := Ideal) v205) A.a12) }

theorem p1_val (g : Fin k0_t1_loop.trips) (c0_i32 : BitVec 32) (c1_i32_53 : BitVec 32) (A : Scr) :
    St c arg1 arg2 arg3 arg4 arg5 arg6 arg7 arg8 arg9 arg10 arg11 arg12 arg13 arg14 X1 X2 X3 X4 X5 X6 A ⊢ wp frame (wpE (defs₀ (F := Ideal)) Variants.none (c : Thread nD τ) none) Set.univ (k0_part1 (F := Ideal) i arg1 harg1 arg2 harg2 arg3 harg3 arg4 harg4 arg5 harg5 arg6 harg6 arg7 harg7 arg8 harg8 arg9 harg9 arg10 harg10 arg11 harg11 arg12 harg12 arg13 harg13 arg14 harg14 c0_i32 c1_i32_53 g) (fun a => iprop(⌜a = ⟨(Scf.iv c0_i32 c1_i32_53 g), ((Scalar.muli (Scf.iv c0_i32 c1_i32_53 g) 256#32)), k0_pay7 (F := Ideal) (l215 g arg1 X1) (l218 g arg1 X1), k0_pay8 (F := Ideal) (l215 g arg1 X1) (l221 g arg1 X1) (l226 g arg3 X3), 0#32, 0#32⟩⌝ ∗ St c arg1 arg2 arg3 arg4 arg5 arg6 arg7 arg8 arg9 arg10 arg11 arg12 arg13 arg14 X1 X2 X3 X4 X5 X6 (p1_fn g.val (l205 g arg5 X5) A))) := by
  rw [k0_part1_eq_skeleton]; unfold k0_part1_skel
  iintro ⟨H1, H2, H3, H4, H5, H6, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩⟩
  sl_exec
  sl_step
  try rw [ld_eq16 (h := 128) (w := 256) (o := (0, 256 * g.val)) h12 (off2_eq g)]
  isplitr
  · ipureintro; rfl
  isplitl [H1]; · iexact H1
  isplitl [H2]; · iexact H2
  isplitl [H3]; · iexact H3
  isplitl [H4]; · iexact H4
  isplitl [H5]; · iexact H5
  isplitl [H6]; · iexact H6
  isplitl [H7]
  · iexists _; isplitr; swap; · iexact H7
    ipureintro; unfold p1_fn; exact h7
  isplitl [H8]
  · iexists _; isplitr; swap; · iexact H8
    ipureintro; unfold p1_fn; exact h8
  isplitl [H9]
  · iexists _; isplitr; swap; · iexact H9
    ipureintro; unfold p1_fn; exact h9
  isplitl [H10]
  · iexists _; isplitr; swap; · iexact H10
    ipureintro; unfold p1_fn; exact h10
  isplitl [H11]
  · iexists _; isplitr; swap; · iexact H11
    ipureintro; unfold p1_fn; exact h11
  isplitl [H12]
  · iexists _; isplitr; swap; · iexact H12
    ipureintro; unfold p1_fn; exact (st1_eq16 h12 (off2_eq g) _ _)
  isplitl [H13]
  · iexists _; isplitr; swap; · iexact H13
    ipureintro; unfold p1_fn; exact h13
  iexists _; isplitr; swap; · iexact H14
  ipureintro; unfold p1_fn; exact h14

abbrev l245 (g : Fin k0_t1_loop.trips) (arg2 : Memref sig .tc .vmem S1x2048x128 .f32) (X2 : BufTy.Contents (Elt Ideal) arg2.view.ty) : Vec Ideal S1x64x128 .f32 := View.readAt (Elt Ideal) arg2.view (Rect.unit (s := S1x2048x128) (k0_off11 g 0#32) S1x64x128.size (k0_off11_inb g 0)).toLoadRect X2
abbrev l269 (g : Fin k0_t1_loop.trips) (arg4 : Memref sig .tc .vmem S1x16x64x128 .f32) (X4 : BufTy.Contents (Elt Ideal) arg4.view.ty) : Vec Ideal S1x1x64x128 .f32 := View.readAt (Elt Ideal) arg4.view (Rect.unit (s := S1x16x64x128) (k0_off13 g 0#32) S1x1x64x128.size (k0_off13_inb g 0)).toLoadRect X4

/-- Part 2 of the kernel on the arrays. -/
def p2_fn (g : ℕ) (v230 : FVec Ideal S256x256 .bf16) (v234 : FVec Ideal S256x256 .bf16) (v245 : Vec Ideal S1x64x128 .f32) (v269 : Vec Ideal S1x1x64x128 .f32) (A : Scr) : Scr :=
  let B := iter (fun t A => t2_fn g t v230 v234 A) g A
  { B with a8 := (stv (h := 64) (w := 128) (256 * g + 0, 0) (k0_pay31 (F := Ideal) v245) B.a8), a9 := (stv (h := 64) (w := 128) (256 * g + 0, 0) (k0_pay32 (F := Ideal) v245) B.a9), a10 := (stv (h := 64) (w := 128) (256 * g + 0, 0) (k0_pay33 (F := Ideal) v245) B.a10), a11 := (stv (h := 64) (w := 128) (256 * g, 0) (k0_pay34 (F := Ideal) v269) B.a11) }

theorem p2_val (g : Fin k0_t1_loop.trips) (arg15 : BitVec 32) (v203 : BitVec 32) (v230 : FVec Ideal S256x256 .bf16) (v234 : FVec Ideal S256x256 .bf16) (c0_i32_75 : BitVec 32) (c0_i32_76 : BitVec 32) (A : Scr) :
    St c arg1 arg2 arg3 arg4 arg5 arg6 arg7 arg8 arg9 arg10 arg11 arg12 arg13 arg14 X1 X2 X3 X4 X5 X6 A ⊢ wp frame (wpE (defs₀ (F := Ideal)) Variants.none (c : Thread nD τ) none) Set.univ (k0_part2 (F := Ideal) i arg1 harg1 arg2 harg2 arg3 harg3 arg4 harg4 arg5 harg5 arg6 harg6 arg7 harg7 arg8 harg8 arg9 harg9 arg10 harg10 arg11 harg11 arg12 harg12 arg13 harg13 arg14 harg14 g arg15 v203 v230 v234 c0_i32_75 c0_i32_76) (fun a => iprop(⌜a = 4#32⌝ ∗ St c arg1 arg2 arg3 arg4 arg5 arg6 arg7 arg8 arg9 arg10 arg11 arg12 arg13 arg14 X1 X2 X3 X4 X5 X6 (p2_fn g.val v230 v234 (l245 g arg2 X2) (l269 g arg4 X4) A))) := by
  rw [k0_part2_eq_skeleton]; unfold k0_part2_skel
  refine loop_val (fun A _ => St c arg1 arg2 arg3 arg4 arg5 arg6 arg7 arg8 arg9 arg10 arg11 arg12 arg13 arg14 X1 X2 X3 X4 X5 X6 A) _ _ _ _ (fun t A => t2_fn g.val t v230 v234 A) (fun t A a => t2_val c i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 g t _ _ _ _ _ _ a A) A ?_
  intro a
  refine loop_skip _ _ _ _ (trips3 g) ?_
  rw [trips2 g]
  unfold p2_fn
  generalize iter (fun t A => t2_fn g.val t v230 v234 A) g.val A = B
  iintro ⟨H1, H2, H3, H4, H5, H6, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩⟩
  sl_exec
  sl_step
  try rw [ld_eq16 (h := 64) (w := 128) (o := (256 * g.val + 0, 0)) h8 (off12_eq g 0)]
  try rw [ld_eq16 (h := 64) (w := 128) (o := (256 * g.val + 0, 0)) h9 (off12_eq g 0)]
  try rw [ld_eq16 (h := 64) (w := 128) (o := (256 * g.val + 0, 0)) h10 (off12_eq g 0)]
  try rw [ld_eq32 (h := 64) (w := 128) (o := (256 * g.val, 0)) h11 (off14_eq g)]
  isplitr
  · ipureintro; rfl
  isplitl [H1]; · iexact H1
  isplitl [H2]; · iexact H2
  isplitl [H3]; · iexact H3
  isplitl [H4]; · iexact H4
  isplitl [H5]; · iexact H5
  isplitl [H6]; · iexact H6
  isplitl [H7]
  · iexists _; isplitr; swap; · iexact H7
    ipureintro; exact h7
  isplitl [H8]
  · iexists _; isplitr; swap; · iexact H8
    ipureintro; exact (st1_eq16 h8 (off12_eq g 0) _ _)
  isplitl [H9]
  · iexists _; isplitr; swap; · iexact H9
    ipureintro; exact (st1_eq16 h9 (off12_eq g 0) _ _)
  isplitl [H10]
  · iexists _; isplitr; swap; · iexact H10
    ipureintro; exact (st1_eq16 h10 (off12_eq g 0) _ _)
  isplitl [H11]
  · iexists _; isplitr; swap; · iexact H11
    ipureintro; exact (st1_eq32 h11 (off14_eq g) _ _)
  isplitl [H12]
  · iexists _; isplitr; swap; · iexact H12
    ipureintro; exact h12
  isplitl [H13]
  · iexists _; isplitr; swap; · iexact H13
    ipureintro; exact h13
  iexists _; isplitr; swap; · iexact H14
  ipureintro; exact h14

abbrev l347 (g : Fin k0_t1_loop.trips) (arg2 : Memref sig .tc .vmem S1x2048x128 .f32) (X2 : BufTy.Contents (Elt Ideal) arg2.view.ty) : Vec Ideal S1x64x128 .f32 := View.readAt (Elt Ideal) arg2.view (Rect.unit (s := S1x2048x128) (k0_off11 g 64#32) S1x64x128.size (k0_off11_inb g 1)).toLoadRect X2

/-- Part 4 of the kernel on the arrays. -/
def p4_fn (g : ℕ) (v293 : FVec Ideal S256x256 .bf16) (v297 : FVec Ideal S256x256 .bf16) (v306 : Vec Ideal S64x128 .bf16) (v308 : Vec Ideal S64x128 .bf16) (A : Scr) : Scr :=
  { A with a8 := (stv (h := 64) (w := 128) (256 * g, 0) (k0_pay61 (F := Ideal) v293 v297 v306 v308 (ldv 64 128 (256 * g, 0) A.a10)) A.a8), a9 := (stv (h := 64) (w := 128) (256 * g, 0) (k0_pay62 (F := Ideal) v293 v297 v306 v308 (ldv 64 128 (256 * g, 0) A.a10)) A.a9), a10 := (stv (h := 64) (w := 128) (256 * g, 0) (k0_pay63 (F := Ideal) v293 v297 v306 v308 (ldv 64 128 (256 * g, 0) A.a10)) A.a10), a11 := (stv (h := 64) (w := 64) (256 * g, 64) (k0_pay64 (F := Ideal) v297 v306 (ldv 64 128 (256 * g, 0) A.a10)) A.a11) }

theorem p4_val (g : Fin k0_t1_loop.trips) (v203 : BitVec 32) (v293 : FVec Ideal S256x256 .bf16) (v297 : FVec Ideal S256x256 .bf16) (v306 : Vec Ideal S64x128 .bf16) (v308 : Vec Ideal S64x128 .bf16) (A : Scr) :
    St c arg1 arg2 arg3 arg4 arg5 arg6 arg7 arg8 arg9 arg10 arg11 arg12 arg13 arg14 X1 X2 X3 X4 X5 X6 A ⊢ wp frame (wpE (defs₀ (F := Ideal)) Variants.none (c : Thread nD τ) none) Set.univ (k0_part4 (F := Ideal) i arg1 harg1 arg2 harg2 arg3 harg3 arg4 harg4 arg5 harg5 arg6 harg6 arg7 harg7 arg8 harg8 arg9 harg9 arg10 harg10 arg11 harg11 arg12 harg12 arg13 harg13 arg14 harg14 g v203 v293 v297 v306 v308) (fun a => iprop(⌜a = ⟨((Scalar.addi v203 64#32)), k0_pay66 (F := Ideal) (l347 g arg2 X2), k0_pay68 (F := Ideal) (l347 g arg2 X2), k0_pay69 (F := Ideal) (l347 g arg2 X2)⟩⌝ ∗ St c arg1 arg2 arg3 arg4 arg5 arg6 arg7 arg8 arg9 arg10 arg11 arg12 arg13 arg14 X1 X2 X3 X4 X5 X6 (p4_fn g.val v293 v297 v306 v308 A))) := by
  rw [k0_part4_eq_skeleton]; unfold k0_part4_skel
  iintro ⟨H1, H2, H3, H4, H5, H6, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩⟩
  sl_exec
  sl_step
  try rw [ld_eq16 (h := 64) (w := 128) (o := (256 * g.val, 0)) h10 (off19_eq g)]
  try rw [ld_eq16 (h := 64) (w := 128) (o := (256 * g.val, 0)) h8 (off19_eq g)]
  try rw [ld_eq16 (h := 64) (w := 128) (o := (256 * g.val, 0)) h9 (off19_eq g)]
  try rw [ld_eq32 (h := 64) (w := 64) (o := (256 * g.val, 64)) h11 (off20_eq g)]
  isplitr
  · ipureintro; rfl
  isplitl [H1]; · iexact H1
  isplitl [H2]; · iexact H2
  isplitl [H3]; · iexact H3
  isplitl [H4]; · iexact H4
  isplitl [H5]; · iexact H5
  isplitl [H6]; · iexact H6
  isplitl [H7]
  · iexists _; isplitr; swap; · iexact H7
    ipureintro; unfold p4_fn; exact h7
  isplitl [H8]
  · iexists _; isplitr; swap; · iexact H8
    ipureintro; unfold p4_fn; exact (st1_eq16 h8 (off19_eq g) _ _)
  isplitl [H9]
  · iexists _; isplitr; swap; · iexact H9
    ipureintro; unfold p4_fn; exact (st1_eq16 h9 (off19_eq g) _ _)
  isplitl [H10]
  · iexists _; isplitr; swap; · iexact H10
    ipureintro; unfold p4_fn; exact (st1_eq16 h10 (off19_eq g) _ _)
  isplitl [H11]
  · iexists _; isplitr; swap; · iexact H11
    ipureintro; unfold p4_fn; exact (st1_eq32 h11 (off20_eq g) _ _)
  isplitl [H12]
  · iexists _; isplitr; swap; · iexact H12
    ipureintro; unfold p4_fn; exact h12
  isplitl [H13]
  · iexists _; isplitr; swap; · iexact H13
    ipureintro; unfold p4_fn; exact h13
  iexists _; isplitr; swap; · iexact H14
  ipureintro; unfold p4_fn; exact h14

abbrev l371 (g : Fin k0_t1_loop.trips) (arg4 : Memref sig .tc .vmem S1x16x64x128 .f32) (X4 : BufTy.Contents (Elt Ideal) arg4.view.ty) : Vec Ideal S1x1x64x128 .f32 := View.readAt (Elt Ideal) arg4.view (Rect.unit (s := S1x16x64x128) (k0_off13 g 0#32) S1x1x64x128.size (k0_off13_inb g 0)).toLoadRect X4
abbrev l381 (g : Fin k0_t1_loop.trips) (arg1 : Memref sig .tc .vmem S1x32x3x128x128 .bf16) (X1 : BufTy.Contents (Elt Ideal) arg1.view.ty) : Vec Ideal S1x1x1x128x128 .bf16 := View.readAt (Elt Ideal) arg1.view (Rect.unit (s := S1x32x3x128x128) (k0_off3 g 2#32) S1x1x1x128x128.size (k0_off3_inb g 2)).toLoadRect X1
abbrev l384 (g : Fin k0_t1_loop.trips) (arg1 : Memref sig .tc .vmem S1x32x3x128x128 .bf16) (X1 : BufTy.Contents (Elt Ideal) arg1.view.ty) : Vec Ideal S1x1x1x128x128 .bf16 := View.readAt (Elt Ideal) arg1.view (Rect.unit (s := S1x32x3x128x128) (k0_off4 g 2#32) S1x1x1x128x128.size (k0_off4_inb g 2)).toLoadRect X1
abbrev l387 (g : Fin k0_t1_loop.trips) (arg1 : Memref sig .tc .vmem S1x32x3x128x128 .bf16) (X1 : BufTy.Contents (Elt Ideal) arg1.view.ty) : Vec Ideal S1x1x1x128x128 .bf16 := View.readAt (Elt Ideal) arg1.view (Rect.unit (s := S1x32x3x128x128) (k0_off5 g 2#32) S1x1x1x128x128.size (k0_off5_inb g 2)).toLoadRect X1

/-- Part 5 of the kernel on the arrays. -/
def p5_fn (g : ℕ) (v349 : FVec Ideal S64x128 .bf16) (v352 : FVec Ideal S64x128 .bf16) (v354 : FVec Ideal S64x128 .f32) (v371 : Vec Ideal S1x1x64x128 .f32) (A : Scr) : Scr :=
  { A with a8 := (stv (h := 64) (w := 128) (256 * g + 64, 0) (k0_pay70 (F := Ideal) v349) A.a8), a9 := (stv (h := 64) (w := 128) (256 * g + 64, 0) (k0_pay71 (F := Ideal) v352) A.a9), a10 := (stv (h := 64) (w := 128) (256 * g + 64, 0) (k0_pay72 (F := Ideal) v354) A.a10), a11 := (stv (h := 64) (w := 64) (256 * g + 64, 64) (k0_pay73 (F := Ideal) v371) A.a11) }

theorem p5_val (g : Fin k0_t1_loop.trips) (arg15 : BitVec 32) (v345 : BitVec 32) (v349 : FVec Ideal S64x128 .bf16) (v352 : FVec Ideal S64x128 .bf16) (v354 : FVec Ideal S64x128 .f32) (A : Scr) :
    St c arg1 arg2 arg3 arg4 arg5 arg6 arg7 arg8 arg9 arg10 arg11 arg12 arg13 arg14 X1 X2 X3 X4 X5 X6 A ⊢ wp frame (wpE (defs₀ (F := Ideal)) Variants.none (c : Thread nD τ) none) Set.univ (k0_part5 (F := Ideal) i arg1 harg1 arg2 harg2 arg3 harg3 arg4 harg4 arg5 harg5 arg6 harg6 arg7 harg7 arg8 harg8 arg9 harg9 arg10 harg10 arg11 harg11 arg12 harg12 arg13 harg13 arg14 harg14 g arg15 v345 v349 v352 v354) (fun a => iprop(⌜a = ⟨k0_pay74 (F := Ideal) (l381 g arg1 X1), k0_pay75 (F := Ideal) (l384 g arg1 X1), (l387 g arg1 X1)⟩⌝ ∗ St c arg1 arg2 arg3 arg4 arg5 arg6 arg7 arg8 arg9 arg10 arg11 arg12 arg13 arg14 X1 X2 X3 X4 X5 X6 (p5_fn g.val v349 v352 v354 (l371 g arg4 X4) A))) := by
  rw [k0_part5_eq_skeleton]; unfold k0_part5_skel
  iintro ⟨H1, H2, H3, H4, H5, H6, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩⟩
  sl_exec
  sl_step
  try rw [ld_eq16 (h := 64) (w := 128) (o := (256 * g.val + 64, 0)) h8 (off12_eq g 1)]
  try rw [ld_eq16 (h := 64) (w := 128) (o := (256 * g.val + 64, 0)) h9 (off12_eq g 1)]
  try rw [ld_eq16 (h := 64) (w := 128) (o := (256 * g.val + 64, 0)) h10 (off12_eq g 1)]
  try rw [ld_eq32 (h := 64) (w := 64) (o := (256 * g.val + 64, 64)) h11 (off21_eq g)]
  isplitr
  · ipureintro; rfl
  isplitl [H1]; · iexact H1
  isplitl [H2]; · iexact H2
  isplitl [H3]; · iexact H3
  isplitl [H4]; · iexact H4
  isplitl [H5]; · iexact H5
  isplitl [H6]; · iexact H6
  isplitl [H7]
  · iexists _; isplitr; swap; · iexact H7
    ipureintro; unfold p5_fn; exact h7
  isplitl [H8]
  · iexists _; isplitr; swap; · iexact H8
    ipureintro; unfold p5_fn; exact (st1_eq16 h8 (off12_eq g 1) _ _)
  isplitl [H9]
  · iexists _; isplitr; swap; · iexact H9
    ipureintro; unfold p5_fn; exact (st1_eq16 h9 (off12_eq g 1) _ _)
  isplitl [H10]
  · iexists _; isplitr; swap; · iexact H10
    ipureintro; unfold p5_fn; exact (st1_eq16 h10 (off12_eq g 1) _ _)
  isplitl [H11]
  · iexists _; isplitr; swap; · iexact H11
    ipureintro; unfold p5_fn; exact (st1_eq32 h11 (off21_eq g) _ _)
  isplitl [H12]
  · iexists _; isplitr; swap; · iexact H12
    ipureintro; unfold p5_fn; exact h12
  isplitl [H13]
  · iexists _; isplitr; swap; · iexact H13
    ipureintro; unfold p5_fn; exact h13
  iexists _; isplitr; swap; · iexact H14
  ipureintro; unfold p5_fn; exact h14

end Cert.KernelIdeal.Hand
-- ==== Proof.PartsB.lean ====
/-
  Parts of the kernel on the arrays.
-/
module

public import proofs.«01_k».proof.Proof.Gen.KernelIdeal.Skeleton
public import proofs.«01_k».proof.Proof.Closed
public import Idealize.ShloMosaic.Lib.Updates.Memory
public import Idealize.ShloMosaic.Lib.Updates.Loop
public import Idealize.ShloMosaic.Lib.Tactic
public import Idealize.ShloMosaic.Lib.Pointwise
public import proofs.«01_k».proof.Proof.Trips
@[expose] public section

set_option maxRecDepth 16384
set_option maxHeartbeats 400000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Updates
open Idealize.ShloMosaic.LaneScatter (Blk iter)

local notation "𝕄" => MT nD τ sig Unit (Elt Ideal) ℕ (UR sig nD τ) ℕ
variable (c : Dev nD) (i : grid0.Coords) (arg1 : Memref sig .tc .vmem S1x32x3x128x128 .bf16) (harg1 : arg1.IsWhole) (arg2 : Memref sig .tc .vmem S1x2048x128 .f32) (harg2 : arg2.IsWhole) (arg3 : Memref sig .tc .vmem S1x16x128x128 .bf16) (harg3 : arg3.IsWhole) (arg4 : Memref sig .tc .vmem S1x16x64x128 .f32) (harg4 : arg4.IsWhole) (arg5 : Memref sig .tc .vmem S2048x128 .bf16) (harg5 : arg5.IsWhole) (arg6 : Memref sig .tc .vmem S1x16x128 .f32) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S2048x256 .f32) (harg11 : arg11.IsWhole) (arg12 : Memref sig .tc .vmem S128x2048 .bf16) (harg12 : arg12.IsWhole) (arg13 : Memref sig .tc .vmem S2048x128 .f32) (harg13 : arg13.IsWhole) (arg14 : Memref sig .tc .vmem S16x128 .f32) (harg14 : arg14.IsWhole) (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty)

abbrev l278 (g : Fin k0_t1_loop.trips) (arg1 : Memref sig .tc .vmem S1x32x3x128x128 .bf16) (X1 : BufTy.Contents (Elt Ideal) arg1.view.ty) : Vec Ideal S1x1x1x128x128 .bf16 := View.readAt (Elt Ideal) arg1.view (Rect.unit (s := S1x32x3x128x128) (k0_off3 g 1#32) S1x1x1x128x128.size (k0_off3_inb g 1)).toLoadRect X1
abbrev l281 (g : Fin k0_t1_loop.trips) (arg1 : Memref sig .tc .vmem S1x32x3x128x128 .bf16) (X1 : BufTy.Contents (Elt Ideal) arg1.view.ty) : Vec Ideal S1x1x1x128x128 .bf16 := View.readAt (Elt Ideal) arg1.view (Rect.unit (s := S1x32x3x128x128) (k0_off4 g 1#32) S1x1x1x128x128.size (k0_off4_inb g 1)).toLoadRect X1
abbrev l284 (g : Fin k0_t1_loop.trips) (arg1 : Memref sig .tc .vmem S1x32x3x128x128 .bf16) (X1 : BufTy.Contents (Elt Ideal) arg1.view.ty) : Vec Ideal S1x1x1x128x128 .bf16 := View.readAt (Elt Ideal) arg1.view (Rect.unit (s := S1x32x3x128x128) (k0_off5 g 1#32) S1x1x1x128x128.size (k0_off5_inb g 1)).toLoadRect X1
abbrev l289 (g : Fin k0_t1_loop.trips) (arg3 : Memref sig .tc .vmem S1x16x128x128 .bf16) (X3 : BufTy.Contents (Elt Ideal) arg3.view.ty) : Vec Ideal S1x1x128x128 .bf16 := View.readAt (Elt Ideal) arg3.view (Rect.unit (s := S1x16x128x128) (k0_off6 g 0#32) S1x1x128x128.size (k0_off6_inb g 0)).toLoadRect X3

/-- Part 3 of the kernel on the arrays. -/
def p3_fn (g : ℕ) (v278 : Vec Ideal S1x1x1x128x128 .bf16) (v281 : Vec Ideal S1x1x1x128x128 .bf16) (v284 : Vec Ideal S1x1x1x128x128 .bf16) (v289 : Vec Ideal S1x1x128x128 .bf16) (A : Scr) : Scr :=
  let B := iter (fun t A => t4_fn g t v278 v281 v284 v289 A) g A
  B

theorem pre3_val {β : Type} (g : Fin k0_t1_loop.trips) (A : Scr) {R : β → sProp 𝕄} {k : Vec Ideal S1x1x1x128x128 .bf16 → Vec Ideal S1x1x1x128x128 .bf16 → Vec Ideal S1x1x1x128x128 .bf16 → Vec Ideal S1x1x128x128 .bf16 → Prog (TpuEff nD τ sig (Elt Ideal) Λ₀ .tc) β}
    (hk : St c arg1 arg2 arg3 arg4 arg5 arg6 arg7 arg8 arg9 arg10 arg11 arg12 arg13 arg14 X1 X2 X3 X4 X5 X6 A ⊢ wp frame (wpE (defs₀ (F := Ideal)) Variants.none (c : Thread nD τ) none) Set.univ (k (l278 g arg1 X1) (l281 g arg1 X1) (l284 g arg1 X1) (l289 g arg3 X3)) R) :
    St c arg1 arg2 arg3 arg4 arg5 arg6 arg7 arg8 arg9 arg10 arg11 arg12 arg13 arg14 X1 X2 X3 X4 X5 X6 A ⊢ wp frame (wpE (defs₀ (F := Ideal)) Variants.none (c : Thread nD τ) none) Set.univ (do
      let v278 : Vec Ideal S1x1x1x128x128 .bf16 ← Prog.lift (.load arg1 (Rect.unit (s := S1x32x3x128x128) (k0_off3 g 1#32) S1x1x1x128x128.size (k0_off3_inb g 1)).toLoadRect (View.loadsAt_vmem h_S1x1x1x128x128))
      let v281 : Vec Ideal S1x1x1x128x128 .bf16 ← Prog.lift (.load arg1 (Rect.unit (s := S1x32x3x128x128) (k0_off4 g 1#32) S1x1x1x128x128.size (k0_off4_inb g 1)).toLoadRect (View.loadsAt_vmem h_S1x1x1x128x128))
      let v284 : Vec Ideal S1x1x1x128x128 .bf16 ← Prog.lift (.load arg1 (Rect.unit (s := S1x32x3x128x128) (k0_off5 g 1#32) S1x1x1x128x128.size (k0_off5_inb g 1)).toLoadRect (View.loadsAt_vmem h_S1x1x1x128x128))
      let v289 : Vec Ideal S1x1x128x128 .bf16 ← Prog.lift (.load arg3 (Rect.unit (s := S1x16x128x128) (k0_off6 g 0#32) S1x1x128x128.size (k0_off6_inb g 0)).toLoadRect (View.loadsAt_vmem h_S1x1x128x128))
      k v278 v281 v284 v289) R := by
  iintro ⟨H1, H2, H3, H4, H5, H6, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩⟩
  sl_exec
  iapply hk
  isplitl [H1]; · iexact H1
  isplitl [H2]; · iexact H2
  isplitl [H3]; · iexact H3
  isplitl [H4]; · iexact H4
  isplitl [H5]; · iexact H5
  isplitl [H6]; · iexact H6
  isplitl [H7]
  · iexists _; isplitr; swap; · iexact H7
    ipureintro; exact h7
  isplitl [H8]
  · iexists _; isplitr; swap; · iexact H8
    ipureintro; exact h8
  isplitl [H9]
  · iexists _; isplitr; swap; · iexact H9
    ipureintro; exact h9
  isplitl [H10]
  · iexists _; isplitr; swap; · iexact H10
    ipureintro; exact h10
  isplitl [H11]
  · iexists _; isplitr; swap; · iexact H11
    ipureintro; exact h11
  isplitl [H12]
  · iexists _; isplitr; swap; · iexact H12
    ipureintro; exact h12
  isplitl [H13]
  · iexists _; isplitr; swap; · iexact H13
    ipureintro; exact h13
  iexists _; isplitr; swap; · iexact H14
  ipureintro; exact h14

theorem p3_val (g : Fin k0_t1_loop.trips) (arg15 : BitVec 32) (v203 : BitVec 32) (c4_i32_92 : BitVec 32) (A : Scr) :
    St c arg1 arg2 arg3 arg4 arg5 arg6 arg7 arg8 arg9 arg10 arg11 arg12 arg13 arg14 X1 X2 X3 X4 X5 X6 A ⊢ wp frame (wpE (defs₀ (F := Ideal)) Variants.none (c : Thread nD τ) none) Set.univ (k0_part3 (F := Ideal) i arg1 harg1 arg2 harg2 arg3 harg3 arg4 harg4 arg5 harg5 arg6 harg6 arg7 harg7 arg8 harg8 arg9 harg9 arg10 harg10 arg11 harg11 arg12 harg12 arg13 harg13 arg14 harg14 g arg15 v203 c4_i32_92) (fun a => iprop(⌜a = ⟨k0_pay36 (F := Ideal) (l278 g arg1 X1) (l281 g arg1 X1), k0_pay37 (F := Ideal) (l278 g arg1 X1) (l284 g arg1 X1) (l289 g arg3 X3), (ldv 64 128 (256 * g.val, 0) (iter (fun t A => t4_fn g.val t (l278 g arg1 X1) (l281 g arg1 X1) (l284 g arg1 X1) (l289 g arg3 X3) A) g.val A).a8), (ldv 64 128 (256 * g.val, 0) (iter (fun t A => t4_fn g.val t (l278 g arg1 X1) (l281 g arg1 X1) (l284 g arg1 X1) (l289 g arg3 X3) A) g.val A).a9)⟩⌝ ∗ St c arg1 arg2 arg3 arg4 arg5 arg6 arg7 arg8 arg9 arg10 arg11 arg12 arg13 arg14 X1 X2 X3 X4 X5 X6 (p3_fn g.val (l278 g arg1 X1) (l281 g arg1 X1) (l284 g arg1 X1) (l289 g arg3 X3) A))) := by
  rw [k0_part3_eq_skeleton]; unfold k0_part3_skel
  refine pre3_val (hk := ?_)
  refine loop_val (fun A _ => St c arg1 arg2 arg3 arg4 arg5 arg6 arg7 arg8 arg9 arg10 arg11 arg12 arg13 arg14 X1 X2 X3 X4 X5 X6 A) _ _ _ _ (fun t A => t4_fn g.val t (l278 g arg1 X1) (l281 g arg1 X1) (l284 g arg1 X1) (l289 g arg3 X3) A) (fun t A a => t4_val c i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 g t _ _ _ _ _ _ _ a A) A ?_
  intro a
  refine loop_skip _ _ _ _ (trips5 g) ?_
  rw [trips4 g]
  unfold p3_fn
  generalize iter (fun t A => t4_fn g.val t (l278 g arg1 X1) (l281 g arg1 X1) (l284 g arg1 X1) (l289 g arg3 X3) A) g.val A = B
  iintro ⟨H1, H2, H3, H4, H5, H6, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩⟩
  sl_exec
  sl_step
  try rw [ld_eq16 (h := 64) (w := 128) (o := (256 * g.val, 0)) h8 (off19_eq g)]
  try rw [ld_eq16 (h := 64) (w := 128) (o := (256 * g.val, 0)) h9 (off19_eq g)]
  isplitr
  · ipureintro; rfl
  isplitl [H1]; · iexact H1
  isplitl [H2]; · iexact H2
  isplitl [H3]; · iexact H3
  isplitl [H4]; · iexact H4
  isplitl [H5]; · iexact H5
  isplitl [H6]; · iexact H6
  isplitl [H7]
  · iexists _; isplitr; swap; · iexact H7
    ipureintro; exact h7
  isplitl [H8]
  · iexists _; isplitr; swap; · iexact H8
    ipureintro; exact h8
  isplitl [H9]
  · iexists _; isplitr; swap; · iexact H9
    ipureintro; exact h9
  isplitl [H10]
  · iexists _; isplitr; swap; · iexact H10
    ipureintro; exact h10
  isplitl [H11]
  · iexists _; isplitr; swap; · iexact H11
    ipureintro; exact h11
  isplitl [H12]
  · iexists _; isplitr; swap; · iexact H12
    ipureintro; exact h12
  isplitl [H13]
  · iexists _; isplitr; swap; · iexact H13
    ipureintro; exact h13
  iexists _; isplitr; swap; · iexact H14
  ipureintro; exact h14

/-- Part 9 of the kernel on the arrays. -/
def p9_fn (g : ℕ) (v498 : FVec Ideal S256x256 .bf16) (v502 : FVec Ideal S256x256 .bf16) (A : Scr) : Scr :=
  let B := iter (fun t A => t8_fn g t v498 v502 A) g A
  { B with a8 := (stv (h := 192) (w := 128) (256 * g, 0) (k0_pay140 (F := Ideal) v498 v502 (ldv 192 128 (256 * g, 0) B.a8) (ldv 192 128 (256 * g, 0) B.a9) (ldv 192 128 (256 * g, 0) B.a10)) B.a8), a9 := (stv (h := 192) (w := 128) (256 * g, 0) (k0_pay141 (F := Ideal) v498 v502 (ldv 192 128 (256 * g, 0) B.a8) (ldv 192 128 (256 * g, 0) B.a9) (ldv 192 128 (256 * g, 0) B.a10)) B.a9), a10 := (stv (h := 192) (w := 128) (256 * g, 0) (k0_pay142 (F := Ideal) v498 v502 (ldv 192 128 (256 * g, 0) B.a8) (ldv 192 128 (256 * g, 0) B.a9) (ldv 192 128 (256 * g, 0) B.a10)) B.a10), a11 := (stv (h := 192) (w := 64) (256 * g, 192) (k0_pay143 (F := Ideal) v502 (ldv 192 128 (256 * g, 0) B.a8) (ldv 192 128 (256 * g, 0) B.a10)) B.a11) }

theorem p9_val (g : Fin k0_t1_loop.trips) (v203 : BitVec 32) (v498 : FVec Ideal S256x256 .bf16) (v502 : FVec Ideal S256x256 .bf16) (c0_i32_201 : BitVec 32) (c0_i32_202 : BitVec 32) (v503 : BitVec 32) (c1_i32_203 : BitVec 32) (A : Scr) :
    St c arg1 arg2 arg3 arg4 arg5 arg6 arg7 arg8 arg9 arg10 arg11 arg12 arg13 arg14 X1 X2 X3 X4 X5 X6 A ⊢ wp frame (wpE (defs₀ (F := Ideal)) Variants.none (c : Thread nD τ) none) Set.univ (k0_part9 (F := Ideal) i arg1 harg1 arg2 harg2 arg3 harg3 arg4 harg4 arg5 harg5 arg6 harg6 arg7 harg7 arg8 harg8 arg9 harg9 arg10 harg10 arg11 harg11 arg12 harg12 arg13 harg13 arg14 harg14 g v203 v498 v502 c0_i32_201 c0_i32_202 v503 c1_i32_203) (fun a => iprop(⌜a = 192#32⌝ ∗ St c arg1 arg2 arg3 arg4 arg5 arg6 arg7 arg8 arg9 arg10 arg11 arg12 arg13 arg14 X1 X2 X3 X4 X5 X6 (p9_fn g.val v498 v502 A))) := by
  rw [k0_part9_eq_skeleton]; unfold k0_part9_skel
  refine loop_val (fun A _ => St c arg1 arg2 arg3 arg4 arg5 arg6 arg7 arg8 arg9 arg10 arg11 arg12 arg13 arg14 X1 X2 X3 X4 X5 X6 A) _ _ _ _ (fun t A => t8_fn g.val t v498 v502 A) (fun t A a => t8_val c i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 g t _ _ _ _ _ _ _ a A) A ?_
  intro a
  refine loop_skip _ _ _ _ (trips9 g) ?_
  rw [trips8 g]
  unfold p9_fn
  generalize iter (fun t A => t8_fn g.val t v498 v502 A) g.val A = B
  iintro ⟨H1, H2, H3, H4, H5, H6, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩⟩
  sl_exec
  sl_step
  try rw [ld_eq16 (h := 192) (w := 128) (o := (256 * g.val, 0)) h8 (off33_eq g)]
  try rw [ld_eq16 (h := 192) (w := 128) (o := (256 * g.val, 0)) h9 (off33_eq g)]
  try rw [ld_eq16 (h := 192) (w := 128) (o := (256 * g.val, 0)) h10 (off33_eq g)]
  try rw [ld_eq32 (h := 192) (w := 64) (o := (256 * g.val, 192)) h11 (off34_eq g)]
  isplitr
  · ipureintro; rfl
  isplitl [H1]; · iexact H1
  isplitl [H2]; · iexact H2
  isplitl [H3]; · iexact H3
  isplitl [H4]; · iexact H4
  isplitl [H5]; · iexact H5
  isplitl [H6]; · iexact H6
  isplitl [H7]
  · iexists _; isplitr; swap; · iexact H7
    ipureintro; exact h7
  isplitl [H8]
  · iexists _; isplitr; swap; · iexact H8
    ipureintro; exact (st1_eq16 h8 (off33_eq g) _ _)
  isplitl [H9]
  · iexists _; isplitr; swap; · iexact H9
    ipureintro; exact (st1_eq16 h9 (off33_eq g) _ _)
  isplitl [H10]
  · iexists _; isplitr; swap; · iexact H10
    ipureintro; exact (st1_eq16 h10 (off33_eq g) _ _)
  isplitl [H11]
  · iexists _; isplitr; swap; · iexact H11
    ipureintro; exact (st1_eq32 h11 (off34_eq g) _ _)
  isplitl [H12]
  · iexists _; isplitr; swap; · iexact H12
    ipureintro; exact h12
  isplitl [H13]
  · iexists _; isplitr; swap; · iexact H13
    ipureintro; exact h13
  iexists _; isplitr; swap; · iexact H14
  ipureintro; exact h14

abbrev l552 (g : Fin k0_t1_loop.trips) (arg2 : Memref sig .tc .vmem S1x2048x128 .f32) (X2 : BufTy.Contents (Elt Ideal) arg2.view.ty) : Vec Ideal S1x64x128 .f32 := View.readAt (Elt Ideal) arg2.view (Rect.unit (s := S1x2048x128) (k0_off11 g 192#32) S1x64x128.size (k0_off11_inb g 3)).toLoadRect X2
abbrev l576 (g : Fin k0_t1_loop.trips) (arg4 : Memref sig .tc .vmem S1x16x64x128 .f32) (X4 : BufTy.Contents (Elt Ideal) arg4.view.ty) : Vec Ideal S1x1x64x128 .f32 := View.readAt (Elt Ideal) arg4.view (Rect.unit (s := S1x16x64x128) (k0_off13 g 1#32) S1x1x64x128.size (k0_off13_inb g 1)).toLoadRect X4

/-- Part 10 of the kernel on the arrays. -/
def p10_fn (g : ℕ) (v552 : Vec Ideal S1x64x128 .f32) (v576 : Vec Ideal S1x1x64x128 .f32) (A : Scr) : Scr :=
  { A with a8 := (stv (h := 64) (w := 128) (256 * g + 192, 0) (k0_pay148 (F := Ideal) v552) A.a8), a9 := (stv (h := 64) (w := 128) (256 * g + 192, 0) (k0_pay149 (F := Ideal) v552) A.a9), a10 := (stv (h := 64) (w := 128) (256 * g + 192, 0) (k0_pay150 (F := Ideal) v552) A.a10), a11 := (stv (h := 64) (w := 64) (256 * g + 192, 192) (k0_pay151 (F := Ideal) v576) A.a11) }

theorem p10_val (g : Fin k0_t1_loop.trips) (arg15 : BitVec 32) (v203 : BitVec 32) (c192_i32 : BitVec 32) (A : Scr) :
    St c arg1 arg2 arg3 arg4 arg5 arg6 arg7 arg8 arg9 arg10 arg11 arg12 arg13 arg14 X1 X2 X3 X4 X5 X6 A ⊢ wp frame (wpE (defs₀ (F := Ideal)) Variants.none (c : Thread nD τ) none) Set.univ (k0_part10 (F := Ideal) i arg1 harg1 arg2 harg2 arg3 harg3 arg4 harg4 arg5 harg5 arg6 harg6 arg7 harg7 arg8 harg8 arg9 harg9 arg10 harg10 arg11 harg11 arg12 harg12 arg13 harg13 arg14 harg14 g arg15 v203 c192_i32) (fun a => iprop(⌜a = (ldv 1 128 (2 * g.val, 0) A.a14)⌝ ∗ St c arg1 arg2 arg3 arg4 arg5 arg6 arg7 arg8 arg9 arg10 arg11 arg12 arg13 arg14 X1 X2 X3 X4 X5 X6 (p10_fn g.val (l552 g arg2 X2) (l576 g arg4 X4) A))) := by
  rw [k0_part10_eq_skeleton]; unfold k0_part10_skel
  iintro ⟨H1, H2, H3, H4, H5, H6, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩⟩
  sl_exec
  sl_step
  try rw [ld_eq16 (h := 64) (w := 128) (o := (256 * g.val + 192, 0)) h8 (off12_eq g 3)]
  try rw [ld_eq16 (h := 64) (w := 128) (o := (256 * g.val + 192, 0)) h9 (off12_eq g 3)]
  try rw [ld_eq16 (h := 64) (w := 128) (o := (256 * g.val + 192, 0)) h10 (off12_eq g 3)]
  try rw [ld_eq32 (h := 64) (w := 64) (o := (256 * g.val + 192, 192)) h11 (off35_eq g)]
  try rw [ld_eq32 (h := 1) (w := 128) (o := (2 * g.val, 0)) h14 (off36_eq g)]
  isplitr
  · ipureintro; rfl
  isplitl [H1]; · iexact H1
  isplitl [H2]; · iexact H2
  isplitl [H3]; · iexact H3
  isplitl [H4]; · iexact H4
  isplitl [H5]; · iexact H5
  isplitl [H6]; · iexact H6
  isplitl [H7]
  · iexists _; isplitr; swap; · iexact H7
    ipureintro; unfold p10_fn; exact h7
  isplitl [H8]
  · iexists _; isplitr; swap; · iexact H8
    ipureintro; unfold p10_fn; exact (st1_eq16 h8 (off12_eq g 3) _ _)
  isplitl [H9]
  · iexists _; isplitr; swap; · iexact H9
    ipureintro; unfold p10_fn; exact (st1_eq16 h9 (off12_eq g 3) _ _)
  isplitl [H10]
  · iexists _; isplitr; swap; · iexact H10
    ipureintro; unfold p10_fn; exact (st1_eq16 h10 (off12_eq g 3) _ _)
  isplitl [H11]
  · iexists _; isplitr; swap; · iexact H11
    ipureintro; unfold p10_fn; exact (st1_eq32 h11 (off35_eq g) _ _)
  isplitl [H12]
  · iexists _; isplitr; swap; · iexact H12
    ipureintro; unfold p10_fn; exact h12
  isplitl [H13]
  · iexists _; isplitr; swap; · iexact H13
    ipureintro; unfold p10_fn; exact h13
  iexists _; isplitr; swap; · iexact H14
  ipureintro; unfold p10_fn; exact h14

end Cert.KernelIdeal.Hand
-- ==== Proof.PartsC.lean ====
/-
  Parts of the kernel on the arrays.
-/
module

public import proofs.«01_k».proof.Proof.Gen.KernelIdeal.Skeleton
public import proofs.«01_k».proof.Proof.Closed
public import Idealize.ShloMosaic.Lib.Updates.Memory
public import Idealize.ShloMosaic.Lib.Updates.Loop
public import Idealize.ShloMosaic.Lib.Tactic
public import Idealize.ShloMosaic.Lib.Pointwise
public import proofs.«01_k».proof.Proof.Trips
@[expose] public section

set_option maxRecDepth 16384
set_option maxHeartbeats 400000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Updates
open Idealize.ShloMosaic.LaneScatter (Blk iter)

local notation "𝕄" => MT nD τ sig Unit (Elt Ideal) ℕ (UR sig nD τ) ℕ
variable (c : Dev nD) (i : grid0.Coords) (arg1 : Memref sig .tc .vmem S1x32x3x128x128 .bf16) (harg1 : arg1.IsWhole) (arg2 : Memref sig .tc .vmem S1x2048x128 .f32) (harg2 : arg2.IsWhole) (arg3 : Memref sig .tc .vmem S1x16x128x128 .bf16) (harg3 : arg3.IsWhole) (arg4 : Memref sig .tc .vmem S1x16x64x128 .f32) (harg4 : arg4.IsWhole) (arg5 : Memref sig .tc .vmem S2048x128 .bf16) (harg5 : arg5.IsWhole) (arg6 : Memref sig .tc .vmem S1x16x128 .f32) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S2048x256 .f32) (harg11 : arg11.IsWhole) (arg12 : Memref sig .tc .vmem S128x2048 .bf16) (harg12 : arg12.IsWhole) (arg13 : Memref sig .tc .vmem S2048x128 .f32) (harg13 : arg13.IsWhole) (arg14 : Memref sig .tc .vmem S16x128 .f32) (harg14 : arg14.IsWhole) (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty)

abbrev l392 (g : Fin k0_t1_loop.trips) (arg3 : Memref sig .tc .vmem S1x16x128x128 .bf16) (X3 : BufTy.Contents (Elt Ideal) arg3.view.ty) : Vec Ideal S1x1x128x128 .bf16 := View.readAt (Elt Ideal) arg3.view (Rect.unit (s := S1x16x128x128) (k0_off6 g 1#32) S1x1x128x128.size (k0_off6_inb g 1)).toLoadRect X3

/-- Part 6 of the kernel on the arrays. -/
def p6_fn (g : ℕ) (v382 : FVec Ideal S128x128 .bf16) (v385 : FVec Ideal S128x128 .bf16) (v387 : Vec Ideal S1x1x1x128x128 .bf16) (v392 : Vec Ideal S1x1x128x128 .bf16) (A : Scr) : Scr :=
  let B := iter (fun t A => t6_fn g t v382 v385 v387 v392 A) g A
  B

theorem pre6_val {β : Type} (g : Fin k0_t1_loop.trips) (A : Scr) {R : β → sProp 𝕄} {k : Vec Ideal S1x1x128x128 .bf16 → Prog (TpuEff nD τ sig (Elt Ideal) Λ₀ .tc) β}
    (hk : St c arg1 arg2 arg3 arg4 arg5 arg6 arg7 arg8 arg9 arg10 arg11 arg12 arg13 arg14 X1 X2 X3 X4 X5 X6 A ⊢ wp frame (wpE (defs₀ (F := Ideal)) Variants.none (c : Thread nD τ) none) Set.univ (k (l392 g arg3 X3)) R) :
    St c arg1 arg2 arg3 arg4 arg5 arg6 arg7 arg8 arg9 arg10 arg11 arg12 arg13 arg14 X1 X2 X3 X4 X5 X6 A ⊢ wp frame (wpE (defs₀ (F := Ideal)) Variants.none (c : Thread nD τ) none) Set.univ (do
      let v392 : Vec Ideal S1x1x128x128 .bf16 ← Prog.lift (.load arg3 (Rect.unit (s := S1x16x128x128) (k0_off6 g 1#32) S1x1x128x128.size (k0_off6_inb g 1)).toLoadRect (View.loadsAt_vmem h_S1x1x128x128))
      k v392) R := by
  iintro ⟨H1, H2, H3, H4, H5, H6, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩⟩
  sl_exec
  iapply hk
  isplitl [H1]; · iexact H1
  isplitl [H2]; · iexact H2
  isplitl [H3]; · iexact H3
  isplitl [H4]; · iexact H4
  isplitl [H5]; · iexact H5
  isplitl [H6]; · iexact H6
  isplitl [H7]
  · iexists _; isplitr; swap; · iexact H7
    ipureintro; exact h7
  isplitl [H8]
  · iexists _; isplitr; swap; · iexact H8
    ipureintro; exact h8
  isplitl [H9]
  · iexists _; isplitr; swap; · iexact H9
    ipureintro; exact h9
  isplitl [H10]
  · iexists _; isplitr; swap; · iexact H10
    ipureintro; exact h10
  isplitl [H11]
  · iexists _; isplitr; swap; · iexact H11
    ipureintro; exact h11
  isplitl [H12]
  · iexists _; isplitr; swap; · iexact H12
    ipureintro; exact h12
  isplitl [H13]
  · iexists _; isplitr; swap; · iexact H13
    ipureintro; exact h13
  iexists _; isplitr; swap; · iexact H14
  ipureintro; exact h14

theorem p6_val (g : Fin k0_t1_loop.trips) (arg15 : BitVec 32) (v203 : BitVec 32) (v382 : FVec Ideal S128x128 .bf16) (v385 : FVec Ideal S128x128 .bf16) (v387 : Vec Ideal S1x1x1x128x128 .bf16) (A : Scr) :
    St c arg1 arg2 arg3 arg4 arg5 arg6 arg7 arg8 arg9 arg10 arg11 arg12 arg13 arg14 X1 X2 X3 X4 X5 X6 A ⊢ wp frame (wpE (defs₀ (F := Ideal)) Variants.none (c : Thread nD τ) none) Set.univ (k0_part6 (F := Ideal) i arg1 harg1 arg2 harg2 arg3 harg3 arg4 harg4 arg5 harg5 arg6 harg6 arg7 harg7 arg8 harg8 arg9 harg9 arg10 harg10 arg11 harg11 arg12 harg12 arg13 harg13 arg14 harg14 g arg15 v203 v382 v385 v387) (fun a => iprop(⌜a = ⟨k0_pay96 (F := Ideal) v382 v387 (l392 g arg3 X3) (ldv 128 128 (256 * g.val, 0) (iter (fun t A => t6_fn g.val t v382 v385 v387 (l392 g arg3 X3) A) g.val A).a8) (ldv 128 128 (256 * g.val, 0) (iter (fun t A => t6_fn g.val t v382 v385 v387 (l392 g arg3 X3) A) g.val A).a10), k0_pay98 (F := Ideal) v382 v385 v387 (l392 g arg3 X3) (ldv 128 128 (256 * g.val, 0) (iter (fun t A => t6_fn g.val t v382 v385 v387 (l392 g arg3 X3) A) g.val A).a8) (ldv 128 128 (256 * g.val, 0) (iter (fun t A => t6_fn g.val t v382 v385 v387 (l392 g arg3 X3) A) g.val A).a9) (ldv 128 128 (256 * g.val, 0) (iter (fun t A => t6_fn g.val t v382 v385 v387 (l392 g arg3 X3) A) g.val A).a10), k0_pay100 (F := Ideal) v382 v385 v387 (l392 g arg3 X3) (ldv 128 128 (256 * g.val, 0) (iter (fun t A => t6_fn g.val t v382 v385 v387 (l392 g arg3 X3) A) g.val A).a8) (ldv 128 128 (256 * g.val, 0) (iter (fun t A => t6_fn g.val t v382 v385 v387 (l392 g arg3 X3) A) g.val A).a9) (ldv 128 128 (256 * g.val, 0) (iter (fun t A => t6_fn g.val t v382 v385 v387 (l392 g arg3 X3) A) g.val A).a10), k0_pay101 (F := Ideal) v382 v385 v387 (l392 g arg3 X3) (ldv 128 128 (256 * g.val, 0) (iter (fun t A => t6_fn g.val t v382 v385 v387 (l392 g arg3 X3) A) g.val A).a8) (ldv 128 128 (256 * g.val, 0) (iter (fun t A => t6_fn g.val t v382 v385 v387 (l392 g arg3 X3) A) g.val A).a9) (ldv 128 128 (256 * g.val, 0) (iter (fun t A => t6_fn g.val t v382 v385 v387 (l392 g arg3 X3) A) g.val A).a10)⟩⌝ ∗ St c arg1 arg2 arg3 arg4 arg5 arg6 arg7 arg8 arg9 arg10 arg11 arg12 arg13 arg14 X1 X2 X3 X4 X5 X6 (p6_fn g.val v382 v385 v387 (l392 g arg3 X3) A))) := by
  rw [k0_part6_eq_skeleton]; unfold k0_part6_skel
  refine pre6_val (hk := ?_)
  refine loop_val (fun A _ => St c arg1 arg2 arg3 arg4 arg5 arg6 arg7 arg8 arg9 arg10 arg11 arg12 arg13 arg14 X1 X2 X3 X4 X5 X6 A) _ _ _ _ (fun t A => t6_fn g.val t v382 v385 v387 (l392 g arg3 X3) A) (fun t A a => t6_val c i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 g t _ _ _ _ _ _ a A) A ?_
  intro a
  refine loop_skip _ _ _ _ (trips7 g) ?_
  rw [trips6 g]
  unfold p6_fn
  generalize iter (fun t A => t6_fn g.val t v382 v385 v387 (l392 g arg3 X3) A) g.val A = B
  iintro ⟨H1, H2, H3, H4, H5, H6, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩⟩
  sl_exec
  sl_step
  try rw [ld_eq16 (h := 128) (w := 128) (o := (256 * g.val, 0)) h8 (off26_eq g)]
  try rw [ld_eq16 (h := 128) (w := 128) (o := (256 * g.val, 0)) h9 (off26_eq g)]
  try rw [ld_eq16 (h := 128) (w := 128) (o := (256 * g.val, 0)) h10 (off26_eq g)]
  isplitr
  · ipureintro; rfl
  isplitl [H1]; · iexact H1
  isplitl [H2]; · iexact H2
  isplitl [H3]; · iexact H3
  isplitl [H4]; · iexact H4
  isplitl [H5]; · iexact H5
  isplitl [H6]; · iexact H6
  isplitl [H7]
  · iexists _; isplitr; swap; · iexact H7
    ipureintro; exact h7
  isplitl [H8]
  · iexists _; isplitr; swap; · iexact H8
    ipureintro; exact h8
  isplitl [H9]
  · iexists _; isplitr; swap; · iexact H9
    ipureintro; exact h9
  isplitl [H10]
  · iexists _; isplitr; swap; · iexact H10
    ipureintro; exact h10
  isplitl [H11]
  · iexists _; isplitr; swap; · iexact H11
    ipureintro; exact h11
  isplitl [H12]
  · iexists _; isplitr; swap; · iexact H12
    ipureintro; exact h12
  isplitl [H13]
  · iexists _; isplitr; swap; · iexact H13
    ipureintro; exact h13
  iexists _; isplitr; swap; · iexact H14
  ipureintro; exact h14

abbrev l450 (g : Fin k0_t1_loop.trips) (arg2 : Memref sig .tc .vmem S1x2048x128 .f32) (X2 : BufTy.Contents (Elt Ideal) arg2.view.ty) : Vec Ideal S1x64x128 .f32 := View.readAt (Elt Ideal) arg2.view (Rect.unit (s := S1x2048x128) (k0_off11 g 128#32) S1x64x128.size (k0_off11_inb g 2)).toLoadRect X2

/-- Part 7 of the kernel on the arrays. -/
def p7_fn (g : ℕ) (v417 : FVec Ideal S128x256 .f32) (v423 : FVec Ideal S128x128 .bf16) (v426 : FVec Ideal S128x128 .bf16) (v429 : FVec Ideal S128x128 .bf16) (v450 : Vec Ideal S1x64x128 .f32) (A : Scr) : Scr :=
  { A with a8 := (stv (h := 64) (w := 128) (256 * g + 128, 0) (k0_pay110 (F := Ideal) v450) (stv (h := 128) (w := 128) (256 * g, 0) (k0_pay102 (F := Ideal) v423) A.a8)), a9 := (stv (h := 64) (w := 128) (256 * g + 128, 0) (k0_pay111 (F := Ideal) v450) (stv (h := 128) (w := 128) (256 * g, 0) (k0_pay103 (F := Ideal) v426) A.a9)), a10 := (stv (h := 64) (w := 128) (256 * g + 128, 0) (k0_pay112 (F := Ideal) v450) (stv (h := 128) (w := 128) (256 * g, 0) (k0_pay104 (F := Ideal) v429) A.a10)), a11 := (stv (h := 128) (w := 128) (256 * g, 128) (k0_pay105 (F := Ideal) v417) A.a11) }

theorem p7_val (g : Fin k0_t1_loop.trips) (arg15 : BitVec 32) (v203 : BitVec 32) (v417 : FVec Ideal S128x256 .f32) (v423 : FVec Ideal S128x128 .bf16) (v426 : FVec Ideal S128x128 .bf16) (v429 : FVec Ideal S128x128 .bf16) (A : Scr) :
    St c arg1 arg2 arg3 arg4 arg5 arg6 arg7 arg8 arg9 arg10 arg11 arg12 arg13 arg14 X1 X2 X3 X4 X5 X6 A ⊢ wp frame (wpE (defs₀ (F := Ideal)) Variants.none (c : Thread nD τ) none) Set.univ (k0_part7 (F := Ideal) i arg1 harg1 arg2 harg2 arg3 harg3 arg4 harg4 arg5 harg5 arg6 harg6 arg7 harg7 arg8 harg8 arg9 harg9 arg10 harg10 arg11 harg11 arg12 harg12 arg13 harg13 arg14 harg14 g arg15 v203 v417 v423 v426 v429) (fun a => iprop(⌜a = ⟨((Scalar.addi v203 128#32)), (Scalar.addi (Scalar.muli arg15 2#32) 1#32)⟩⌝ ∗ St c arg1 arg2 arg3 arg4 arg5 arg6 arg7 arg8 arg9 arg10 arg11 arg12 arg13 arg14 X1 X2 X3 X4 X5 X6 (p7_fn g.val v417 v423 v426 v429 (l450 g arg2 X2) A))) := by
  rw [k0_part7_eq_skeleton]; unfold k0_part7_skel
  iintro ⟨H1, H2, H3, H4, H5, H6, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩⟩
  sl_exec
  sl_step
  try rw [ld_eq16 (h := 128) (w := 128) (o := (256 * g.val, 0)) h8 (off26_eq g)]
  try rw [ld_eq16 (h := 128) (w := 128) (o := (256 * g.val, 0)) h9 (off26_eq g)]
  try rw [ld_eq16 (h := 128) (w := 128) (o := (256 * g.val, 0)) h10 (off26_eq g)]
  try rw [ld_eq32 (h := 128) (w := 128) (o := (256 * g.val, 128)) h11 (off27_eq g)]
  isplitr
  · ipureintro; rfl
  isplitl [H1]; · iexact H1
  isplitl [H2]; · iexact H2
  isplitl [H3]; · iexact H3
  isplitl [H4]; · iexact H4
  isplitl [H5]; · iexact H5
  isplitl [H6]; · iexact H6
  isplitl [H7]
  · iexists _; isplitr; swap; · iexact H7
    ipureintro; unfold p7_fn; exact h7
  isplitl [H8]
  · iexists _; isplitr; swap; · iexact H8
    ipureintro; unfold p7_fn; exact (st_eq16 (st1_eq16 h8 (off26_eq g) _ _) (off12_eq g 2) _ _)
  isplitl [H9]
  · iexists _; isplitr; swap; · iexact H9
    ipureintro; unfold p7_fn; exact (st_eq16 (st1_eq16 h9 (off26_eq g) _ _) (off12_eq g 2) _ _)
  isplitl [H10]
  · iexists _; isplitr; swap; · iexact H10
    ipureintro; unfold p7_fn; exact (st_eq16 (st1_eq16 h10 (off26_eq g) _ _) (off12_eq g 2) _ _)
  isplitl [H11]
  · iexists _; isplitr; swap; · iexact H11
    ipureintro; unfold p7_fn; exact (st1_eq32 h11 (off27_eq g) _ _)
  isplitl [H12]
  · iexists _; isplitr; swap; · iexact H12
    ipureintro; unfold p7_fn; exact h12
  isplitl [H13]
  · iexists _; isplitr; swap; · iexact H13
    ipureintro; unfold p7_fn; exact h13
  iexists _; isplitr; swap; · iexact H14
  ipureintro; unfold p7_fn; exact h14

abbrev l474 (g : Fin k0_t1_loop.trips) (arg4 : Memref sig .tc .vmem S1x16x64x128 .f32) (X4 : BufTy.Contents (Elt Ideal) arg4.view.ty) : Vec Ideal S1x1x64x128 .f32 := View.readAt (Elt Ideal) arg4.view (Rect.unit (s := S1x16x64x128) (k0_off13 g 1#32) S1x1x64x128.size (k0_off13_inb g 1)).toLoadRect X4
abbrev l483 (g : Fin k0_t1_loop.trips) (arg1 : Memref sig .tc .vmem S1x32x3x128x128 .bf16) (X1 : BufTy.Contents (Elt Ideal) arg1.view.ty) : Vec Ideal S1x1x1x128x128 .bf16 := View.readAt (Elt Ideal) arg1.view (Rect.unit (s := S1x32x3x128x128) (k0_off3 g 3#32) S1x1x1x128x128.size (k0_off3_inb g 3)).toLoadRect X1
abbrev l486 (g : Fin k0_t1_loop.trips) (arg1 : Memref sig .tc .vmem S1x32x3x128x128 .bf16) (X1 : BufTy.Contents (Elt Ideal) arg1.view.ty) : Vec Ideal S1x1x1x128x128 .bf16 := View.readAt (Elt Ideal) arg1.view (Rect.unit (s := S1x32x3x128x128) (k0_off4 g 3#32) S1x1x1x128x128.size (k0_off4_inb g 3)).toLoadRect X1
abbrev l489 (g : Fin k0_t1_loop.trips) (arg1 : Memref sig .tc .vmem S1x32x3x128x128 .bf16) (X1 : BufTy.Contents (Elt Ideal) arg1.view.ty) : Vec Ideal S1x1x1x128x128 .bf16 := View.readAt (Elt Ideal) arg1.view (Rect.unit (s := S1x32x3x128x128) (k0_off5 g 3#32) S1x1x1x128x128.size (k0_off5_inb g 3)).toLoadRect X1
abbrev l494 (g : Fin k0_t1_loop.trips) (arg3 : Memref sig .tc .vmem S1x16x128x128 .bf16) (X3 : BufTy.Contents (Elt Ideal) arg3.view.ty) : Vec Ideal S1x1x128x128 .bf16 := View.readAt (Elt Ideal) arg3.view (Rect.unit (s := S1x16x128x128) (k0_off6 g 1#32) S1x1x128x128.size (k0_off6_inb g 1)).toLoadRect X3

/-- Part 8 of the kernel on the arrays. -/
def p8_fn (g : ℕ) (v474 : Vec Ideal S1x1x64x128 .f32) (A : Scr) : Scr :=
  { A with a11 := (stv (h := 64) (w := 128) (256 * g + 128, 128) (k0_pay113 (F := Ideal) v474) A.a11) }

theorem p8_val (g : Fin k0_t1_loop.trips) (arg15 : BitVec 32) (v448 : BitVec 32) (v472 : BitVec 32) (A : Scr) :
    St c arg1 arg2 arg3 arg4 arg5 arg6 arg7 arg8 arg9 arg10 arg11 arg12 arg13 arg14 X1 X2 X3 X4 X5 X6 A ⊢ wp frame (wpE (defs₀ (F := Ideal)) Variants.none (c : Thread nD τ) none) Set.univ (k0_part8 (F := Ideal) i arg1 harg1 arg2 harg2 arg3 harg3 arg4 harg4 arg5 harg5 arg6 harg6 arg7 harg7 arg8 harg8 arg9 harg9 arg10 harg10 arg11 harg11 arg12 harg12 arg13 harg13 arg14 harg14 g arg15 v448 v472) (fun a => iprop(⌜a = ⟨k0_pay115 (F := Ideal) (l483 g arg1 X1) (l486 g arg1 X1), k0_pay116 (F := Ideal) (l483 g arg1 X1) (l489 g arg1 X1) (l494 g arg3 X3), 0#32, 0#32, (Scalar.subi arg15 0#32), 1#32⟩⌝ ∗ St c arg1 arg2 arg3 arg4 arg5 arg6 arg7 arg8 arg9 arg10 arg11 arg12 arg13 arg14 X1 X2 X3 X4 X5 X6 (p8_fn g.val (l474 g arg4 X4) A))) := by
  rw [k0_part8_eq_skeleton]; unfold k0_part8_skel
  iintro ⟨H1, H2, H3, H4, H5, H6, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩⟩
  sl_exec
  sl_step
  try rw [ld_eq32 (h := 64) (w := 128) (o := (256 * g.val + 128, 128)) h11 (off28_eq g)]
  isplitr
  · ipureintro; rfl
  isplitl [H1]; · iexact H1
  isplitl [H2]; · iexact H2
  isplitl [H3]; · iexact H3
  isplitl [H4]; · iexact H4
  isplitl [H5]; · iexact H5
  isplitl [H6]; · iexact H6
  isplitl [H7]
  · iexists _; isplitr; swap; · iexact H7
    ipureintro; unfold p8_fn; exact h7
  isplitl [H8]
  · iexists _; isplitr; swap; · iexact H8
    ipureintro; unfold p8_fn; exact h8
  isplitl [H9]
  · iexists _; isplitr; swap; · iexact H9
    ipureintro; unfold p8_fn; exact h9
  isplitl [H10]
  · iexists _; isplitr; swap; · iexact H10
    ipureintro; unfold p8_fn; exact h10
  isplitl [H11]
  · iexists _; isplitr; swap; · iexact H11
    ipureintro; unfold p8_fn; exact (st1_eq32 h11 (off28_eq g) _ _)
  isplitl [H12]
  · iexists _; isplitr; swap; · iexact H12
    ipureintro; unfold p8_fn; exact h12
  isplitl [H13]
  · iexists _; isplitr; swap; · iexact H13
    ipureintro; unfold p8_fn; exact h13
  iexists _; isplitr; swap; · iexact H14
  ipureintro; unfold p8_fn; exact h14

end Cert.KernelIdeal.Hand
-- ==== Proof.PartsE.lean ====
/-
  The last part of a trip on the arrays.
-/
module

public import proofs.«01_k».proof.Proof.Gen.KernelIdeal.Skeleton
public import proofs.«01_k».proof.Proof.Closed
public import Idealize.ShloMosaic.Lib.Updates.Memory
public import Idealize.ShloMosaic.Lib.Updates.Loop
public import Idealize.ShloMosaic.Lib.Tactic
public import Idealize.ShloMosaic.Lib.Pointwise
public import proofs.«01_k».proof.Proof.Trips
@[expose] public section

set_option maxRecDepth 16384
set_option maxHeartbeats 400000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Updates
open Idealize.ShloMosaic.LaneScatter (Blk iter)

local notation "𝕄" => MT nD τ sig Unit (Elt Ideal) ℕ (UR sig nD τ) ℕ
variable (c : Dev nD) (i : grid0.Coords) (arg1 : Memref sig .tc .vmem S1x32x3x128x128 .bf16) (harg1 : arg1.IsWhole) (arg2 : Memref sig .tc .vmem S1x2048x128 .f32) (harg2 : arg2.IsWhole) (arg3 : Memref sig .tc .vmem S1x16x128x128 .bf16) (harg3 : arg3.IsWhole) (arg4 : Memref sig .tc .vmem S1x16x64x128 .f32) (harg4 : arg4.IsWhole) (arg5 : Memref sig .tc .vmem S2048x128 .bf16) (harg5 : arg5.IsWhole) (arg6 : Memref sig .tc .vmem S1x16x128 .f32) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S2048x256 .f32) (harg11 : arg11.IsWhole) (arg12 : Memref sig .tc .vmem S128x2048 .bf16) (harg12 : arg12.IsWhole) (arg13 : Memref sig .tc .vmem S2048x128 .f32) (harg13 : arg13.IsWhole) (arg14 : Memref sig .tc .vmem S16x128 .f32) (harg14 : arg14.IsWhole) (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty)

/-- A loop that carries a value next to the state. -/
theorem loop_acc {X σ β : Type} {c : Dev nD} (P : X → sProp 𝕄) {R : β → sProp 𝕄} (l : Scf.Loop 32) (ok : l.OK)
    (body : Fin l.trips → σ → Prog (TpuEff nD τ sig (Elt Ideal) Λ₀ .tc) σ) (step : ℕ → X × σ → X × σ)
    {k : σ → Prog (TpuEff nD τ sig (Elt Ideal) Λ₀ .tc) β}
    (hstep : ∀ (t : Fin l.trips) (x : X × σ), P x.1 ⊢ wp frame (wpE (defs₀ (F := Ideal)) Variants.none (c : Thread nD τ) none) Set.univ (body t x.2) (fun a => iprop(⌜a = (step t.val x).2⌝ ∗ P (step t.val x).1)))
    (x : X × σ) (hk : P (iter step l.trips x).1 ⊢ wp frame (wpE (defs₀ (F := Ideal)) Variants.none (c : Thread nD τ) none) Set.univ (k (iter step l.trips x).2) R) :
    P x.1 ⊢ wp frame (wpE (defs₀ (F := Ideal)) Variants.none (c : Thread nD τ) none) Set.univ (Scf.Loop.for l ok x.2 body >>= k) R := by
  have h := loop_val (c := c) (fun (x : X × σ) a => iprop(⌜a = x.2⌝ ∗ P x.1)) (R := R) l ok x.2 body step
    (fun t x a => by
      iintro ⟨%ha, H⟩
      subst ha
      iapply (hstep t x); iexact H) x (k := k)
    (fun a => by
      iintro ⟨%ha, H⟩
      subst ha
      iapply hk; iexact H)
  iintro H
  iapply h
  isplitr
  · ipureintro; rfl
  · iexact H

theorem iter_unit {σ : Type} (f : ℕ → σ → σ) (n : ℕ) (x : σ) :
    iter (fun t (x : Unit × σ) => ((), f t x.2)) n ((), x) = ((), iter f n x) := by
  induction n with
  | zero => rfl
  | succ n ih => show ((), f n (iter (fun t (x : Unit × σ) => ((), f t x.2)) n ((), x)).2) = _; rw [ih]; rfl

def p11a_fn (g : ℕ) (A : Scr) : Scr := { A with a11 := (stv (h := 256) (w := 256) (256 * g, 0) (k0_pay153 (F := Ideal) (ldv 256 128 (256 * g, 0) A.a13) (ldv 256 256 (256 * g, 0) A.a11)) A.a11) }

def t10_step (g t : ℕ) (x : Scr × FVec Ideal S8x256 .f32) : Scr × FVec Ideal S8x256 .f32 :=
  (t10_fn g t x.1, k0_pay157 (F := Ideal) x.2 (ldv 256 128 (256 * t, 0) x.1.a13) (ldv 256 256 (256 * t, 0) x.1.a11))

/-- Part 11 on the arrays: the masked scores and their largest entries. -/
def p11_x (g : ℕ) (A : Scr) : Scr × FVec Ideal S8x256 .f32 :=
  iter (t10_step g) g (p11a_fn g A, k0_pay154 (F := Ideal) (ldv 256 128 (256 * g, 0) A.a13) (ldv 256 256 (256 * g, 0) A.a11))

def t12_step (v585 v589 : FVec Ideal S1x128 .f32) (v616 : FVec Ideal S8x256 .f32) (A : Scr) (t : ℕ) (x : FVec Ideal S8x256 .f32 × FVec Ideal S128x256 .f32) :
    FVec Ideal S8x256 .f32 × FVec Ideal S128x256 .f32 :=
  (k0_pay165 (F := Ideal) v585 v589 v616 x.1 (ldv 256 256 (256 * t, 0) A.a11), k0_pay166 (F := Ideal) v585 v589 v616 x.2 (ldv 256 256 (256 * t, 0) A.a11) (ldv 128 256 (0, 256 * t) A.a12))

/-- Part 11 on the arrays: the sums of the powers and the weighted values. -/
def p11_y (g : ℕ) (v585 : FVec Ideal S1x128 .f32) (A : Scr) : FVec Ideal S8x256 .f32 × FVec Ideal S128x256 .f32 :=
  iter (t12_step v585 (ldv 1 128 (2 * g + 1, 0) A.a14) (p11_x g A).2 (p11_x g A).1) (g + 1) (k0_pay162 (F := Ideal), k0_pay163 (F := Ideal))

theorem pre11_val {β : Type} (g : Fin k0_t1_loop.trips) (A : Scr) {R : β → sProp 𝕄} {k : Vec Ideal S1x128 .f32 → Vec Ideal S256x128 .f32 → Vec Ideal S256x256 .f32 → Prog (TpuEff nD τ sig (Elt Ideal) Λ₀ .tc) β}
    (hk : St c arg1 arg2 arg3 arg4 arg5 arg6 arg7 arg8 arg9 arg10 arg11 arg12 arg13 arg14 X1 X2 X3 X4 X5 X6 (p11a_fn g.val A) ⊢ wp frame (wpE (defs₀ (F := Ideal)) Variants.none (c : Thread nD τ) none) Set.univ (k (ldv 1 128 (2 * g.val + 1, 0) A.a14) (ldv 256 128 (256 * g.val, 0) A.a13) (ldv 256 256 (256 * g.val, 0) A.a11)) R) :
    St c arg1 arg2 arg3 arg4 arg5 arg6 arg7 arg8 arg9 arg10 arg11 arg12 arg13 arg14 X1 X2 X3 X4 X5 X6 A ⊢ wp frame (wpE (defs₀ (F := Ideal)) Variants.none (c : Thread nD τ) none) Set.univ (do
      let v589 : Vec Ideal S1x128 .f32 ← Prog.lift (.load arg14 (Rect.unit (s := S16x128) (k0_off37 g) S1x128.size (k0_off37_inb g)).toLoadRect (View.loadsAt_vmem h_S1x128))
      let v595 : Vec Ideal S256x128 .f32 ← Prog.lift (.load arg13 (Rect.unit (s := S2048x128) (k0_off1 g) S256x128.size (k0_off1_inb g)).toLoadRect (View.loadsAt_vmem h_S256x128))
      let v597 : Vec Ideal S256x256 .f32 ← Prog.lift (.load arg11 (Rect.unit (s := S2048x256) (k0_off38 g) S256x256.size (k0_off38_inb g)).toLoadRect (View.loadsAt_vmem h_S256x256))
      let v605 : Vec Ideal S256x256 .f32 ← Prog.lift (.load arg11 (Rect.unit (s := S2048x256) (k0_off38 g) S256x256.size (k0_off38_inb g)).toLoadRect (View.loadsAt_vmem h_S256x256))
      Prog.lift (.store arg11 (Rect.unit (s := S2048x256) (k0_off38 g) S256x256.size (k0_off38_inb g)) (k0_pay153 (F := Ideal) v595 v597) Finset.univ (View.stores_vmem_bits_univ h_S256x256 rfl) (.inl rfl))
      k v589 v595 v597) R := by
  iintro ⟨H1, H2, H3, H4, H5, H6, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩⟩
  sl_exec
  try rw [ld_eq32 (h := 1) (w := 128) (o := (2 * g.val + 1, 0)) h14 (off37_eq g)]
  try rw [ld_eq32 (h := 256) (w := 128) (o := (256 * g.val, 0)) h13 (off1_eq g)]
  try rw [ld_eq32 (h := 256) (w := 256) (o := (256 * g.val, 0)) h11 (off38_eq g)]
  iapply hk
  isplitl [H1]; · iexact H1
  isplitl [H2]; · iexact H2
  isplitl [H3]; · iexact H3
  isplitl [H4]; · iexact H4
  isplitl [H5]; · iexact H5
  isplitl [H6]; · iexact H6
  isplitl [H7]
  · iexists _; isplitr; swap; · iexact H7
    ipureintro; unfold p11a_fn; exact h7
  isplitl [H8]
  · iexists _; isplitr; swap; · iexact H8
    ipureintro; unfold p11a_fn; exact h8
  isplitl [H9]
  · iexists _; isplitr; swap; · iexact H9
    ipureintro; unfold p11a_fn; exact h9
  isplitl [H10]
  · iexists _; isplitr; swap; · iexact H10
    ipureintro; unfold p11a_fn; exact h10
  isplitl [H11]
  · iexists _; isplitr; swap; · iexact H11
    ipureintro; unfold p11a_fn; exact (st1_eq32 h11 (off38_eq g) _ _)
  isplitl [H12]
  · iexists _; isplitr; swap; · iexact H12
    ipureintro; unfold p11a_fn; exact h12
  isplitl [H13]
  · iexists _; isplitr; swap; · iexact H13
    ipureintro; unfold p11a_fn; exact h13
  iexists _; isplitr; swap; · iexact H14
  ipureintro; unfold p11a_fn; exact h14

set_option maxRecDepth 65536 in
theorem p11_val (g : Fin k0_t1_loop.trips) (arg15 : BitVec 32) (v203 : BitVec 32) (v585 : Vec Ideal S1x128 .f32) (A : Scr) :
    St c arg1 arg2 arg3 arg4 arg5 arg6 arg7 arg8 arg9 arg10 arg11 arg12 arg13 arg14 X1 X2 X3 X4 X5 X6 A ⊢ wp frame (wpE (defs₀ (F := Ideal)) Variants.none (c : Thread nD τ) none) Set.univ (k0_part11 (F := Ideal) i arg1 harg1 arg2 harg2 arg3 harg3 arg4 harg4 arg5 harg5 arg6 harg6 arg7 harg7 arg8 harg8 arg9 harg9 arg10 harg10 arg11 harg11 arg12 harg12 arg13 harg13 arg14 harg14 g arg15 v203 v585) (fun a => iprop(⌜a = ⟨k0_pay161 (F := Ideal) v585 (ldv 1 128 (2 * g.val + 1, 0) A.a14) (p11_x g.val A).2, (Scalar.addi 0#32 (Scalar.muli (Scalar.divsi (Scalar.subi (Scalar.addi arg15 1#32) 0#32) 1#32) 1#32)), (p11_y g.val v585 A).1, (p11_y g.val v585 A).2, 1#32⟩⌝ ∗ St c arg1 arg2 arg3 arg4 arg5 arg6 arg7 arg8 arg9 arg10 arg11 arg12 arg13 arg14 X1 X2 X3 X4 X5 X6 (p11_x g.val A).1)) := by
  rw [k0_part11_eq_skeleton]; unfold k0_part11_skel
  refine pre11_val (hk := ?_)
  unfold p11_y p11_x
  generalize k0_pay154 (F := Ideal) (ldv 256 128 (256 * g.val, 0) A.a13) (ldv 256 256 (256 * g.val, 0) A.a11) = w0
  generalize (ldv 1 128 (2 * g.val + 1, 0) A.a14) = v589
  generalize p11a_fn g.val A = B0
  refine loop_acc (c := c) (fun A => St c arg1 arg2 arg3 arg4 arg5 arg6 arg7 arg8 arg9 arg10 arg11 arg12 arg13 arg14 X1 X2 X3 X4 X5 X6 A) (k0_t10_loop g) (k0_t10_ok g) (k0_t10_body (F := Ideal) i arg1 harg1 arg2 harg2 arg3 harg3 arg4 harg4 arg5 harg5 arg6 harg6 arg7 harg7 arg8 harg8 arg9 harg9 arg10 harg10 arg11 harg11 arg12 harg12 arg13 harg13 arg14 harg14 g arg15 v203 v585) (t10_step g.val)
    (fun t x => t10_val c i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 g t _ _ _ x.2 x.1)
    (B0, w0) ?_
  rw [trips10 g]
  generalize iter (t10_step g.val) g.val (B0, w0) = Z
  refine loop_skip _ _ _ _ (trips11 g) ?_
  refine loop_acc (X := Unit) (c := c) (fun _ => St c arg1 arg2 arg3 arg4 arg5 arg6 arg7 arg8 arg9 arg10 arg11 arg12 arg13 arg14 X1 X2 X3 X4 X5 X6 Z.1) (k0_t12_loop g) (k0_t12_ok g) (k0_t12_body (F := Ideal) i arg1 harg1 arg2 harg2 arg3 harg3 arg4 harg4 arg5 harg5 arg6 harg6 arg7 harg7 arg8 harg8 arg9 harg9 arg10 harg10 arg11 harg11 arg12 harg12 arg13 harg13 arg14 harg14 g arg15 v203 v585 v589 Z.2)
    (fun t x => ((), t12_step v585 v589 Z.2 Z.1 t x.2))
    (fun t x => t12_val c i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 g t _ _ _ _ _ x.2.1 x.2.2 Z.1)
    ((), (k0_pay162 (F := Ideal), k0_pay163 (F := Ideal))) ?_
  rw [trips12 g, iter_unit]
  generalize iter (t12_step v585 v589 Z.2 Z.1) (g.val + 1) (k0_pay162 (F := Ideal), k0_pay163 (F := Ideal)) = y
  obtain ⟨y1, y2⟩ := y
  dsimp only
  iintro H
  sl_step
  isplitr
  · ipureintro; rfl
  · iexact H

end Cert.KernelIdeal.Hand
-- ==== Proof.Trip.lean ====
/-
  A trip of the outer loop on the arrays.
-/
module

public import proofs.«01_k».proof.Proof.Gen.KernelIdeal.Skeleton
public import proofs.«01_k».proof.Proof.Closed
public import Idealize.ShloMosaic.Lib.Updates.Memory
public import Idealize.ShloMosaic.Lib.Updates.Loop
public import Idealize.ShloMosaic.Lib.Tactic
public import Idealize.ShloMosaic.Lib.Pointwise
public import proofs.«01_k».proof.Proof.PartsA
public import proofs.«01_k».proof.Proof.PartsB
public import proofs.«01_k».proof.Proof.PartsC
public import proofs.«01_k».proof.Proof.PartsE
@[expose] public section

set_option maxRecDepth 16384
set_option maxHeartbeats 400000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Updates
open Idealize.ShloMosaic.LaneScatter (Blk iter)

local notation "𝕄" => MT nD τ sig Unit (Elt Ideal) ℕ (UR sig nD τ) ℕ
variable (c : Dev nD) (i : grid0.Coords) (arg1 : Memref sig .tc .vmem S1x32x3x128x128 .bf16) (harg1 : arg1.IsWhole) (arg2 : Memref sig .tc .vmem S1x2048x128 .f32) (harg2 : arg2.IsWhole) (arg3 : Memref sig .tc .vmem S1x16x128x128 .bf16) (harg3 : arg3.IsWhole) (arg4 : Memref sig .tc .vmem S1x16x64x128 .f32) (harg4 : arg4.IsWhole) (arg5 : Memref sig .tc .vmem S2048x128 .bf16) (harg5 : arg5.IsWhole) (arg6 : Memref sig .tc .vmem S1x16x128 .f32) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S2048x256 .f32) (harg11 : arg11.IsWhole) (arg12 : Memref sig .tc .vmem S128x2048 .bf16) (harg12 : arg12.IsWhole) (arg13 : Memref sig .tc .vmem S2048x128 .f32) (harg13 : arg13.IsWhole) (arg14 : Memref sig .tc .vmem S16x128 .f32) (harg14 : arg14.IsWhole) (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty)

/-- One trip over a group of 256 rows on the arrays, from the blocks that it loads. -/
def trip_fn (g : ℕ) (v205 : Vec Ideal S256x128 .bf16) (v215 : Vec Ideal S1x1x1x128x128 .bf16) (v218 : Vec Ideal S1x1x1x128x128 .bf16) (v221 : Vec Ideal S1x1x1x128x128 .bf16) (v226 : Vec Ideal S1x1x128x128 .bf16) (v245 : Vec Ideal S1x64x128 .f32) (v269 : Vec Ideal S1x1x64x128 .f32) (v278 : Vec Ideal S1x1x1x128x128 .bf16) (v281 : Vec Ideal S1x1x1x128x128 .bf16) (v284 : Vec Ideal S1x1x1x128x128 .bf16) (v289 : Vec Ideal S1x1x128x128 .bf16) (v347 : Vec Ideal S1x64x128 .f32) (v371 : Vec Ideal S1x1x64x128 .f32) (v381 : Vec Ideal S1x1x1x128x128 .bf16) (v384 : Vec Ideal S1x1x1x128x128 .bf16) (v387 : Vec Ideal S1x1x1x128x128 .bf16) (v392 : Vec Ideal S1x1x128x128 .bf16) (v450 : Vec Ideal S1x64x128 .f32) (v474 : Vec Ideal S1x1x64x128 .f32) (v483 : Vec Ideal S1x1x1x128x128 .bf16) (v486 : Vec Ideal S1x1x1x128x128 .bf16) (v489 : Vec Ideal S1x1x1x128x128 .bf16) (v494 : Vec Ideal S1x1x128x128 .bf16) (v552 : Vec Ideal S1x64x128 .f32) (v576 : Vec Ideal S1x1x64x128 .f32) (A : Scr) : Scr :=
  let v230 := k0_pay7 (F := Ideal) v215 v218
  let v234 := k0_pay8 (F := Ideal) v215 v221 v226
  let A1 := p1_fn g v205 A
  let A2 := p2_fn g v230 v234 v245 v269 A1
  let v293 := k0_pay36 (F := Ideal) v278 v281
  let v297 := k0_pay37 (F := Ideal) v278 v284 v289
  let v306 := (ldv 64 128 (256 * g, 0) (iter (fun t A2 => t4_fn g t v278 v281 v284 v289 A2) g A2).a8)
  let v308 := (ldv 64 128 (256 * g, 0) (iter (fun t A2 => t4_fn g t v278 v281 v284 v289 A2) g A2).a9)
  let A3 := p3_fn g v278 v281 v284 v289 A2
  let v349 := k0_pay66 (F := Ideal) v347
  let v352 := k0_pay68 (F := Ideal) v347
  let v354 := k0_pay69 (F := Ideal) v347
  let A4 := p4_fn g v293 v297 v306 v308 A3
  let v382 := k0_pay74 (F := Ideal) v381
  let v385 := k0_pay75 (F := Ideal) v384
  let A5 := p5_fn g v349 v352 v354 v371 A4
  let v417 := k0_pay96 (F := Ideal) v382 v387 v392 (ldv 128 128 (256 * g, 0) (iter (fun t A5 => t6_fn g t v382 v385 v387 v392 A5) g A5).a8) (ldv 128 128 (256 * g, 0) (iter (fun t A5 => t6_fn g t v382 v385 v387 v392 A5) g A5).a10)
  let v423 := k0_pay98 (F := Ideal) v382 v385 v387 v392 (ldv 128 128 (256 * g, 0) (iter (fun t A5 => t6_fn g t v382 v385 v387 v392 A5) g A5).a8) (ldv 128 128 (256 * g, 0) (iter (fun t A5 => t6_fn g t v382 v385 v387 v392 A5) g A5).a9) (ldv 128 128 (256 * g, 0) (iter (fun t A5 => t6_fn g t v382 v385 v387 v392 A5) g A5).a10)
  let v426 := k0_pay100 (F := Ideal) v382 v385 v387 v392 (ldv 128 128 (256 * g, 0) (iter (fun t A5 => t6_fn g t v382 v385 v387 v392 A5) g A5).a8) (ldv 128 128 (256 * g, 0) (iter (fun t A5 => t6_fn g t v382 v385 v387 v392 A5) g A5).a9) (ldv 128 128 (256 * g, 0) (iter (fun t A5 => t6_fn g t v382 v385 v387 v392 A5) g A5).a10)
  let v429 := k0_pay101 (F := Ideal) v382 v385 v387 v392 (ldv 128 128 (256 * g, 0) (iter (fun t A5 => t6_fn g t v382 v385 v387 v392 A5) g A5).a8) (ldv 128 128 (256 * g, 0) (iter (fun t A5 => t6_fn g t v382 v385 v387 v392 A5) g A5).a9) (ldv 128 128 (256 * g, 0) (iter (fun t A5 => t6_fn g t v382 v385 v387 v392 A5) g A5).a10)
  let A6 := p6_fn g v382 v385 v387 v392 A5
  let A7 := p7_fn g v417 v423 v426 v429 v450 A6
  let v498 := k0_pay115 (F := Ideal) v483 v486
  let v502 := k0_pay116 (F := Ideal) v483 v489 v494
  let A8 := p8_fn g v474 A7
  let A9 := p9_fn g v498 v502 A8
  let v585 := (ldv 1 128 (2 * g, 0) A9.a14)
  let A10 := p10_fn g v552 v576 A9
  let A11 := (p11_x g A10).1
  { A11 with a7 := stv (h := 256) (w := 128) (256 * g, 0) (k0_pay4 (F := Ideal) (p11_y g v585 A10).1 (p11_y g v585 A10).2) A11.a7 }

theorem trip_val (g : Fin k0_t1_loop.trips) (c0 c1 : BitVec 32) (a : Unit) (A : Scr) :
    St c arg1 arg2 arg3 arg4 arg5 arg6 arg7 arg8 arg9 arg10 arg11 arg12 arg13 arg14 X1 X2 X3 X4 X5 X6 A ⊢ wp frame (wpE (defs₀ (F := Ideal)) Variants.none (c : Thread nD τ) none) Set.univ (k0_t1_body (F := Ideal) i arg1 harg1 arg2 harg2 arg3 harg3 arg4 harg4 arg5 harg5 arg6 harg6 arg7 harg7 arg8 harg8 arg9 harg9 arg10 harg10 arg11 harg11 arg12 harg12 arg13 harg13 arg14 harg14 c0 c1 g a) (fun _ => St c arg1 arg2 arg3 arg4 arg5 arg6 arg7 arg8 arg9 arg10 arg11 arg12 arg13 arg14 X1 X2 X3 X4 X5 X6 (trip_fn g.val (l205 g arg5 X5) (l215 g arg1 X1) (l218 g arg1 X1) (l221 g arg1 X1) (l226 g arg3 X3) (l245 g arg2 X2) (l269 g arg4 X4) (l278 g arg1 X1) (l281 g arg1 X1) (l284 g arg1 X1) (l289 g arg3 X3) (l347 g arg2 X2) (l371 g arg4 X4) (l381 g arg1 X1) (l384 g arg1 X1) (l387 g arg1 X1) (l392 g arg3 X3) (l450 g arg2 X2) (l474 g arg4 X4) (l483 g arg1 X1) (l486 g arg1 X1) (l489 g arg1 X1) (l494 g arg3 X3) (l552 g arg2 X2) (l576 g arg4 X4) A)) := by
  unfold k0_t1_body
  refine seq_val (p1_val c i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 g _ _ _) ?_
  refine seq_val (p2_val c i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 g _ _ _ _ _ _ _) ?_
  refine seq_val (p3_val c i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 g _ _ _ _) ?_
  refine seq_val (p4_val c i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 g _ _ _ _ _ _) ?_
  refine seq_val (p5_val c i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 g _ _ _ _ _ _) ?_
  refine seq_val (p6_val c i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 g _ _ _ _ _ _) ?_
  refine seq_val (p7_val c i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 g _ _ _ _ _ _ _) ?_
  refine seq_val (p8_val c i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 g _ _ _ _) ?_
  refine seq_val (p9_val c i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 g _ _ _ _ _ _ _ _) ?_
  refine seq_val (p10_val c i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 g _ _ _ _) ?_
  refine seq_val (p11_val c i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 g _ _ _ _) ?_
  refine loop_skip _ _ _ _ (trips13 g) ?_
  iintro ⟨H1, H2, H3, H4, H5, H6, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩⟩
  sl_exec
  sl_step
  try rw [ld_eq16 (h := 256) (w := 128) (o := (256 * g.val, 0)) h7 (off1_eq g)]
  isplitl [H1]; · iexact H1
  isplitl [H2]; · iexact H2
  isplitl [H3]; · iexact H3
  isplitl [H4]; · iexact H4
  isplitl [H5]; · iexact H5
  isplitl [H6]; · iexact H6
  isplitl [H7]
  · iexists _; isplitr; swap; · iexact H7
    ipureintro; unfold trip_fn; exact (st1_eq16 h7 (off1_eq g) _ _)
  isplitl [H8]
  · iexists _; isplitr; swap; · iexact H8
    ipureintro; unfold trip_fn; exact h8
  isplitl [H9]
  · iexists _; isplitr; swap; · iexact H9
    ipureintro; unfold trip_fn; exact h9
  isplitl [H10]
  · iexists _; isplitr; swap; · iexact H10
    ipureintro; unfold trip_fn; exact h10
  isplitl [H11]
  · iexists _; isplitr; swap; · iexact H11
    ipureintro; unfold trip_fn; exact h11
  isplitl [H12]
  · iexists _; isplitr; swap; · iexact H12
    ipureintro; unfold trip_fn; exact h12
  isplitl [H13]
  · iexists _; isplitr; swap; · iexact H13
    ipureintro; unfold trip_fn; exact h13
  iexists _; isplitr; swap; · iexact H14
  ipureintro; unfold trip_fn; exact h14

end Cert.KernelIdeal.Hand
-- ==== Proof.Spec.lean ====
/-
  The kernel's mathematics on plain functions of natural numbers: the running products, the scores,
  and what one block of the update has to compute.
-/
module

public import proofs.«01_k».proof.Proof.Base
import Idealize.ShloMosaic.Lib.Pointwise

@[expose] public section

namespace Cert.KernelIdeal.Hand
open Idealize.ShloMosaic Cert.KernelIdeal Cert.KernelIdeal.Gen
open Idealize.ShloMosaic.Updates
open Idealize.ShloMosaic.LaneScatter (Blk iter)
open scoped BigOperators

/-- The keys after `n` chunks: row `j` enters with its chunk and is then multiplied, chunk by chunk,
by the chunk's matrix. -/
def Yf (R : ℕ → ℕ → ℕ → ℝ) (K : ℕ → ℕ → ℝ) : ℕ → ℕ → ℕ → ℝ
  | 0, _, _ => 0
  | n + 1, j, e => if j / 64 = n then K j e else ∑ x : Fin 128, Yf R K n j x.val * R n x.val e

/-- The score of query `i` against key `j`. -/
noncomputable def sv (R : ℕ → ℕ → ℕ → ℝ) (K : ℕ → ℕ → ℝ) (q : ℕ → ℕ → ℕ → EReal) (sd : ℕ → ℕ → ℕ → EReal) (i j : ℕ) : EReal :=
  if j / 64 = i / 64 then sd (i / 128) (j % 64) (i % 128)
  else ∑ x : Fin 128, ((Yf R K (i / 64) j x.val : ℝ) : EReal) * q (i / 128) x.val (i % 128)

/-- A block of the update multiplies its rows by `R` when the two residual parts are zero, and leaves
residual parts that are zero. -/
structure TrOK (h : ℕ) (f1 f2 f3 : ((Blk h 128).Idx → EReal) → ((Blk h 128).Idx → EReal) → ((Blk h 128).Idx → EReal) → (Blk h 128).Idx → EReal)
    (R : ℕ → ℕ → ℝ) : Prop where
  t1 : ∀ (a b c : (Blk h 128).Idx → EReal) (y : ℕ → ℕ → ℝ), (∀ (p : Fin h) (q : Fin 128), a (ix2 p q) = ((y p.val q.val : ℝ) : EReal)) →
    (∀ (p : Fin h) (q : Fin 128), b (ix2 p q) = 0) → (∀ (p : Fin h) (q : Fin 128), c (ix2 p q) = 0) →
    ∀ (p : Fin h) (q : Fin 128), f1 a b c (ix2 p q) = ((∑ x : Fin 128, y p.val x.val * R x.val q.val : ℝ) : EReal)
  t2 : ∀ (a b c : (Blk h 128).Idx → EReal) (y : ℕ → ℕ → ℝ), (∀ (p : Fin h) (q : Fin 128), a (ix2 p q) = ((y p.val q.val : ℝ) : EReal)) →
    (∀ (p : Fin h) (q : Fin 128), b (ix2 p q) = 0) → (∀ (p : Fin h) (q : Fin 128), c (ix2 p q) = 0) →
    ∀ (p : Fin h) (q : Fin 128), f2 a b c (ix2 p q) = 0
  t3 : ∀ (a b c : (Blk h 128).Idx → EReal) (y : ℕ → ℕ → ℝ), (∀ (p : Fin h) (q : Fin 128), a (ix2 p q) = ((y p.val q.val : ℝ) : EReal)) →
    (∀ (p : Fin h) (q : Fin 128), b (ix2 p q) = 0) → (∀ (p : Fin h) (q : Fin 128), c (ix2 p q) = 0) →
    ∀ (p : Fin h) (q : Fin 128), f3 a b c (ix2 p q) = 0

/-- A block of scores: the rows times the columns of `Q` from `off` on. -/
def ScOK (h w : ℕ) (fs : ((Blk h 128).Idx → EReal) → ((Blk h 128).Idx → EReal) → (Blk h w).Idx → EReal) (Q : ℕ → ℕ → EReal) (off : ℕ) : Prop :=
  ∀ (a c : (Blk h 128).Idx → EReal), (∀ (p : Fin h) (q : Fin 128), c (ix2 p q) = 0) →
    ∀ (p : Fin h) (q : Fin w), fs a c (ix2 p q) = ∑ x : Fin 128, a (ix2 p x) * Q x.val (off + q.val)

theorem coe_sum {n : ℕ} (f : Fin n → ℝ) : ((∑ x, f x : ℝ) : EReal) = ∑ x, (f x : EReal) :=
  map_sum (⟨⟨fun r : ℝ => (r : EReal), rfl⟩, EReal.coe_add⟩ : ℝ →+ EReal) f Finset.univ

/-- The three parts of a matrix, multiplied apart and added, are the matrix. -/
theorem split3 {n : ℕ} (y a b c : Fin n → ℝ) :
    (∑ x, (y x : EReal) * (a x : EReal)) + (∑ x, (y x : EReal) * (b x : EReal)) + (∑ x, (y x : EReal) * (c x : EReal))
      = ((∑ x, y x * (a x + b x + c x) : ℝ) : EReal) := by
  simp only [← EReal.coe_mul, ← coe_sum, ← EReal.coe_add]
  congr 1
  rw [← Finset.sum_add_distrib, ← Finset.sum_add_distrib]
  exact Finset.sum_congr rfl fun x _ => by ring

/-- One block of the update: rows from `o`, scores into the columns from `so`. -/
def tr (h w : ℕ) (f1 f2 f3 : ((Blk h 128).Idx → EReal) → ((Blk h 128).Idx → EReal) → ((Blk h 128).Idx → EReal) → (Blk h 128).Idx → EReal)
    (fs : ((Blk h 128).Idx → EReal) → ((Blk h 128).Idx → EReal) → (Blk h w).Idx → EReal) (o so : ℕ) (A : Scr) : Scr :=
  { A with
    a8 := stv (h := h) (w := 128) (o, 0) (f1 (ldv h 128 (o, 0) A.a8) (ldv h 128 (o, 0) A.a9) (ldv h 128 (o, 0) A.a10)) A.a8
    a9 := stv (h := h) (w := 128) (o, 0) (f2 (ldv h 128 (o, 0) A.a8) (ldv h 128 (o, 0) A.a9) (ldv h 128 (o, 0) A.a10)) A.a9
    a10 := stv (h := h) (w := 128) (o, 0) (f3 (ldv h 128 (o, 0) A.a8) (ldv h 128 (o, 0) A.a9) (ldv h 128 (o, 0) A.a10)) A.a10
    a11 := stv (h := h) (w := w) (o, so) (fs (ldv h 128 (o, 0) A.a8) (ldv h 128 (o, 0) A.a10)) A.a11 }

theorem stv_in {h w : ℕ} {o : ℕ × ℕ} {v : (Blk h w).Idx → EReal} {A : Arr EReal} {a b : ℕ} (h1 : o.1 ≤ a) (h2 : a < o.1 + h) (h3 : o.2 ≤ b)
    (h4 : b < o.2 + w) : stv o v A (a, b) = v (ix2 ⟨a - o.1, by omega⟩ ⟨b - o.2, by omega⟩) := by
  unfold stv
  rw [dif_pos ⟨⟨h1, h2⟩, h3, h4⟩]

theorem stv_out {h w : ℕ} {o : ℕ × ℕ} {v : (Blk h w).Idx → EReal} {A : Arr EReal} {a b : ℕ}
    (hn : ¬ ((o.1 ≤ a ∧ a < o.1 + h) ∧ (o.2 ≤ b ∧ b < o.2 + w))) : stv o v A (a, b) = A (a, b) := by
  unfold stv
  rw [dif_neg hn]

/-- While chunk `n` is worked off: rows below `m` have its matrix, the other rows of earlier chunks do
not, the residual parts are zero, and the scores of the rows below `m` are there. -/
structure Mid (R : ℕ → ℕ → ℕ → ℝ) (K : ℕ → ℕ → ℝ) (Q : ℕ → ℕ → EReal) (off so n m : ℕ) (A0 A : Scr) : Prop where
  y : ∀ j < 64 * n, ∀ e < 128, A.a8 (j, e) = ((Yf R K (if j < m then n + 1 else n) j e : ℝ) : EReal)
  z2 : ∀ j < 64 * n, ∀ e < 128, A.a9 (j, e) = 0
  z3 : ∀ j < 64 * n, ∀ e < 128, A.a10 (j, e) = 0
  sc : ∀ j < m, ∀ l < 64, A.a11 (j, so + l) = ∑ x : Fin 128, ((Yf R K n j x.val : ℝ) : EReal) * Q x.val (off + l)
  old : ∀ j, ∀ l < so, A.a11 (j, l) = A0.a11 (j, l)
  e7 : A.a7 = A0.a7
  e12 : A.a12 = A0.a12
  e13 : A.a13 = A0.a13
  e14 : A.a14 = A0.a14

theorem Mid.tr {R : ℕ → ℕ → ℕ → ℝ} {K : ℕ → ℕ → ℝ} {Q : ℕ → ℕ → EReal} {off so n m h w : ℕ} {A0 A : Scr} (H : Mid R K Q off so n m A0 A)
    {f1 f2 f3 fs} (hf : TrOK h f1 f2 f3 (R n)) (hs : ScOK h w fs Q off) (hw : 64 ≤ w) (hm : m + h ≤ 64 * n) :
    Mid R K Q off so n (m + h) A0 (Hand.tr h w f1 f2 f3 fs m so A) := by
  have ha : ∀ (p : Fin h) (q : Fin 128), ldv h 128 (m, 0) A.a8 (ix2 p q) = ((Yf R K n (m + p.val) q.val : ℝ) : EReal) := by
    intro p q
    show A.a8 (m + p.val, 0 + q.val) = _
    rw [Nat.zero_add, H.y _ (by omega) _ q.isLt, if_neg (by omega)]
  have hb : ∀ (p : Fin h) (q : Fin 128), ldv h 128 (m, 0) A.a9 (ix2 p q) = 0 := by
    intro p q
    show A.a9 (m + p.val, 0 + q.val) = _
    rw [Nat.zero_add, H.z2 _ (by omega) _ q.isLt]
  have hc : ∀ (p : Fin h) (q : Fin 128), ldv h 128 (m, 0) A.a10 (ix2 p q) = 0 := by
    intro p q
    show A.a10 (m + p.val, 0 + q.val) = _
    rw [Nat.zero_add, H.z3 _ (by omega) _ q.isLt]
  refine ⟨?_, ?_, ?_, ?_, ?_, H.e7, H.e12, H.e13, H.e14⟩
  · intro j hj e he
    show stv _ _ _ _ = _
    by_cases hr : m ≤ j ∧ j < m + h
    · rw [stv_in hr.1 hr.2 (Nat.zero_le _) (by simpa using he), hf.t1 _ _ _ (fun p q => Yf R K n (m + p) q) ha hb hc, if_pos hr.2]
      have h0 : ¬ j / 64 = n := by omega
      simp only [Yf, if_neg h0]
      have h1 : m + (j - m) = j := by omega
      simp only [h1, Nat.sub_zero]
    · rw [stv_out (fun hh => hr hh.1), H.y j hj e he]
      have : (j < m) = (j < m + h) := by
        apply propext; omega
      simp only [this]
  · intro j hj e he
    show stv _ _ _ _ = _
    by_cases hr : m ≤ j ∧ j < m + h
    · rw [stv_in hr.1 hr.2 (Nat.zero_le _) (by simpa using he), hf.t2 _ _ _ (fun p q => Yf R K n (m + p) q) ha hb hc]
    · rw [stv_out (fun hh => hr hh.1), H.z2 j hj e he]
  · intro j hj e he
    show stv _ _ _ _ = _
    by_cases hr : m ≤ j ∧ j < m + h
    · rw [stv_in hr.1 hr.2 (Nat.zero_le _) (by simpa using he), hf.t3 _ _ _ (fun p q => Yf R K n (m + p) q) ha hb hc]
    · rw [stv_out (fun hh => hr hh.1), H.z3 j hj e he]
  · intro j hj l hl
    show stv _ _ _ _ = _
    by_cases hr : m ≤ j
    · rw [stv_in hr hj (by simp) (by simp only; omega), hs _ _ hc]
      refine Finset.sum_congr rfl fun x _ => ?_
      rw [ha]
      have h1 : m + (j - m) = j := by omega
      have h2 : so + l - so = l := by omega
      simp only [h1, h2]
    · rw [stv_out (fun hh => hr hh.1.1), H.sc j (by omega) l hl]
  · intro j l hl
    show stv _ _ _ _ = _
    rw [stv_out (fun hh => by have := hh.2.1; simp only at this; omega), H.old j l hl]

/-- Blocks of 256 rows, one after the other. -/
theorem Mid.loop {R : ℕ → ℕ → ℕ → ℝ} {K : ℕ → ℕ → ℝ} {Q : ℕ → ℕ → EReal} {off so n w : ℕ} {A0 : Scr} (H : Mid R K Q off so n 0 A0 A0)
    {f1 f2 f3 fs} (hf : TrOK 256 f1 f2 f3 (R n)) (hs : ScOK 256 w fs Q off) (hw : 64 ≤ w) (k : ℕ) (hk : 256 * k ≤ 64 * n) :
    Mid R K Q off so n (256 * k) A0 (LaneScatter.iter (fun t A => Hand.tr 256 w f1 f2 f3 fs (256 * t) so A) k A0) := by
  induction k with
  | zero => exact H
  | succ k ih =>
    have := (ih (by omega)).tr hf hs hw (by omega)
    have e : 256 * k + 256 = 256 * (k + 1) := by ring
    rw [e] at this
    exact this

/-- The keys and residual parts of a chunk enter, and the scores within the chunk. -/
def ins (w : ℕ) (k1 k2 k3 : (Blk 64 128).Idx → EReal) (d : (Blk 64 w).Idx → EReal) (o so : ℕ) (A : Scr) : Scr :=
  { A with
    a8 := stv (h := 64) (w := 128) (o, 0) k1 A.a8
    a9 := stv (h := 64) (w := 128) (o, 0) k2 A.a9
    a10 := stv (h := 64) (w := 128) (o, 0) k3 A.a10
    a11 := stv (h := 64) (w := w) (o, so) d A.a11 }

/-- Between chunks: the rows of the chunks before `n` are worked off, and the scores of the group's
queries in those chunks are there. -/
structure Done (R : ℕ → ℕ → ℕ → ℝ) (K : ℕ → ℕ → ℝ) (q : ℕ → ℕ → ℕ → EReal) (sd : ℕ → ℕ → ℕ → EReal) (g r : ℕ) (A0 A : Scr) : Prop where
  y : ∀ j < 64 * (4 * g + r), ∀ e < 128, A.a8 (j, e) = ((Yf R K (4 * g + r) j e : ℝ) : EReal)
  z2 : ∀ j < 64 * (4 * g + r), ∀ e < 128, A.a9 (j, e) = 0
  z3 : ∀ j < 64 * (4 * g + r), ∀ e < 128, A.a10 (j, e) = 0
  sc : ∀ l < 64 * r, ∀ j < 64 * ((256 * g + l) / 64 + 1), A.a11 (j, l) = sv R K q sd (256 * g + l) j
  e7 : A.a7 = A0.a7
  e12 : A.a12 = A0.a12
  e13 : A.a13 = A0.a13
  e14 : A.a14 = A0.a14

theorem Done.mid {R K q sd g r A0 A} (H : Done R K q sd g r A0 A) (Q off so) (hso : so = 64 * r) : Mid R K Q off so (4 * g + r) 0 A A := by
  refine ⟨fun j hj e he => ?_, H.z2, H.z3, fun j hj => absurd hj (Nat.not_lt_zero _), fun _ _ _ => rfl, rfl, rfl, rfl, rfl⟩
  rw [H.y j hj e he, if_neg (Nat.not_lt_zero _)]

theorem Done.next {R K q sd} {g r w off so : ℕ} {A0 A1 A : Scr} (H : Done R K q sd g r A0 A1) (hr : r < 4)
    (M : Mid R K (q (2 * g + r / 2)) off so (4 * g + r) (64 * (4 * g + r)) A1 A) (hso : so = 64 * r) (hoff : off = 64 * (r % 2)) (hw : 64 ≤ w)
    {k1 k2 k3 : (Blk 64 128).Idx → EReal} {d : (Blk 64 w).Idx → EReal}
    (hk1 : ∀ (a : Fin 64) (b : Fin 128), k1 (ix2 a b) = ((K (64 * (4 * g + r) + a.val) b.val : ℝ) : EReal))
    (hk2 : ∀ (a : Fin 64) (b : Fin 128), k2 (ix2 a b) = 0) (hk3 : ∀ (a : Fin 64) (b : Fin 128), k3 (ix2 a b) = 0)
    (hd : ∀ (a : Fin 64) (b : Fin w), b.val < 64 → d (ix2 a b) = sd (2 * g + r / 2) a.val (off + b.val)) (o : ℕ) (ho : o = 64 * (4 * g + r)) :
    Done R K q sd g (r + 1) A0 (ins w k1 k2 k3 d o so A) := by
  subst ho
  refine ⟨?_, ?_, ?_, ?_, M.e7.trans H.e7, M.e12.trans H.e12, M.e13.trans H.e13, M.e14.trans H.e14⟩
  · intro j hj e he
    show stv _ _ _ _ = _
    by_cases hn : 64 * (4 * g + r) ≤ j
    · rw [stv_in hn (by simp only; omega) (Nat.zero_le _) (by simpa using he), hk1]
      have h0 : j / 64 = 4 * g + r := by omega
      show _ = ((Yf R K (4 * g + r + 1) j e : ℝ) : EReal)
      have h1 : 64 * (4 * g + r) + (j - 64 * (4 * g + r)) = j := by omega
      simp only [Yf, if_pos h0, h1, Nat.sub_zero]
    · rw [stv_out (fun hh => hn hh.1.1), M.y j (by omega) e he, if_pos (by omega)]
      rfl
  · intro j hj e he
    show stv _ _ _ _ = _
    by_cases hn : 64 * (4 * g + r) ≤ j
    · rw [stv_in hn (by simp only; omega) (Nat.zero_le _) (by simpa using he), hk2]
    · rw [stv_out (fun hh => hn hh.1.1), M.z2 j (by omega) e he]
  · intro j hj e he
    show stv _ _ _ _ = _
    by_cases hn : 64 * (4 * g + r) ≤ j
    · rw [stv_in hn (by simp only; omega) (Nat.zero_le _) (by simpa using he), hk3]
    · rw [stv_out (fun hh => hn hh.1.1), M.z3 j (by omega) e he]
  · intro l hl j hj
    show stv _ _ _ _ = _
    by_cases hlo : l < so
    · rw [stv_out (fun hh => by have := hh.2.1; simp only at this; omega), M.old j l hlo, H.sc l (by omega) j hj]
    · obtain ⟨l', rfl⟩ : ∃ l', l = so + l' := ⟨l - so, by omega⟩
      have hl' : l' < 64 := by omega
      have e1 : (256 * g + (so + l')) / 64 = 4 * g + r := by omega
      have e2 : (256 * g + (so + l')) / 128 = 2 * g + r / 2 := by omega
      have e3 : (256 * g + (so + l')) % 128 = off + l' := by omega
      rw [e1] at hj
      unfold sv
      rw [e1, e2, e3]
      by_cases hn : 64 * (4 * g + r) ≤ j
      · rw [stv_in hn (by simp only; omega) (by simp) (by simp only; omega), hd _ _ (by simp only; omega), if_pos (by omega)]
        have h1 : j - 64 * (4 * g + r) = j % 64 := by omega
        have h2 : so + l' - so = l' := by omega
        simp only [h1, h2]
      · rw [stv_out (fun hh => hn hh.1.1), M.sc j (by omega) l' hl', if_neg (by omega)]

end Cert.KernelIdeal.Hand
-- ==== Proof.Attend.lean ====
/-
  The softmax of a group of queries: masked scores, their largest entries, powers, sums, and the quotient.
-/
module

public import proofs.«01_k».proof.Proof.Spec
public import proofs.«01_k».proof.Proof.PartsE
import Idealize.ShloMosaic.Lib.Pointwise
import Idealize.ShloMosaic.Lib.WordCmp

@[expose] public section

namespace Cert.KernelIdeal.Hand
open Idealize.ShloMosaic Cert.KernelIdeal Cert.KernelIdeal.Gen
open Idealize.ShloMosaic.Updates
open Idealize.ShloMosaic.LaneScatter (Blk iter)
open scoped BigOperators

set_option maxHeartbeats 400000
set_option maxRecDepth 16384

/-- The scale of the scores, in powers of two. -/
noncomputable def c1 : EReal := (((Real.sqrt 128)⁻¹ * (Real.log 2)⁻¹ : ℝ) : EReal)

theorem named_c1 : Named.named (F := Ideal) (φ := .f32) κ "scale_log2e" 0x3E0293EE#32 = c1 :=
  IdealRules.named_const.ideal_named_scalar _ _ _ _ rfl

theorem bot_bits : Ideal.ofBits .f32 4286578688#32 = (⊥ : EReal) := by
  simp [Ideal.ofBits, Ideal.ieee]

theorem sel_le {m n : ℕ} (hm : m < 2 ^ 31) (hn : n < 2 ^ 31) {α : Type} (x y : α) :
    Scalar.select (IntOp.cmpi .sle (BitVec.ofNat 32 m) (BitVec.ofNat 32 n)) x y = if m ≤ n then x else y := by
  rw [WordCmp.cmpi_sle_ofNat hm hn]
  by_cases h : m ≤ n <;> simp [Scalar.select, h]

section pays
variable (u : Vec Ideal S256x128 .f32) (w : Vec Ideal S256x256 .f32) (G : ℕ → EReal) (hu : ∀ (a : Fin 256) (b : Fin 128), u (ix2 a b) = G a.val)
include hu

theorem pay153_at (a l : Fin 256) : k0_pay153 (F := Ideal) u w (ix2 a l) = if a.val ≤ l.val then w (ix2 a l) * c1 - G a.val else ⊥ := by
  pointwise [k0_pay153, k0_pay152]
  simp only [hu, dite_eq_ite, ite_self, named_c1, bot_bits]
  rw [sel_le (by omega) (by omega)]

theorem pay154_at (p : Fin 8) (l : Fin 256) (z : EReal) : k0_pay154 (F := Ideal) u w (ix2 p l) ≤ z ↔
    ∀ x : Fin 32, (if x.val * 8 + p.val ≤ l.val then w (ix2 ⟨x.val * 8 + p.val, by omega⟩ l) * c1 - G (x.val * 8 + p.val) else ⊥) ≤ z := by
  have h : k0_pay154 (F := Ideal) u w (ix2 p l) = Finset.fold max ⊥ (fun x : Fin 32 => (if x.val * 8 + p.val ≤ l.val then w (ix2 ⟨x.val * 8 + p.val, by omega⟩ l) * c1 - G (x.val * 8 + p.val) else ⊥)) Finset.univ := by
    pointwise [k0_pay154, k0_pay152]
    simp only [hu, dite_eq_ite, ite_self, named_c1, bot_bits]
    congr 1
    funext x
    rw [sel_le (by omega) (by omega)]
  rw [h, Finset.fold_max_le]
  simp

theorem pay156_at (a l : Fin 256) : k0_pay156 (F := Ideal) u w (ix2 a l) = w (ix2 a l) * c1 - G a.val := by
  pointwise [k0_pay156, k0_pay155]
  simp only [hu, dite_eq_ite, ite_self, named_c1]

theorem pay157_at (m : FVec Ideal S8x256 .f32) (p : Fin 8) (l : Fin 256) (z : EReal) : k0_pay157 (F := Ideal) m u w (ix2 p l) ≤ z ↔
    m (ix2 p l) ≤ z ∧ ∀ x : Fin 32, (w (ix2 ⟨x.val * 8 + p.val, by omega⟩ l) * c1 - G (x.val * 8 + p.val)) ≤ z := by
  have h : k0_pay157 (F := Ideal) m u w (ix2 p l) = max (m (ix2 p l)) (Finset.fold max ⊥ (fun x : Fin 32 => w (ix2 ⟨x.val * 8 + p.val, by omega⟩ l) * c1 - G (x.val * 8 + p.val)) Finset.univ) := by
    pointwise [k0_pay157, k0_pay155]
    simp only [hu, dite_eq_ite, ite_self, named_c1, bot_bits]
  rw [h, max_le_iff, Finset.fold_max_le]
  simp
end pays

theorem pay162_at (p : Fin 8) (l : Fin 256) : k0_pay162 (F := Ideal) (ix2 p l) = (0 : EReal) := by
  pointwise [k0_pay162]

theorem pay163_at (p : Fin 128) (l : Fin 256) : k0_pay163 (F := Ideal) (ix2 p l) = (0 : EReal) := by
  pointwise [k0_pay163]

section pays2
variable (a b : Vec Ideal S1x128 .f32) (c : FVec Ideal S8x256 .f32) (e : Vec Ideal S256x256 .f32) (f M : ℕ → EReal)
  (ha : ∀ x : Fin 128, a (ix2 0 x) = f x.val) (hb : ∀ x : Fin 128, b (ix2 0 x) = f (128 + x.val))
  (hc : ∀ l : Fin 256, Finset.fold max ⊥ (fun x : Fin 8 => c (ix2 x l)) Finset.univ = M l.val)
include ha hb hc

theorem fi (l : Fin 256) : (if h : l.val < 128 then a (ix2 0 ⟨l.val, h⟩) else b (ix2 0 ⟨l.val - 128, by omega⟩)) = f l.val := by
  by_cases h : l.val < 128
  · rw [dif_pos h, ha]
  · rw [dif_neg h, hb]
    congr 1
    simp only
    omega

theorem pay165_at (d : FVec Ideal S8x256 .f32) (p : Fin 8) (l : Fin 256) : k0_pay165 (F := Ideal) a b c d e (ix2 p l) =
    d (ix2 p l) + ∑ x : Fin 32, Ideal.exp2 (e (ix2 ⟨x.val * 8 + p.val, by omega⟩ l) + (f l.val - (M l.val + f l.val))) := by
  have h := fi a b c f M ha hb hc l
  have h2 := hc l
  pointwise [k0_pay165, k0_pay164, k0_pay161]
  simp only [bot_bits, h2]
  simp only [h]
  rfl

theorem pay166_at (d : FVec Ideal S128x256 .f32) (v : Vec Ideal S128x256 .bf16) (p : Fin 128) (l : Fin 256) : k0_pay166 (F := Ideal) a b c d e v (ix2 p l) =
    d (ix2 p l) + ∑ x : Fin 256, v (ix2 p x) * Ideal.exp2 (e (ix2 x l) + (f l.val - (M l.val + f l.val))) := by
  have h := fi a b c f M ha hb hc l
  have h2 := hc l
  pointwise [k0_pay166, k0_pay164, k0_pay161]
  simp only [bot_bits, h2]
  simp only [h]
  rfl
end pays2

theorem pay4_at (a : FVec Ideal S8x256 .f32) (b : FVec Ideal S128x256 .f32) (l : Fin 256) (e : Fin 128) :
    k0_pay4 (F := Ideal) a b (ix2 l e) = Ideal.div (b (ix2 e l)) (∑ x : Fin 8, a (ix2 x l)) := by
  pointwise [k0_pay4]

theorem pay5_at (v : Vec Ideal S256x128 .bf16) (e : Fin 128) (l : Fin 256) : k0_pay5 (F := Ideal) v (ix2 e l) = v (ix2 l e) := by
  pointwise [k0_pay5]

/-- The masked, scaled score of query `i` against key `j`, without the query's own forgetting. -/
noncomputable def tt (s : ℕ → ℕ → EReal) (G : ℕ → EReal) (i j : ℕ) : EReal := if j ≤ i then s i j * c1 - G j else ⊥

/-- The largest of them. -/
noncomputable def mq (s : ℕ → ℕ → EReal) (G : ℕ → EReal) (i : ℕ) : EReal := (Finset.range 2048).sup (tt s G i)

/-- The weight of key `j` for query `i`. -/
noncomputable def pw (s : ℕ → ℕ → EReal) (G : ℕ → EReal) (i j : ℕ) : EReal := Ideal.exp2 (tt s G i j + (G i - (mq s G i + G i)))

/-- The kernel's output. -/
noncomputable def outv (s : ℕ → ℕ → EReal) (G : ℕ → EReal) (v : ℕ → ℕ → EReal) (i e : ℕ) : EReal :=
  Ideal.div (∑ j ∈ Finset.range 2048, v j e * pw s G i j) (∑ j ∈ Finset.range 2048, pw s G i j)

/-- What the group's softmax starts from. -/
structure Pre (s : ℕ → ℕ → EReal) (G : ℕ → EReal) (v : ℕ → ℕ → EReal) (g : ℕ) (A : Scr) : Prop where
  sc : ∀ l < 256, ∀ j < 64 * ((256 * g + l) / 64 + 1), A.a11 (j, l) = s (256 * g + l) j
  h12 : ∀ e < 128, ∀ j < 256 * (g + 1), A.a12 (e, j) = v j e
  h13 : ∀ j < 2048, ∀ l < 128, A.a13 (j, l) = G j
  h14 : ∀ a < 16, ∀ l < 128, A.a14 (a, l) = G (128 * a + l)

/-- The masked scores of the last block and of the first `k` blocks are there. -/
structure Mx (s : ℕ → ℕ → EReal) (G : ℕ → EReal) (g k : ℕ) (A : Scr) (x : Scr × FVec Ideal S8x256 .f32) : Prop where
  sc : ∀ l < 256, ∀ j, (j < 256 * k ∨ 256 * g ≤ j ∧ j < 256 * (g + 1)) → x.1.a11 (j, l) = tt s G (256 * g + l) j
  raw : ∀ l < 256, ∀ j, 256 * k ≤ j → j < 256 * g → x.1.a11 (j, l) = s (256 * g + l) j
  mx : ∀ (p : Fin 8) (l : Fin 256) (z : EReal), x.2 (ix2 p l) ≤ z ↔
    ∀ j, (j < 256 * k ∨ 256 * g ≤ j ∧ j < 256 * (g + 1)) → j % 8 = p.val → tt s G (256 * g + l.val) j ≤ z
  e7 : x.1.a7 = A.a7
  e8 : x.1.a8 = A.a8
  e9 : x.1.a9 = A.a9
  e10 : x.1.a10 = A.a10
  e12 : x.1.a12 = A.a12
  e13 : x.1.a13 = A.a13
  e14 : x.1.a14 = A.a14

variable {s : ℕ → ℕ → EReal} {G : ℕ → EReal} {v : ℕ → ℕ → EReal} {g : ℕ} {A : Scr}

theorem Pre.mx0 (H : Pre s G v g A) (hg : g < 8) : Mx s G g 0 A
    (p11a_fn g A, k0_pay154 (F := Ideal) (ldv 256 128 (256 * g, 0) A.a13) (ldv 256 256 (256 * g, 0) A.a11)) := by
  have hu : ∀ (a : Fin 256) (b : Fin 128), ldv 256 128 (256 * g, 0) A.a13 (ix2 a b) = (fun a => G (256 * g + a)) a.val := by
    intro a b
    show A.a13 (256 * g + a.val, 0 + b.val) = _
    rw [H.h13 _ (by omega) _ (by omega)]
  have hw : ∀ (a l : Fin 256), a.val ≤ l.val → ldv 256 256 (256 * g, 0) A.a11 (ix2 a l) = s (256 * g + l.val) (256 * g + a.val) := by
    intro a l hal
    show A.a11 (256 * g + a.val, 0 + l.val) = _
    rw [Nat.zero_add, H.sc _ l.isLt _ (by omega)]
  refine ⟨?_, ?_, ?_, rfl, rfl, rfl, rfl, rfl, rfl, rfl⟩
  · intro l hl j hj
    show stv (h := 256) (w := 256) _ _ _ (j, l) = _
    have hj' : 256 * g ≤ j ∧ j < 256 * g + 256 := by omega
    rw [stv_in hj'.1 hj'.2 (Nat.zero_le _) (by simpa using hl), pay153_at _ _ (fun a => G (256 * g + a)) hu]
    simp only [Nat.sub_zero]
    unfold tt
    have e1 : 256 * g + (j - 256 * g) = j := by omega
    by_cases h : j ≤ 256 * g + l
    · rw [if_pos h, if_pos (by omega), hw _ _ (by simp only; omega)]
      simp only [e1]
    · rw [if_neg h, if_neg (by omega)]
  · intro l hl j _ hj
    show stv (h := 256) (w := 256) _ _ _ (j, l) = _
    rw [stv_out (fun hh => by have := hh.1.1; simp only at this; omega), H.sc l hl j (by omega)]
  · intro p l z
    have h4 := pay154_at _ (ldv 256 256 (256 * g, 0) A.a11) (fun a => G (256 * g + a)) hu p l z
    dsimp only
    rw [h4]
    have key : ∀ (x : Fin 32), (if x.val * 8 + p.val ≤ l.val then ldv 256 256 (256 * g, 0) A.a11 (ix2 ⟨x.val * 8 + p.val, by omega⟩ l) * c1 - G (256 * g + (x.val * 8 + p.val)) else ⊥) = tt s G (256 * g + l.val) (256 * g + (x.val * 8 + p.val)) := by
      intro x
      unfold tt
      by_cases h : x.val * 8 + p.val ≤ l.val
      · rw [if_pos h, if_pos (by omega), hw _ _ h]
      · rw [if_neg h, if_neg (by omega)]
    simp only [key]
    constructor
    · intro h j hj hp
      have := h ⟨(j - 256 * g) / 8, by omega⟩
      have e : 256 * g + ((j - 256 * g) / 8 * 8 + p.val) = j := by omega
      simp only [e] at this
      exact this
    · intro h x
      exact h _ (by omega) (by omega)

theorem Mx.step (H : Pre s G v g A) (hg : g < 8) {k : ℕ} (hk : k < g) {x} (M : Mx s G g k A x) : Mx s G g (k + 1) A (t10_step g k x) := by
  have hu : ∀ (a : Fin 256) (b : Fin 128), ldv 256 128 (256 * k, 0) x.1.a13 (ix2 a b) = (fun a => G (256 * k + a)) a.val := by
    intro a b
    show x.1.a13 (256 * k + a.val, 0 + b.val) = _
    rw [M.e13, H.h13 _ (by omega) _ (by omega)]
  have hw : ∀ (a l : Fin 256), ldv 256 256 (256 * k, 0) x.1.a11 (ix2 a l) = s (256 * g + l.val) (256 * k + a.val) := by
    intro a l
    show x.1.a11 (256 * k + a.val, 0 + l.val) = _
    rw [Nat.zero_add, M.raw _ l.isLt _ (by omega) (by omega)]
  refine ⟨?_, ?_, ?_, M.e7, M.e8, M.e9, M.e10, M.e12, M.e13, M.e14⟩
  · intro l hl j hj
    show stv (h := 256) (w := 256) _ _ _ (j, l) = _
    by_cases hj' : 256 * k ≤ j ∧ j < 256 * k + 256
    · rw [stv_in hj'.1 hj'.2 (Nat.zero_le _) (by simpa using hl), pay156_at _ _ (fun a => G (256 * k + a)) hu, hw]
      have e1 : 256 * k + (j - 256 * k) = j := by omega
      unfold tt
      rw [if_pos (by omega)]
      simp only [e1, Nat.sub_zero]
    · rw [stv_out (fun hh => hj' hh.1), M.sc l hl j (by omega)]
  · intro l hl j h1 h2
    show stv (h := 256) (w := 256) _ _ _ (j, l) = _
    rw [stv_out (fun hh => by have := hh.1.2; simp only at this; omega), M.raw l hl j (by omega) h2]
  · intro p l z
    refine (pay157_at _ _ (fun a => G (256 * k + a)) hu _ p l z).trans ?_
    rw [M.mx]
    have key : ∀ (y : Fin 32), (ldv 256 256 (256 * k, 0) x.1.a11 (ix2 ⟨y.val * 8 + p.val, by omega⟩ l) * c1 - G (256 * k + (y.val * 8 + p.val))) = tt s G (256 * g + l.val) (256 * k + (y.val * 8 + p.val)) := by
      intro y
      unfold tt
      rw [if_pos (by omega), hw]
    simp only [key]
    constructor
    · rintro ⟨h1, h2⟩ j hj hp
      by_cases hj' : 256 * k ≤ j ∧ j < 256 * k + 256
      · have := h2 ⟨(j - 256 * k) / 8, by omega⟩
        have e : 256 * k + ((j - 256 * k) / 8 * 8 + p.val) = j := by omega
        simp only [e] at this
        exact this
      · exact h1 j (by omega) hp
    · intro h
      exact ⟨fun j hj hp => h j (by omega) hp, fun y => h _ (by omega) (by omega)⟩

theorem Pre.mx (H : Pre s G v g A) (hg : g < 8) : Mx s G g g A (p11_x g A) := by
  unfold p11_x
  have : ∀ k ≤ g, Mx s G g k A (iter (t10_step g) k (p11a_fn g A, k0_pay154 (F := Ideal) (ldv 256 128 (256 * g, 0) A.a13) (ldv 256 256 (256 * g, 0) A.a11))) := by
    intro k
    induction k with
    | zero => exact fun _ => H.mx0 hg
    | succ k ih => exact fun hk => (ih (by omega)).step H hg (by omega)
  exact this g le_rfl

theorem Mx.top (hg : g < 8) {x} (M : Mx s G g g A x) (l : Fin 256) :
    Finset.fold max ⊥ (fun p : Fin 8 => x.2 (ix2 p l)) Finset.univ = mq s G (256 * g + l.val) := by
  refine eq_of_forall_ge_iff fun z => ?_
  rw [Finset.fold_max_le]
  unfold mq
  rw [Finset.sup_le_iff]
  simp only [bot_le, true_and, Finset.mem_univ, true_imp_iff, Finset.mem_range, M.mx]
  constructor
  · intro h j hj
    by_cases hj' : j < 256 * (g + 1)
    · exact h ⟨j % 8, by omega⟩ j (by omega) rfl
    · unfold tt
      rw [if_neg (by omega)]
      exact bot_le
  · intro h p j hj _
    exact h j (by omega)

theorem sum8 (h : ℕ → EReal) : ∑ p : Fin 8, ∑ x : Fin 32, h (x.val * 8 + p.val) = ∑ y ∈ Finset.range 256, h y := by
  rw [Finset.sum_comm, ← Fintype.sum_prod_type' (f := fun (x : Fin 32) (p : Fin 8) => h (x.val * 8 + p.val)), Finset.sum_range]
  refine Fintype.sum_equiv (finProdFinEquiv (m := 32) (n := 8)) _ _ fun x => ?_
  congr 1
  show x.1.val * 8 + x.2.val = x.2.val + 8 * x.1.val
  omega

theorem pw_out {i j : ℕ} (h : i < j) : pw s G i j = 0 := by
  unfold pw tt
  rw [if_neg (by omega), EReal.bot_add]
  exact Ideal.exp2_bot

theorem sum_cut {f : ℕ → EReal} {n m : ℕ} (hn : n ≤ m) (hf : ∀ j, n ≤ j → f j = 0) : ∑ j ∈ Finset.range n, f j = ∑ j ∈ Finset.range m, f j :=
  Finset.sum_subset (fun x hx => by rw [Finset.mem_range] at *; omega) fun x _ hx => hf x (by rw [Finset.mem_range] at hx; omega)

/-- The sums over the first `k` blocks of keys. -/
theorem Pre.sums (H : Pre s G v g A) (hg : g < 8) (k : ℕ) (hk : k ≤ g + 1) :
    let y := iter (t12_step (ldv 1 128 (2 * g, 0) A.a14) (ldv 1 128 (2 * g + 1, 0) A.a14) (p11_x g A).2 (p11_x g A).1) k (k0_pay162 (F := Ideal), k0_pay163 (F := Ideal))
    (∀ (p : Fin 8) (l : Fin 256), y.1 (ix2 p l) = ∑ t ∈ Finset.range k, ∑ x : Fin 32, pw s G (256 * g + l.val) (256 * t + (x.val * 8 + p.val))) ∧
    (∀ (e : Fin 128) (l : Fin 256), y.2 (ix2 e l) = ∑ j ∈ Finset.range (256 * k), v j e.val * pw s G (256 * g + l.val) j) := by
  have M := H.mx hg
  have ha : ∀ x : Fin 128, ldv 1 128 (2 * g, 0) A.a14 (ix2 0 x) = (fun l => G (256 * g + l)) x.val := by
    intro x
    show A.a14 (2 * g + 0, 0 + x.val) = _
    rw [H.h14 _ (by omega) _ (by omega)]
    congr 1
    omega
  have hb : ∀ x : Fin 128, ldv 1 128 (2 * g + 1, 0) A.a14 (ix2 0 x) = (fun l => G (256 * g + l)) (128 + x.val) := by
    intro x
    show A.a14 (2 * g + 1 + 0, 0 + x.val) = _
    rw [H.h14 _ (by omega) _ (by omega)]
    congr 1
    omega
  have hc : ∀ l : Fin 256, Finset.fold max ⊥ (fun x : Fin 8 => (p11_x g A).2 (ix2 x l)) Finset.univ = (fun l => mq s G (256 * g + l)) l.val := M.top hg
  induction k with
  | zero =>
    refine ⟨fun p l => ?_, fun e l => ?_⟩
    · exact (pay162_at p l).trans (by simp)
    · exact (pay163_at e l).trans (by simp)
  | succ k ih =>
    obtain ⟨i1, i2⟩ := ih (by omega)
    have he : ∀ (a l : Fin 256), ldv 256 256 (256 * k, 0) (p11_x g A).1.a11 (ix2 a l) = tt s G (256 * g + l.val) (256 * k + a.val) := by
      intro a l
      show (p11_x g A).1.a11 (256 * k + a.val, 0 + l.val) = _
      rw [Nat.zero_add, M.sc _ l.isLt _ (by omega)]
    have hv : ∀ (e : Fin 128) (x : Fin 256), ldv 128 256 (0, 256 * k) (p11_x g A).1.a12 (ix2 e x) = v (256 * k + x.val) e.val := by
      intro e x
      show (p11_x g A).1.a12 (0 + e.val, 256 * k + x.val) = _
      rw [M.e12, Nat.zero_add, H.h12 _ e.isLt _ (by omega)]
    refine ⟨fun p l => ?_, fun e l => ?_⟩
    · show k0_pay165 (F := Ideal) _ _ _ _ _ (ix2 p l) = _
      rw [pay165_at _ _ _ _ (fun l => G (256 * g + l)) (fun l => mq s G (256 * g + l)) ha hb hc, Finset.sum_range_succ]
      refine congrArg₂ (· + ·) (i1 p l) (Finset.sum_congr rfl fun x _ => ?_)
      rw [he]
      rfl
    · show k0_pay166 (F := Ideal) _ _ _ _ _ _ (ix2 e l) = _
      rw [pay166_at _ _ _ _ (fun l => G (256 * g + l)) (fun l => mq s G (256 * g + l)) ha hb hc, Nat.mul_succ, Finset.sum_range_add]
      refine congrArg₂ (· + ·) (i2 e l) ?_
      rw [Finset.sum_range (n := 256)]
      refine Finset.sum_congr rfl fun x _ => ?_
      rw [he, hv]
      rfl

/-- The end of a trip: the group's rows of the output. -/
noncomputable def fin_fn (g : ℕ) (A : Scr) : Scr :=
  { (p11_x g A).1 with a7 := stv (h := 256) (w := 128) (256 * g, 0) (k0_pay4 (F := Ideal) (p11_y g (ldv 1 128 (2 * g, 0) A.a14) A).1 (p11_y g (ldv 1 128 (2 * g, 0) A.a14) A).2) (p11_x g A).1.a7 }

theorem Pre.out (H : Pre s G v g A) (hg : g < 8) : (∀ l < 256, ∀ e < 128, (fin_fn g A).a7 (256 * g + l, e) = outv s G v (256 * g + l) e)
    ∧ (∀ i < 256 * g, ∀ e, (fin_fn g A).a7 (i, e) = A.a7 (i, e)) := by
  have M := H.mx hg
  obtain ⟨h1, h2⟩ := H.sums hg (g + 1) le_rfl
  refine ⟨fun l hl e he => ?_, fun i hi e => ?_⟩
  · show stv (h := 256) (w := 128) _ _ _ (_, e) = _
    rw [stv_in (Nat.le_add_right _ _) (by simp only; omega) (Nat.zero_le _) (by simpa using he), pay4_at]
    unfold p11_y
    rw [h2]
    simp only [h1]
    have e1 : 256 * g + l - 256 * g = l := by omega
    simp only [e1, Nat.sub_zero]
    unfold outv
    congr 1
    · refine sum_cut (by omega) fun j hj => ?_
      rw [pw_out (by omega), mul_zero]
    · rw [← sum_cut (n := 256 * (g + 1)) (by omega) (fun j hj => pw_out (by omega)), Finset.sum_comm]
      have key : ∀ k, ∑ t ∈ Finset.range k, ∑ p : Fin 8, ∑ x : Fin 32, pw s G (256 * g + l) (256 * t + (x.val * 8 + p.val)) = ∑ j ∈ Finset.range (256 * k), pw s G (256 * g + l) j := by
        intro k
        induction k with
        | zero => simp
        | succ k ih => rw [Finset.sum_range_succ, ih, Nat.mul_succ, Finset.sum_range_add, sum8 (fun y => pw s G (256 * g + l) (256 * k + y))]
      exact key _
  · show stv (h := 256) (w := 128) _ _ _ (_, e) = _
    rw [stv_out (fun hh => by have := hh.1.1; simp only at this; omega), M.e7]

end Cert.KernelIdeal.Hand
-- ==== Proof.Pay0.lean ====
/-
  The payloads of the update's blocks, read at an index.
-/
module

public import proofs.«01_k».proof.Proof.Spec
import Idealize.ShloMosaic.Lib.Pointwise

@[expose] public section

namespace Cert.KernelIdeal.Hand
open Idealize.ShloMosaic Cert.KernelIdeal Cert.KernelIdeal.Gen
open Idealize.ShloMosaic.Updates
open Idealize.ShloMosaic.LaneScatter (Blk iter)
open scoped BigOperators

set_option maxHeartbeats 400000

theorem t2_tr (P1 P2 P3 : FVec Ideal S1x1x1x128x128 .bf16) (Q : FVec Ideal S1x1x128x128 .bf16) (r1 r2 r3 : ℕ → ℕ → ℝ)
    (h1 : ∀ x e : Fin 128, P1 (ix5 0 0 0 x e) = ((r1 x.val e.val : ℝ) : EReal)) (h2 : ∀ x e : Fin 128, P2 (ix5 0 0 0 x e) = ((r2 x.val e.val : ℝ) : EReal))
    (h3 : ∀ x e : Fin 128, P3 (ix5 0 0 0 x e) = ((r3 x.val e.val : ℝ) : EReal)) :
    TrOK 256 (fun a b c => k0_pay14 (F := Ideal) (k0_pay7 (F := Ideal) P1 P2) (k0_pay8 (F := Ideal) P1 P3 Q) a b c) (fun a b c => k0_pay15 (F := Ideal) (k0_pay7 (F := Ideal) P1 P2) (k0_pay8 (F := Ideal) P1 P3 Q) a b c) (fun a b c => k0_pay16 (F := Ideal) (k0_pay7 (F := Ideal) P1 P2) (k0_pay8 (F := Ideal) P1 P3 Q) a b c) (fun x e => r1 x e + r2 x e + r3 x e) := by
  refine ⟨fun a b c y ha hb hc p q => ?_, fun a b c y ha hb hc p q => ?_, fun a b c y ha hb hc p q => ?_⟩
  · pointwise [k0_pay14, k0_pay7, k0_pay8, k0_pay11, k0_pay6, k0_pay10, k0_pay9]
    simp only [ha, hb, hc, h1, h2, h3, zero_mul, Finset.sum_const_zero, add_zero, split3]
  · pointwise [k0_pay15, k0_pay7, k0_pay8, k0_pay13, k0_pay6, k0_pay12, k0_pay11, k0_pay10, k0_pay9]
    simp only [ha, hb, hc, h1, h2, h3, zero_mul, Finset.sum_const_zero, add_zero, split3]
    simp only [← EReal.coe_sub, sub_self, EReal.coe_zero, sub_zero]
  · pointwise [k0_pay16, k0_pay7, k0_pay8, k0_pay13, k0_pay12, k0_pay6, k0_pay11, k0_pay10, k0_pay9]
    simp only [ha, hb, hc, h1, h2, h3, zero_mul, Finset.sum_const_zero, add_zero, split3]
    simp only [← EReal.coe_sub, sub_self, EReal.coe_zero, sub_zero]

theorem t2_sc (P1 P3 : FVec Ideal S1x1x1x128x128 .bf16) (Q : FVec Ideal S1x1x128x128 .bf16) (qf : ℕ → ℕ → EReal)
    (hq : ∀ x e : Fin 128, Q (ix4 0 0 x e) = qf x.val e.val) : ScOK 256 128 (fun a c => k0_pay17 (F := Ideal) (k0_pay8 (F := Ideal) P1 P3 Q) a c) qf 0 := by
  intro a c hc p q
  pointwise [k0_pay17, k0_pay8, k0_pay9, k0_pay6]
  simp only [hc, hq, zero_mul, mul_zero, Finset.sum_const_zero, add_zero, zero_add]

theorem p6_tr (P1 P2 P3 : FVec Ideal S1x1x1x128x128 .bf16) (Q : FVec Ideal S1x1x128x128 .bf16) (r1 r2 r3 : ℕ → ℕ → ℝ)
    (h1 : ∀ x e : Fin 128, P1 (ix5 0 0 0 x e) = ((r1 x.val e.val : ℝ) : EReal)) (h2 : ∀ x e : Fin 128, P2 (ix5 0 0 0 x e) = ((r2 x.val e.val : ℝ) : EReal))
    (h3 : ∀ x e : Fin 128, P3 (ix5 0 0 0 x e) = ((r3 x.val e.val : ℝ) : EReal)) :
    TrOK 128 (fun a b c => k0_pay102 (F := Ideal) (k0_pay98 (F := Ideal) (k0_pay74 (F := Ideal) P1) (k0_pay75 (F := Ideal) P2) P3 Q a b c)) (fun a b c => k0_pay103 (F := Ideal) (k0_pay100 (F := Ideal) (k0_pay74 (F := Ideal) P1) (k0_pay75 (F := Ideal) P2) P3 Q a b c)) (fun a b c => k0_pay104 (F := Ideal) (k0_pay101 (F := Ideal) (k0_pay74 (F := Ideal) P1) (k0_pay75 (F := Ideal) P2) P3 Q a b c)) (fun x e => r1 x e + r2 x e + r3 x e) := by
  refine ⟨fun a b c y ha hb hc p q => ?_, fun a b c y ha hb hc p q => ?_, fun a b c y ha hb hc p q => ?_⟩
  · pointwise [k0_pay102, k0_pay74, k0_pay75, k0_pay98, k0_pay100, k0_pay101, k0_pay96, k0_pay97, k0_pay99, k0_pay77, k0_pay76]
    simp only [ha, hb, hc, h1, h2, h3, zero_mul, Finset.sum_const_zero, add_zero, split3]
  · pointwise [k0_pay103, k0_pay74, k0_pay75, k0_pay98, k0_pay100, k0_pay101, k0_pay96, k0_pay97, k0_pay99, k0_pay77, k0_pay76]
    simp only [ha, hb, hc, h1, h2, h3, zero_mul, Finset.sum_const_zero, add_zero, split3]
    simp only [← EReal.coe_sub, sub_self, EReal.coe_zero, sub_zero]
  · pointwise [k0_pay104, k0_pay74, k0_pay75, k0_pay98, k0_pay100, k0_pay101, k0_pay96, k0_pay97, k0_pay99, k0_pay77, k0_pay76]
    simp only [ha, hb, hc, h1, h2, h3, zero_mul, Finset.sum_const_zero, add_zero, split3]
    simp only [← EReal.coe_sub, sub_self, EReal.coe_zero, sub_zero]

theorem p6_sc (P1 P3 : FVec Ideal S1x1x1x128x128 .bf16) (Q : FVec Ideal S1x1x128x128 .bf16) (qf : ℕ → ℕ → EReal)
    (hq : ∀ x e : Fin 128, Q (ix4 0 0 x e) = qf x.val e.val) : ScOK 128 128 (fun a c => k0_pay105 (F := Ideal) (k0_pay96 (F := Ideal) (k0_pay74 (F := Ideal) P1) P3 Q a c)) qf 0 := by
  intro a c hc p q
  pointwise [k0_pay105, k0_pay74, k0_pay96, k0_pay77]
  simp only [hc, hq, zero_mul, mul_zero, Finset.sum_const_zero, add_zero, zero_add]

end Cert.KernelIdeal.Hand
-- ==== Proof.Pay1.lean ====
/-
  The payloads of the update's blocks, read at an index.
-/
module

public import proofs.«01_k».proof.Proof.Spec
import Idealize.ShloMosaic.Lib.Pointwise

@[expose] public section

namespace Cert.KernelIdeal.Hand
open Idealize.ShloMosaic Cert.KernelIdeal Cert.KernelIdeal.Gen
open Idealize.ShloMosaic.Updates
open Idealize.ShloMosaic.LaneScatter (Blk iter)
open scoped BigOperators

set_option maxHeartbeats 400000

theorem t4_tr (P1 P2 P3 : FVec Ideal S1x1x1x128x128 .bf16) (Q : FVec Ideal S1x1x128x128 .bf16) (r1 r2 r3 : ℕ → ℕ → ℝ)
    (h1 : ∀ x e : Fin 128, P1 (ix5 0 0 0 x e) = ((r1 x.val e.val : ℝ) : EReal)) (h2 : ∀ x e : Fin 128, P2 (ix5 0 0 0 x e) = ((r2 x.val e.val : ℝ) : EReal))
    (h3 : ∀ x e : Fin 128, P3 (ix5 0 0 0 x e) = ((r3 x.val e.val : ℝ) : EReal)) :
    TrOK 256 (fun a b c => k0_pay43 (F := Ideal) P1 P2 P3 Q a b c) (fun a b c => k0_pay44 (F := Ideal) P1 P2 P3 Q a b c) (fun a b c => k0_pay45 (F := Ideal) P1 P2 P3 Q a b c) (fun x e => r1 x e + r2 x e + r3 x e) := by
  refine ⟨fun a b c y ha hb hc p q => ?_, fun a b c y ha hb hc p q => ?_, fun a b c y ha hb hc p q => ?_⟩
  · pointwise [k0_pay43, k0_pay40, k0_pay39, k0_pay36, k0_pay38, k0_pay35, k0_pay37]
    simp only [ha, hb, hc, h1, h2, h3, zero_mul, Finset.sum_const_zero, add_zero, split3]
  · pointwise [k0_pay44, k0_pay42, k0_pay41, k0_pay40, k0_pay39, k0_pay36, k0_pay38, k0_pay35, k0_pay37]
    simp only [ha, hb, hc, h1, h2, h3, zero_mul, Finset.sum_const_zero, add_zero, split3]
    simp only [← EReal.coe_sub, sub_self, EReal.coe_zero, sub_zero]
  · pointwise [k0_pay45, k0_pay42, k0_pay41, k0_pay40, k0_pay39, k0_pay36, k0_pay38, k0_pay35, k0_pay37]
    simp only [ha, hb, hc, h1, h2, h3, zero_mul, Finset.sum_const_zero, add_zero, split3]
    simp only [← EReal.coe_sub, sub_self, EReal.coe_zero, sub_zero]

theorem t4_sc (P1 P3 : FVec Ideal S1x1x1x128x128 .bf16) (Q : FVec Ideal S1x1x128x128 .bf16) (qf : ℕ → ℕ → EReal)
    (hq : ∀ x e : Fin 128, Q (ix4 0 0 x e) = qf x.val e.val) : ScOK 256 64 (fun a c => k0_pay46 (F := Ideal) P1 P3 Q a c) qf 64 := by
  intro a c hc p q
  pointwise [k0_pay46, k0_pay38, k0_pay37, k0_pay35]
  simp only [hc, hq, zero_mul, mul_zero, Finset.sum_const_zero, add_zero, zero_add]
  refine Finset.sum_congr rfl fun x _ => ?_
  have e : 192 + q.val - 128 = 64 + q.val := by omega
  rw [dif_neg (by omega), e]

theorem t8_tr (P1 P2 P3 : FVec Ideal S1x1x1x128x128 .bf16) (Q : FVec Ideal S1x1x128x128 .bf16) (r1 r2 r3 : ℕ → ℕ → ℝ)
    (h1 : ∀ x e : Fin 128, P1 (ix5 0 0 0 x e) = ((r1 x.val e.val : ℝ) : EReal)) (h2 : ∀ x e : Fin 128, P2 (ix5 0 0 0 x e) = ((r2 x.val e.val : ℝ) : EReal))
    (h3 : ∀ x e : Fin 128, P3 (ix5 0 0 0 x e) = ((r3 x.val e.val : ℝ) : EReal)) :
    TrOK 256 (fun a b c => k0_pay122 (F := Ideal) (k0_pay115 (F := Ideal) P1 P2) (k0_pay116 (F := Ideal) P1 P3 Q) a b c) (fun a b c => k0_pay123 (F := Ideal) (k0_pay115 (F := Ideal) P1 P2) (k0_pay116 (F := Ideal) P1 P3 Q) a b c) (fun a b c => k0_pay124 (F := Ideal) (k0_pay115 (F := Ideal) P1 P2) (k0_pay116 (F := Ideal) P1 P3 Q) a b c) (fun x e => r1 x e + r2 x e + r3 x e) := by
  refine ⟨fun a b c y ha hb hc p q => ?_, fun a b c y ha hb hc p q => ?_, fun a b c y ha hb hc p q => ?_⟩
  · pointwise [k0_pay122, k0_pay115, k0_pay116, k0_pay119, k0_pay114, k0_pay118, k0_pay117]
    simp only [ha, hb, hc, h1, h2, h3, zero_mul, Finset.sum_const_zero, add_zero, split3]
  · pointwise [k0_pay123, k0_pay115, k0_pay116, k0_pay121, k0_pay114, k0_pay120, k0_pay119, k0_pay118, k0_pay117]
    simp only [ha, hb, hc, h1, h2, h3, zero_mul, Finset.sum_const_zero, add_zero, split3]
    simp only [← EReal.coe_sub, sub_self, EReal.coe_zero, sub_zero]
  · pointwise [k0_pay124, k0_pay115, k0_pay116, k0_pay121, k0_pay120, k0_pay114, k0_pay119, k0_pay118, k0_pay117]
    simp only [ha, hb, hc, h1, h2, h3, zero_mul, Finset.sum_const_zero, add_zero, split3]
    simp only [← EReal.coe_sub, sub_self, EReal.coe_zero, sub_zero]

theorem t8_sc (P1 P3 : FVec Ideal S1x1x1x128x128 .bf16) (Q : FVec Ideal S1x1x128x128 .bf16) (qf : ℕ → ℕ → EReal)
    (hq : ∀ x e : Fin 128, Q (ix4 0 0 x e) = qf x.val e.val) : ScOK 256 64 (fun a c => k0_pay125 (F := Ideal) (k0_pay116 (F := Ideal) P1 P3 Q) a c) qf 64 := by
  intro a c hc p q
  pointwise [k0_pay125, k0_pay116, k0_pay117, k0_pay114]
  simp only [hc, hq, zero_mul, mul_zero, Finset.sum_const_zero, add_zero, zero_add]
  refine Finset.sum_congr rfl fun x _ => ?_
  have e : 192 + q.val - 128 = 64 + q.val := by omega
  rw [dif_neg (by omega), e]

end Cert.KernelIdeal.Hand
-- ==== Proof.Pay2.lean ====
/-
  The payloads of the update's blocks, read at an index.
-/
module

public import proofs.«01_k».proof.Proof.Spec
import Idealize.ShloMosaic.Lib.Pointwise

@[expose] public section

namespace Cert.KernelIdeal.Hand
open Idealize.ShloMosaic Cert.KernelIdeal Cert.KernelIdeal.Gen
open Idealize.ShloMosaic.Updates
open Idealize.ShloMosaic.LaneScatter (Blk iter)
open scoped BigOperators

set_option maxHeartbeats 400000

theorem p4_tr (P1 P2 P3 : FVec Ideal S1x1x1x128x128 .bf16) (Q : FVec Ideal S1x1x128x128 .bf16) (r1 r2 r3 : ℕ → ℕ → ℝ)
    (h1 : ∀ x e : Fin 128, P1 (ix5 0 0 0 x e) = ((r1 x.val e.val : ℝ) : EReal)) (h2 : ∀ x e : Fin 128, P2 (ix5 0 0 0 x e) = ((r2 x.val e.val : ℝ) : EReal))
    (h3 : ∀ x e : Fin 128, P3 (ix5 0 0 0 x e) = ((r3 x.val e.val : ℝ) : EReal)) :
    TrOK 64 (fun a b c => k0_pay61 (F := Ideal) (k0_pay36 (F := Ideal) P1 P2) (k0_pay37 (F := Ideal) P1 P3 Q) a b c) (fun a b c => k0_pay62 (F := Ideal) (k0_pay36 (F := Ideal) P1 P2) (k0_pay37 (F := Ideal) P1 P3 Q) a b c) (fun a b c => k0_pay63 (F := Ideal) (k0_pay36 (F := Ideal) P1 P2) (k0_pay37 (F := Ideal) P1 P3 Q) a b c) (fun x e => r1 x e + r2 x e + r3 x e) := by
  refine ⟨fun a b c y ha hb hc p q => ?_, fun a b c y ha hb hc p q => ?_, fun a b c y ha hb hc p q => ?_⟩
  · pointwise [k0_pay61, k0_pay36, k0_pay37, k0_pay58, k0_pay35, k0_pay57, k0_pay56]
    simp only [ha, hb, hc, h1, h2, h3, zero_mul, Finset.sum_const_zero, add_zero, split3]
  · pointwise [k0_pay62, k0_pay36, k0_pay37, k0_pay60, k0_pay35, k0_pay59, k0_pay58, k0_pay57, k0_pay56]
    simp only [ha, hb, hc, h1, h2, h3, zero_mul, Finset.sum_const_zero, add_zero, split3]
    simp only [← EReal.coe_sub, sub_self, EReal.coe_zero, sub_zero]
  · pointwise [k0_pay63, k0_pay36, k0_pay37, k0_pay60, k0_pay59, k0_pay35, k0_pay58, k0_pay57, k0_pay56]
    simp only [ha, hb, hc, h1, h2, h3, zero_mul, Finset.sum_const_zero, add_zero, split3]
    simp only [← EReal.coe_sub, sub_self, EReal.coe_zero, sub_zero]

theorem p4_sc (P1 P3 : FVec Ideal S1x1x1x128x128 .bf16) (Q : FVec Ideal S1x1x128x128 .bf16) (qf : ℕ → ℕ → EReal)
    (hq : ∀ x e : Fin 128, Q (ix4 0 0 x e) = qf x.val e.val) : ScOK 64 64 (fun a c => k0_pay64 (F := Ideal) (k0_pay37 (F := Ideal) P1 P3 Q) a c) qf 64 := by
  intro a c hc p q
  pointwise [k0_pay64, k0_pay37, k0_pay56, k0_pay35]
  simp only [hc, hq, zero_mul, mul_zero, Finset.sum_const_zero, add_zero, zero_add]
  refine Finset.sum_congr rfl fun x _ => ?_
  have e : 192 + q.val - 128 = 64 + q.val := by omega
  rw [dif_neg (by omega), e]

theorem p9_tr (P1 P2 P3 : FVec Ideal S1x1x1x128x128 .bf16) (Q : FVec Ideal S1x1x128x128 .bf16) (r1 r2 r3 : ℕ → ℕ → ℝ)
    (h1 : ∀ x e : Fin 128, P1 (ix5 0 0 0 x e) = ((r1 x.val e.val : ℝ) : EReal)) (h2 : ∀ x e : Fin 128, P2 (ix5 0 0 0 x e) = ((r2 x.val e.val : ℝ) : EReal))
    (h3 : ∀ x e : Fin 128, P3 (ix5 0 0 0 x e) = ((r3 x.val e.val : ℝ) : EReal)) :
    TrOK 192 (fun a b c => k0_pay140 (F := Ideal) (k0_pay115 (F := Ideal) P1 P2) (k0_pay116 (F := Ideal) P1 P3 Q) a b c) (fun a b c => k0_pay141 (F := Ideal) (k0_pay115 (F := Ideal) P1 P2) (k0_pay116 (F := Ideal) P1 P3 Q) a b c) (fun a b c => k0_pay142 (F := Ideal) (k0_pay115 (F := Ideal) P1 P2) (k0_pay116 (F := Ideal) P1 P3 Q) a b c) (fun x e => r1 x e + r2 x e + r3 x e) := by
  refine ⟨fun a b c y ha hb hc p q => ?_, fun a b c y ha hb hc p q => ?_, fun a b c y ha hb hc p q => ?_⟩
  · pointwise [k0_pay140, k0_pay115, k0_pay116, k0_pay137, k0_pay114, k0_pay136, k0_pay135]
    simp only [ha, hb, hc, h1, h2, h3, zero_mul, Finset.sum_const_zero, add_zero, split3]
  · pointwise [k0_pay141, k0_pay115, k0_pay116, k0_pay139, k0_pay114, k0_pay138, k0_pay137, k0_pay136, k0_pay135]
    simp only [ha, hb, hc, h1, h2, h3, zero_mul, Finset.sum_const_zero, add_zero, split3]
    simp only [← EReal.coe_sub, sub_self, EReal.coe_zero, sub_zero]
  · pointwise [k0_pay142, k0_pay115, k0_pay116, k0_pay139, k0_pay138, k0_pay114, k0_pay137, k0_pay136, k0_pay135]
    simp only [ha, hb, hc, h1, h2, h3, zero_mul, Finset.sum_const_zero, add_zero, split3]
    simp only [← EReal.coe_sub, sub_self, EReal.coe_zero, sub_zero]

theorem p9_sc (P1 P3 : FVec Ideal S1x1x1x128x128 .bf16) (Q : FVec Ideal S1x1x128x128 .bf16) (qf : ℕ → ℕ → EReal)
    (hq : ∀ x e : Fin 128, Q (ix4 0 0 x e) = qf x.val e.val) : ScOK 192 64 (fun a c => k0_pay143 (F := Ideal) (k0_pay116 (F := Ideal) P1 P3 Q) a c) qf 64 := by
  intro a c hc p q
  pointwise [k0_pay143, k0_pay116, k0_pay135, k0_pay114]
  simp only [hc, hq, zero_mul, mul_zero, Finset.sum_const_zero, add_zero, zero_add]
  refine Finset.sum_congr rfl fun x _ => ?_
  have e : 192 + q.val - 128 = 64 + q.val := by omega
  rw [dif_neg (by omega), e]

end Cert.KernelIdeal.Hand
-- ==== Proof.Pay3.lean ====
/-
  The payloads of the update's blocks, read at an index.
-/
module

public import proofs.«01_k».proof.Proof.Spec
import Idealize.ShloMosaic.Lib.Pointwise

@[expose] public section

namespace Cert.KernelIdeal.Hand
open Idealize.ShloMosaic Cert.KernelIdeal Cert.KernelIdeal.Gen
open Idealize.ShloMosaic.Updates
open Idealize.ShloMosaic.LaneScatter (Blk iter)
open scoped BigOperators

set_option maxHeartbeats 400000

theorem t6_tr (P1 P2 P3 : FVec Ideal S1x1x1x128x128 .bf16) (Q : FVec Ideal S1x1x128x128 .bf16) (r1 r2 r3 : ℕ → ℕ → ℝ)
    (h1 : ∀ x e : Fin 128, P1 (ix5 0 0 0 x e) = ((r1 x.val e.val : ℝ) : EReal)) (h2 : ∀ x e : Fin 128, P2 (ix5 0 0 0 x e) = ((r2 x.val e.val : ℝ) : EReal))
    (h3 : ∀ x e : Fin 128, P3 (ix5 0 0 0 x e) = ((r3 x.val e.val : ℝ) : EReal)) :
    TrOK 256 (fun a b c => k0_pay83 (F := Ideal) (k0_pay74 (F := Ideal) P1) (k0_pay75 (F := Ideal) P2) P3 Q a b c) (fun a b c => k0_pay84 (F := Ideal) (k0_pay74 (F := Ideal) P1) (k0_pay75 (F := Ideal) P2) P3 Q a b c) (fun a b c => k0_pay85 (F := Ideal) (k0_pay74 (F := Ideal) P1) (k0_pay75 (F := Ideal) P2) P3 Q a b c) (fun x e => r1 x e + r2 x e + r3 x e) := by
  refine ⟨fun a b c y ha hb hc p q => ?_, fun a b c y ha hb hc p q => ?_, fun a b c y ha hb hc p q => ?_⟩
  · pointwise [k0_pay83, k0_pay74, k0_pay75, k0_pay80, k0_pay79, k0_pay76, k0_pay78, k0_pay77]
    simp only [ha, hb, hc, h1, h2, h3, zero_mul, Finset.sum_const_zero, add_zero, split3]
  · pointwise [k0_pay84, k0_pay74, k0_pay75, k0_pay82, k0_pay81, k0_pay80, k0_pay79, k0_pay76, k0_pay78, k0_pay77]
    simp only [ha, hb, hc, h1, h2, h3, zero_mul, Finset.sum_const_zero, add_zero, split3]
    simp only [← EReal.coe_sub, sub_self, EReal.coe_zero, sub_zero]
  · pointwise [k0_pay85, k0_pay74, k0_pay75, k0_pay82, k0_pay81, k0_pay80, k0_pay79, k0_pay76, k0_pay78, k0_pay77]
    simp only [ha, hb, hc, h1, h2, h3, zero_mul, Finset.sum_const_zero, add_zero, split3]
    simp only [← EReal.coe_sub, sub_self, EReal.coe_zero, sub_zero]

theorem t6_sc (P1 P3 : FVec Ideal S1x1x1x128x128 .bf16) (Q : FVec Ideal S1x1x128x128 .bf16) (qf : ℕ → ℕ → EReal)
    (hq : ∀ x e : Fin 128, Q (ix4 0 0 x e) = qf x.val e.val) : ScOK 256 128 (fun a c => k0_pay86 (F := Ideal) (k0_pay74 (F := Ideal) P1) P3 Q a c) qf 0 := by
  intro a c hc p q
  pointwise [k0_pay86, k0_pay74, k0_pay78, k0_pay77]
  simp only [hc, hq, zero_mul, mul_zero, Finset.sum_const_zero, add_zero, zero_add]

theorem k0_ins (v : FVec Ideal S1x64x128 .f32) (k : ℕ → ℕ → ℝ) (hv : ∀ (a : Fin 64) (b : Fin 128), v (ix3 0 a b) = ((k a.val b.val : ℝ) : EReal)) (a : Fin 64) (b : Fin 128) :
    k0_pay31 (F := Ideal) v (ix2 a b) = ((k a.val b.val : ℝ) : EReal) ∧ k0_pay32 (F := Ideal) v (ix2 a b) = 0 ∧ k0_pay33 (F := Ideal) v (ix2 a b) = 0 := by
  refine ⟨?_, ?_, ?_⟩
  · pointwise [k0_pay31, k0_pay28, k0_pay27]
    simp only [hv, ← EReal.coe_sub, sub_self, EReal.coe_zero, sub_zero]
  · pointwise [k0_pay32, k0_pay30, k0_pay29, k0_pay28, k0_pay27]
    simp only [hv, ← EReal.coe_sub, sub_self, EReal.coe_zero, sub_zero]
  · pointwise [k0_pay33, k0_pay30, k0_pay29, k0_pay28, k0_pay27]
    simp only [hv, ← EReal.coe_sub, sub_self, EReal.coe_zero, sub_zero]

theorem k1_ins (v : FVec Ideal S1x64x128 .f32) (k : ℕ → ℕ → ℝ) (hv : ∀ (a : Fin 64) (b : Fin 128), v (ix3 0 a b) = ((k a.val b.val : ℝ) : EReal)) (a : Fin 64) (b : Fin 128) :
    k0_pay70 (F := Ideal) (k0_pay66 (F := Ideal) v) (ix2 a b) = ((k a.val b.val : ℝ) : EReal) ∧ k0_pay71 (F := Ideal) (k0_pay68 (F := Ideal) v) (ix2 a b) = 0 ∧ k0_pay72 (F := Ideal) (k0_pay69 (F := Ideal) v) (ix2 a b) = 0 := by
  refine ⟨?_, ?_, ?_⟩
  · pointwise [k0_pay70, k0_pay66, k0_pay65]
    simp only [hv, ← EReal.coe_sub, sub_self, EReal.coe_zero, sub_zero]
  · pointwise [k0_pay71, k0_pay68, k0_pay67, k0_pay66, k0_pay65]
    simp only [hv, ← EReal.coe_sub, sub_self, EReal.coe_zero, sub_zero]
  · pointwise [k0_pay72, k0_pay69, k0_pay68, k0_pay67, k0_pay66, k0_pay65]
    simp only [hv, ← EReal.coe_sub, sub_self, EReal.coe_zero, sub_zero]

theorem k2_ins (v : FVec Ideal S1x64x128 .f32) (k : ℕ → ℕ → ℝ) (hv : ∀ (a : Fin 64) (b : Fin 128), v (ix3 0 a b) = ((k a.val b.val : ℝ) : EReal)) (a : Fin 64) (b : Fin 128) :
    k0_pay110 (F := Ideal) v (ix2 a b) = ((k a.val b.val : ℝ) : EReal) ∧ k0_pay111 (F := Ideal) v (ix2 a b) = 0 ∧ k0_pay112 (F := Ideal) v (ix2 a b) = 0 := by
  refine ⟨?_, ?_, ?_⟩
  · pointwise [k0_pay110, k0_pay107, k0_pay106]
    simp only [hv, ← EReal.coe_sub, sub_self, EReal.coe_zero, sub_zero]
  · pointwise [k0_pay111, k0_pay109, k0_pay108, k0_pay107, k0_pay106]
    simp only [hv, ← EReal.coe_sub, sub_self, EReal.coe_zero, sub_zero]
  · pointwise [k0_pay112, k0_pay109, k0_pay108, k0_pay107, k0_pay106]
    simp only [hv, ← EReal.coe_sub, sub_self, EReal.coe_zero, sub_zero]

theorem k3_ins (v : FVec Ideal S1x64x128 .f32) (k : ℕ → ℕ → ℝ) (hv : ∀ (a : Fin 64) (b : Fin 128), v (ix3 0 a b) = ((k a.val b.val : ℝ) : EReal)) (a : Fin 64) (b : Fin 128) :
    k0_pay148 (F := Ideal) v (ix2 a b) = ((k a.val b.val : ℝ) : EReal) ∧ k0_pay149 (F := Ideal) v (ix2 a b) = 0 ∧ k0_pay150 (F := Ideal) v (ix2 a b) = 0 := by
  refine ⟨?_, ?_, ?_⟩
  · pointwise [k0_pay148, k0_pay145, k0_pay144]
    simp only [hv, ← EReal.coe_sub, sub_self, EReal.coe_zero, sub_zero]
  · pointwise [k0_pay149, k0_pay147, k0_pay146, k0_pay145, k0_pay144]
    simp only [hv, ← EReal.coe_sub, sub_self, EReal.coe_zero, sub_zero]
  · pointwise [k0_pay150, k0_pay147, k0_pay146, k0_pay145, k0_pay144]
    simp only [hv, ← EReal.coe_sub, sub_self, EReal.coe_zero, sub_zero]

theorem d0_ins (v : FVec Ideal S1x1x64x128 .f32) (s : ℕ → ℕ → EReal) (hv : ∀ (a : Fin 64) (b : Fin 128), v (ix4 0 0 a b) = s a.val b.val) (a : Fin 64) (b : Fin 128) :
    k0_pay34 (F := Ideal) v (ix2 a b) = s a.val (0 + b.val) := by
  pointwise [k0_pay34]
  simp only [hv, Nat.zero_add]

theorem d1_ins (v : FVec Ideal S1x1x64x128 .f32) (s : ℕ → ℕ → EReal) (hv : ∀ (a : Fin 64) (b : Fin 128), v (ix4 0 0 a b) = s a.val b.val) (a : Fin 64) (b : Fin 64) :
    k0_pay73 (F := Ideal) v (ix2 a b) = s a.val (64 + b.val) := by
  pointwise [k0_pay73]
  simp only [hv, Nat.zero_add]

theorem d2_ins (v : FVec Ideal S1x1x64x128 .f32) (s : ℕ → ℕ → EReal) (hv : ∀ (a : Fin 64) (b : Fin 128), v (ix4 0 0 a b) = s a.val b.val) (a : Fin 64) (b : Fin 128) :
    k0_pay113 (F := Ideal) v (ix2 a b) = s a.val (0 + b.val) := by
  pointwise [k0_pay113]
  simp only [hv, Nat.zero_add]

theorem d3_ins (v : FVec Ideal S1x1x64x128 .f32) (s : ℕ → ℕ → EReal) (hv : ∀ (a : Fin 64) (b : Fin 128), v (ix4 0 0 a b) = s a.val b.val) (a : Fin 64) (b : Fin 64) :
    k0_pay151 (F := Ideal) v (ix2 a b) = s a.val (64 + b.val) := by
  pointwise [k0_pay151]
  simp only [hv, Nat.zero_add]

end Cert.KernelIdeal.Hand
-- ==== Proof.TripSpec.lean ====
/-
  A trip of the outer loop: four chunks of keys, then the softmax of the group's queries.
-/
module

public import proofs.«01_k».proof.Proof.Trip
public import proofs.«01_k».proof.Proof.Attend
public import proofs.«01_k».proof.Proof.Pay0
public import proofs.«01_k».proof.Proof.Pay1
public import proofs.«01_k».proof.Proof.Pay2
public import proofs.«01_k».proof.Proof.Pay3

@[expose] public section

namespace Cert.KernelIdeal.Hand
open Idealize.ShloMosaic Cert.KernelIdeal Cert.KernelIdeal.Gen
open Idealize.ShloMosaic.Updates
open Idealize.ShloMosaic.LaneScatter (Blk iter)
open scoped BigOperators

set_option maxHeartbeats 400000
set_option maxRecDepth 16384

/-- The four chunks of a trip. -/
noncomputable def chunks (g : ℕ) (v215 : Vec Ideal S1x1x1x128x128 .bf16) (v218 : Vec Ideal S1x1x1x128x128 .bf16) (v221 : Vec Ideal S1x1x1x128x128 .bf16) (v226 : Vec Ideal S1x1x128x128 .bf16) (v245 : Vec Ideal S1x64x128 .f32) (v269 : Vec Ideal S1x1x64x128 .f32) (v278 : Vec Ideal S1x1x1x128x128 .bf16) (v281 : Vec Ideal S1x1x1x128x128 .bf16) (v284 : Vec Ideal S1x1x1x128x128 .bf16) (v289 : Vec Ideal S1x1x128x128 .bf16) (v347 : Vec Ideal S1x64x128 .f32) (v371 : Vec Ideal S1x1x64x128 .f32) (v381 : Vec Ideal S1x1x1x128x128 .bf16) (v384 : Vec Ideal S1x1x1x128x128 .bf16) (v387 : Vec Ideal S1x1x1x128x128 .bf16) (v392 : Vec Ideal S1x1x128x128 .bf16) (v450 : Vec Ideal S1x64x128 .f32) (v474 : Vec Ideal S1x1x64x128 .f32) (v483 : Vec Ideal S1x1x1x128x128 .bf16) (v486 : Vec Ideal S1x1x1x128x128 .bf16) (v489 : Vec Ideal S1x1x1x128x128 .bf16) (v494 : Vec Ideal S1x1x128x128 .bf16) (v552 : Vec Ideal S1x64x128 .f32) (v576 : Vec Ideal S1x1x64x128 .f32) (A1 : Scr) : Scr :=
  let v230 := k0_pay7 (F := Ideal) v215 v218
  let v234 := k0_pay8 (F := Ideal) v215 v221 v226
  let A2 := p2_fn g v230 v234 v245 v269 A1
  let v293 := k0_pay36 (F := Ideal) v278 v281
  let v297 := k0_pay37 (F := Ideal) v278 v284 v289
  let v306 := (ldv 64 128 (256 * g, 0) (iter (fun t A2 => t4_fn g t v278 v281 v284 v289 A2) g A2).a8)
  let v308 := (ldv 64 128 (256 * g, 0) (iter (fun t A2 => t4_fn g t v278 v281 v284 v289 A2) g A2).a9)
  let A3 := p3_fn g v278 v281 v284 v289 A2
  let v349 := k0_pay66 (F := Ideal) v347
  let v352 := k0_pay68 (F := Ideal) v347
  let v354 := k0_pay69 (F := Ideal) v347
  let A4 := p4_fn g v293 v297 v306 v308 A3
  let v382 := k0_pay74 (F := Ideal) v381
  let v385 := k0_pay75 (F := Ideal) v384
  let A5 := p5_fn g v349 v352 v354 v371 A4
  let v417 := k0_pay96 (F := Ideal) v382 v387 v392 (ldv 128 128 (256 * g, 0) (iter (fun t A5 => t6_fn g t v382 v385 v387 v392 A5) g A5).a8) (ldv 128 128 (256 * g, 0) (iter (fun t A5 => t6_fn g t v382 v385 v387 v392 A5) g A5).a10)
  let v423 := k0_pay98 (F := Ideal) v382 v385 v387 v392 (ldv 128 128 (256 * g, 0) (iter (fun t A5 => t6_fn g t v382 v385 v387 v392 A5) g A5).a8) (ldv 128 128 (256 * g, 0) (iter (fun t A5 => t6_fn g t v382 v385 v387 v392 A5) g A5).a9) (ldv 128 128 (256 * g, 0) (iter (fun t A5 => t6_fn g t v382 v385 v387 v392 A5) g A5).a10)
  let v426 := k0_pay100 (F := Ideal) v382 v385 v387 v392 (ldv 128 128 (256 * g, 0) (iter (fun t A5 => t6_fn g t v382 v385 v387 v392 A5) g A5).a8) (ldv 128 128 (256 * g, 0) (iter (fun t A5 => t6_fn g t v382 v385 v387 v392 A5) g A5).a9) (ldv 128 128 (256 * g, 0) (iter (fun t A5 => t6_fn g t v382 v385 v387 v392 A5) g A5).a10)
  let v429 := k0_pay101 (F := Ideal) v382 v385 v387 v392 (ldv 128 128 (256 * g, 0) (iter (fun t A5 => t6_fn g t v382 v385 v387 v392 A5) g A5).a8) (ldv 128 128 (256 * g, 0) (iter (fun t A5 => t6_fn g t v382 v385 v387 v392 A5) g A5).a9) (ldv 128 128 (256 * g, 0) (iter (fun t A5 => t6_fn g t v382 v385 v387 v392 A5) g A5).a10)
  let A6 := p6_fn g v382 v385 v387 v392 A5
  let A7 := p7_fn g v417 v423 v426 v429 v450 A6
  let v498 := k0_pay115 (F := Ideal) v483 v486
  let v502 := k0_pay116 (F := Ideal) v483 v489 v494
  let A8 := p8_fn g v474 A7
  let A9 := p9_fn g v498 v502 A8
  let A10 := p10_fn g v552 v576 A9
  A10

theorem trip_eq (g : ℕ) (v205 : Vec Ideal S256x128 .bf16) (v215 : Vec Ideal S1x1x1x128x128 .bf16) (v218 : Vec Ideal S1x1x1x128x128 .bf16) (v221 : Vec Ideal S1x1x1x128x128 .bf16) (v226 : Vec Ideal S1x1x128x128 .bf16) (v245 : Vec Ideal S1x64x128 .f32) (v269 : Vec Ideal S1x1x64x128 .f32) (v278 : Vec Ideal S1x1x1x128x128 .bf16) (v281 : Vec Ideal S1x1x1x128x128 .bf16) (v284 : Vec Ideal S1x1x1x128x128 .bf16) (v289 : Vec Ideal S1x1x128x128 .bf16) (v347 : Vec Ideal S1x64x128 .f32) (v371 : Vec Ideal S1x1x64x128 .f32) (v381 : Vec Ideal S1x1x1x128x128 .bf16) (v384 : Vec Ideal S1x1x1x128x128 .bf16) (v387 : Vec Ideal S1x1x1x128x128 .bf16) (v392 : Vec Ideal S1x1x128x128 .bf16) (v450 : Vec Ideal S1x64x128 .f32) (v474 : Vec Ideal S1x1x64x128 .f32) (v483 : Vec Ideal S1x1x1x128x128 .bf16) (v486 : Vec Ideal S1x1x1x128x128 .bf16) (v489 : Vec Ideal S1x1x1x128x128 .bf16) (v494 : Vec Ideal S1x1x128x128 .bf16) (v552 : Vec Ideal S1x64x128 .f32) (v576 : Vec Ideal S1x1x64x128 .f32) (A : Scr) : trip_fn g v205 v215 v218 v221 v226 v245 v269 v278 v281 v284 v289 v347 v371 v381 v384 v387 v392 v450 v474 v483 v486 v489 v494 v552 v576 A = fin_fn g (chunks g v215 v218 v221 v226 v245 v269 v278 v281 v284 v289 v347 v371 v381 v384 v387 v392 v450 v474 v483 v486 v489 v494 v552 v576 (p1_fn g v205 A)) := rfl

theorem Mid.to {R : ℕ → ℕ → ℕ → ℝ} {K : ℕ → ℕ → ℝ} {Q : ℕ → ℕ → EReal} {off so n m m' : ℕ} {A0 A : Scr} (H : Mid R K Q off so n m A0 A) (h : m = m') :
    Mid R K Q off so n m' A0 A := h ▸ H

/-- After the four chunks the group's scores are there. -/
theorem chunks_done {rp : ℕ → ℕ → ℕ → ℕ → ℝ} {K : ℕ → ℕ → ℝ} {q : ℕ → ℕ → ℕ → EReal} {sd : ℕ → ℕ → ℕ → EReal} {g : ℕ} (v215 : Vec Ideal S1x1x1x128x128 .bf16) (v218 : Vec Ideal S1x1x1x128x128 .bf16) (v221 : Vec Ideal S1x1x1x128x128 .bf16) (v226 : Vec Ideal S1x1x128x128 .bf16) (v245 : Vec Ideal S1x64x128 .f32) (v269 : Vec Ideal S1x1x64x128 .f32) (v278 : Vec Ideal S1x1x1x128x128 .bf16) (v281 : Vec Ideal S1x1x1x128x128 .bf16) (v284 : Vec Ideal S1x1x1x128x128 .bf16) (v289 : Vec Ideal S1x1x128x128 .bf16) (v347 : Vec Ideal S1x64x128 .f32) (v371 : Vec Ideal S1x1x64x128 .f32) (v381 : Vec Ideal S1x1x1x128x128 .bf16) (v384 : Vec Ideal S1x1x1x128x128 .bf16) (v387 : Vec Ideal S1x1x1x128x128 .bf16) (v392 : Vec Ideal S1x1x128x128 .bf16) (v450 : Vec Ideal S1x64x128 .f32) (v474 : Vec Ideal S1x1x64x128 .f32) (v483 : Vec Ideal S1x1x1x128x128 .bf16) (v486 : Vec Ideal S1x1x1x128x128 .bf16) (v489 : Vec Ideal S1x1x1x128x128 .bf16) (v494 : Vec Ideal S1x1x128x128 .bf16) (v552 : Vec Ideal S1x64x128 .f32) (v576 : Vec Ideal S1x1x64x128 .f32) {A1 : Scr}
    (h215 : ∀ x e : Fin 128, v215 (ix5 0 0 0 x e) = ((rp (4 * g + 0) 0 x.val e.val : ℝ) : EReal))
    (h218 : ∀ x e : Fin 128, v218 (ix5 0 0 0 x e) = ((rp (4 * g + 0) 1 x.val e.val : ℝ) : EReal))
    (h221 : ∀ x e : Fin 128, v221 (ix5 0 0 0 x e) = ((rp (4 * g + 0) 2 x.val e.val : ℝ) : EReal))
    (h226 : ∀ x e : Fin 128, v226 (ix4 0 0 x e) = q (2 * g + 0 / 2) x.val e.val)
    (h245 : ∀ (a : Fin 64) (b : Fin 128), v245 (ix3 0 a b) = ((K (64 * (4 * g + 0) + a.val) b.val : ℝ) : EReal))
    (h269 : ∀ (a : Fin 64) (b : Fin 128), v269 (ix4 0 0 a b) = sd (2 * g + 0 / 2) a.val b.val)
    (h278 : ∀ x e : Fin 128, v278 (ix5 0 0 0 x e) = ((rp (4 * g + 1) 0 x.val e.val : ℝ) : EReal))
    (h281 : ∀ x e : Fin 128, v281 (ix5 0 0 0 x e) = ((rp (4 * g + 1) 1 x.val e.val : ℝ) : EReal))
    (h284 : ∀ x e : Fin 128, v284 (ix5 0 0 0 x e) = ((rp (4 * g + 1) 2 x.val e.val : ℝ) : EReal))
    (h289 : ∀ x e : Fin 128, v289 (ix4 0 0 x e) = q (2 * g + 1 / 2) x.val e.val)
    (h347 : ∀ (a : Fin 64) (b : Fin 128), v347 (ix3 0 a b) = ((K (64 * (4 * g + 1) + a.val) b.val : ℝ) : EReal))
    (h371 : ∀ (a : Fin 64) (b : Fin 128), v371 (ix4 0 0 a b) = sd (2 * g + 1 / 2) a.val b.val)
    (h381 : ∀ x e : Fin 128, v381 (ix5 0 0 0 x e) = ((rp (4 * g + 2) 0 x.val e.val : ℝ) : EReal))
    (h384 : ∀ x e : Fin 128, v384 (ix5 0 0 0 x e) = ((rp (4 * g + 2) 1 x.val e.val : ℝ) : EReal))
    (h387 : ∀ x e : Fin 128, v387 (ix5 0 0 0 x e) = ((rp (4 * g + 2) 2 x.val e.val : ℝ) : EReal))
    (h392 : ∀ x e : Fin 128, v392 (ix4 0 0 x e) = q (2 * g + 2 / 2) x.val e.val)
    (h450 : ∀ (a : Fin 64) (b : Fin 128), v450 (ix3 0 a b) = ((K (64 * (4 * g + 2) + a.val) b.val : ℝ) : EReal))
    (h474 : ∀ (a : Fin 64) (b : Fin 128), v474 (ix4 0 0 a b) = sd (2 * g + 2 / 2) a.val b.val)
    (h483 : ∀ x e : Fin 128, v483 (ix5 0 0 0 x e) = ((rp (4 * g + 3) 0 x.val e.val : ℝ) : EReal))
    (h486 : ∀ x e : Fin 128, v486 (ix5 0 0 0 x e) = ((rp (4 * g + 3) 1 x.val e.val : ℝ) : EReal))
    (h489 : ∀ x e : Fin 128, v489 (ix5 0 0 0 x e) = ((rp (4 * g + 3) 2 x.val e.val : ℝ) : EReal))
    (h494 : ∀ x e : Fin 128, v494 (ix4 0 0 x e) = q (2 * g + 3 / 2) x.val e.val)
    (h552 : ∀ (a : Fin 64) (b : Fin 128), v552 (ix3 0 a b) = ((K (64 * (4 * g + 3) + a.val) b.val : ℝ) : EReal))
    (h576 : ∀ (a : Fin 64) (b : Fin 128), v576 (ix4 0 0 a b) = sd (2 * g + 3 / 2) a.val b.val)
    (D0 : Done (fun n x e => rp n 0 x e + rp n 1 x e + rp n 2 x e) K q sd g 0 A1 A1) :
    Done (fun n x e => rp n 0 x e + rp n 1 x e + rp n 2 x e) K q sd g 4 A1 (chunks g v215 v218 v221 v226 v245 v269 v278 v281 v284 v289 v347 v371 v381 v384 v387 v392 v450 v474 v483 v486 v489 v494 v552 v576 A1) := by
  have M0 := (D0.mid (q (2 * g + 0 / 2)) 0 0 rfl).loop (w := 128) (t2_tr v215 v218 v221 v226 (rp (4 * g + 0) 0) (rp (4 * g + 0) 1) (rp (4 * g + 0) 2) h215 h218 h221) (t2_sc v215 v221 v226 (q (2 * g + 0 / 2)) h226) (by omega) g (by omega)
  have D1 := Done.next D0 (w := 128) (by omega) (M0.to (m' := 64 * (4 * g + 0)) (by omega)) rfl rfl (by omega) (fun a b => (k0_ins v245 (fun a b => K (64 * (4 * g + 0) + a) b) h245 a b).1) (fun a b => (k0_ins v245 (fun a b => K (64 * (4 * g + 0) + a) b) h245 a b).2.1) (fun a b => (k0_ins v245 (fun a b => K (64 * (4 * g + 0) + a) b) h245 a b).2.2) (fun a b _ => d0_ins v269 (sd (2 * g + 0 / 2)) h269 a b) (256 * g + 0) (by omega)
  have M1 := (D1.mid (q (2 * g + 1 / 2)) 64 64 rfl).loop (w := 64) (t4_tr v278 v281 v284 v289 (rp (4 * g + 1) 0) (rp (4 * g + 1) 1) (rp (4 * g + 1) 2) h278 h281 h284) (t4_sc v278 v284 v289 (q (2 * g + 1 / 2)) h289) (by omega) g (by omega)
  have M1 := M1.tr (w := 64) (p4_tr v278 v281 v284 v289 (rp (4 * g + 1) 0) (rp (4 * g + 1) 1) (rp (4 * g + 1) 2) h278 h281 h284) (p4_sc v278 v284 v289 (q (2 * g + 1 / 2)) h289) (by omega) (by omega)
  have D2 := Done.next D1 (w := 64) (by omega) (M1.to (m' := 64 * (4 * g + 1)) (by omega)) rfl rfl (by omega) (fun a b => (k1_ins v347 (fun a b => K (64 * (4 * g + 1) + a) b) h347 a b).1) (fun a b => (k1_ins v347 (fun a b => K (64 * (4 * g + 1) + a) b) h347 a b).2.1) (fun a b => (k1_ins v347 (fun a b => K (64 * (4 * g + 1) + a) b) h347 a b).2.2) (fun a b _ => d1_ins v371 (sd (2 * g + 1 / 2)) h371 a b) (256 * g + 64) (by omega)
  have M2 := (D2.mid (q (2 * g + 2 / 2)) 0 128 rfl).loop (w := 128) (t6_tr v381 v384 v387 v392 (rp (4 * g + 2) 0) (rp (4 * g + 2) 1) (rp (4 * g + 2) 2) h381 h384 h387) (t6_sc v381 v387 v392 (q (2 * g + 2 / 2)) h392) (by omega) g (by omega)
  have M2 := M2.tr (w := 128) (p6_tr v381 v384 v387 v392 (rp (4 * g + 2) 0) (rp (4 * g + 2) 1) (rp (4 * g + 2) 2) h381 h384 h387) (p6_sc v381 v387 v392 (q (2 * g + 2 / 2)) h392) (by omega) (by omega)
  have D3 := Done.next D2 (w := 128) (by omega) (M2.to (m' := 64 * (4 * g + 2)) (by omega)) rfl rfl (by omega) (fun a b => (k2_ins v450 (fun a b => K (64 * (4 * g + 2) + a) b) h450 a b).1) (fun a b => (k2_ins v450 (fun a b => K (64 * (4 * g + 2) + a) b) h450 a b).2.1) (fun a b => (k2_ins v450 (fun a b => K (64 * (4 * g + 2) + a) b) h450 a b).2.2) (fun a b _ => d2_ins v474 (sd (2 * g + 2 / 2)) h474 a b) (256 * g + 128) (by omega)
  have M3 := (D3.mid (q (2 * g + 3 / 2)) 64 192 rfl).loop (w := 64) (t8_tr v483 v486 v489 v494 (rp (4 * g + 3) 0) (rp (4 * g + 3) 1) (rp (4 * g + 3) 2) h483 h486 h489) (t8_sc v483 v489 v494 (q (2 * g + 3 / 2)) h494) (by omega) g (by omega)
  have M3 := M3.tr (w := 64) (p9_tr v483 v486 v489 v494 (rp (4 * g + 3) 0) (rp (4 * g + 3) 1) (rp (4 * g + 3) 2) h483 h486 h489) (p9_sc v483 v489 v494 (q (2 * g + 3 / 2)) h494) (by omega) (by omega)
  have D4 := Done.next D3 (w := 64) (by omega) (M3.to (m' := 64 * (4 * g + 3)) (by omega)) rfl rfl (by omega) (fun a b => (k3_ins v552 (fun a b => K (64 * (4 * g + 3) + a) b) h552 a b).1) (fun a b => (k3_ins v552 (fun a b => K (64 * (4 * g + 3) + a) b) h552 a b).2.1) (fun a b => (k3_ins v552 (fun a b => K (64 * (4 * g + 3) + a) b) h552 a b).2.2) (fun a b _ => d3_ins v576 (sd (2 * g + 3 / 2)) h576 a b) (256 * g + 192) (by omega)
  exact D4

end Cert.KernelIdeal.Hand
-- ==== Proof.PartsD.lean ====
/-
  Parts of the kernel on the arrays.
-/
module

public import proofs.«01_k».proof.Proof.Gen.KernelIdeal.Skeleton
public import proofs.«01_k».proof.Proof.Closed
public import Idealize.ShloMosaic.Lib.Updates.Memory
public import Idealize.ShloMosaic.Lib.Updates.Loop
public import Idealize.ShloMosaic.Lib.Tactic
public import Idealize.ShloMosaic.Lib.Pointwise
public import proofs.«01_k».proof.Proof.Trips
@[expose] public section

set_option maxRecDepth 16384
set_option maxHeartbeats 400000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Updates
open Idealize.ShloMosaic.LaneScatter (Blk iter)

local notation "𝕄" => MT nD τ sig Unit (Elt Ideal) ℕ (UR sig nD τ) ℕ
variable (c : Dev nD) (i : grid0.Coords) (arg1 : Memref sig .tc .vmem S1x32x3x128x128 .bf16) (harg1 : arg1.IsWhole) (arg2 : Memref sig .tc .vmem S1x2048x128 .f32) (harg2 : arg2.IsWhole) (arg3 : Memref sig .tc .vmem S1x16x128x128 .bf16) (harg3 : arg3.IsWhole) (arg4 : Memref sig .tc .vmem S1x16x64x128 .f32) (harg4 : arg4.IsWhole) (arg5 : Memref sig .tc .vmem S2048x128 .bf16) (harg5 : arg5.IsWhole) (arg6 : Memref sig .tc .vmem S1x16x128 .f32) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S2048x256 .f32) (harg11 : arg11.IsWhole) (arg12 : Memref sig .tc .vmem S128x2048 .bf16) (harg12 : arg12.IsWhole) (arg13 : Memref sig .tc .vmem S2048x128 .f32) (harg13 : arg13.IsWhole) (arg14 : Memref sig .tc .vmem S16x128 .f32) (harg14 : arg14.IsWhole) (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty)

abbrev l0 (arg6 : Memref sig .tc .vmem S1x16x128 .f32) (X6 : BufTy.Contents (Elt Ideal) arg6.view.ty) : Vec Ideal S1x16x128 .f32 := View.readAt (Elt Ideal) arg6.view (Rect.unit (s := S1x16x128) ![0, 0, 0] S1x16x128.size inb_S1x16x128_S1x16x128_0_0_0).toLoadRect X6
theorem p12_val  (A : Scr) :
    St c arg1 arg2 arg3 arg4 arg5 arg6 arg7 arg8 arg9 arg10 arg11 arg12 arg13 arg14 X1 X2 X3 X4 X5 X6 A ⊢ wp frame (wpE (defs₀ (F := Ideal)) Variants.none (c : Thread nD τ) none) Set.univ (k0_part12 (F := Ideal) i arg1 harg1 arg2 harg2 arg3 harg3 arg4 harg4 arg5 harg5 arg6 harg6 arg7 harg7 arg8 harg8 arg9 harg9 arg10 harg10 arg11 harg11 arg12 harg12 arg13 harg13 arg14 harg14 ) (fun a => iprop(⌜a = ⟨(iota .tc S16x128 32 [1] iota_S16x128_d1_w32), (iota .tc S16x128 32 [0] iota_S16x128_d0_w32), k0_pay167 (F := Ideal) (l0 arg6 X6), k0_pay168, k0_pay169 (F := Ideal) (l0 arg6 X6), k0_pay170 (F := Ideal)⟩⌝ ∗ St c arg1 arg2 arg3 arg4 arg5 arg6 arg7 arg8 arg9 arg10 arg11 arg12 arg13 arg14 X1 X2 X3 X4 X5 X6 A)) := by
  rw [k0_part12_eq_skeleton]; unfold k0_part12_skel
  iintro ⟨H1, H2, H3, H4, H5, H6, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩⟩
  sl_exec
  sl_step
  isplitr
  · ipureintro; rfl
  isplitl [H1]; · iexact H1
  isplitl [H2]; · iexact H2
  isplitl [H3]; · iexact H3
  isplitl [H4]; · iexact H4
  isplitl [H5]; · iexact H5
  isplitl [H6]; · iexact H6
  isplitl [H7]
  · iexists _; isplitr; swap; · iexact H7
    ipureintro; exact h7
  isplitl [H8]
  · iexists _; isplitr; swap; · iexact H8
    ipureintro; exact h8
  isplitl [H9]
  · iexists _; isplitr; swap; · iexact H9
    ipureintro; exact h9
  isplitl [H10]
  · iexists _; isplitr; swap; · iexact H10
    ipureintro; exact h10
  isplitl [H11]
  · iexists _; isplitr; swap; · iexact H11
    ipureintro; exact h11
  isplitl [H12]
  · iexists _; isplitr; swap; · iexact H12
    ipureintro; exact h12
  isplitl [H13]
  · iexists _; isplitr; swap; · iexact H13
    ipureintro; exact h13
  iexists _; isplitr; swap; · iexact H14
  ipureintro; exact h14

theorem p13_val (v2 : IVec S16x128 32) (v3 : IVec S16x128 32) (v33 : FVec Ideal S16x128 .f32) (v35 : IVec S16x128 1) (v36 : FVec Ideal S16x128 .f32) (v37 : FVec Ideal S16x128 .f32) (A : Scr) :
    St c arg1 arg2 arg3 arg4 arg5 arg6 arg7 arg8 arg9 arg10 arg11 arg12 arg13 arg14 X1 X2 X3 X4 X5 X6 A ⊢ wp frame (wpE (defs₀ (F := Ideal)) Variants.none (c : Thread nD τ) none) Set.univ (k0_part13 (F := Ideal) i arg1 harg1 arg2 harg2 arg3 harg3 arg4 harg4 arg5 harg5 arg6 harg6 arg7 harg7 arg8 harg8 arg9 harg9 arg10 harg10 arg11 harg11 arg12 harg12 arg13 harg13 arg14 harg14 v2 v3 v33 v35 v36 v37) (fun a => iprop(⌜a = ⟨k0_pay171 (F := Ideal) v2 v33 v35 v36 v37, k0_pay172 (F := Ideal) v2 v3 v33 v35 v36 v37, k0_pay173⟩⌝ ∗ St c arg1 arg2 arg3 arg4 arg5 arg6 arg7 arg8 arg9 arg10 arg11 arg12 arg13 arg14 X1 X2 X3 X4 X5 X6 A)) := by
  rw [k0_part13_eq_skeleton]; unfold k0_part13_skel
  iintro ⟨H1, H2, H3, H4, H5, H6, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩⟩
  sl_exec
  sl_step
  isplitr
  · ipureintro; rfl
  isplitl [H1]; · iexact H1
  isplitl [H2]; · iexact H2
  isplitl [H3]; · iexact H3
  isplitl [H4]; · iexact H4
  isplitl [H5]; · iexact H5
  isplitl [H6]; · iexact H6
  isplitl [H7]
  · iexists _; isplitr; swap; · iexact H7
    ipureintro; exact h7
  isplitl [H8]
  · iexists _; isplitr; swap; · iexact H8
    ipureintro; exact h8
  isplitl [H9]
  · iexists _; isplitr; swap; · iexact H9
    ipureintro; exact h9
  isplitl [H10]
  · iexists _; isplitr; swap; · iexact H10
    ipureintro; exact h10
  isplitl [H11]
  · iexists _; isplitr; swap; · iexact H11
    ipureintro; exact h11
  isplitl [H12]
  · iexists _; isplitr; swap; · iexact H12
    ipureintro; exact h12
  isplitl [H13]
  · iexists _; isplitr; swap; · iexact H13
    ipureintro; exact h13
  iexists _; isplitr; swap; · iexact H14
  ipureintro; exact h14

/-- Part 14 of the kernel on the arrays. -/
def p14_fn (v3 : IVec S16x128 32) (v45 : FVec Ideal S16x128 .f32) (v77 : FVec Ideal S16x128 .f32) (v78 : IVec S16x128 32) (A : Scr) : Scr :=
  { A with a13 := (stv (h := 128) (w := 128) (384, 0) (k0_pay179 (F := Ideal) v3 v45 v77 v78) (stv (h := 128) (w := 128) (256, 0) (k0_pay178 (F := Ideal) v3 v45 v77 v78) (stv (h := 128) (w := 128) (128, 0) (k0_pay177 (F := Ideal) v3 v45 v77 v78) (stv (h := 128) (w := 128) (0, 0) (k0_pay176 (F := Ideal) v3 v45 v77 v78) A.a13)))), a14 := (stv (h := 16) (w := 128) (0, 0) (k0_pay175 (F := Ideal) v3 v45 v77 v78) A.a14) }

theorem p14_val (v3 : IVec S16x128 32) (v45 : FVec Ideal S16x128 .f32) (v77 : FVec Ideal S16x128 .f32) (v78 : IVec S16x128 32) (A : Scr) :
    St c arg1 arg2 arg3 arg4 arg5 arg6 arg7 arg8 arg9 arg10 arg11 arg12 arg13 arg14 X1 X2 X3 X4 X5 X6 A ⊢ wp frame (wpE (defs₀ (F := Ideal)) Variants.none (c : Thread nD τ) none) Set.univ (k0_part14 (F := Ideal) i arg1 harg1 arg2 harg2 arg3 harg3 arg4 harg4 arg5 harg5 arg6 harg6 arg7 harg7 arg8 harg8 arg9 harg9 arg10 harg10 arg11 harg11 arg12 harg12 arg13 harg13 arg14 harg14 v3 v45 v77 v78) (fun a => iprop(⌜a = ⟨k0_pay174 (F := Ideal) v3 v45 v77 v78, k0_pay180 (F := Ideal) v3 v45 v77 v78⟩⌝ ∗ St c arg1 arg2 arg3 arg4 arg5 arg6 arg7 arg8 arg9 arg10 arg11 arg12 arg13 arg14 X1 X2 X3 X4 X5 X6 (p14_fn v3 v45 v77 v78 A))) := by
  rw [k0_part14_eq_skeleton]; unfold k0_part14_skel
  iintro ⟨H1, H2, H3, H4, H5, H6, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩⟩
  sl_exec
  sl_step
  try rw [ld_eq32 (h := 16) (w := 128) (o := (0, 0)) h14 (o := (0, 0)) rfl]
  try rw [ld_eq32 (h := 128) (w := 128) (o := (0, 0)) h13 (o := (0, 0)) rfl]
  isplitr
  · ipureintro; rfl
  isplitl [H1]; · iexact H1
  isplitl [H2]; · iexact H2
  isplitl [H3]; · iexact H3
  isplitl [H4]; · iexact H4
  isplitl [H5]; · iexact H5
  isplitl [H6]; · iexact H6
  isplitl [H7]
  · iexists _; isplitr; swap; · iexact H7
    ipureintro; unfold p14_fn; exact h7
  isplitl [H8]
  · iexists _; isplitr; swap; · iexact H8
    ipureintro; unfold p14_fn; exact h8
  isplitl [H9]
  · iexists _; isplitr; swap; · iexact H9
    ipureintro; unfold p14_fn; exact h9
  isplitl [H10]
  · iexists _; isplitr; swap; · iexact H10
    ipureintro; unfold p14_fn; exact h10
  isplitl [H11]
  · iexists _; isplitr; swap; · iexact H11
    ipureintro; unfold p14_fn; exact h11
  isplitl [H12]
  · iexists _; isplitr; swap; · iexact H12
    ipureintro; unfold p14_fn; exact h12
  isplitl [H13]
  · iexists _; isplitr; swap; · iexact H13
    ipureintro; unfold p14_fn; exact (st_eq32 (st_eq32 (st_eq32 (st1_eq32 h13 (o := (0, 0)) rfl _ _) (o := (128, 0)) rfl _ _) (o := (256, 0)) rfl _ _) (o := (384, 0)) rfl _ _)
  iexists _; isplitr; swap; · iexact H14
  ipureintro; unfold p14_fn; exact (st1_eq32 h14 (o := (0, 0)) rfl _ _)

/-- Part 15 of the kernel on the arrays. -/
def p15_fn (v85 : FVec Ideal S16x128 .f32) (v120 : FVec Ideal S128x128 .f32) (A : Scr) : Scr :=
  { A with a13 := (stv (h := 128) (w := 128) (1152, 0) (k0_pay186 (F := Ideal) v85) (stv (h := 128) (w := 128) (1024, 0) (k0_pay185 (F := Ideal) v85) (stv (h := 128) (w := 128) (896, 0) (k0_pay184 (F := Ideal) v85) (stv (h := 128) (w := 128) (768, 0) (k0_pay183 (F := Ideal) v85) (stv (h := 128) (w := 128) (640, 0) (k0_pay182 (F := Ideal) v85) (stv (h := 128) (w := 128) (512, 0) (k0_pay181 (F := Ideal) v120) A.a13)))))) }

theorem p15_val (v85 : FVec Ideal S16x128 .f32) (v120 : FVec Ideal S128x128 .f32) (A : Scr) :
    St c arg1 arg2 arg3 arg4 arg5 arg6 arg7 arg8 arg9 arg10 arg11 arg12 arg13 arg14 X1 X2 X3 X4 X5 X6 A ⊢ wp frame (wpE (defs₀ (F := Ideal)) Variants.none (c : Thread nD τ) none) Set.univ (k0_part15 (F := Ideal) i arg1 harg1 arg2 harg2 arg3 harg3 arg4 harg4 arg5 harg5 arg6 harg6 arg7 harg7 arg8 harg8 arg9 harg9 arg10 harg10 arg11 harg11 arg12 harg12 arg13 harg13 arg14 harg14 v85 v120) (fun a => iprop(⌜a = (k0_pay187 (F := Ideal) v85)⌝ ∗ St c arg1 arg2 arg3 arg4 arg5 arg6 arg7 arg8 arg9 arg10 arg11 arg12 arg13 arg14 X1 X2 X3 X4 X5 X6 (p15_fn v85 v120 A))) := by
  rw [k0_part15_eq_skeleton]; unfold k0_part15_skel
  iintro ⟨H1, H2, H3, H4, H5, H6, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩⟩
  sl_exec
  sl_step
  try rw [ld_eq32 (h := 128) (w := 128) (o := (512, 0)) h13 (o := (512, 0)) rfl]
  isplitr
  · ipureintro; rfl
  isplitl [H1]; · iexact H1
  isplitl [H2]; · iexact H2
  isplitl [H3]; · iexact H3
  isplitl [H4]; · iexact H4
  isplitl [H5]; · iexact H5
  isplitl [H6]; · iexact H6
  isplitl [H7]
  · iexists _; isplitr; swap; · iexact H7
    ipureintro; unfold p15_fn; exact h7
  isplitl [H8]
  · iexists _; isplitr; swap; · iexact H8
    ipureintro; unfold p15_fn; exact h8
  isplitl [H9]
  · iexists _; isplitr; swap; · iexact H9
    ipureintro; unfold p15_fn; exact h9
  isplitl [H10]
  · iexists _; isplitr; swap; · iexact H10
    ipureintro; unfold p15_fn; exact h10
  isplitl [H11]
  · iexists _; isplitr; swap; · iexact H11
    ipureintro; unfold p15_fn; exact h11
  isplitl [H12]
  · iexists _; isplitr; swap; · iexact H12
    ipureintro; unfold p15_fn; exact h12
  isplitl [H13]
  · iexists _; isplitr; swap; · iexact H13
    ipureintro; unfold p15_fn; exact (st_eq32 (st_eq32 (st_eq32 (st_eq32 (st_eq32 (st1_eq32 h13 (o := (512, 0)) rfl _ _) (o := (640, 0)) rfl _ _) (o := (768, 0)) rfl _ _) (o := (896, 0)) rfl _ _) (o := (1024, 0)) rfl _ _) (o := (1152, 0)) rfl _ _)
  iexists _; isplitr; swap; · iexact H14
  ipureintro; unfold p15_fn; exact h14

/-- Part 16 of the kernel on the arrays. -/
def p16_fn (v85 : FVec Ideal S16x128 .f32) (v162 : FVec Ideal S128x128 .f32) (A : Scr) : Scr :=
  { A with a13 := (stv (h := 128) (w := 128) (1920, 0) (k0_pay193 (F := Ideal) v85) (stv (h := 128) (w := 128) (1792, 0) (k0_pay192 (F := Ideal) v85) (stv (h := 128) (w := 128) (1664, 0) (k0_pay191 (F := Ideal) v85) (stv (h := 128) (w := 128) (1536, 0) (k0_pay190 (F := Ideal) v85) (stv (h := 128) (w := 128) (1408, 0) (k0_pay189 (F := Ideal) v85) (stv (h := 128) (w := 128) (1280, 0) (k0_pay188 (F := Ideal) v162) A.a13)))))) }

theorem p16_val (v85 : FVec Ideal S16x128 .f32) (v162 : FVec Ideal S128x128 .f32) (A : Scr) :
    St c arg1 arg2 arg3 arg4 arg5 arg6 arg7 arg8 arg9 arg10 arg11 arg12 arg13 arg14 X1 X2 X3 X4 X5 X6 A ⊢ wp frame (wpE (defs₀ (F := Ideal)) Variants.none (c : Thread nD τ) none) Set.univ (k0_part16 (F := Ideal) i arg1 harg1 arg2 harg2 arg3 harg3 arg4 harg4 arg5 harg5 arg6 harg6 arg7 harg7 arg8 harg8 arg9 harg9 arg10 harg10 arg11 harg11 arg12 harg12 arg13 harg13 arg14 harg14 v85 v162) (fun a => iprop(⌜a = ⟨0#32, 1#32⟩⌝ ∗ St c arg1 arg2 arg3 arg4 arg5 arg6 arg7 arg8 arg9 arg10 arg11 arg12 arg13 arg14 X1 X2 X3 X4 X5 X6 (p16_fn v85 v162 A))) := by
  rw [k0_part16_eq_skeleton]; unfold k0_part16_skel
  iintro ⟨H1, H2, H3, H4, H5, H6, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩⟩
  sl_exec
  sl_step
  try rw [ld_eq32 (h := 128) (w := 128) (o := (1280, 0)) h13 (o := (1280, 0)) rfl]
  isplitr
  · ipureintro; rfl
  isplitl [H1]; · iexact H1
  isplitl [H2]; · iexact H2
  isplitl [H3]; · iexact H3
  isplitl [H4]; · iexact H4
  isplitl [H5]; · iexact H5
  isplitl [H6]; · iexact H6
  isplitl [H7]
  · iexists _; isplitr; swap; · iexact H7
    ipureintro; unfold p16_fn; exact h7
  isplitl [H8]
  · iexists _; isplitr; swap; · iexact H8
    ipureintro; unfold p16_fn; exact h8
  isplitl [H9]
  · iexists _; isplitr; swap; · iexact H9
    ipureintro; unfold p16_fn; exact h9
  isplitl [H10]
  · iexists _; isplitr; swap; · iexact H10
    ipureintro; unfold p16_fn; exact h10
  isplitl [H11]
  · iexists _; isplitr; swap; · iexact H11
    ipureintro; unfold p16_fn; exact h11
  isplitl [H12]
  · iexists _; isplitr; swap; · iexact H12
    ipureintro; unfold p16_fn; exact h12
  isplitl [H13]
  · iexists _; isplitr; swap; · iexact H13
    ipureintro; unfold p16_fn; exact (st_eq32 (st_eq32 (st_eq32 (st_eq32 (st_eq32 (st1_eq32 h13 (o := (1280, 0)) rfl _ _) (o := (1408, 0)) rfl _ _) (o := (1536, 0)) rfl _ _) (o := (1664, 0)) rfl _ _) (o := (1792, 0)) rfl _ _) (o := (1920, 0)) rfl _ _)
  iexists _; isplitr; swap; · iexact H14
  ipureintro; unfold p16_fn; exact h14

end Cert.KernelIdeal.Hand
-- ==== Proof.Attn.lean ====
/-
  The whole kernel body on the arrays.
-/
module

public import proofs.«01_k».proof.Proof.Gen.KernelIdeal.Skeleton
public import proofs.«01_k».proof.Proof.Closed
public import Idealize.ShloMosaic.Lib.Updates.Memory
public import Idealize.ShloMosaic.Lib.Updates.Loop
public import Idealize.ShloMosaic.Lib.Tactic
public import Idealize.ShloMosaic.Lib.Pointwise
public import proofs.«01_k».proof.Proof.Trip
public import proofs.«01_k».proof.Proof.PartsD
@[expose] public section

set_option maxRecDepth 16384
set_option maxHeartbeats 400000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Updates
open Idealize.ShloMosaic.LaneScatter (Blk iter)

local notation "𝕄" => MT nD τ sig Unit (Elt Ideal) ℕ (UR sig nD τ) ℕ
variable (c : Dev nD) (i : grid0.Coords) (arg1 : Memref sig .tc .vmem S1x32x3x128x128 .bf16) (harg1 : arg1.IsWhole) (arg2 : Memref sig .tc .vmem S1x2048x128 .f32) (harg2 : arg2.IsWhole) (arg3 : Memref sig .tc .vmem S1x16x128x128 .bf16) (harg3 : arg3.IsWhole) (arg4 : Memref sig .tc .vmem S1x16x64x128 .f32) (harg4 : arg4.IsWhole) (arg5 : Memref sig .tc .vmem S2048x128 .bf16) (harg5 : arg5.IsWhole) (arg6 : Memref sig .tc .vmem S1x16x128 .f32) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S2048x256 .f32) (harg11 : arg11.IsWhole) (arg12 : Memref sig .tc .vmem S128x2048 .bf16) (harg12 : arg12.IsWhole) (arg13 : Memref sig .tc .vmem S2048x128 .f32) (harg13 : arg13.IsWhole) (arg14 : Memref sig .tc .vmem S16x128 .f32) (harg14 : arg14.IsWhole) (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty)

/-- What the kernel leaves in its arrays before the outer loop. -/
def pro_fn (v0 : Vec Ideal S1x16x128 .f32) (A : Scr) : Scr :=
  let v2 := (iota .tc S16x128 32 [1] iota_S16x128_d1_w32)
  let v3 := (iota .tc S16x128 32 [0] iota_S16x128_d0_w32)
  let v33 := k0_pay167 (F := Ideal) v0
  let v35 := k0_pay168
  let v36 := k0_pay169 (F := Ideal) v0
  let v37 := k0_pay170 (F := Ideal)
  let v45 := k0_pay171 (F := Ideal) v2 v33 v35 v36 v37
  let v77 := k0_pay172 (F := Ideal) v2 v3 v33 v35 v36 v37
  let v78 := k0_pay173
  let v85 := k0_pay174 (F := Ideal) v3 v45 v77 v78
  let v120 := k0_pay180 (F := Ideal) v3 v45 v77 v78
  let A14 := p14_fn v3 v45 v77 v78 A
  let v162 := (k0_pay187 (F := Ideal) v85)
  let A15 := p15_fn v85 v120 A14
  let A16 := p16_fn v85 v162 A15
  A16

theorem attn_val (step : ℕ → Scr → Scr)
    (hs : ∀ (g : Fin k0_t1_loop.trips) A, trip_fn g.val (l205 g arg5 X5) (l215 g arg1 X1) (l218 g arg1 X1) (l221 g arg1 X1) (l226 g arg3 X3) (l245 g arg2 X2) (l269 g arg4 X4) (l278 g arg1 X1) (l281 g arg1 X1) (l284 g arg1 X1) (l289 g arg3 X3) (l347 g arg2 X2) (l371 g arg4 X4) (l381 g arg1 X1) (l384 g arg1 X1) (l387 g arg1 X1) (l392 g arg3 X3) (l450 g arg2 X2) (l474 g arg4 X4) (l483 g arg1 X1) (l486 g arg1 X1) (l489 g arg1 X1) (l494 g arg3 X3) (l552 g arg2 X2) (l576 g arg4 X4) A = step g.val A) (A : Scr) :
    St c arg1 arg2 arg3 arg4 arg5 arg6 arg7 arg8 arg9 arg10 arg11 arg12 arg13 arg14 X1 X2 X3 X4 X5 X6 A ⊢ wp frame (wpE (defs₀ (F := Ideal)) Variants.none (c : Thread nD τ) none) Set.univ (cc0_attn (F := Ideal) i arg1 harg1 arg2 harg2 arg3 harg3 arg4 harg4 arg5 harg5 arg6 harg6 arg7 harg7 arg8 harg8 arg9 harg9 arg10 harg10 arg11 harg11 arg12 harg12 arg13 harg13 arg14 harg14) (fun _ => St c arg1 arg2 arg3 arg4 arg5 arg6 arg7 arg8 arg9 arg10 arg11 arg12 arg13 arg14 X1 X2 X3 X4 X5 X6 (iter step 8 (pro_fn (l0 arg6 X6) A))) := by
  rw [cc0_attn_eq_skeleton]; unfold cc0_attn_skel
  refine seq_val (p12_val c i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6  _) ?_
  refine seq_val (p13_val c i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 _ _ _ _ _ _ _) ?_
  refine seq_val (p14_val c i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 _ _ _ _ _) ?_
  refine seq_val (p15_val c i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 _ _ _) ?_
  refine seq_val (p16_val c i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 _ _ _) ?_
  refine loop_val (fun A _ => St c arg1 arg2 arg3 arg4 arg5 arg6 arg7 arg8 arg9 arg10 arg11 arg12 arg13 arg14 X1 X2 X3 X4 X5 X6 A) _ _ _ _ step (fun g A a => by rw [← hs g A]; exact trip_val c i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 g _ _ a A) _ ?_
  intro a
  rw [trips1]
  iintro H
  sl_step
  iexact H

end Cert.KernelIdeal.Hand
-- ==== Proof.Prefix.lean ====
/-
  The running sum of the forgetting, as the kernel's prologue computes it.
-/
module

public import proofs.«01_k».proof.Proof.Spec
public import proofs.«01_k».proof.Proof.Attn
import Idealize.ShloMosaic.Lib.Pointwise
import Idealize.ShloMosaic.Lib.KernelVsHost
import Idealize.ShloMosaic.Lib.WordCmp

@[expose] public section

namespace Cert.KernelIdeal.Hand
open Idealize.ShloMosaic Cert.KernelIdeal Cert.KernelIdeal.Gen
open Idealize.ShloMosaic.Updates
open Idealize.ShloMosaic.LaneScatter (Blk iter)
open scoped BigOperators

set_option maxHeartbeats 400000
set_option maxRecDepth 16384

/-- The factor that turns the exponential into a power of two. -/
noncomputable def c0 : EReal := (((Real.log 2)⁻¹ : ℝ) : EReal)

theorem named_c0 : Named.named (F := Ideal) (φ := .f32) κ "log2e" 0x3FB8AA3B#32 = c0 :=
  IdealRules.named_const.ideal_named_scalar _ _ _ _ rfl

/-- The accumulated forgetting, in powers of two. -/
noncomputable def Fc (lf : ℕ → EReal) (j : ℕ) : EReal := (∑ x ∈ Finset.range (j + 1), lf x) * c0

theorem sel_ge {m n : ℕ} (hm : m < 2 ^ 31) (hn : n < 2 ^ 31) {α : Type} (x y : α) :
    Scalar.select (IntOp.cmpi .sge (BitVec.ofNat 32 m) (BitVec.ofNat 32 n)) x y = if n ≤ m then x else y := by
  rw [WordCmp.cmpi_sge_ofNat hm hn]
  by_cases h : n ≤ m <;> simp [Scalar.select, h]

/-- The array moved by `d` lanes, zeros coming in. -/
noncomputable def sh1 (d : BitVec 32) (X : FVec Ideal S16x128 .f32) : FVec Ideal S16x128 .f32 :=
  select (cmpi .sge (iota .tc S16x128 32 [1] iota_S16x128_d1_w32) (broadcast S16x128 d)) (dynamicRotate 1 d none X rotates_S16x128_d1)
    (broadcast S16x128 (Scalar.ofBits (F := Ideal) .f32 0x00000000#32))

/-- The array moved by `d` rows, zeros coming in. -/
noncomputable def sh0 (d : BitVec 32) (X : FVec Ideal S16x128 .f32) : FVec Ideal S16x128 .f32 :=
  select (cmpi .sge (iota .tc S16x128 32 [0] iota_S16x128_d0_w32) (broadcast S16x128 d)) (dynamicRotate 0 d none X rotates_S16x128_d0)
    (broadcast S16x128 (Scalar.ofBits (F := Ideal) .f32 0x00000000#32))

theorem zero_bits : Scalar.ofBits (F := Ideal) .f32 0x00000000#32 = (0 : EReal) := by
  show Ideal.ofBits .f32 0x00000000#32 = 0
  simp [Ideal.ofBits, Ideal.ieee]

theorem sh1_at (n : ℕ) (hn : n < 128) (X : FVec Ideal S16x128 .f32) (a : Fin 16) (l : Fin 128) :
    sh1 (BitVec.ofNat 32 n) X (ix2 a l) = if h : n ≤ l.val then X (ix2 a ⟨l.val - n, by omega⟩) else 0 := by
  have hi : iota .tc S16x128 32 [1] iota_S16x128_d1_w32 (ix2 a l) = BitVec.ofNat 32 l.val := by
    pointwise
  show Scalar.select (IntOp.cmpi .sge (iota .tc S16x128 32 [1] iota_S16x128_d1_w32 (ix2 a l)) (BitVec.ofNat 32 n)) (dynamicRotate 1 (BitVec.ofNat 32 n) none X rotates_S16x128_d1 (ix2 a l))
    (Scalar.ofBits (F := Ideal) .f32 0x00000000#32) = _
  rw [hi, sel_ge (by omega) (by omega), zero_bits]
  by_cases h : n ≤ l.val
  · rw [if_pos h, dif_pos h]
    refine dynamicRotate_apply 1 _ X _ _ _ fun b => ?_
    have hb : (BitVec.ofNat 32 n).toNat = n := by rw [BitVec.toNat_ofNat]; omega
    rw [hb]
    match b with
    | ⟨0, _⟩ => rfl
    | ⟨1, _⟩ =>
      show l.val - n = (l.val + 128 - n % 128) % 128
      omega
  · rw [if_neg h, dif_neg h]

theorem sh0_at (n : ℕ) (hn : n < 16) (X : FVec Ideal S16x128 .f32) (a : Fin 16) (l : Fin 128) :
    sh0 (BitVec.ofNat 32 n) X (ix2 a l) = if h : n ≤ a.val then X (ix2 ⟨a.val - n, by omega⟩ l) else 0 := by
  have hi : iota .tc S16x128 32 [0] iota_S16x128_d0_w32 (ix2 a l) = BitVec.ofNat 32 a.val := by
    pointwise
  show Scalar.select (IntOp.cmpi .sge (iota .tc S16x128 32 [0] iota_S16x128_d0_w32 (ix2 a l)) (BitVec.ofNat 32 n)) (dynamicRotate 0 (BitVec.ofNat 32 n) none X rotates_S16x128_d0 (ix2 a l))
    (Scalar.ofBits (F := Ideal) .f32 0x00000000#32) = _
  rw [hi, sel_ge (by omega) (by omega), zero_bits]
  by_cases h : n ≤ a.val
  · rw [if_pos h, dif_pos h]
    refine dynamicRotate_apply 0 _ X _ _ _ fun b => ?_
    have hb : (BitVec.ofNat 32 n).toNat = n := by rw [BitVec.toNat_ofNat]; omega
    rw [hb]
    match b with
    | ⟨0, _⟩ =>
      show a.val - n = (a.val + 16 - n % 16) % 16
      omega
    | ⟨1, _⟩ => rfl
  · rw [if_neg h, dif_neg h]

/-- The sum of the last `d` entries up to `l`. -/
noncomputable def W (f : ℕ → EReal) (d l : ℕ) : EReal := ∑ i ∈ Finset.range d, if i ≤ l then f (l - i) else 0

theorem W_add (f : ℕ → EReal) (d l : ℕ) : W f d l + (if d ≤ l then W f d (l - d) else 0) = W f (d + d) l := by
  unfold W
  rw [Finset.sum_range_add]
  congr 1
  by_cases h : d ≤ l
  · rw [if_pos h]
    refine Finset.sum_congr rfl fun i _ => ?_
    have h1 : (i ≤ l - d) = (d + i ≤ l) := by apply propext; omega
    have h2 : l - d - i = l - (d + i) := by omega
    rw [h2]
    simp only [h1]
  · rw [if_neg h, Finset.sum_eq_zero]
    intro i _
    rw [if_neg (by omega)]

theorem W_one (f : ℕ → EReal) (l : ℕ) : W f 1 l = f l := by
  simp [W]

theorem W_all (f : ℕ → EReal) (d l : ℕ) (h : l < d) : W f d l = ∑ x ∈ Finset.range (l + 1), f x := by
  unfold W
  obtain ⟨k, rfl⟩ : ∃ k, d = l + 1 + k := ⟨d - (l + 1), by omega⟩
  rw [Finset.sum_range_add, Finset.sum_eq_zero (s := Finset.range k), add_zero]
  · rw [← Finset.sum_range_reflect f]
    refine Finset.sum_congr rfl fun i hi => ?_
    rw [Finset.mem_range] at hi
    rw [if_pos (by omega)]
    congr 1
  · intro i _
    rw [if_neg (by omega)]

theorem lev1 {n m : ℕ} (hn : n < 128) (hm : n + n = m) {X : FVec Ideal S16x128 .f32} {f : ℕ → ℕ → EReal}
    (h : ∀ (a : Fin 16) (l : Fin 128), X (ix2 a l) = W (f a.val) n l.val) (a : Fin 16) (l : Fin 128) :
    addf X (sh1 (BitVec.ofNat 32 n) X) (ix2 a l) = W (f a.val) m l.val := by
  show X (ix2 a l) + sh1 (BitVec.ofNat 32 n) X (ix2 a l) = _
  rw [sh1_at n hn, ← hm, ← W_add, h]
  congr 1
  by_cases hl : n ≤ l.val
  · rw [dif_pos hl, if_pos hl, h]
  · rw [dif_neg hl, if_neg hl]

theorem lev0 {n m : ℕ} (hn : n < 16) (hm : n + n = m) {X : FVec Ideal S16x128 .f32} {f : ℕ → EReal}
    (h : ∀ (a : Fin 16) (l : Fin 128), X (ix2 a l) = W f n a.val) (a : Fin 16) (l : Fin 128) :
    addf X (sh0 (BitVec.ofNat 32 n) X) (ix2 a l) = W f m a.val := by
  show X (ix2 a l) + sh0 (BitVec.ofNat 32 n) X (ix2 a l) = _
  rw [sh0_at n hn, ← hm, ← W_add, h]
  congr 1
  by_cases hl : n ≤ a.val
  · rw [dif_pos hl, if_pos hl, h]
  · rw [dif_neg hl, if_neg hl]

/-- A row's last entry in all its lanes. -/
noncomputable def tot (X : FVec Ideal S16x128 .f32) : FVec Ideal S16x128 .f32 :=
  broadcastTo S16x128 (shapeCast S16x1 (shapeCast S16x1 (multiReduction .add [1] S16
    (select (cmpi .eq (iota .tc S16x128 32 [1] iota_S16x128_d1_w32) (broadcast S16x128 127#32)) X (broadcast S16x128 (Scalar.ofBits (F := Ideal) .f32 0x00000000#32)))
    0x00000000#32 reduces_S16x128_S16 (.inl rfl) rfl) shapeCasts_S16_S16x1) shapeCasts_S16x1_S16x1) broadcasts_S16x1_S16x128

theorem sel_eq {m n : ℕ} (hm : m < 2 ^ 31) (hn : n < 2 ^ 31) {α : Type} (x y : α) :
    Scalar.select (IntOp.cmpi .eq (BitVec.ofNat 32 m) (BitVec.ofNat 32 n)) x y = if m = n then x else y := by
  rw [WordCmp.cmpi_eq_ofNat (by omega) (by omega)]
  by_cases h : m = n <;> simp [Scalar.select, h]

theorem tot_at (X : FVec Ideal S16x128 .f32) (a : Fin 16) (l : Fin 128) : tot X (ix2 a l) = X (ix2 a 127) := by
  have h : tot X (ix2 a l) = ∑ x : Fin 128, Scalar.select (IntOp.cmpi .eq (BitVec.ofNat 32 x.val) (BitVec.ofNat 32 127)) (X (ix2 a x)) (0 : EReal) := by
    pointwise [tot]
  rw [h, Finset.sum_eq_single (127 : Fin 128)]
  · rw [sel_eq (by decide) (by decide)]
    rfl
  · intro b _ hb
    have : b.val ≠ 127 := fun h => hb (Fin.ext h)
    rw [sel_eq (by omega) (by decide), if_neg this]
  · intro h
    exact absurd (Finset.mem_univ _) h

theorem pay167_eq (v0 : Vec Ideal S1x16x128 .f32) : k0_pay167 (F := Ideal) v0 =
    (fun X => addf X (sh1 16#32 X)) ((fun X => addf X (sh1 8#32 X)) ((fun X => addf X (sh1 4#32 X)) ((fun X => addf X (sh1 2#32 X))
      ((fun X => addf X (sh1 1#32 X)) (shapeCast S16x128 v0 shapeCasts_S1x16x128_S16x128))))) := rfl

theorem pay171_eq (v0 : Vec Ideal S1x16x128 .f32) :
    k0_pay171 (F := Ideal) (iota .tc S16x128 32 [1] iota_S16x128_d1_w32) (k0_pay167 (F := Ideal) v0) k0_pay168 (k0_pay169 (F := Ideal) v0) (k0_pay170 (F := Ideal)) =
    (fun X => addf X (sh1 64#32 X)) ((fun X => addf X (sh1 32#32 X)) (k0_pay167 (F := Ideal) v0)) := rfl

theorem pay172_eq (v33 : FVec Ideal S16x128 .f32) (v35 : IVec S16x128 1) (v36 v37 : FVec Ideal S16x128 .f32) :
    k0_pay172 (F := Ideal) (iota .tc S16x128 32 [1] iota_S16x128_d1_w32) (iota .tc S16x128 32 [0] iota_S16x128_d0_w32) v33 v35 v36 v37 =
    (fun X => addf X (sh0 8#32 X)) ((fun X => addf X (sh0 4#32 X)) ((fun X => addf X (sh0 2#32 X)) ((fun X => addf X (sh0 1#32 X))
      (tot (k0_pay171 (F := Ideal) (iota .tc S16x128 32 [1] iota_S16x128_d1_w32) v33 v35 v36 v37))))) := rfl

theorem pay174_eq (v45 v77 : FVec Ideal S16x128 .f32) :
    k0_pay174 (F := Ideal) (iota .tc S16x128 32 [0] iota_S16x128_d0_w32) v45 v77 k0_pay173 =
    mulf (addf v45 (sh0 1#32 v77)) (broadcast S16x128 (Named.named (F := Ideal) (φ := .f32) κ "log2e" 0x3FB8AA3B#32)) := rfl

/-- The sums within a row. -/
theorem v45_at (v0 : Vec Ideal S1x16x128 .f32) (lf : ℕ → EReal) (h0 : ∀ (a : Fin 16) (l : Fin 128), v0 (ix3 0 a l) = lf (128 * a.val + l.val)) (a : Fin 16) (l : Fin 128) :
    k0_pay171 (F := Ideal) (iota .tc S16x128 32 [1] iota_S16x128_d1_w32) (k0_pay167 (F := Ideal) v0) k0_pay168 (k0_pay169 (F := Ideal) v0) (k0_pay170 (F := Ideal)) (ix2 a l)
      = ∑ x ∈ Finset.range (l.val + 1), lf (128 * a.val + x) := by
  rw [pay171_eq, pay167_eq, ← W_all (fun x => lf (128 * a.val + x)) 128 l.val l.isLt]
  refine lev1 (n := 64) (m := 128) (f := fun a x => lf (128 * a + x)) (by omega) (by omega) (lev1 (n := 32) (m := 64) (f := fun a x => lf (128 * a + x)) (by omega) (by omega) (lev1 (n := 16) (m := 32) (f := fun a x => lf (128 * a + x)) (by omega) (by omega) (lev1 (n := 8) (m := 16) (f := fun a x => lf (128 * a + x)) (by omega) (by omega) (lev1 (n := 4) (m := 8) (f := fun a x => lf (128 * a + x)) (by omega) (by omega) (lev1 (n := 2) (m := 4) (f := fun a x => lf (128 * a + x)) (by omega) (by omega) (lev1 (n := 1) (m := 2) (f := fun a x => lf (128 * a + x)) (by omega) (by omega) ?_)))))) a l
  intro a l
  rw [W_one, ← h0]
  generalize v0 = v
  pointwise

theorem range_split (lf : ℕ → EReal) (a : ℕ) : ∑ b ∈ Finset.range a, ∑ x ∈ Finset.range 128, lf (128 * b + x) = ∑ x ∈ Finset.range (128 * a), lf x := by
  induction a with
  | zero => simp
  | succ a ih => rw [Finset.sum_range_succ, ih, Nat.mul_succ, Finset.sum_range_add]

/-- The accumulated forgetting, row by row. -/
theorem v85_at (v0 : Vec Ideal S1x16x128 .f32) (lf : ℕ → EReal) (h0 : ∀ (a : Fin 16) (l : Fin 128), v0 (ix3 0 a l) = lf (128 * a.val + l.val)) (a : Fin 16) (l : Fin 128) :
    k0_pay174 (F := Ideal) (iota .tc S16x128 32 [0] iota_S16x128_d0_w32)
      (k0_pay171 (F := Ideal) (iota .tc S16x128 32 [1] iota_S16x128_d1_w32) (k0_pay167 (F := Ideal) v0) k0_pay168 (k0_pay169 (F := Ideal) v0) (k0_pay170 (F := Ideal)))
      (k0_pay172 (F := Ideal) (iota .tc S16x128 32 [1] iota_S16x128_d1_w32) (iota .tc S16x128 32 [0] iota_S16x128_d0_w32) (k0_pay167 (F := Ideal) v0) k0_pay168 (k0_pay169 (F := Ideal) v0) (k0_pay170 (F := Ideal)))
      k0_pay173 (ix2 a l) = Fc lf (128 * a.val + l.val) := by
  have h45 := v45_at v0 lf h0
  have h77 : ∀ (a : Fin 16) (l : Fin 128), k0_pay172 (F := Ideal) (iota .tc S16x128 32 [1] iota_S16x128_d1_w32) (iota .tc S16x128 32 [0] iota_S16x128_d0_w32) (k0_pay167 (F := Ideal) v0) k0_pay168 (k0_pay169 (F := Ideal) v0) (k0_pay170 (F := Ideal)) (ix2 a l) = ∑ b ∈ Finset.range (a.val + 1), ∑ x ∈ Finset.range 128, lf (128 * b + x) := by
    intro a l
    rw [pay172_eq, ← W_all (fun b => ∑ x ∈ Finset.range 128, lf (128 * b + x)) 16 a.val a.isLt]
    refine lev0 (n := 8) (m := 16) (f := fun b => ∑ x ∈ Finset.range 128, lf (128 * b + x)) (by omega) (by omega) (lev0 (n := 4) (m := 8) (f := fun b => ∑ x ∈ Finset.range 128, lf (128 * b + x)) (by omega) (by omega) (lev0 (n := 2) (m := 4) (f := fun b => ∑ x ∈ Finset.range 128, lf (128 * b + x)) (by omega) (by omega) (lev0 (n := 1) (m := 2) (f := fun b => ∑ x ∈ Finset.range 128, lf (128 * b + x)) (by omega) (by omega) ?_))) a l
    intro a l
    rw [W_one, tot_at, h45]
    rfl
  generalize k0_pay171 (F := Ideal) (iota .tc S16x128 32 [1] iota_S16x128_d1_w32) (k0_pay167 (F := Ideal) v0) k0_pay168 (k0_pay169 (F := Ideal) v0) (k0_pay170 (F := Ideal)) = v45 at *
  generalize k0_pay172 (F := Ideal) (iota .tc S16x128 32 [1] iota_S16x128_d1_w32) (iota .tc S16x128 32 [0] iota_S16x128_d0_w32) (k0_pay167 (F := Ideal) v0) k0_pay168 (k0_pay169 (F := Ideal) v0) (k0_pay170 (F := Ideal)) = v77 at *
  rw [pay174_eq, named_c0]
  show (v45 (ix2 a l) + sh0 1#32 v77 (ix2 a l)) * c0 = _
  unfold Fc
  congr 1
  rw [sh0_at 1 (by omega), h45]
  have e : ∑ x ∈ Finset.range (128 * a.val + l.val + 1), lf x = ∑ x ∈ Finset.range (128 * a.val), lf x + ∑ x ∈ Finset.range (l.val + 1), lf (128 * a.val + x) := by
    rw [add_assoc, Finset.sum_range_add]
  rw [e, ← range_split, add_comm]
  congr 1
  by_cases ha : 1 ≤ a.val
  · rw [dif_pos ha, h77]
    have : a.val - 1 + 1 = a.val := by omega
    simp only [this]
  · rw [dif_neg ha]
    have : a.val = 0 := by omega
    rw [this]
    simp

/-- A column of the sums put below the others. -/
theorem col_next {G : ℕ → EReal} {n o : ℕ} {A : Arr EReal} (hA : ∀ j < 128 * n, ∀ l < 128, A (j, l) = G j) {v : (Blk 128 128).Idx → EReal}
    (hv : ∀ a l : Fin 128, v (ix2 a l) = G (128 * n + a.val)) (ho : o = 128 * n) :
    ∀ j < 128 * (n + 1), ∀ l < 128, stv (h := 128) (w := 128) (o, 0) v A (j, l) = G j := by
  intro j hj l hl
  subst ho
  by_cases h : 128 * n ≤ j
  · rw [stv_in h (by simp only; omega) (Nat.zero_le _) (by simpa using hl), hv]
    congr 1
    simp only
    omega
  · rw [stv_out (fun hh => h hh.1.1), hA j (by omega) l hl]

section cols
variable (v3 : IVec S16x128 32) (v45 v77 : FVec Ideal S16x128 .f32) (v78 : IVec S16x128 32) (G : ℕ → EReal)
  (h : ∀ (a : Fin 16) (l : Fin 128), k0_pay174 (F := Ideal) v3 v45 v77 v78 (ix2 a l) = G (128 * a.val + l.val))
include h

theorem col0 (a l : Fin 128) : k0_pay176 (F := Ideal) v3 v45 v77 v78 (ix2 a l) = G (128 * 0 + a.val) := by
  rw [← show (((0 : Fin 16).val) = 0) from rfl, ← h]
  pointwise [k0_pay176]

theorem col1 (a l : Fin 128) : k0_pay177 (F := Ideal) v3 v45 v77 v78 (ix2 a l) = G (128 * 1 + a.val) := by
  rw [← show (((1 : Fin 16).val) = 1) from rfl, ← h]
  pointwise [k0_pay177]

theorem col2 (a l : Fin 128) : k0_pay178 (F := Ideal) v3 v45 v77 v78 (ix2 a l) = G (128 * 2 + a.val) := by
  rw [← show (((2 : Fin 16).val) = 2) from rfl, ← h]
  pointwise [k0_pay178]

theorem col3 (a l : Fin 128) : k0_pay179 (F := Ideal) v3 v45 v77 v78 (ix2 a l) = G (128 * 3 + a.val) := by
  rw [← show (((3 : Fin 16).val) = 3) from rfl, ← h]
  pointwise [k0_pay179]

theorem col4 (a l : Fin 128) : k0_pay180 (F := Ideal) v3 v45 v77 v78 (ix2 a l) = G (128 * 4 + a.val) := by
  rw [← show (((4 : Fin 16).val) = 4) from rfl, ← h]
  pointwise [k0_pay180]

theorem row_all (a : Fin 16) (l : Fin 128) : k0_pay175 (F := Ideal) v3 v45 v77 v78 (ix2 a l) = G (128 * a.val + l.val) := by
  rw [← h]
  pointwise [k0_pay175]
end cols

section cols2
variable (v85 : FVec Ideal S16x128 .f32) (G : ℕ → EReal) (h : ∀ (a : Fin 16) (l : Fin 128), v85 (ix2 a l) = G (128 * a.val + l.val))
include h

theorem col5 (a l : Fin 128) : k0_pay182 (F := Ideal) v85 (ix2 a l) = G (128 * 5 + a.val) := by
  rw [← show (((5 : Fin 16).val) = 5) from rfl, ← h]
  pointwise [k0_pay182]

theorem col6 (a l : Fin 128) : k0_pay183 (F := Ideal) v85 (ix2 a l) = G (128 * 6 + a.val) := by
  rw [← show (((6 : Fin 16).val) = 6) from rfl, ← h]
  pointwise [k0_pay183]

theorem col7 (a l : Fin 128) : k0_pay184 (F := Ideal) v85 (ix2 a l) = G (128 * 7 + a.val) := by
  rw [← show (((7 : Fin 16).val) = 7) from rfl, ← h]
  pointwise [k0_pay184]

theorem col8 (a l : Fin 128) : k0_pay185 (F := Ideal) v85 (ix2 a l) = G (128 * 8 + a.val) := by
  rw [← show (((8 : Fin 16).val) = 8) from rfl, ← h]
  pointwise [k0_pay185]

theorem col9 (a l : Fin 128) : k0_pay186 (F := Ideal) v85 (ix2 a l) = G (128 * 9 + a.val) := by
  rw [← show (((9 : Fin 16).val) = 9) from rfl, ← h]
  pointwise [k0_pay186]

theorem col10 (a l : Fin 128) : k0_pay187 (F := Ideal) v85 (ix2 a l) = G (128 * 10 + a.val) := by
  rw [← show (((10 : Fin 16).val) = 10) from rfl, ← h]
  pointwise [k0_pay187]

theorem col11 (a l : Fin 128) : k0_pay189 (F := Ideal) v85 (ix2 a l) = G (128 * 11 + a.val) := by
  rw [← show (((11 : Fin 16).val) = 11) from rfl, ← h]
  pointwise [k0_pay189]

theorem col12 (a l : Fin 128) : k0_pay190 (F := Ideal) v85 (ix2 a l) = G (128 * 12 + a.val) := by
  rw [← show (((12 : Fin 16).val) = 12) from rfl, ← h]
  pointwise [k0_pay190]

theorem col13 (a l : Fin 128) : k0_pay191 (F := Ideal) v85 (ix2 a l) = G (128 * 13 + a.val) := by
  rw [← show (((13 : Fin 16).val) = 13) from rfl, ← h]
  pointwise [k0_pay191]

theorem col14 (a l : Fin 128) : k0_pay192 (F := Ideal) v85 (ix2 a l) = G (128 * 14 + a.val) := by
  rw [← show (((14 : Fin 16).val) = 14) from rfl, ← h]
  pointwise [k0_pay192]

theorem col15 (a l : Fin 128) : k0_pay193 (F := Ideal) v85 (ix2 a l) = G (128 * 15 + a.val) := by
  rw [← show (((15 : Fin 16).val) = 15) from rfl, ← h]
  pointwise [k0_pay193]
end cols2

theorem pay181_at (v : FVec Ideal S128x128 .f32) (a l : Fin 128) : k0_pay181 (F := Ideal) v (ix2 a l) = v (ix2 a l) := by
  pointwise [k0_pay181]

theorem pay188_at (v : FVec Ideal S128x128 .f32) (a l : Fin 128) : k0_pay188 (F := Ideal) v (ix2 a l) = v (ix2 a l) := by
  pointwise [k0_pay188]

/-- What the prologue leaves in the two buffers that hold the accumulated forgetting. -/
theorem pro_val (v0 : Vec Ideal S1x16x128 .f32) (lf : ℕ → EReal) (h0 : ∀ (a : Fin 16) (l : Fin 128), v0 (ix3 0 a l) = lf (128 * a.val + l.val)) (A : Scr) :
    (∀ j < 2048, ∀ l < 128, (pro_fn v0 A).a13 (j, l) = Fc lf j) ∧ (∀ a < 16, ∀ l < 128, (pro_fn v0 A).a14 (a, l) = Fc lf (128 * a + l)) := by
  have h := v85_at v0 lf h0
  unfold pro_fn
  dsimp only
  generalize k0_pay171 (F := Ideal) (iota .tc S16x128 32 [1] iota_S16x128_d1_w32) (k0_pay167 (F := Ideal) v0) k0_pay168 (k0_pay169 (F := Ideal) v0) (k0_pay170 (F := Ideal)) = v45 at *
  generalize k0_pay172 (F := Ideal) (iota .tc S16x128 32 [1] iota_S16x128_d1_w32) (iota .tc S16x128 32 [0] iota_S16x128_d0_w32) (k0_pay167 (F := Ideal) v0) k0_pay168 (k0_pay169 (F := Ideal) v0) (k0_pay170 (F := Ideal)) = v77 at *
  generalize (iota .tc S16x128 32 [0] iota_S16x128_d0_w32 : IVec S16x128 32) = v3 at *
  generalize k0_pay173 = v78 at *
  constructor
  · unfold p16_fn p15_fn p14_fn
    dsimp only
    exact col_next (col_next (col_next (col_next (col_next (col_next (col_next (col_next (col_next (col_next (col_next (col_next (col_next (col_next (col_next (col_next (fun j hj => absurd hj (Nat.not_lt_zero _))
      (col0 _ _ _ _ _ h) rfl)
      (col1 _ _ _ _ _ h) rfl)
      (col2 _ _ _ _ _ h) rfl)
      (col3 _ _ _ _ _ h) rfl)
      (fun a l => (pay181_at _ a l).trans (col4 _ _ _ _ _ h a l)) rfl)
      (col5 _ _ h) rfl)
      (col6 _ _ h) rfl)
      (col7 _ _ h) rfl)
      (col8 _ _ h) rfl)
      (col9 _ _ h) rfl)
      (fun a l => (pay188_at _ a l).trans (col10 _ _ h a l)) rfl)
      (col11 _ _ h) rfl)
      (col12 _ _ h) rfl)
      (col13 _ _ h) rfl)
      (col14 _ _ h) rfl)
      (col15 _ _ h) rfl
  · intro a ha l hl
    show stv (h := 16) (w := 128) (0, 0) _ _ (a, l) = _
    rw [stv_in (Nat.zero_le _) (by simpa using ha) (Nat.zero_le _) (by simpa using hl), row_all _ _ _ _ _ h]
    simp only [Nat.sub_zero]

end Cert.KernelIdeal.Hand
-- ==== Proof.Head.lean ====
/-
  One head: the eight group trips of the kernel body from the contents of its six input blocks, and what the output block
  holds after them.
-/
module

public import proofs.«01_k».proof.Proof.Gen.KernelIdeal.Skeleton
public import proofs.«01_k».proof.Proof.Closed
public import Idealize.ShloMosaic.Lib.Updates.Memory
public import Idealize.ShloMosaic.Lib.Updates.Loop
public import Idealize.ShloMosaic.Lib.Tactic
public import Idealize.ShloMosaic.Lib.Pointwise
public import Idealize.ShloMosaic.Lib.Pipeline.ValueKit.Tiles
public import proofs.«01_k».proof.Proof.TripSpec
public import proofs.«01_k».proof.Proof.Prefix
public import proofs.«01_k».proof.Proof.Attn
public import proofs.«01_k».proof.Proof.PartsD
@[expose] public section

set_option maxRecDepth 16384
set_option maxHeartbeats 400000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Updates
open Idealize.ShloMosaic.LaneScatter (Blk iter)

local notation "𝕄" => MT nD τ sig Unit (Elt Ideal) ℕ (UR sig nD τ) ℕ

open scoped BigOperators

section Loads
variable (arg1 : Memref sig .tc .vmem S1x32x3x128x128 .bf16) (arg2 : Memref sig .tc .vmem S1x2048x128 .f32) (arg3 : Memref sig .tc .vmem S1x16x128x128 .bf16) (arg4 : Memref sig .tc .vmem S1x16x64x128 .f32) (arg5 : Memref sig .tc .vmem S2048x128 .bf16) (arg6 : Memref sig .tc .vmem S1x16x128 .f32)
  (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty)

/-- One plane of one chunk's matrix, loaded. -/
theorem ld1 {rp : ℕ → ℕ → ℕ → ℕ → ℝ} (hX1 : ∀ x : S1x32x3x128x128.Idx, arg1.view.read (Elt Ideal) X1 x = ((rp (x 1).val (x 2).val (x 3).val (x 4).val : ℝ) : EReal))
    (off : Fin 5 → ℕ) (inb) (n k : ℕ) (ho : off = ![0, n, k, 0, 0]) (a b : Fin 128) :
    View.readAt (Elt Ideal) arg1.view (Rect.unit (s := S1x32x3x128x128) off S1x1x1x128x128.size inb).toLoadRect X1 (Idealize.ShloMosaic.ix5 0 0 0 a b)
      = ((rp n k a.val b.val : ℝ) : EReal) := by
  subst ho
  rw [View.readAt_apply, hX1]
  have e (d : Fin 5) := Rect.idx_unit_val (s := S1x32x3x128x128) ![0, n, k, 0, 0] S1x1x1x128x128.size inb (Idealize.ShloMosaic.ix5 0 0 0 a b) d
  have e1 : _ = n := (e 1).trans (by simp [Idealize.ShloMosaic.ix5])
  have e2 : _ = k := (e 2).trans (by simp [Idealize.ShloMosaic.ix5])
  have e3 : _ = a.val := (e 3).trans (by simp [Idealize.ShloMosaic.ix5])
  have e4 : _ = b.val := (e 4).trans (by simp [Idealize.ShloMosaic.ix5])
  erw [e1, e2, e3, e4]

/-- Sixty-four keys of the head, loaded. -/
theorem ld2 {K : ℕ → ℕ → ℝ} (hX2 : ∀ x : S1x2048x128.Idx, arg2.view.read (Elt Ideal) X2 x = ((K (x 1).val (x 2).val : ℝ) : EReal))
    (off : Fin 3 → ℕ) (inb) (n : ℕ) (ho : off = ![0, n, 0]) (a : Fin 64) (b : Fin 128) :
    View.readAt (Elt Ideal) arg2.view (Rect.unit (s := S1x2048x128) off S1x64x128.size inb).toLoadRect X2 (Idealize.ShloMosaic.ix3 0 a b)
      = ((K (n + a.val) b.val : ℝ) : EReal) := by
  subst ho
  rw [View.readAt_apply, hX2]
  have e (d : Fin 3) := Rect.idx_unit_val (s := S1x2048x128) ![0, n, 0] S1x64x128.size inb (Idealize.ShloMosaic.ix3 0 a b) d
  have e1 : _ = n + a.val := (e 1).trans (by simp [Idealize.ShloMosaic.ix3])
  have e2 : _ = b.val := (e 2).trans (by simp [Idealize.ShloMosaic.ix3])
  erw [e1, e2]

/-- The queries of one pair of chunks, loaded. -/
theorem ld3 {q : ℕ → ℕ → ℕ → EReal} (hX3 : ∀ x : S1x16x128x128.Idx, arg3.view.read (Elt Ideal) X3 x = q (x 1).val (x 2).val (x 3).val)
    (off : Fin 4 → ℕ) (inb) (n : ℕ) (ho : off = ![0, n, 0, 0]) (a b : Fin 128) :
    View.readAt (Elt Ideal) arg3.view (Rect.unit (s := S1x16x128x128) off S1x1x128x128.size inb).toLoadRect X3 (Idealize.ShloMosaic.ix4 0 0 a b)
      = q n a.val b.val := by
  subst ho
  rw [View.readAt_apply, hX3]
  have e (d : Fin 4) := Rect.idx_unit_val (s := S1x16x128x128) ![0, n, 0, 0] S1x1x128x128.size inb (Idealize.ShloMosaic.ix4 0 0 a b) d
  have e1 : _ = n := (e 1).trans (by simp [Idealize.ShloMosaic.ix4])
  have e2 : _ = a.val := (e 2).trans (by simp [Idealize.ShloMosaic.ix4])
  have e3 : _ = b.val := (e 3).trans (by simp [Idealize.ShloMosaic.ix4])
  erw [e1, e2, e3]

/-- The in-chunk scores of one pair of chunks, loaded. -/
theorem ld4 {sd : ℕ → ℕ → ℕ → EReal} (hX4 : ∀ x : S1x16x64x128.Idx, arg4.view.read (Elt Ideal) X4 x = sd (x 1).val (x 2).val (x 3).val)
    (off : Fin 4 → ℕ) (inb) (n : ℕ) (ho : off = ![0, n, 0, 0]) (a : Fin 64) (b : Fin 128) :
    View.readAt (Elt Ideal) arg4.view (Rect.unit (s := S1x16x64x128) off S1x1x64x128.size inb).toLoadRect X4 (Idealize.ShloMosaic.ix4 0 0 a b)
      = sd n a.val b.val := by
  subst ho
  rw [View.readAt_apply, hX4]
  have e (d : Fin 4) := Rect.idx_unit_val (s := S1x16x64x128) ![0, n, 0, 0] S1x1x64x128.size inb (Idealize.ShloMosaic.ix4 0 0 a b) d
  have e1 : _ = n := (e 1).trans (by simp [Idealize.ShloMosaic.ix4])
  have e2 : _ = a.val := (e 2).trans (by simp [Idealize.ShloMosaic.ix4])
  have e3 : _ = b.val := (e 3).trans (by simp [Idealize.ShloMosaic.ix4])
  erw [e1, e2, e3]

/-- The values of one group, loaded. -/
theorem ld5 {v : ℕ → ℕ → EReal} (hX5 : ∀ x : S2048x128.Idx, arg5.view.read (Elt Ideal) X5 x = v (x 0).val (x 1).val)
    (off : Fin 2 → ℕ) (inb) (n : ℕ) (ho : off = ![n, 0]) (a : Fin 256) (b : Fin 128) :
    View.readAt (Elt Ideal) arg5.view (Rect.unit (s := S2048x128) off S256x128.size inb).toLoadRect X5 (Idealize.ShloMosaic.ix2 a b)
      = v (n + a.val) b.val := by
  subst ho
  rw [View.readAt_apply, hX5]
  have e (d : Fin 2) := Rect.idx_unit_val (s := S2048x128) ![n, 0] S256x128.size inb (Idealize.ShloMosaic.ix2 a b) d
  have e1 : _ = n + a.val := (e 0).trans (by simp [Idealize.ShloMosaic.ix2])
  have e2 : _ = b.val := (e 1).trans (by simp [Idealize.ShloMosaic.ix2])
  erw [e1, e2]

/-- The log-forget values of the head, loaded. -/
theorem ld6 {lf : ℕ → EReal} (hX6 : ∀ x : S1x16x128.Idx, arg6.view.read (Elt Ideal) X6 x = lf (128 * (x 1).val + (x 2).val))
    (off : Fin 3 → ℕ) (inb) (ho : off = ![0, 0, 0]) (a : Fin 16) (b : Fin 128) :
    View.readAt (Elt Ideal) arg6.view (Rect.unit (s := S1x16x128) off S1x16x128.size inb).toLoadRect X6 (Idealize.ShloMosaic.ix3 0 a b)
      = lf (128 * a.val + b.val) := by
  subst ho
  rw [View.readAt_apply, hX6]
  have e (d : Fin 3) := Rect.idx_unit_val (s := S1x16x128) ![0, 0, 0] S1x16x128.size inb (Idealize.ShloMosaic.ix3 0 a b) d
  have e1 : _ = a.val := (e 1).trans (by simp [Idealize.ShloMosaic.ix3])
  have e2 : _ = b.val := (e 2).trans (by simp [Idealize.ShloMosaic.ix3])
  erw [e1, e2]

/-- One group trip on the arrays, from the loads of the six blocks. -/
def gstep (g : ℕ) (A : Scr) : Scr :=
  if h : g < k0_t1_loop.trips then trip_fn g (l205 ⟨g, h⟩ arg5 X5) (l215 ⟨g, h⟩ arg1 X1) (l218 ⟨g, h⟩ arg1 X1) (l221 ⟨g, h⟩ arg1 X1) (l226 ⟨g, h⟩ arg3 X3) (l245 ⟨g, h⟩ arg2 X2) (l269 ⟨g, h⟩ arg4 X4) (l278 ⟨g, h⟩ arg1 X1) (l281 ⟨g, h⟩ arg1 X1) (l284 ⟨g, h⟩ arg1 X1) (l289 ⟨g, h⟩ arg3 X3) (l347 ⟨g, h⟩ arg2 X2) (l371 ⟨g, h⟩ arg4 X4) (l381 ⟨g, h⟩ arg1 X1) (l384 ⟨g, h⟩ arg1 X1) (l387 ⟨g, h⟩ arg1 X1) (l392 ⟨g, h⟩ arg3 X3) (l450 ⟨g, h⟩ arg2 X2) (l474 ⟨g, h⟩ arg4 X4) (l483 ⟨g, h⟩ arg1 X1) (l486 ⟨g, h⟩ arg1 X1) (l489 ⟨g, h⟩ arg1 X1) (l494 ⟨g, h⟩ arg3 X3) (l552 ⟨g, h⟩ arg2 X2) (l576 ⟨g, h⟩ arg4 X4) A else A

/-- What holds between group trips: the rows so far have the matrices so far, the residual parts are
zero, the values so far are transposed, the prefix sums are there, and the finished rows of the output
are final. -/
structure Inv (R : ℕ → ℕ → ℕ → ℝ) (K : ℕ → ℕ → ℝ) (q sd : ℕ → ℕ → ℕ → EReal) (v : ℕ → ℕ → EReal) (lf : ℕ → EReal) (g : ℕ) (A : Scr) : Prop where
  y : ∀ j < 64 * (4 * g), ∀ e < 128, A.a8 (j, e) = ((Yf R K (4 * g) j e : ℝ) : EReal)
  z2 : ∀ j < 64 * (4 * g), ∀ e < 128, A.a9 (j, e) = 0
  z3 : ∀ j < 64 * (4 * g), ∀ e < 128, A.a10 (j, e) = 0
  h12 : ∀ e < 128, ∀ j < 256 * g, A.a12 (e, j) = v j e
  h13 : ∀ j < 2048, ∀ l < 128, A.a13 (j, l) = Fc lf j
  h14 : ∀ a < 16, ∀ l < 128, A.a14 (a, l) = Fc lf (128 * a + l)
  o : ∀ i < 256 * g, ∀ e < 128, A.a7 (i, e) = outv (sv R K q sd) (Fc lf) v i e

variable {rp : ℕ → ℕ → ℕ → ℕ → ℝ} {K : ℕ → ℕ → ℝ} {q sd : ℕ → ℕ → ℕ → EReal} {v : ℕ → ℕ → EReal} {lf : ℕ → EReal}
  (hX1 : ∀ x : S1x32x3x128x128.Idx, arg1.view.read (Elt Ideal) X1 x = ((rp (x 1).val (x 2).val (x 3).val (x 4).val : ℝ) : EReal))
  (hX2 : ∀ x : S1x2048x128.Idx, arg2.view.read (Elt Ideal) X2 x = ((K (x 1).val (x 2).val : ℝ) : EReal))
  (hX3 : ∀ x : S1x16x128x128.Idx, arg3.view.read (Elt Ideal) X3 x = q (x 1).val (x 2).val (x 3).val)
  (hX4 : ∀ x : S1x16x64x128.Idx, arg4.view.read (Elt Ideal) X4 x = sd (x 1).val (x 2).val (x 3).val)
  (hX5 : ∀ x : S2048x128.Idx, arg5.view.read (Elt Ideal) X5 x = v (x 0).val (x 1).val)
  (hX6 : ∀ x : S1x16x128.Idx, arg6.view.read (Elt Ideal) X6 x = lf (128 * (x 1).val + (x 2).val))

include hX1 hX2 hX3 hX4 in
/-- The four chunks of a group, from the blocks. -/
theorem group_done (g : Fin k0_t1_loop.trips) (A1 : Scr)
    (D0 : Done (fun n x e => rp n 0 x e + rp n 1 x e + rp n 2 x e) K q sd g.val 0 A1 A1) :
    Done (fun n x e => rp n 0 x e + rp n 1 x e + rp n 2 x e) K q sd g.val 4 A1 (chunks g.val (l215 g arg1 X1) (l218 g arg1 X1) (l221 g arg1 X1) (l226 g arg3 X3) (l245 g arg2 X2) (l269 g arg4 X4) (l278 g arg1 X1) (l281 g arg1 X1) (l284 g arg1 X1) (l289 g arg3 X3) (l347 g arg2 X2) (l371 g arg4 X4) (l381 g arg1 X1) (l384 g arg1 X1) (l387 g arg1 X1) (l392 g arg3 X3) (l450 g arg2 X2) (l474 g arg4 X4) (l483 g arg1 X1) (l486 g arg1 X1) (l489 g arg1 X1) (l494 g arg3 X3) (l552 g arg2 X2) (l576 g arg4 X4) A1) := by
  refine chunks_done (rp := rp) (K := K) (q := q) (sd := sd) (g := g.val) _ _ _ _ _ _ _ _ _ _ _ _ _ _ _ _ _ _ _ _ _ _ _ _ (fun a b => ld1 arg1 X1 hX1 _ _ _ _ (off3_eq g 0) a b)
    (fun a b => ld1 arg1 X1 hX1 _ _ _ _ (off4_eq g 0) a b)
    (fun a b => ld1 arg1 X1 hX1 _ _ _ _ (off5_eq g 0) a b)
    (fun a b => ld3 arg3 X3 hX3 _ _ _ (off6_eq g 0) a b)
    (fun a b => (ld2 arg2 X2 hX2 _ _ _ (off11_eq g 0) a b).trans (by rw [show 64 * (4 * g.val + 0) + a.val = 256 * g.val + 64 * (0 : Fin 4).val + a.val by simp; omega]))
    (fun a b => ld4 arg4 X4 hX4 _ _ _ (off13_eq g 0) a b)
    (fun a b => ld1 arg1 X1 hX1 _ _ _ _ (off3_eq g 1) a b)
    (fun a b => ld1 arg1 X1 hX1 _ _ _ _ (off4_eq g 1) a b)
    (fun a b => ld1 arg1 X1 hX1 _ _ _ _ (off5_eq g 1) a b)
    (fun a b => ld3 arg3 X3 hX3 _ _ _ (off6_eq g 0) a b)
    (fun a b => (ld2 arg2 X2 hX2 _ _ _ (off11_eq g 1) a b).trans (by rw [show 64 * (4 * g.val + 1) + a.val = 256 * g.val + 64 * (1 : Fin 4).val + a.val by simp; omega]))
    (fun a b => ld4 arg4 X4 hX4 _ _ _ (off13_eq g 0) a b)
    (fun a b => ld1 arg1 X1 hX1 _ _ _ _ (off3_eq g 2) a b)
    (fun a b => ld1 arg1 X1 hX1 _ _ _ _ (off4_eq g 2) a b)
    (fun a b => ld1 arg1 X1 hX1 _ _ _ _ (off5_eq g 2) a b)
    (fun a b => ld3 arg3 X3 hX3 _ _ _ (off6_eq g 1) a b)
    (fun a b => (ld2 arg2 X2 hX2 _ _ _ (off11_eq g 2) a b).trans (by rw [show 64 * (4 * g.val + 2) + a.val = 256 * g.val + 64 * (2 : Fin 4).val + a.val by simp; omega]))
    (fun a b => ld4 arg4 X4 hX4 _ _ _ (off13_eq g 1) a b)
    (fun a b => ld1 arg1 X1 hX1 _ _ _ _ (off3_eq g 3) a b)
    (fun a b => ld1 arg1 X1 hX1 _ _ _ _ (off4_eq g 3) a b)
    (fun a b => ld1 arg1 X1 hX1 _ _ _ _ (off5_eq g 3) a b)
    (fun a b => ld3 arg3 X3 hX3 _ _ _ (off6_eq g 1) a b)
    (fun a b => (ld2 arg2 X2 hX2 _ _ _ (off11_eq g 3) a b).trans (by rw [show 64 * (4 * g.val + 3) + a.val = 256 * g.val + 64 * (3 : Fin 4).val + a.val by simp; omega]))
    (fun a b => ld4 arg4 X4 hX4 _ _ _ (off13_eq g 1) a b) D0

include hX1 hX2 hX3 hX4 hX5 in
/-- One trip keeps the invariant. -/
theorem Inv.step {g : ℕ} (hg : g < 8) {A : Scr} (H : Inv (fun n x e => rp n 0 x e + rp n 1 x e + rp n 2 x e) K q sd v lf g A) :
    Inv (fun n x e => rp n 0 x e + rp n 1 x e + rp n 2 x e) K q sd v lf (g + 1) (gstep arg1 arg2 arg3 arg4 arg5 X1 X2 X3 X4 X5 g A) := by
  have hg' : g < k0_t1_loop.trips := by rw [trips1]; exact hg
  unfold gstep
  rw [dif_pos hg', trip_eq]
  set A1 := p1_fn g (l205 ⟨g, hg'⟩ arg5 X5) A with hA1
  have D := group_done arg1 arg2 arg3 arg4 X1 X2 X3 X4 hX1 hX2 hX3 hX4 ⟨g, hg'⟩ A1
    ⟨fun j hj e he => H.y j hj e he, fun j hj e he => H.z2 j hj e he, fun j hj e he => H.z3 j hj e he,
      fun l hl => absurd hl (by omega), rfl, rfl, rfl, rfl⟩
  dsimp only at D
  generalize chunks g (l215 ⟨g, hg'⟩ arg1 X1) (l218 ⟨g, hg'⟩ arg1 X1) (l221 ⟨g, hg'⟩ arg1 X1) (l226 ⟨g, hg'⟩ arg3 X3) (l245 ⟨g, hg'⟩ arg2 X2) (l269 ⟨g, hg'⟩ arg4 X4) (l278 ⟨g, hg'⟩ arg1 X1) (l281 ⟨g, hg'⟩ arg1 X1) (l284 ⟨g, hg'⟩ arg1 X1) (l289 ⟨g, hg'⟩ arg3 X3) (l347 ⟨g, hg'⟩ arg2 X2) (l371 ⟨g, hg'⟩ arg4 X4) (l381 ⟨g, hg'⟩ arg1 X1) (l384 ⟨g, hg'⟩ arg1 X1) (l387 ⟨g, hg'⟩ arg1 X1) (l392 ⟨g, hg'⟩ arg3 X3) (l450 ⟨g, hg'⟩ arg2 X2) (l474 ⟨g, hg'⟩ arg4 X4) (l483 ⟨g, hg'⟩ arg1 X1) (l486 ⟨g, hg'⟩ arg1 X1) (l489 ⟨g, hg'⟩ arg1 X1) (l494 ⟨g, hg'⟩ arg3 X3) (l552 ⟨g, hg'⟩ arg2 X2) (l576 ⟨g, hg'⟩ arg4 X4) A1 = A4 at D ⊢
  have P : Pre (sv (fun n x e => rp n 0 x e + rp n 1 x e + rp n 2 x e) K q sd) (Fc lf) v g A4 := by
    refine ⟨fun l hl j hj => D.sc l (by omega) j hj, fun e he j hj => ?_, fun j hj l hl => ?_, fun a ha l hl => ?_⟩
    · rw [D.e12]
      show stv (h := 128) (w := 256) (0, 256 * g) (k0_pay5 (F := Ideal) (l205 ⟨g, hg'⟩ arg5 X5)) A.a12 (e, j) = _
      by_cases hj' : j < 256 * g
      · rw [stv_out (by dsimp only; omega)]
        exact H.h12 e he j hj'
      · rw [stv_in (by dsimp only; omega) (by dsimp only; omega) (by dsimp only; omega) (by dsimp only; omega), pay5_at]
        have h5 := ld5 arg5 X5 hX5 _ (k0_off1_inb ⟨g, hg'⟩) (256 * g) (off1_eq ⟨g, hg'⟩) ⟨j - 256 * g, by omega⟩ ⟨e - 0, by omega⟩
        refine h5.trans ?_
        congr 1
        dsimp only; omega
    · rw [D.e13]; exact H.h13 j hj l hl
    · rw [D.e14]; exact H.h14 a ha l hl
  have M := P.mx hg
  have O := P.out hg
  refine ⟨fun j hj e he => ?_, fun j hj e he => ?_, fun j hj e he => ?_, fun e he j hj => ?_, fun j hj l hl => ?_, fun a ha l hl => ?_, fun i hi e he => ?_⟩
  · show (p11_x g A4).1.a8 (j, e) = _
    rw [M.e8]; exact D.y j hj e he
  · show (p11_x g A4).1.a9 (j, e) = _
    rw [M.e9]; exact D.z2 j hj e he
  · show (p11_x g A4).1.a10 (j, e) = _
    rw [M.e10]; exact D.z3 j hj e he
  · show (p11_x g A4).1.a12 (e, j) = _
    rw [M.e12]; exact P.h12 e he j hj
  · show (p11_x g A4).1.a13 (j, l) = _
    rw [M.e13]; exact P.h13 j hj l hl
  · show (p11_x g A4).1.a14 (a, l) = _
    rw [M.e14]; exact P.h14 a ha l hl
  · by_cases hi' : i < 256 * g
    · rw [O.2 i hi' e, D.e7]
      exact H.o i hi' e he
    · have := O.1 (i - 256 * g) (by omega) e he
      rwa [show 256 * g + (i - 256 * g) = i by omega] at this

include hX1 hX2 hX3 hX4 hX5 hX6 in
/-- All eight trips: the output block holds the head's attention. -/
theorem head_val (A : Scr) (i : ℕ) (hi : i < 2048) (e : ℕ) (he : e < 128) :
    (iter (gstep arg1 arg2 arg3 arg4 arg5 X1 X2 X3 X4 X5) 8 (pro_fn (l0 arg6 X6) A)).a7 (i, e)
      = outv (sv (fun n x e => rp n 0 x e + rp n 1 x e + rp n 2 x e) K q sd) (Fc lf) v i e := by
  have key : ∀ n, n ≤ 8 → Inv (fun n x e => rp n 0 x e + rp n 1 x e + rp n 2 x e) K q sd v lf n
      (iter (gstep arg1 arg2 arg3 arg4 arg5 X1 X2 X3 X4 X5) n (pro_fn (l0 arg6 X6) A)) := by
    intro n
    induction n with
    | zero =>
      intro _
      have hp := pro_val (l0 arg6 X6) lf (fun a l => ld6 arg6 X6 hX6 _ _ rfl a l) A
      exact ⟨fun j hj => absurd hj (by omega), fun j hj => absurd hj (by omega), fun j hj => absurd hj (by omega),
        fun e he j hj => absurd hj (by omega), hp.1, hp.2, fun i hi => absurd hi (by omega)⟩
    | succ n ih =>
      intro hn
      exact Inv.step arg1 arg2 arg3 arg4 arg5 X1 X2 X3 X4 X5 hX1 hX2 hX3 hX4 hX5 (by omega) (ih (by omega))
  exact (key 8 le_rfl).o i hi e he

end Loads

end Cert.KernelIdeal.Hand

end
-- ==== Proof.Data.lean ====
/-
  The arrays of the call read at numbers, and the attention output as a function of the six arguments: what both the kernel and
  the reference are shown to compute.
-/
module

public import Idealize.ShloMosaic.Lib.Pointwise
public import proofs.«01_k».proof.Proof.Spec
public import proofs.«01_k».proof.Proof.Prefix
public import proofs.«01_k».proof.Proof.Attend
@[expose] public section

noncomputable section

namespace Cert.KernelIdeal.Hand

open Idealize.ShloMosaic

/-- An array of three axes at the numbers `i, j, k`, zero outside. -/
def rd3 {a b c : ℕ} (A : (⟨3, ![a, b, c]⟩ : Shape).Idx → EReal) (i j k : ℕ) : EReal :=
  if h : i < a ∧ j < b ∧ k < c then A (ix3 ⟨i, h.1⟩ ⟨j, h.2.1⟩ ⟨k, h.2.2⟩) else 0

/-- An array of four axes at the numbers `i, j, k, l`, zero outside. -/
def rd4 {a b c d : ℕ} (A : (⟨4, ![a, b, c, d]⟩ : Shape).Idx → EReal) (i j k l : ℕ) : EReal :=
  if h : i < a ∧ j < b ∧ k < c ∧ l < d then A (ix4 ⟨i, h.1⟩ ⟨j, h.2.1⟩ ⟨k, h.2.2.1⟩ ⟨l, h.2.2.2⟩) else 0

/-- An array of five axes at the numbers `i, j, k, l, n`, zero outside. -/
def rd5 {a b c d e : ℕ} (A : (⟨5, ![a, b, c, d, e]⟩ : Shape).Idx → EReal) (i j k l n : ℕ) : EReal :=
  if h : i < a ∧ j < b ∧ k < c ∧ l < d ∧ n < e then
    A (ix5 ⟨i, h.1⟩ ⟨j, h.2.1⟩ ⟨k, h.2.2.1⟩ ⟨l, h.2.2.2.1⟩ ⟨n, h.2.2.2.2⟩) else 0

theorem rd3_of {a b c : ℕ} (A : (⟨3, ![a, b, c]⟩ : Shape).Idx → EReal) (ι : (⟨3, ![a, b, c]⟩ : Shape).Idx) {i j k : ℕ}
    (h0 : (ι 0).val = i) (h1 : (ι 1).val = j) (h2 : (ι 2).val = k) : A ι = rd3 A i j k := by
  subst h0 h1 h2
  unfold rd3
  rw [dif_pos ⟨(ι 0).isLt, (ι 1).isLt, (ι 2).isLt⟩]
  congr 1
  funext x
  match x with
  | ⟨0, _⟩ => rfl
  | ⟨1, _⟩ => rfl
  | ⟨2, _⟩ => rfl

theorem rd4_of {a b c d : ℕ} (A : (⟨4, ![a, b, c, d]⟩ : Shape).Idx → EReal) (ι : (⟨4, ![a, b, c, d]⟩ : Shape).Idx) {i j k l : ℕ}
    (h0 : (ι 0).val = i) (h1 : (ι 1).val = j) (h2 : (ι 2).val = k) (h3 : (ι 3).val = l) : A ι = rd4 A i j k l := by
  subst h0 h1 h2 h3
  unfold rd4
  rw [dif_pos ⟨(ι 0).isLt, (ι 1).isLt, (ι 2).isLt, (ι 3).isLt⟩]
  congr 1
  funext x
  match x with
  | ⟨0, _⟩ => rfl
  | ⟨1, _⟩ => rfl
  | ⟨2, _⟩ => rfl
  | ⟨3, _⟩ => rfl

theorem rd5_of {a b c d e : ℕ} (A : (⟨5, ![a, b, c, d, e]⟩ : Shape).Idx → EReal) (ι : (⟨5, ![a, b, c, d, e]⟩ : Shape).Idx)
    {i j k l n : ℕ} (h0 : (ι 0).val = i) (h1 : (ι 1).val = j) (h2 : (ι 2).val = k) (h3 : (ι 3).val = l) (h4 : (ι 4).val = n) :
    A ι = rd5 A i j k l n := by
  subst h0 h1 h2 h3 h4
  unfold rd5
  rw [dif_pos ⟨(ι 0).isLt, (ι 1).isLt, (ι 2).isLt, (ι 3).isLt, (ι 4).isLt⟩]
  congr 1
  funext x
  match x with
  | ⟨0, _⟩ => rfl
  | ⟨1, _⟩ => rfl
  | ⟨2, _⟩ => rfl
  | ⟨3, _⟩ => rfl
  | ⟨4, _⟩ => rfl

variable (A0 : (⟨5, ![56, 32, 3, 128, 128]⟩ : Shape).Idx → EReal) (A1 : (⟨3, ![56, 2048, 128]⟩ : Shape).Idx → EReal)
  (A2 : (⟨4, ![56, 16, 128, 128]⟩ : Shape).Idx → EReal) (A3 : (⟨4, ![56, 16, 64, 128]⟩ : Shape).Idx → EReal)
  (A4 : (⟨4, ![1, 2048, 56, 128]⟩ : Shape).Idx → EReal) (A5 : (⟨3, ![1, 2048, 56]⟩ : Shape).Idx → EReal)

/-- The transition of chunk `n` of head `h`: the sum of its three planes. -/
def Rr (h n x e : ℕ) : ℝ := (rd5 A0 h n 0 x e).toReal + (rd5 A0 h n 1 x e).toReal + (rd5 A0 h n 2 x e).toReal

/-- The keys of head `h`. -/
def Kr (h j e : ℕ) : ℝ := (rd3 A1 h j e).toReal

/-- The scores of head `h`. -/
def Sc (h i j : ℕ) : EReal := sv (Rr A0 h) (Kr A1 h) (rd4 A2 h) (rd4 A3 h) i j

/-- The attention output at row `i` and column `col` of the result. -/
def attnOut (i col : ℕ) : EReal :=
  outv (Sc A0 A1 A2 A3 (col / 128)) (Fc fun j => rd3 A5 0 j (col / 128)) (fun j e => rd4 A4 0 j (col / 128) e) i (col % 128)

end Cert.KernelIdeal.Hand

end
-- ==== Proof.Blocks.lean ====
/-
  The blocks the region's windows read, at an index: each is its argument at the head's rows.
-/
module

public import proofs.«01_k».proof.Proof.FrameKI
public import proofs.«01_k».proof.Proof.Data
public import Idealize.ShloMosaic.Lib.Pipeline.Value
public import Idealize.ShloMosaic.Lib.Pipeline.ValueKit.Tiles
public import Idealize.ShloMosaic.Lib.StableHlo.RunRead
public import Idealize.ShloMosaic.Lib.StableHlo.RunClose
public import Idealize.ShloMosaic.Lib.Pointwise
@[expose] public section

set_option maxHeartbeats 400000
set_option maxRecDepth 16384

noncomputable section

namespace Cert.KernelIdeal.Hand

open Idealize.ShloMosaic Idealize.ShloMosaic.TcCoe Idealize.SL.Sem Cert.KernelIdeal Cert.KernelIdeal.Gen
open Idealize.ShloMosaic.Pipeline (Dat)

variable (m : (ℓ : Loc nD τ sig) → Buf (Elt Ideal) ℓ) (c : Dev nD)

theorem cols_at (x : S1x2048x56x128.Idx → EReal) (ι : S2048x7168.Idx) : shapeCast S2048x7168 x shapeCasts_S1x2048x56x128_S2048x7168 ι
    = rd4 (a := 1) (b := 2048) (c := 56) (d := 128) x 0 (ι 0).val ((ι 1).val / 128) ((ι 1).val % 128) := by
  idx_vars ι
  pointwise
  refine rd4_of _ _ ?_ ?_ ?_ ?_ <;> simp [ix4, ix2] <;> omega

theorem rows_at (x : S1x2048x56.Idx → EReal) (ι : S56x16x128.Idx) :
    shapeCast S56x16x128 (transpose S56x2048 [1, 0] (shapeCast S2048x56 x shapeCasts_S1x2048x56_S2048x56) transposes_S2048x56_S56x2048_1_0) shapeCasts_S56x2048_S56x16x128 ι
    = rd3 (a := 1) (b := 2048) (c := 56) x 0 (128 * (ι 1).val + (ι 2).val) (ι 0).val := by
  idx_vars ι
  pointwise
  refine rd3_of _ _ ?_ ?_ ?_ <;> simp [ix3] <;> omega

theorem V_v0 (ι : S2048x7168.Idx) : V m c main_v0 ι
    = rd4 (a := 1) (b := 2048) (c := 56) (d := 128) (m ((c : Thread nD τ).loc main_arg4)) 0 (ι 0).val ((ι 1).val / 128) ((ι 1).val % 128) := by
  have e : V m c main_v0 = shapeCast S2048x7168 (m ((c : Thread nD τ).loc main_arg4)) shapeCasts_S1x2048x56x128_S2048x7168 := by
    unfold V
    after_results_entrywise []
  exact (congrFun e ι).trans (cols_at _ ι)

theorem V_v3 (ι : S56x16x128.Idx) : V m c main_v3 ι
    = rd3 (a := 1) (b := 2048) (c := 56) (m ((c : Thread nD τ).loc main_arg5)) 0 (128 * (ι 1).val + (ι 2).val) (ι 0).val := by
  have e : V m c main_v3 = shapeCast S56x16x128 (transpose S56x2048 [1, 0] (shapeCast S2048x56 (m ((c : Thread nD τ).loc main_arg5)) shapeCasts_S1x2048x56_S2048x56) transposes_S2048x56_S56x2048_1_0) shapeCasts_S56x2048_S56x16x128 := by
    unfold V
    after_results_entrywise []
  exact (congrFun e ι).trans (rows_at _ ι)

theorem idx0 : ∀ t : Fin cfg0.N, win0_0.index t 0 * win0_0.size 0 = t.val ∧ win0_0.index t 1 * win0_0.size 1 = 0 ∧ win0_0.index t 2 * win0_0.size 2 = 0 ∧ win0_0.index t 3 * win0_0.size 3 = 0 ∧ win0_0.index t 4 * win0_0.size 4 = 0 := by decide +kernel

theorem blk0 (t : Fin cfg0.N) (x : S1x32x3x128x128.Idx) : iblk m c 0 t x
    = rd5 (a := 56) (b := 32) (c := 3) (d := 128) (e := 128) (m ((c : Thread nD τ).loc main_arg0)) t.val (x 1).val (x 2).val (x 3).val (x 4).val := by
  have e : iblk m c 0 t x = V m c main_arg0 ((win0_0.rect t).idx x) := rfl
  have r : ∀ a, ((win0_0.rect t).idx x a).val = win0_0.index t a * win0_0.size a + (x a).val := fun a => by
    show win0_0.index t a * win0_0.size a + 1 * (x a).val = _
    omega
  rw [e, V_main_arg0]
  obtain ⟨i0, i1, i2, i3, i4⟩ := idx0 t
  have hx : (x 0).val < 1 := (x 0).isLt
  refine rd5_of _ _ ((r 0).trans ?_) ((r 1).trans ?_) ((r 2).trans ?_) ((r 3).trans ?_) ((r 4).trans ?_)
  · rw [i0]; omega
  · rw [i1]; omega
  · rw [i2]; omega
  · rw [i3]; omega
  · rw [i4]; omega

theorem idx1 : ∀ t : Fin cfg0.N, win0_1.index t 0 * win0_1.size 0 = t.val ∧ win0_1.index t 1 * win0_1.size 1 = 0 ∧ win0_1.index t 2 * win0_1.size 2 = 0 := by decide +kernel

theorem blk1 (t : Fin cfg0.N) (x : S1x2048x128.Idx) : iblk m c 1 t x
    = rd3 (a := 56) (b := 2048) (c := 128) (m ((c : Thread nD τ).loc main_arg1)) t.val (x 1).val (x 2).val := by
  have e : iblk m c 1 t x = V m c main_arg1 ((win0_1.rect t).idx x) := rfl
  have r : ∀ a, ((win0_1.rect t).idx x a).val = win0_1.index t a * win0_1.size a + (x a).val := fun a => by
    show win0_1.index t a * win0_1.size a + 1 * (x a).val = _
    omega
  rw [e, V_main_arg1]
  obtain ⟨i0, i1, i2⟩ := idx1 t
  have hx : (x 0).val < 1 := (x 0).isLt
  refine rd3_of _ _ ((r 0).trans ?_) ((r 1).trans ?_) ((r 2).trans ?_)
  · rw [i0]; omega
  · rw [i1]; omega
  · rw [i2]; omega

theorem idx2 : ∀ t : Fin cfg0.N, win0_2.index t 0 * win0_2.size 0 = t.val ∧ win0_2.index t 1 * win0_2.size 1 = 0 ∧ win0_2.index t 2 * win0_2.size 2 = 0 ∧ win0_2.index t 3 * win0_2.size 3 = 0 := by decide +kernel

theorem blk2 (t : Fin cfg0.N) (x : S1x16x128x128.Idx) : iblk m c 2 t x
    = rd4 (a := 56) (b := 16) (c := 128) (d := 128) (m ((c : Thread nD τ).loc main_arg2)) t.val (x 1).val (x 2).val (x 3).val := by
  have e : iblk m c 2 t x = V m c main_arg2 ((win0_2.rect t).idx x) := rfl
  have r : ∀ a, ((win0_2.rect t).idx x a).val = win0_2.index t a * win0_2.size a + (x a).val := fun a => by
    show win0_2.index t a * win0_2.size a + 1 * (x a).val = _
    omega
  rw [e, V_main_arg2]
  obtain ⟨i0, i1, i2, i3⟩ := idx2 t
  have hx : (x 0).val < 1 := (x 0).isLt
  refine rd4_of _ _ ((r 0).trans ?_) ((r 1).trans ?_) ((r 2).trans ?_) ((r 3).trans ?_)
  · rw [i0]; omega
  · rw [i1]; omega
  · rw [i2]; omega
  · rw [i3]; omega

theorem idx3 : ∀ t : Fin cfg0.N, win0_3.index t 0 * win0_3.size 0 = t.val ∧ win0_3.index t 1 * win0_3.size 1 = 0 ∧ win0_3.index t 2 * win0_3.size 2 = 0 ∧ win0_3.index t 3 * win0_3.size 3 = 0 := by decide +kernel

theorem blk3 (t : Fin cfg0.N) (x : S1x16x64x128.Idx) : iblk m c 3 t x
    = rd4 (a := 56) (b := 16) (c := 64) (d := 128) (m ((c : Thread nD τ).loc main_arg3)) t.val (x 1).val (x 2).val (x 3).val := by
  have e : iblk m c 3 t x = V m c main_arg3 ((win0_3.rect t).idx x) := rfl
  have r : ∀ a, ((win0_3.rect t).idx x a).val = win0_3.index t a * win0_3.size a + (x a).val := fun a => by
    show win0_3.index t a * win0_3.size a + 1 * (x a).val = _
    omega
  rw [e, V_main_arg3]
  obtain ⟨i0, i1, i2, i3⟩ := idx3 t
  have hx : (x 0).val < 1 := (x 0).isLt
  refine rd4_of _ _ ((r 0).trans ?_) ((r 1).trans ?_) ((r 2).trans ?_) ((r 3).trans ?_)
  · rw [i0]; omega
  · rw [i1]; omega
  · rw [i2]; omega
  · rw [i3]; omega

theorem idx4 : ∀ t : Fin cfg0.N, win0_4.index t 0 * win0_4.size 0 = 0 ∧ win0_4.index t 1 * win0_4.size 1 = 128 * t.val := by decide +kernel

theorem blk4 (t : Fin cfg0.N) (x : S2048x128.Idx) : iblk m c 4 t x
    = rd4 (a := 1) (b := 2048) (c := 56) (d := 128) (m ((c : Thread nD τ).loc main_arg4)) 0 (x 0).val t.val (x 1).val := by
  have e : iblk m c 4 t x = V m c main_v0 ((win0_4.rect t).idx x) := rfl
  have r : ∀ a, ((win0_4.rect t).idx x a).val = win0_4.index t a * win0_4.size a + (x a).val := fun a => by
    show win0_4.index t a * win0_4.size a + 1 * (x a).val = _
    omega
  rw [e, V_v0]
  obtain ⟨i0, i1⟩ := idx4 t
  have h0 : ((win0_4.rect t).idx x 0).val = (x 0).val := (r 0).trans (by rw [i0]; omega)
  have h1 : ((win0_4.rect t).idx x 1).val = 128 * t.val + (x 1).val := (r 1).trans (by rw [i1])
  have hx : (x 1).val < 128 := (x 1).isLt
  rw [h0, h1, show (128 * t.val + (x 1).val) / 128 = t.val by omega, show (128 * t.val + (x 1).val) % 128 = (x 1).val by omega]

theorem idx5 : ∀ t : Fin cfg0.N, win0_5.index t 0 * win0_5.size 0 = t.val ∧ win0_5.index t 1 * win0_5.size 1 = 0 ∧ win0_5.index t 2 * win0_5.size 2 = 0 := by decide +kernel

theorem blk5 (t : Fin cfg0.N) (x : S1x16x128.Idx) : iblk m c 5 t x
    = rd3 (a := 1) (b := 2048) (c := 56) (m ((c : Thread nD τ).loc main_arg5)) 0 (128 * (x 1).val + (x 2).val) t.val := by
  have e : iblk m c 5 t x = V m c main_v3 ((win0_5.rect t).idx x) := rfl
  have r : ∀ a, ((win0_5.rect t).idx x a).val = win0_5.index t a * win0_5.size a + (x a).val := fun a => by
    show win0_5.index t a * win0_5.size a + 1 * (x a).val = _
    omega
  rw [e, V_v3]
  obtain ⟨i0, i1, i2⟩ := idx5 t
  have hx : (x 0).val < 1 := (x 0).isLt
  have h0 : ((win0_5.rect t).idx x 0).val = t.val := (r 0).trans (by rw [i0]; omega)
  have h1 : ((win0_5.rect t).idx x 1).val = (x 1).val := (r 1).trans (by rw [i1]; omega)
  have h2 : ((win0_5.rect t).idx x 2).val = (x 2).val := (r 2).trans (by rw [i2]; omega)
  rw [h0, h1, h2]

theorem idx6 : ∀ t : Fin cfg0.N, win0_6.index t 0 * win0_6.size 0 = 0 ∧ win0_6.index t 1 * win0_6.size 1 = 128 * t.val
    ∧ win0_6.xsize (grid0.coords t) 0 = 2048 ∧ win0_6.xsize (grid0.coords t) 1 = 128 := by decide +kernel

end Cert.KernelIdeal.Hand

end
-- ==== Proof.Launch.lean ====
/-
  The launch of the kernel with its value: the result array ends at the attention output of the six arguments.
-/
module

public import proofs.«01_k».proof.Proof.FrameKI
public import proofs.«01_k».proof.Proof.Head
public import proofs.«01_k».proof.Proof.Data
public import proofs.«01_k».proof.Proof.Blocks
public import Idealize.ShloMosaic.Lib.Pipeline.Value
@[expose] public section

set_option maxHeartbeats 4000000
set_option maxRecDepth 16384

noncomputable section

namespace Cert.KernelIdeal.HandV

open Idealize.ShloMosaic Idealize.ShloMosaic.TcCoe Idealize.SL.Sem Cert.KernelIdeal Cert.KernelIdeal.Gen Cert.KernelIdeal.Hand
open Idealize.ShloMosaic.Updates
open Idealize.ShloMosaic.LaneScatter (Blk iter)
open Idealize.ShloMosaic.Pipeline (Dat)
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

local notation "𝕄" => MT nD τ sig Unit (Elt Ideal) ℕ (UR sig nD τ) ℕ

variable (m : (ℓ : Loc nD τ sig) → Buf (Elt Ideal) ℓ) (ρ : Dev nD → PrngReg)

/-- The transitions and the keys are finite on every core. -/
def Fin01 : Prop := ∀ c : Dev nD,
  (∀ x : S56x32x3x128x128.Idx, ∃ r : ℝ, m ((c : Thread nD τ).loc main_arg0) x = (r : EReal))
  ∧ (∀ x : S56x2048x128.Idx, ∃ r : ℝ, m ((c : Thread nD τ).loc main_arg1) x = (r : EReal))

/-- The result array: the attention output of the six arguments. -/
def G (c : Dev nD) : Buf (Elt Ideal) ((c : Thread nD τ).loc main_v4) := fun (ι : S2048x7168.Idx) =>
  attnOut (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (ι 0).val (ι 1).val

/-- The block of the result of head `t`. -/
def gblk (c : Dev nD) (t : Fin cfg0.N) (x : S2048x128.Idx) : EReal :=
  attnOut (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (x 0).val (128 * t.val + (x 1).val)

/-- The proof data on core `c`: the inputs' blocks left in place, the output's block at the result's. -/
def dats (_ : Fin 1) (c : Dev nD) : Dat τ (Elt Ideal) Unit ℕ (UR sig nD τ) ℕ cfg0 c where
  A w := V m c (Pipeline.arrRef spec0 w)
  after w t := match w with
    | 0 => iblk m c 0 t | 1 => iblk m c 1 t | 2 => iblk m c 2 t | 3 => iblk m c 3 t | 4 => iblk m c 4 t | 5 => iblk m c 5 t
    | 6 => gblk m c t
  Φ _ := Pipeline.ΦA spec0 c
  q _ := fullShare
  owed _ := 0

theorem A_eq (c : Dev nD) (w : Fin cfg0.W) : (dats m 0 c).A w = V m c (Pipeline.arrRef spec0 w) := by dsimp only [dats]
theorem Phi_eq (c : Dev nD) (t) : (dats m 0 c).Φ t = Pipeline.ΦA spec0 c := by dsimp only [dats]

/-- The body's triple with its value, for any continuation: from the inputs' staging buffers at a head's blocks, the output's and
    the scratch at anything, to the output's at the head's attention output. -/
theorem body_run (c : Dev nD) (i : grid0.Coords) (arg1 : Memref sig .tc .vmem S1x32x3x128x128 .bf16) (harg1 : arg1.IsWhole) (arg2 : Memref sig .tc .vmem S1x2048x128 .f32) (harg2 : arg2.IsWhole) (arg3 : Memref sig .tc .vmem S1x16x128x128 .bf16) (harg3 : arg3.IsWhole) (arg4 : Memref sig .tc .vmem S1x16x64x128 .f32) (harg4 : arg4.IsWhole) (arg5 : Memref sig .tc .vmem S2048x128 .bf16) (harg5 : arg5.IsWhole) (arg6 : Memref sig .tc .vmem S1x16x128 .f32) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S2048x256 .f32) (harg11 : arg11.IsWhole) (arg12 : Memref sig .tc .vmem S128x2048 .bf16) (harg12 : arg12.IsWhole) (arg13 : Memref sig .tc .vmem S2048x128 .f32) (harg13 : arg13.IsWhole) (arg14 : Memref sig .tc .vmem S16x128 .f32) (harg14 : arg14.IsWhole)
    (X1 : S1x32x3x128x128.Idx → EReal) (X2 : S1x2048x128.Idx → EReal) (X3 : S1x16x128x128.Idx → EReal) (X4 : S1x16x64x128.Idx → EReal) (X5 : S2048x128.Idx → EReal) (X6 : S1x16x128.Idx → EReal) (Y : S2048x128.Idx → EReal)
    {rp : ℕ → ℕ → ℕ → ℕ → ℝ} {K0 : ℕ → ℕ → ℝ} {q sd : ℕ → ℕ → ℕ → EReal} {v : ℕ → ℕ → EReal} {lf : ℕ → EReal}
    (hX1 : ∀ x : S1x32x3x128x128.Idx, X1 x = ((rp (x 1).val (x 2).val (x 3).val (x 4).val : ℝ) : EReal))
    (hX2 : ∀ x : S1x2048x128.Idx, X2 x = ((K0 (x 1).val (x 2).val : ℝ) : EReal))
    (hX3 : ∀ x : S1x16x128x128.Idx, X3 x = q (x 1).val (x 2).val (x 3).val)
    (hX4 : ∀ x : S1x16x64x128.Idx, X4 x = sd (x 1).val (x 2).val (x 3).val)
    (hX5 : ∀ x : S2048x128.Idx, X5 x = v (x 0).val (x 1).val)
    (hX6 : ∀ x : S1x16x128.Idx, X6 x = lf (128 * (x 1).val + (x 2).val))
    (hY : ∀ x : S2048x128.Idx, Y x = outv (sv (fun n x e => rp n 0 x e + rp n 1 x e + rp n 2 x e) K0 q sd) (Fc lf) v (x 0).val (x 1).val)
    (K : PUnit → sProp 𝕄) :
    iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare Y ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
      ⊢ wp frame (wpE (defs₀ (F := Ideal)) Variants.none c none) Set.univ (cc0_attn (F := Ideal) i arg1 harg1 arg2 harg2 arg3 harg3 arg4 harg4 arg5 harg5 arg6 harg6 arg7 harg7 arg8 harg8 arg9 harg9 arg10 harg10 arg11 harg11 arg12 harg12 arg13 harg13 arg14 harg14) K := by
  unfold owns
  iintro ⟨⟨%f1, %h1, H1⟩, ⟨%f2, %h2, H2⟩, ⟨%f3, %h3, H3⟩, ⟨%f4, %h4, H4⟩, ⟨%f5, %h5, H5⟩, ⟨%f6, %h6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
  iapply (wp_wand_r frame (wpE (defs₀ (F := Ideal)) Variants.none (c : Thread nD τ) none) Set.univ)
  isplitl [H1 H2 H3 H4 H5 H6 H7 H8 H9 H10 H11 H12 H13 H14]
  · iapply (attn_val c i arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f5 f6 (gstep arg1 arg2 arg3 arg4 arg5 f1 f2 f3 f4 f5)
      (by intro g A; unfold gstep; rw [dif_pos g.isLt])
      ⟨ofBlk (by norm_num) (by norm_num) (arg7.view.read (Elt Ideal) f7), ofBlk (by norm_num) (by norm_num) (arg8.view.read (Elt Ideal) f8), ofBlk (by norm_num) (by norm_num) (arg9.view.read (Elt Ideal) f9), ofBlk (by norm_num) (by norm_num) (arg10.view.read (Elt Ideal) f10), ofBlk (by norm_num) (by norm_num) (arg11.view.read (Elt Ideal) f11), ofBlk (by norm_num) (by norm_num) (arg12.view.read (Elt Ideal) f12), ofBlk (by norm_num) (by norm_num) (arg13.view.read (Elt Ideal) f13), ofBlk (by norm_num) (by norm_num) (arg14.view.read (Elt Ideal) f14)⟩)
    isplitl [H1]; · iexact H1
    isplitl [H2]; · iexact H2
    isplitl [H3]; · iexact H3
    isplitl [H4]; · iexact H4
    isplitl [H5]; · iexact H5
    isplitl [H6]; · iexact H6
    isplitl [H7]; · iexists f7; isplitr; swap; (· iexact H7); ipureintro; exact isArr_ofBlk (by norm_num) (by norm_num) _
    isplitl [H8]; · iexists f8; isplitr; swap; (· iexact H8); ipureintro; exact isArr_ofBlk (by norm_num) (by norm_num) _
    isplitl [H9]; · iexists f9; isplitr; swap; (· iexact H9); ipureintro; exact isArr_ofBlk (by norm_num) (by norm_num) _
    isplitl [H10]; · iexists f10; isplitr; swap; (· iexact H10); ipureintro; exact isArr_ofBlk (by norm_num) (by norm_num) _
    isplitl [H11]; · iexists f11; isplitr; swap; (· iexact H11); ipureintro; exact isArr_ofBlk (by norm_num) (by norm_num) _
    isplitl [H12]; · iexists f12; isplitr; swap; (· iexact H12); ipureintro; exact isArr_ofBlk (by norm_num) (by norm_num) _
    isplitl [H13]; · iexists f13; isplitr; swap; (· iexact H13); ipureintro; exact isArr_ofBlk (by norm_num) (by norm_num) _
    iexists f14; isplitr; swap; (· iexact H14); ipureintro; exact isArr_ofBlk (by norm_num) (by norm_num) _
  iintro %u ⟨H1, H2, H3, H4, H5, H6, ⟨%g7, %e7, H7⟩, ⟨%g8, %e8, H8⟩, ⟨%g9, %e9, H9⟩, ⟨%g10, %e10, H10⟩, ⟨%g11, %e11, H11⟩, ⟨%g12, %e12, H12⟩, ⟨%g13, %e13, H13⟩, ⟨%g14, %e14, H14⟩⟩
  iapply Hk
  isplitl [H1]; · iexists f1; isplitr; swap; (· iexact H1); ipureintro; exact h1
  isplitl [H2]; · iexists f2; isplitr; swap; (· iexact H2); ipureintro; exact h2
  isplitl [H3]; · iexists f3; isplitr; swap; (· iexact H3); ipureintro; exact h3
  isplitl [H4]; · iexists f4; isplitr; swap; (· iexact H4); ipureintro; exact h4
  isplitl [H5]; · iexists f5; isplitr; swap; (· iexact H5); ipureintro; exact h5
  isplitl [H6]; · iexists f6; isplitr; swap; (· iexact H6); ipureintro; exact h6
  isplitl [H7]
  · iexists g7; isplitr; swap; (· iexact H7)
    ipureintro
    funext x
    rw [hY x]
    exact (e7 x).trans (head_val arg1 arg2 arg3 arg4 arg5 arg6 f1 f2 f3 f4 f5 f6 (fun x => (congrFun h1 x).trans (hX1 x)) (fun x => (congrFun h2 x).trans (hX2 x))
      (fun x => (congrFun h3 x).trans (hX3 x)) (fun x => (congrFun h4 x).trans (hX4 x)) (fun x => (congrFun h5 x).trans (hX5 x)) (fun x => (congrFun h6 x).trans (hX6 x)) _ _ (x 0).isLt _ (x 1).isLt)
  isplitl [H8]; · iexists _, g8; isplitr; swap; (· iexact H8); ipureintro; rfl
  isplitl [H9]; · iexists _, g9; isplitr; swap; (· iexact H9); ipureintro; rfl
  isplitl [H10]; · iexists _, g10; isplitr; swap; (· iexact H10); ipureintro; rfl
  isplitl [H11]; · iexists _, g11; isplitr; swap; (· iexact H11); ipureintro; rfl
  isplitl [H12]; · iexists _, g12; isplitr; swap; (· iexact H12); ipureintro; rfl
  isplitl [H13]; · iexists _, g13; isplitr; swap; (· iexact H13); ipureintro; rfl
  iexists _, g14; isplitr; swap; (· iexact H14); ipureintro; rfl

/-- The transitions' block, in real numbers. -/
theorem blk0_real (hfin : Fin01 m) (c : Dev nD) (t : Fin cfg0.N) (x : S1x32x3x128x128.Idx) : iblk m c 0 t x
    = (((rd5 (a := 56) (b := 32) (c := 3) (d := 128) (e := 128) (m ((c : Thread nD τ).loc main_arg0)) t.val (x 1).val (x 2).val (x 3).val (x 4).val).toReal : ℝ) : EReal) := by
  rw [blk0]
  unfold rd5
  split
  · obtain ⟨r, hr⟩ := (hfin c).1 (ix5 _ _ _ _ _)
    erw [hr]; rfl
  · rfl

/-- The keys' block, in real numbers. -/
theorem blk1_real (hfin : Fin01 m) (c : Dev nD) (t : Fin cfg0.N) (x : S1x2048x128.Idx) : iblk m c 1 t x
    = (((rd3 (a := 56) (b := 2048) (c := 128) (m ((c : Thread nD τ).loc main_arg1)) t.val (x 1).val (x 2).val).toReal : ℝ) : EReal) := by
  rw [blk1]
  unfold rd3
  split
  · obtain ⟨r, hr⟩ := (hfin c).2 (ix3 _ _ _)
    erw [hr]; rfl
  · rfl

theorem gblk_eq (c : Dev nD) (t : Fin cfg0.N) (x : S2048x128.Idx) : gblk m c t x
    = outv (sv (fun n x e => (rd5 (a := 56) (b := 32) (c := 3) (d := 128) (e := 128) (m ((c : Thread nD τ).loc main_arg0)) t.val n 0 x e).toReal
        + (rd5 (a := 56) (b := 32) (c := 3) (d := 128) (e := 128) (m ((c : Thread nD τ).loc main_arg0)) t.val n 1 x e).toReal
        + (rd5 (a := 56) (b := 32) (c := 3) (d := 128) (e := 128) (m ((c : Thread nD τ).loc main_arg0)) t.val n 2 x e).toReal)
      (fun j e => (rd3 (a := 56) (b := 2048) (c := 128) (m ((c : Thread nD τ).loc main_arg1)) t.val j e).toReal)
      (fun p x e => rd4 (a := 56) (b := 16) (c := 128) (d := 128) (m ((c : Thread nD τ).loc main_arg2)) t.val p x e)
      (fun p a b => rd4 (a := 56) (b := 16) (c := 64) (d := 128) (m ((c : Thread nD τ).loc main_arg3)) t.val p a b))
      (Fc fun j => rd3 (a := 1) (b := 2048) (c := 56) (m ((c : Thread nD τ).loc main_arg5)) 0 j t.val)
      (fun j e => rd4 (a := 1) (b := 2048) (c := 56) (d := 128) (m ((c : Thread nD τ).loc main_arg4)) 0 j t.val e) (x 0).val (x 1).val := by
  have hx : (x 1).val < 128 := (x 1).isLt
  unfold gblk attnOut
  rw [show (128 * t.val + (x 1).val) / 128 = t.val by omega, show (128 * t.val + (x 1).val) % 128 = (x 1).val by omega]
  rfl

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))
def bodyPost (c : Dev nD) (t : Fin cfg0.N) : sProp 𝕄 :=
  iprop((dats m 0 c).Φ t.succ ∗ (dats m 0 c).owesAt () t.succ
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ owns (c : Thread nD τ) (st0_5 t) fullShare (iblk m c 5 t)
    ∗ owns (c : Thread nD τ) (st0_6 t) fullShare (gblk m c t))

/-- The body at the point: the invariant opened, the body run, the invariant closed. -/
theorem sound_body (hfin : Fin01 m) (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0_of m (dats m 0 c) (A_eq m c 0) (fun _ => rfl) t, before0_1_of m (dats m 0 c) (A_eq m c 1) (fun _ => rfl) t,
    before0_2_of m (dats m 0 c) (A_eq m c 2) (fun _ => rfl) t, before0_3_of m (dats m 0 c) (A_eq m c 3) (fun _ => rfl) t,
    before0_4_of m (dats m 0 c) (A_eq m c 4) (fun _ => rfl) t, before0_5_of m (dats m 0 c) (A_eq m c 5) (fun _ => rfl) t]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA_eq]
  iintro ⟨⟨⟨S0, S1, S2, S3, S4, S5, S6⟩, Hg⟩, HO, ⟨%d0, H0⟩, ⟨%d1, H1⟩, ⟨%d2, H2⟩, ⟨%d3, H3⟩, ⟨%d4, H4⟩, ⟨%d5, H5⟩, ⟨%d6, H6⟩⟩
  iapply (body_run c _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (gblk m c t)
    (rp := fun n k x e => (rd5 (a := 56) (b := 32) (c := 3) (d := 128) (e := 128) (m ((c : Thread nD τ).loc main_arg0)) t.val n k x e).toReal)
    (K0 := fun j e => (rd3 (a := 56) (b := 2048) (c := 128) (m ((c : Thread nD τ).loc main_arg1)) t.val j e).toReal)
    (q := fun p x e => rd4 (a := 56) (b := 16) (c := 128) (d := 128) (m ((c : Thread nD τ).loc main_arg2)) t.val p x e)
    (sd := fun p a b => rd4 (a := 56) (b := 16) (c := 64) (d := 128) (m ((c : Thread nD τ).loc main_arg3)) t.val p a b)
    (v := fun j e => rd4 (a := 1) (b := 2048) (c := 56) (d := 128) (m ((c : Thread nD τ).loc main_arg4)) 0 j t.val e)
    (lf := fun j => rd3 (a := 1) (b := 2048) (c := 56) (m ((c : Thread nD τ).loc main_arg5)) 0 j t.val)
    (blk0_real m hfin c t) (blk1_real m hfin c t) (blk2 m c t) (blk3 m c t) (blk4 m c t) (blk5 m c t) (gblk_eq m c t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [S0]; · iexact S0
  isplitl [S1]; · iexact S1
  isplitl [S2]; · iexact S2
  isplitl [S3]; · iexact S3
  isplitl [S4]; · iexact S4
  isplitl [S5]; · iexact S5
  isplitl [S6]; · iexact S6
  iintro ⟨H0, H1, H2, H3, H4, H5, H6, S0, S1, S2, S3, S4, S5, S6⟩
  isplitl [S0 S1 S2 S3 S4 S5 S6 Hg]
  · isplitl [S0 S1 S2 S3 S4 S5 S6]
    · isplitl [S0]; · iexact S0
      isplitl [S1]; · iexact S1
      isplitl [S2]; · iexact S2
      isplitl [S3]; · iexact S3
      isplitl [S4]; · iexact S4
      isplitl [S5]; · iexact S5
      iexact S6
    iexact Hg
  isplitl [HO]; · iexact HO
  isplitl [H0]; · iexact H0
  isplitl [H1]; · iexact H1
  isplitl [H2]; · iexact H2
  isplitl [H3]; · iexact H3
  isplitl [H4]; · iexact H4
  isplitl [H5]; · iexact H5
  iexact H6

/-- The library's body obligation. -/
theorem body_obligation (hfin : Fin01 m) (c : Dev nD) :
    BodyObligation (dats m 0 c) (defs₀ (F := Ideal)) Variants.none () Set.univ := fun t => by
  rw [bigSep_W0, bigSep_W0, defs₀_row]
  exact triple_restated (sound_body m hfin c t) rfl .rfl fun _ => .rfl

set_option backward.isDefEq.respectTransparency.types false in
/-- From any memory with zero counters the program terminates at the arrays the proof data say. -/
theorem run_main (hfin : Fin01 m) :
    θ_run defs (onTc (τ := τ) (main (F := Ideal))) (s₀ m ρ)
      (Pipeline.FramePost cfgs (dats m) 0 (V m)) :=
  Pipeline.θ_run_frame cfgs (dats m) (0 : Fin 1) launch0 defs₀ Variants.none m ρ main
    (hbody := fun c => (body_obligation m hfin c).loose) (hshare := fun c => (dats m 0 c).share_full fun _ => rfl)
    (howed := fun _ _ => rfl) (V := V m) (hmain := hmain m Variants.none) (hA := A_eq m) (hΦ := Phi_eq m)

/-- What point `t` writes back is its block of the result. -/
theorem flushed_eq (c : Dev nD) (t : Fin cfg0.N) :
    (dats m 0 c).flushed 6 t = (win0_6.blk t).view.read (Elt Ideal) (G m c) := by
  show (cfg0.win 6).cut (grid0.coords t) ((dats m 0 c).after 6 t) = _
  funext x
  have e : (win0_6.blk t).view.read (Elt Ideal) (G m c) x = G m c ((win0_6.rect t).idx x) := rfl
  have r : ∀ a, ((win0_6.rect t).idx x a).val = win0_6.index t a * win0_6.size a + (x a).val := fun a => by
    show win0_6.index t a * win0_6.size a + 1 * (x a).val = _
    omega
  obtain ⟨i0, i1, -, -⟩ := idx6 t
  have h0 : ((win0_6.rect t).idx x 0).val = (x 0).val := (r 0).trans (by rw [i0]; omega)
  have h1 : ((win0_6.rect t).idx x 1).val = 128 * t.val + (x 1).val := (r 1).trans (by rw [i1])
  rw [e]
  unfold G
  rw [h0, h1]
  rfl

/-- An index of the result is in point `t`'s block when its column is the head's. -/
theorem mem_blk (t : Fin cfg0.N) (i : S2048x7168.Idx) (h : (i 1).val / 128 = t.val) : i ∈ ((cfg0.win 6).blk t).view.set := by
  show i ∈ ((View.whole main_v4).slice (win0_6.rect t)).set
  rw [View.set_slice_whole, Rect.mem_set_unit]
  obtain ⟨i0, i1, x0, x1⟩ := idx6 t
  have b0 : (i 0).val < 2048 := (i 0).isLt
  intro a
  match a with
  | ⟨0, _⟩ =>
    show win0_6.index t 0 * win0_6.size 0 ≤ (i 0 : Nat) ∧ (i 0 : Nat) < win0_6.index t 0 * win0_6.size 0 + win0_6.xsize (grid0.coords t) 0
    rw [i0, x0]; omega
  | ⟨1, _⟩ =>
    show win0_6.index t 1 * win0_6.size 1 ≤ (i 1 : Nat) ∧ (i 1 : Nat) < win0_6.index t 1 * win0_6.size 1 + win0_6.xsize (grid0.coords t) 1
    rw [i1, x1]; omega

theorem cover (i : S2048x7168.Idx) : ∃ t : Fin cfg0.N, (cfg0.win 6).flush t = true ∧ i ∈ ((cfg0.win 6).blk t).view.set := by
  have b1 : (i 1).val < 7168 := (i 1).isLt
  have hN : cfg0.N = 56 := N_0
  exact ⟨⟨(i 1).val / 128, by omega⟩, flush0_6 _, mem_blk _ i rfl⟩

theorem final (c : Dev nD) : (dats m 0 c).arrAt 6 cfg0.N = G m c :=
  (dats m 0 c).arrAt_eq_of_cover 6 (G m c) (fun t _ => flushed_eq m c t) cover

/-- The run with its value: the result array at the attention output, the arguments unchanged. -/
theorem run (hfin : Fin01 m) :
    θ_run defs (onTc (τ := τ) (main (F := Ideal))) ⟨m, fun _ => 0, ρ⟩ (fun r => ∀ c : Dev nD,
      r.2.mem ((c.tc : Thread nD τ).loc main_v4) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 6).trans (final m c),
      (((h c).1 0).trans ((dats m 0 c).arrAt_in 0 rfl _)).trans (V_main_arg0 m c),
      (((h c).1 1).trans ((dats m 0 c).arrAt_in 1 rfl _)).trans (V_main_arg1 m c),
      (((h c).1 2).trans ((dats m 0 c).arrAt_in 2 rfl _)).trans (V_main_arg2 m c),
      (((h c).1 3).trans ((dats m 0 c).arrAt_in 3 rfl _)).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) (run_main m ρ hfin)

end Cert.KernelIdeal.HandV

end
-- ==== Proof.RefStep.lean ====
/-
  One turn of the reference's loop over the chunks, read at an index: the scores of the chunk's columns, their softmax, the
  carried keys and the result's chunk.
-/
module

public import proofs.«01_k».proof.Proof.Gen.ReferenceIdeal.Run
public import proofs.«01_k».proof.Proof.Data
import Idealize.ShloMosaic.Lib.Pointwise
import Idealize.ShloMosaic.Lib.DynamicIndex
import Idealize.ShloMosaic.Lib.WordCmp
import Idealize.ShloMosaic.Lib.Pipeline.Value
import Idealize.ShloMosaic.Lib.Tactic.CleanTypes

@[expose] public section

noncomputable section

namespace Cert.ReferenceIdeal.Hand
open Idealize.ShloMosaic Cert.ReferenceIdeal Cert.ReferenceIdeal.Gen Cert.ReferenceIdeal.Value
open Cert.KernelIdeal.Hand (rd3 rd4 rd5 Rr Kr Sc Yf sv)
open scoped BigOperators

set_option maxHeartbeats 400000
set_option maxRecDepth 16384

theorem start4 (n : ℕ) (hn : n < 32) (d : IVec S_ 32) (a : Fin 4) :
    ((((![constantI S_ 32 0#32, select (cmpi .slt (constantI S_ 32 (BitVec.ofNat 32 n)) (constantI S_ 32 0#32)) (addi (id (constantI S_ 32 (BitVec.ofNat 32 n))) d) (constantI S_ 32 (BitVec.ofNat 32 n)), constantI S_ 32 0#32, constantI S_ 32 0#32] : Fin 4 → (⟨S_, .i32⟩ : BufTy).Contents (Elt Ideal))) a (Shape.Idx.first h_S_)).toInt) = ((![0, n, 0, 0] : Fin 4 → ℕ) a : ℤ) := by
  match a with
  | 0 => rfl
  | 1 => exact toInt_wrap_ofNat n (by omega)
  | 2 => rfl
  | 3 => rfl

theorem start3 (n : ℕ) (hn : n < 32) (d : IVec S_ 32) (a : Fin 3) :
    ((((![constantI S_ 32 0#32, select (cmpi .slt (constantI S_ 32 (BitVec.ofNat 32 n)) (constantI S_ 32 0#32)) (addi (id (constantI S_ 32 (BitVec.ofNat 32 n))) d) (constantI S_ 32 (BitVec.ofNat 32 n)), constantI S_ 32 0#32] : Fin 3 → (⟨S_, .i32⟩ : BufTy).Contents (Elt Ideal))) a (Shape.Idx.first h_S_)).toInt) = ((![0, n, 0] : Fin 3 → ℕ) a : ℤ) := by
  match a with
  | 0 => rfl
  | 1 => exact toInt_wrap_ofNat n (by omega)
  | 2 => rfl

theorem sl1 (n : ℕ) (hn : n < 32) : S56x32x64x64.Slices ![0, n, 0, 0] S56x1x64x64 :=
  ⟨rfl, fun a => match a with
  | 0 => by show 0 + 56 ≤ 56; omega
  | 1 => by show n + 1 ≤ 32; omega
  | 2 => by show 0 + 64 ≤ 64; omega
  | 3 => by show 0 + 64 ≤ 64; omega⟩
theorem sl2 (n : ℕ) (hn : n < 32) : S56x32x128x64.Slices ![0, n, 0, 0] S56x1x128x64 :=
  ⟨rfl, fun a => match a with
  | 0 => by show 0 + 56 ≤ 56; omega
  | 1 => by show n + 1 ≤ 32; omega
  | 2 => by show 0 + 128 ≤ 128; omega
  | 3 => by show 0 + 64 ≤ 64; omega⟩
theorem sl3 (n : ℕ) (hn : n < 32) : S56x32x128x128.Slices ![0, n, 0, 0] S56x1x128x128 :=
  ⟨rfl, fun a => match a with
  | 0 => by show 0 + 56 ≤ 56; omega
  | 1 => by show n + 1 ≤ 32; omega
  | 2 => by show 0 + 128 ≤ 128; omega
  | 3 => by show 0 + 128 ≤ 128; omega⟩
theorem sl4 (n : ℕ) (hn : n < 32) : S56x32x64.Slices ![0, n, 0] S56x1x64 :=
  ⟨rfl, fun a => match a with
  | 0 => by show 0 + 56 ≤ 56; omega
  | 1 => by show n + 1 ≤ 32; omega
  | 2 => by show 0 + 64 ≤ 64; omega⟩

theorem usl (n : ℕ) (hn : n < 32) : S32x56x64x128.Slices ![n, 0, 0, 0] S1x56x64x128 :=
  ⟨rfl, fun a => match a with
  | 0 => by show n + 1 ≤ 32; omega
  | 1 => by show 0 + 56 ≤ 56; omega
  | 2 => by show 0 + 64 ≤ 64; omega
  | 3 => by show 0 + 128 ≤ 128; omega⟩

theorem ust (n : ℕ) (hn : n < 32) (d : IVec S_ 32) (a : Fin 4) :
    (min (max ((fun k => (((![select (cmpi .slt (constantI S_ 32 (BitVec.ofNat 32 n)) (constantI S_ 32 0#32)) (addi (id (constantI S_ 32 (BitVec.ofNat 32 n))) d) (constantI S_ 32 (BitVec.ofNat 32 n)), constantI S_ 32 0#32, constantI S_ 32 0#32, constantI S_ 32 0#32] : Fin 4 → (⟨S_, .i32⟩ : BufTy).Contents (Elt Ideal))) k (Shape.Idx.first h_S_)).toInt) a) 0)
      ((S32x56x64x128.size a - S1x56x64x128.size (Fin.cast updateFits_S32x56x64x128_S1x56x64x128.1.symm a) : ℕ) : ℤ)).toNat = (![n, 0, 0, 0] : Fin 4 → ℕ) a := by
  match a with
  | 0 =>
    refine (congrArg (fun z : ℤ => (min (max z 0) ((31 : ℕ) : ℤ)).toNat) ?_).trans (b := (min (max (n : ℤ) 0) ((31 : ℕ) : ℤ)).toNat) ?_
    · exact toInt_wrap_ofNat n (by omega)
    · show _ = n
      omega
  | 1 => rfl
  | 2 => rfl
  | 3 => rfl

theorem bot_bits' : Ideal.ofBits FTy.f32 4286578688#32 = (⊥ : EReal) := by simp [Ideal.ofBits, Ideal.ieee]

theorem fold_sup (f : ℕ → EReal) : Finset.fold max (⊥ : EReal) (fun x : Fin 2048 => f x.val) Finset.univ = (Finset.range 2048).sup f := by
  apply le_antisymm
  · rw [Finset.fold_max_le]
    exact ⟨bot_le, fun x _ => Finset.le_sup (f := f) (Finset.mem_range.mpr x.isLt)⟩
  · refine Finset.sup_le fun x hx => ?_
    rw [Finset.le_fold_max]
    exact Or.inr ⟨⟨x, Finset.mem_range.mp hx⟩, Finset.mem_univ _, le_rfl⟩

variable (A0 : (⟨5, ![56, 32, 3, 128, 128]⟩ : Shape).Idx → EReal) (A1 : (⟨3, ![56, 2048, 128]⟩ : Shape).Idx → EReal)
  (A2 : (⟨4, ![56, 16, 128, 128]⟩ : Shape).Idx → EReal) (A3 : (⟨4, ![56, 16, 64, 128]⟩ : Shape).Idx → EReal)
  (A4 : (⟨4, ![1, 2048, 56, 128]⟩ : Shape).Idx → EReal) (A5 : (⟨3, ![1, 2048, 56]⟩ : Shape).Idx → EReal)

/-- The scale of the scores. -/
def scl : EReal := (((Real.sqrt 128)⁻¹ : ℝ) : EReal)

/-- The summed log factors of head `h` up to row `j`. -/
def Fs (h j : ℕ) : EReal := ∑ x ∈ Finset.range (j + 1), rd3 A5 0 x h

/-- The masked score of row `i` against row `j`. -/
def ru (h i j : ℕ) : EReal := if j ≤ i then Sc A0 A1 A2 A3 h i j * scl + Fs A5 h i - Fs A5 h j else ⊥

/-- The unnormalised weight. -/
def rw_ (h i j : ℕ) : EReal := Ideal.exp (ru A0 A1 A2 A3 A5 h i j - (Finset.range 2048).sup (ru A0 A1 A2 A3 A5 h i))

/-- The reference's output at row `i`, column `e` of head `h`. -/
def ro (h i e : ℕ) : EReal :=
  Ideal.div (∑ j ∈ Finset.range 2048, rw_ A0 A1 A2 A3 A5 h i j * rd4 A4 0 j h e) (∑ j ∈ Finset.range 2048, rw_ A0 A1 A2 A3 A5 h i j)

/-- The arrays the loop only reads. -/
structure Fixed (V : Valuation τ sig (Elt Ideal)) : Prop where
  h0 : ∀ (h : Fin 56) (n : Fin 32) (x : Fin 128) (c : Fin 64), V (Proc.devRef .tc main_v32_0) (ix4 h n x c) = rd4 A2 h.val (n.val / 2) x.val (64 * (n.val % 2) + c.val)
  h1 : ∀ n : Fin 32, V (Proc.devRef .tc main_v32_1) (ix4 (0 : Fin 1) n (0 : Fin 1) (0 : Fin 1)) = BitVec.ofNat 32 n.val
  h2 : ∀ (h : Fin 56) (n : Fin 32) (a c : Fin 64), V (Proc.devRef .tc main_v32_2) (ix4 h n a c) = rd4 A3 h.val (n.val / 2) a.val (64 * (n.val % 2) + c.val)
  h3 : V (Proc.devRef .tc main_v32_3) ix0 = scl
  h4 : ∀ (h : Fin 56) (n : Fin 32) (c : Fin 64), V (Proc.devRef .tc main_v32_4) (ix3 h n c) = Fs A5 h.val (64 * n.val + c.val)
  h5 : ∀ a c : Fin 64, V (Proc.devRef .tc main_v32_5) (ix4 (0 : Fin 1) (0 : Fin 1) a c) = BitVec.ofBool (decide (a.val ≤ c.val))
  h6 : ∀ (h : Fin 56) (j : Fin 2048) (e : Fin 128), V (Proc.devRef .tc main_v32_6) (ix3 h j e) = rd4 A4 0 j.val h.val e.val
  h7 : ∀ (h : Fin 56) (n : Fin 32) (x e : Fin 128), V (Proc.devRef .tc main_v32_7) (ix4 h n x e) = ((Rr A0 h.val n.val x.val e.val : ℝ) : EReal)
  h8 : ∀ (h : Fin 56) (n : Fin 32) (a : Fin 64) (e : Fin 128), V (Proc.devRef .tc main_v32_8) (ix4 h n a e) = ((Kr A1 h.val (64 * n.val + a.val) e.val : ℝ) : EReal)

/-- What the loop carries before turn `n`: the fixed arrays, the counter, the keys of the chunks below `n` and the result's
    chunks below `n`. -/
structure Carried (n : ℕ) (V : Valuation τ sig (Elt Ideal)) : Prop extends Fixed A0 A1 A2 A3 A4 A5 V where
  h10 : V (Proc.devRef .tc main_v32_10) = constantI S_ 32 (BitVec.ofNat 32 n)
  h11 : ∀ (h : Fin 56) (n' : Fin 32) (a : Fin 64) (e : Fin 128), n'.val < n →
    V (Proc.devRef .tc main_v32_11) (ix4 h n' a e) = ((Yf (Rr A0 h.val) (Kr A1 h.val) n (64 * n'.val + a.val) e.val : ℝ) : EReal)
  h12 : ∀ (n' : Fin 32) (h : Fin 56) (c : Fin 64) (e : Fin 128), n'.val < n →
    V (Proc.devRef .tc main_v32_12) (ix4 n' h c e) = ro A0 A1 A2 A3 A4 A5 h.val (64 * n'.val + c.val) e.val

variable {A0 A1 A2 A3 A4 A5}

theorem v66_at (V : Valuation τ sig (Elt Ideal)) (n : ℕ) (hn : n < 32) (I : Carried A0 A1 A2 A3 A4 A5 n V) (h : Fin 56) (j : Fin 2048) (c : Fin 64) :
    res_main_while0b_v66 (F := Ideal) V (ix3 h j c) = ru A0 A1 A2 A3 A5 h.val (64 * n + c.val) j.val := by
  obtain ⟨⟨h0, h1, h2, h3, h4, h5, -, -, -⟩, h10, h11, -⟩ := I
  unfold res_main_while0b_v66
  rw [h10]
  generalize V (Proc.devRef .tc main_v32_0) = a0 at *
  generalize V (Proc.devRef .tc main_v32_1) = a1 at *
  generalize V (Proc.devRef .tc main_v32_2) = a2 at *
  generalize V (Proc.devRef .tc main_v32_3) = a3 at *
  generalize V (Proc.devRef .tc main_v32_4) = a4 at *
  generalize V (Proc.devRef .tc main_v32_5) = a5 at *
  generalize V (Proc.devRef .tc main_v32_11) = a11 at *
  rw [Host.dynamicSlice_eq_extractStridedSlice S56x1x64x64 _ _ ![0, n, 0, 0] _ (sl1 n hn) (start4 n hn _),
    Host.dynamicSlice_eq_extractStridedSlice S56x1x128x64 _ _ ![0, n, 0, 0] _ (sl2 n hn) (start4 n hn _),
    Host.dynamicSlice_eq_extractStridedSlice S56x1x64 _ _ ![0, n, 0] _ (sl4 n hn) (start3 n hn _)]
  clean_types
  pointwise
  have hj := j.isLt
  have hc := c.isLt
  have k1 := h1 ⟨j.val / 64, by omega⟩
  have k5 := h5 ⟨j.val % 64, by omega⟩ c
  have k2 := h2 h ⟨n, hn⟩ ⟨j.val % 64, by omega⟩ c
  have k4 := h4 h ⟨n, hn⟩ c
  have k4' := h4 h ⟨j.val / 64, by omega⟩ ⟨j.val % 64, by omega⟩
  simp only [] at k1 k5 k2 k4 k4'
  erw [k1, k5, k2, k4, k4', h3]
  rw [show 64 * (j.val / 64) + j.val % 64 = j.val by omega]
  show Scalar.select (IntOp.ori (IntOp.cmpi .slt (BitVec.ofNat 32 (j.val / 64)) (BitVec.ofNat 32 n)) (IntOp.andi (IntOp.cmpi .eq (BitVec.ofNat 32 (j.val / 64)) (BitVec.ofNat 32 n)) (BitVec.ofBool (decide (j.val % 64 ≤ c.val))))) (Scalar.select (IntOp.cmpi .eq (BitVec.ofNat 32 (j.val / 64)) (BitVec.ofNat 32 n)) _ _ * _ + _ - _) (Ideal.ofBits FTy.f32 4286578688#32) = _
  rw [WordCmp.cmpi_slt_ofNat (by omega) (by omega), WordCmp.cmpi_eq_ofNat (by omega) (by omega), WordCmp.andi_ofBool, WordCmp.ori_ofBool]
  unfold Scalar.select ru Sc sv
  rw [show (64 * n + c.val) / 64 = n by omega, show (64 * n + c.val) / 128 = n / 2 by omega, show (64 * n + c.val) % 128 = 64 * (n % 2) + c.val by omega]
  by_cases hm : j.val ≤ 64 * n + c.val
  · rw [if_pos hm, if_pos (by rw [WordCmp.ofBool_eq_one_iff']; simp only [Bool.or_eq_true, Bool.and_eq_true, decide_eq_true_eq]; omega)]
    congr 3
    by_cases hd : j.val / 64 = n
    · rw [if_pos hd, if_pos (by rw [WordCmp.ofBool_eq_one_iff']; simp only [decide_eq_true_eq]; exact hd)]
    · rw [if_neg hd, if_neg (by rw [WordCmp.ofBool_eq_one_iff']; simp only [decide_eq_true_eq]; exact hd)]
      refine Finset.sum_congr rfl fun x _ => ?_
      have q1 := h11 h ⟨j.val / 64, by omega⟩ ⟨j.val % 64, by omega⟩ x (by show j.val / 64 < n; omega)
      have q0 := h0 h ⟨n, hn⟩ x c
      dsimp only at q1 q0
      rw [show 64 * (j.val / 64) + j.val % 64 = j.val by omega] at q1
      erw [q1, q0]
  · rw [if_neg hm, if_neg (by rw [WordCmp.ofBool_eq_one_iff']; simp only [Bool.or_eq_true, Bool.and_eq_true, decide_eq_true_eq]; omega)]
    exact bot_bits'

theorem v71_at (V : Valuation τ sig (Elt Ideal)) (n : ℕ) (hn : n < 32) (I : Carried A0 A1 A2 A3 A4 A5 n V) (h : Fin 56) (j : Fin 2048) (c : Fin 64) :
    res_main_while0b_v71 (F := Ideal) V (ix3 h j c) = rw_ A0 A1 A2 A3 A5 h.val (64 * n + c.val) j.val := by
  have k := v66_at V n hn I
  unfold res_main_while0b_v71
  generalize res_main_while0b_v66 V = w at *
  clean_types
  pointwise
  rw [k, bot_bits']
  unfold rw_
  congr 2
  rw [show (fun x => w (ix3 h x c)) = fun x : Fin 2048 => ru A0 A1 A2 A3 A5 h.val (64 * n + c.val) x.val from funext fun x => k h x c]
  exact fold_sup _

theorem s11_at (V : Valuation τ sig (Elt Ideal)) (n : ℕ) (hn : n < 32) (I : Carried A0 A1 A2 A3 A4 A5 n V) (h : Fin 56) (n' : Fin 32) (a : Fin 64) (e : Fin 128)
    (hn' : n'.val < n + 1) : step_main_v32_11 (F := Ideal) V (ix4 h n' a e) = ((Yf (Rr A0 h.val) (Kr A1 h.val) (n + 1) (64 * n'.val + a.val) e.val : ℝ) : EReal) := by
  obtain ⟨⟨-, h1, -, -, -, -, -, h7, h8⟩, h10, h11, -⟩ := I
  unfold step_main_v32_11
  rw [h10, id_eq]
  generalize V (Proc.devRef .tc main_v32_1) = a1 at *
  generalize V (Proc.devRef .tc main_v32_7) = a7 at *
  generalize V (Proc.devRef .tc main_v32_8) = a8 at *
  generalize V (Proc.devRef .tc main_v32_11) = a11 at *
  rw [Host.dynamicSlice_eq_extractStridedSlice S56x1x128x128 _ _ ![0, n, 0, 0] _ (sl3 n hn) (start4 n hn _)]
  clean_types
  pointwise
  show Scalar.select (IntOp.cmpi .eq (a1 (ix4 0 n' 0 0)) (BitVec.ofNat 32 n)) _ _ = _
  erw [h1 n']
  have hn3 := n'.isLt
  have ha := a.isLt
  rw [WordCmp.cmpi_eq_ofNat (by omega) (by omega)]
  unfold Scalar.select
  have y : Yf (Rr A0 h.val) (Kr A1 h.val) (n + 1) (64 * n'.val + a.val) e.val
      = if (64 * n'.val + a.val) / 64 = n then Kr A1 h.val (64 * n'.val + a.val) e.val
        else ∑ x : Fin 128, Yf (Rr A0 h.val) (Kr A1 h.val) n (64 * n'.val + a.val) x * Rr A0 h.val n x e.val := rfl
  rw [y, show (64 * n'.val + a.val) / 64 = n'.val by omega]
  by_cases hd : n'.val = n
  · rw [if_pos hd, if_pos (by rw [WordCmp.ofBool_eq_one_iff']; simp only [decide_eq_true_eq]; exact hd)]
    exact h8 h n' a e
  · rw [if_neg hd, if_neg (by rw [WordCmp.ofBool_eq_one_iff']; simp only [decide_eq_true_eq]; exact hd), Cert.KernelIdeal.Hand.coe_sum]
    refine Finset.sum_congr rfl fun x _ => ?_
    have q1 := h11 h n' a x (by omega)
    have q0 := h7 h ⟨n, hn⟩ x e
    dsimp only at q0
    rw [EReal.coe_mul]
    erw [q1, q0]

theorem s12_at (V : Valuation τ sig (Elt Ideal)) (n : ℕ) (hn : n < 32) (I : Carried A0 A1 A2 A3 A4 A5 n V) (n' : Fin 32) (h : Fin 56) (c : Fin 64) (e : Fin 128)
    (hn' : n'.val < n + 1) : step_main_v32_12 (F := Ideal) V (ix4 n' h c e) = ro A0 A1 A2 A3 A4 A5 h.val (64 * n'.val + c.val) e.val := by
  have k := v71_at V n hn I
  obtain ⟨⟨-, -, -, -, -, -, h6, -, -⟩, h10, -, h12⟩ := I
  unfold step_main_v32_12
  rw [h10, id_eq]
  generalize V (Proc.devRef .tc main_v32_6) = a6 at *
  generalize V (Proc.devRef .tc main_v32_12) = a12 at *
  generalize res_main_while0b_v71 V = w at *
  rw [Host.dynamicUpdateSlice_eq_updateSlice _ _ _ _ ![n, 0, 0, 0] (ust n hn _) (usl n hn)]
  clean_types
  pointwise
  by_cases hd : n'.val = n
  · rw [dif_pos ⟨by omega, hn'⟩]
    unfold ro
    rw [Finset.sum_range, Finset.sum_range, hd]
    congr 1
    · refine Finset.sum_congr rfl fun x _ => ?_
      erw [k h x c, h6 h x e]
    · exact Finset.sum_congr rfl fun x _ => k h x c
  · rw [dif_neg (by omega)]
    exact h12 n' h c e (by omega)

/-- One turn of the loop. -/
theorem Carried.step (V : Valuation τ sig (Elt Ideal)) (n : ℕ) (hn : n < 32) (I : Carried A0 A1 A2 A3 A4 A5 n V) :
    Carried A0 A1 A2 A3 A4 A5 (n + 1) (STEP V) where
  h0 := by rw [STEP_main_v32_0]; exact I.h0
  h1 := by rw [STEP_main_v32_1]; exact I.h1
  h2 := by rw [STEP_main_v32_2]; exact I.h2
  h3 := by rw [STEP_main_v32_3]; exact I.h3
  h4 := by rw [STEP_main_v32_4]; exact I.h4
  h5 := by rw [STEP_main_v32_5]; exact I.h5
  h6 := by rw [STEP_main_v32_6]; exact I.h6
  h7 := by rw [STEP_main_v32_7]; exact I.h7
  h8 := by rw [STEP_main_v32_8]; exact I.h8
  h10 := by
    rw [STEP_main_v32_10]
    unfold step_main_v32_10
    rw [I.h10]
    funext x
    exact (BitVec.ofNat_add n 1).symm
  h11 := by rw [STEP_main_v32_11]; exact s11_at V n hn I
  h12 := by rw [STEP_main_v32_12]; exact s12_at V n hn I

/-- All the turns. -/
theorem Carried.all (V : Valuation τ sig (Elt Ideal)) (I : Carried A0 A1 A2 A3 A4 A5 0 V) :
    ∀ n, n ≤ 32 → Carried A0 A1 A2 A3 A4 A5 n (STEP^[n] V)
  | 0, _ => I
  | n + 1, h => by
    rw [Function.iterate_succ_apply']
    exact Carried.step _ n (by omega) (Carried.all V I n (by omega))

theorem out_at (x : S32x56x64x128.Idx → EReal) (ι : S2048x7168.Idx) (a : Fin 32) (b : Fin 56) (c : Fin 64) (d : Fin 128)
    (ha : a.val = (ι 0).val / 64) (hb : b.val = (ι 1).val / 128) (hc : c.val = (ι 0).val % 64) (hd : d.val = (ι 1).val % 128) :
    shapeCast S2048x7168 (transpose S32x64x56x128 [0, 2, 1, 3] x transposes_S32x56x64x128_S32x64x56x128_0_2_1_3) shapeCasts_S32x64x56x128_S2048x7168 ι
      = x (ix4 a b c d) := by
  idx_vars ι
  pointwise
  congr 1
  funext y
  match y with
  | ⟨0, _⟩ => exact Fin.ext ha.symm
  | ⟨1, _⟩ => exact Fin.ext hb.symm
  | ⟨2, _⟩ => exact Fin.ext hc.symm
  | ⟨3, _⟩ => exact Fin.ext hd.symm

/-- The reference's result at an index. -/
theorem result_at (V : Valuation τ sig (Elt Ideal)) (I : Carried A0 A1 A2 A3 A4 A5 0 V) (ι : S2048x7168.Idx) :
    out_main_v34 (F := Ideal) (STEP^[32] V) ι = ro A0 A1 A2 A3 A4 A5 ((ι 1).val / 128) (ι 0).val ((ι 1).val % 128) := by
  have J := Carried.all V I 32 le_rfl
  have b0 : (ι 0).val < 2048 := (ι 0).isLt
  have b1 : (ι 1).val < 7168 := (ι 1).isLt
  unfold out_main_v34
  have e := J.h12 ⟨(ι 0).val / 64, by omega⟩ ⟨(ι 1).val / 128, by omega⟩ ⟨(ι 0).val % 64, by omega⟩ ⟨(ι 1).val % 128, by omega⟩ (by show (ι 0).val / 64 < 32; omega)
  generalize STEP^[32] V = W at *
  refine ((out_at _ ι _ _ _ _ rfl rfl rfl rfl).trans e).trans ?_
  dsimp only
  rw [show 64 * ((ι 0).val / 64) + (ι 0).val % 64 = (ι 0).val by omega]

end Cert.ReferenceIdeal.Hand

end
-- ==== Proof.RefEntry.lean ====
/-
  What the reference's loop finds: its fixed arrays, read at an index from the six arguments.
-/
module

public import proofs.«01_k».proof.Proof.RefStep
public import Idealize.ShloMosaic.Lib.StableHlo.RunRead
import Idealize.ShloMosaic.Lib.Pointwise
import Idealize.ShloMosaic.Lib.WordCmp

@[expose] public section

noncomputable section

namespace Cert.ReferenceIdeal.Hand
open Idealize.ShloMosaic Cert.ReferenceIdeal Cert.ReferenceIdeal.Gen Cert.ReferenceIdeal.Value
open Cert.KernelIdeal.Hand (rd3 rd4 rd5 Rr Kr Sc Yf sv rd3_of rd4_of rd5_of)
open Idealize.ShloMosaic.TcCoe Idealize.ShloMosaic.StableHlo
open scoped BigOperators

set_option maxHeartbeats 400000
set_option maxRecDepth 16384

theorem foldl_sum' {α : Type} (g : α → EReal) (l : List α) : ∀ r : EReal, l.foldl (fun r k => r + g k) r = r + (l.map g).sum := by
  induction l with
  | nil => intro r; simp
  | cons a l ih => intro r; simp [ih, add_assoc]

theorem shift_sum (f : ℕ → EReal) (N j : ℕ) (hj : j < N + 1) :
    ∑ a ∈ Finset.range (N + 1), (if N ≤ j + a then f (j + a - N) else 0) = ∑ y ∈ Finset.range (j + 1), f y := by
  rw [← Finset.sum_filter]
  refine Finset.sum_nbij' (fun a => j + a - N) (fun y => y + N - j) ?_ ?_ ?_ ?_ ?_ <;>
    simp only [Finset.mem_filter, Finset.mem_range] <;> intros
  all_goals first | omega | trivial

/-- The running sum over the rows of a matrix, at an index. -/
theorem cums_gen {R N C : ℕ} (hR : N + 1 = R) (x : (⟨2, ![R, C]⟩ : Shape).Idx → EReal) (z : EReal) (hz : z = 0)
    (hw : (⟨2, ![R, C]⟩ : Shape).ReduceWindows (![R, 1] : Fin 2 → Nat) ![1, 1] ![N, 0] ![0, 0] ⟨2, ![R, C]⟩)
    (j : Fin R) (h : Fin C) (f : ℕ → EReal) (hx : ∀ y : Fin R, x (ix2 y h) = f y.val) :
    Ideal.hostReduceWindowAdd ![R, 1] ![1, 1] ![N, 0] ![0, 0] hw x z (ix2 j h) = ∑ y ∈ Finset.range (j.val + 1), f y := by
  subst hR
  unfold Ideal.hostReduceWindowAdd Host.reduceWindow
  dsimp only
  have hj := j.isLt
  have hh := h.isLt
  rw [foldl_sum', hz, zero_add, ← Fin.sum_univ_def, ← Equiv.sum_comp (Shape.rowMajor ⟨2, ![N + 1, 1]⟩), sum_idx2, ← shift_sum f N j.val j.isLt, Finset.sum_range]
  refine Finset.sum_congr rfl fun a _ => ?_
  rw [Fin.sum_univ_one]
  have ha := a.isLt
  simp only [Equiv.symm_apply_apply]
  split
  · next hin =>
    have q := (hin 0).1
    change N ≤ j.val * 1 + a.val at q
    rw [if_pos (by omega)]
    refine Eq.trans ?_ (hx ⟨j.val + a.val - N, by omega⟩)
    congr 1
    funext b
    match b with
    | 0 => exact Fin.ext (by show j.val * 1 + a.val - N = j.val + a.val - N; omega)
    | 1 => exact Fin.ext (by show h.val * 1 + 0 - 0 = h.val; omega)
  · next hin =>
    rw [if_neg]
    intro hc
    apply hin
    intro b
    match b with
    | 0 => show N ≤ j.val * 1 + a.val ∧ j.val * 1 + a.val - N < N + 1; omega
    | 1 => show 0 ≤ h.val * 1 + 0 ∧ h.val * 1 + 0 - 0 < C; omega

theorem rwa_eq {s t u : Shape} (window strides lo hi : Fin s.rank → Nat) (x : s.Idx → EReal) (z : u.Idx → EReal)
    (h : s.ReduceWindows window strides lo hi t) (hu : 0 < u.numel) :
    (Host.reduceWindowAdd (F := Ideal) (φ := .f32) window strides lo hi x z h hu : t.Idx → EReal)
      = Ideal.hostReduceWindowAdd window strides lo hi h x (z (Shape.Idx.first hu)) := rfl

theorem cums_at (x : S2048x56.Idx → EReal) (z : S_.Idx → EReal) (hz : ∀ i, z i = 0) (j : Fin 2048) (h : Fin 56) (f : ℕ → EReal)
    (hx : ∀ y : Fin 2048, x (ix2 y h) = f y.val) :
    (Host.reduceWindowAdd (F := Ideal) (φ := .f32) ![2048, 1] ![1, 1] ![2047, 0] ![0, 0] x z reduceWindows_S2048x56_S2048x56_w2048s1p2047_0_w1s1p0_0 h_S_ : S2048x56.Idx → EReal) (ix2 j h)
      = ∑ y ∈ Finset.range (j.val + 1), f y := by
  have k := fun hw => cums_gen (R := 2048) (N := 2047) (C := 56) (by norm_num) x (z (Shape.Idx.first h_S_)) (hz _) hw j h f hx
  rw [rwa_eq]
  exact k reduceWindows_S2048x56_S2048x56_w2048s1p2047_0_w1s1p0_0

variable (m : (ℓ : Loc nD τ sig) → Buf (Elt Ideal) ℓ) (c : Dev nD)

theorem e0 : entryContents preI m c (Proc.devRef .tc main_v32_0) = shapeCast S56x32x128x64 (transpose S56x16x2x128x64 [0, 1, 3, 2, 4] (shapeCast S56x16x128x2x64 (m ((c : Thread nD τ).loc main_arg2)) shapeCasts_S56x16x128x128_S56x16x128x2x64) transposes_S56x16x128x2x64_S56x16x2x128x64_0_1_3_2_4) shapeCasts_S56x16x2x128x64_S56x32x128x64 := by
  simp only [entryContents, afterL_cons, afterL_nil]
  after_reads_simp
  rfl

theorem e1 : entryContents preI m c (Proc.devRef .tc main_v32_1) = iotaInDim S1x32x1x1 32 1 := by
  simp only [entryContents, afterL_cons, afterL_nil]
  after_reads_simp
  rfl

theorem e2 : entryContents preI m c (Proc.devRef .tc main_v32_2) = shapeCast S56x32x64x64 (transpose S56x16x2x64x64 [0, 1, 3, 2, 4] (shapeCast S56x16x64x2x64 (m ((c : Thread nD τ).loc main_arg3)) shapeCasts_S56x16x64x128_S56x16x64x2x64) transposes_S56x16x64x2x64_S56x16x2x64x64_0_1_3_2_4) shapeCasts_S56x16x2x64x64_S56x32x64x64 := by
  simp only [entryContents, afterL_cons, afterL_nil]
  after_reads_simp
  rfl

theorem e3 : entryContents preI m c (Proc.devRef .tc main_v32_3) = Host.divf (constant (F := Ideal) S_ .f32 0x3F800000#32) (Host.sqrt (constant (F := Ideal) S_ .f32 0x43000000#32)) := by
  simp only [entryContents, afterL_cons, afterL_nil]
  after_reads_simp
  rfl

theorem e4 : entryContents preI m c (Proc.devRef .tc main_v32_4) = shapeCast S56x32x64 (transpose S56x2048 [1, 0] (Host.reduceWindowAdd (F := Ideal) (φ := .f32) ![2048, 1] ![1, 1] ![2047, 0] ![0, 0] (shapeCast S2048x56 (m ((c : Thread nD τ).loc main_arg5)) shapeCasts_S1x2048x56_S2048x56) (broadcastInDim S_ ![] bcast_S_S_ (constant (F := Ideal) S_ .f32 0x00000000#32)) reduceWindows_S2048x56_S2048x56_w2048s1p2047_0_w1s1p0_0 h_S_) transposes_S2048x56_S56x2048_1_0) shapeCasts_S56x2048_S56x32x64 := by
  simp only [entryContents, afterL_cons, afterL_nil]
  after_reads_simp
  rfl

theorem e5 : entryContents preI m c (Proc.devRef .tc main_v32_5) = cmpi .sle (iotaInDim S1x1x64x64 32 2) (iotaInDim S1x1x64x64 32 3) := by
  simp only [entryContents, afterL_cons, afterL_nil]
  after_reads_simp
  rfl

theorem e6 : entryContents preI m c (Proc.devRef .tc main_v32_6) = transpose S56x2048x128 [1, 0, 2] (shapeCast S2048x56x128 (m ((c : Thread nD τ).loc main_arg4)) shapeCasts_S1x2048x56x128_S2048x56x128) transposes_S2048x56x128_S56x2048x128_1_0_2 := by
  simp only [entryContents, afterL_cons, afterL_nil]
  after_reads_simp
  rfl

theorem e7 : entryContents preI m c (Proc.devRef .tc main_v32_7) = addf (F := Ideal) (s := S56x32x128x128) (φ := .f32) (addf (F := Ideal)
      (extf .f32 (shapeCast S56x32x128x128 (extractStridedSlice S56x32x1x128x128 ![0, 0, 0, 0, 0] (m ((c : Thread nD τ).loc main_arg0)) slices_S56x32x3x128x128_S56x32x1x128x128_0_0_0_0_0) shapeCasts_S56x32x1x128x128_S56x32x128x128) bitsLt_bf16_f32)
      (extf .f32 (shapeCast S56x32x128x128 (extractStridedSlice S56x32x1x128x128 ![0, 0, 1, 0, 0] (m ((c : Thread nD τ).loc main_arg0)) slices_S56x32x3x128x128_S56x32x1x128x128_0_0_1_0_0) shapeCasts_S56x32x1x128x128_S56x32x128x128) bitsLt_bf16_f32))
      (extf .f32 (shapeCast S56x32x128x128 (extractStridedSlice S56x32x1x128x128 ![0, 0, 2, 0, 0] (m ((c : Thread nD τ).loc main_arg0)) slices_S56x32x3x128x128_S56x32x1x128x128_0_0_2_0_0) shapeCasts_S56x32x1x128x128_S56x32x128x128) bitsLt_bf16_f32) := by
  simp only [entryContents, afterL_cons, afterL_nil]
  after_reads_simp
  rfl

theorem e8 : entryContents preI m c (Proc.devRef .tc main_v32_8) = shapeCast S56x32x64x128 (m ((c : Thread nD τ).loc main_arg1)) shapeCasts_S56x2048x128_S56x32x64x128 := by
  simp only [entryContents, afterL_cons, afterL_nil]
  after_reads_simp
  rfl

theorem e10 : entryContents preI m c (Proc.devRef .tc main_v32_10) = constantI S_ 32 0#32 := by
  simp only [entryContents, afterL_cons, afterL_nil]
  after_reads_simp
  rfl

theorem p0 (x : S56x16x128x128.Idx → EReal) (h : Fin 56) (n : Fin 32) (a : Fin 128) (b : Fin 64) :
    shapeCast S56x32x128x64 (transpose S56x16x2x128x64 [0, 1, 3, 2, 4] (shapeCast S56x16x128x2x64 x shapeCasts_S56x16x128x128_S56x16x128x2x64) transposes_S56x16x128x2x64_S56x16x2x128x64_0_1_3_2_4) shapeCasts_S56x16x2x128x64_S56x32x128x64 (ix4 h n a b)
      = rd4 x h.val (n.val / 2) a.val (64 * (n.val % 2) + b.val) := by
  pointwise
  refine rd4_of _ _ ?_ ?_ ?_ ?_ <;> simp [ix4] <;> omega

theorem p1 (n : Fin 32) : iotaInDim S1x32x1x1 32 1 (ix4 (0 : Fin 1) n (0 : Fin 1) (0 : Fin 1)) = BitVec.ofNat 32 n.val := rfl

theorem p2 (x : S56x16x64x128.Idx → EReal) (h : Fin 56) (n : Fin 32) (a b : Fin 64) :
    shapeCast S56x32x64x64 (transpose S56x16x2x64x64 [0, 1, 3, 2, 4] (shapeCast S56x16x64x2x64 x shapeCasts_S56x16x64x128_S56x16x64x2x64) transposes_S56x16x64x2x64_S56x16x2x64x64_0_1_3_2_4) shapeCasts_S56x16x2x64x64_S56x32x64x64 (ix4 h n a b)
      = rd4 x h.val (n.val / 2) a.val (64 * (n.val % 2) + b.val) := by
  pointwise
  refine rd4_of _ _ ?_ ?_ ?_ ?_ <;> simp [ix4] <;> omega

theorem one_bits : Ideal.ofBits .f32 0x3F800000#32 = (1 : EReal) := by
  simp [Ideal.ofBits, Ideal.ieee]
  rw [← EReal.coe_mul]
  norm_num

theorem n128_bits : Ideal.ofBits .f32 0x43000000#32 = ((128 : ℝ) : EReal) := by
  simp [Ideal.ofBits, Ideal.ieee]
  rw [← EReal.coe_mul]
  norm_num

theorem p3 : (Host.divf (constant (F := Ideal) S_ .f32 0x3F800000#32) (Host.sqrt (constant (F := Ideal) S_ .f32 0x43000000#32)) : S_.Idx → EReal) ix0 = scl := by
  show Ideal.div (Ideal.ofBits .f32 0x3F800000#32) (Ideal.sqrt (Ideal.ofBits .f32 0x43000000#32)) = scl
  rw [one_bits, n128_bits, Ideal.sqrt_coe, if_neg (by norm_num), Ideal.div_coe (by positivity), one_mul]
  unfold scl
  rw [one_div]

theorem p4 (x : S1x2048x56.Idx → EReal) (h : Fin 56) (n : Fin 32) (a : Fin 64) :
    (shapeCast S56x32x64 (transpose S56x2048 [1, 0] (Host.reduceWindowAdd (F := Ideal) (φ := .f32) ![2048, 1] ![1, 1] ![2047, 0] ![0, 0] (shapeCast S2048x56 x shapeCasts_S1x2048x56_S2048x56) (broadcastInDim S_ ![] bcast_S_S_ (constant (F := Ideal) S_ .f32 0x00000000#32)) reduceWindows_S2048x56_S2048x56_w2048s1p2047_0_w1s1p0_0 h_S_) transposes_S2048x56_S56x2048_1_0) shapeCasts_S56x2048_S56x32x64 : S56x32x64.Idx → EReal) (ix3 h n a)
      = Fs x h.val (64 * n.val + a.val) := by
  have k := fun (j : Fin 2048) => cums_at (shapeCast S2048x56 x shapeCasts_S1x2048x56_S2048x56) (broadcastInDim S_ ![] bcast_S_S_ (constant (F := Ideal) S_ .f32 0x00000000#32))
    (fun i => by show Ideal.ofBits .f32 0x00000000#32 = 0; simp [Ideal.ofBits, Ideal.ieee]) j h (fun y => rd3 x 0 y h.val)
    (fun y => by
      pointwise
      refine rd3_of _ _ ?_ ?_ ?_ <;> simp [ix3])
  generalize Host.reduceWindowAdd (F := Ideal) (φ := .f32) ![2048, 1] ![1, 1] ![2047, 0] ![0, 0] (shapeCast S2048x56 x shapeCasts_S1x2048x56_S2048x56) (broadcastInDim S_ ![] bcast_S_S_ (constant (F := Ideal) S_ .f32 0x00000000#32)) reduceWindows_S2048x56_S2048x56_w2048s1p2047_0_w1s1p0_0 h_S_ = w at *
  have hn := n.isLt
  have ha := a.isLt
  refine Eq.trans ?_ ((k ⟨64 * n.val + a.val, by omega⟩).trans rfl)
  pointwise
  congr 1
  funext b
  match b with
  | 0 => exact Fin.ext (by show _ = 64 * n.val + a.val; simp [ix2]; omega)
  | 1 => rfl

theorem p5 (a b : Fin 64) : cmpi .sle (iotaInDim S1x1x64x64 32 2) (iotaInDim S1x1x64x64 32 3) (ix4 (0 : Fin 1) (0 : Fin 1) a b) = BitVec.ofBool (decide (a.val ≤ b.val)) := by
  have ha := a.isLt
  have hb := b.isLt
  show IntOp.cmpi .sle (BitVec.ofNat 32 a.val) (BitVec.ofNat 32 b.val) = _
  exact WordCmp.cmpi_sle_ofNat (by omega) (by omega)

theorem p6 (x : S1x2048x56x128.Idx → EReal) (h : Fin 56) (j : Fin 2048) (e : Fin 128) :
    transpose S56x2048x128 [1, 0, 2] (shapeCast S2048x56x128 x shapeCasts_S1x2048x56x128_S2048x56x128) transposes_S2048x56x128_S56x2048x128_1_0_2 (ix3 h j e)
      = rd4 x 0 j.val h.val e.val := by
  pointwise
  refine rd4_of _ _ ?_ ?_ ?_ ?_ <;> simp [ix4]

theorem p7 (x : S56x32x3x128x128.Idx → EReal) (hx : ∀ i, ∃ r : ℝ, x i = (r : EReal)) (h : Fin 56) (n : Fin 32) (a b : Fin 128) :
    (addf (F := Ideal) (s := S56x32x128x128) (φ := .f32) (addf (F := Ideal)
      (extf .f32 (shapeCast S56x32x128x128 (extractStridedSlice S56x32x1x128x128 ![0, 0, 0, 0, 0] x slices_S56x32x3x128x128_S56x32x1x128x128_0_0_0_0_0) shapeCasts_S56x32x1x128x128_S56x32x128x128 : FVec Ideal S56x32x128x128 .bf16) bitsLt_bf16_f32)
      (extf .f32 (shapeCast S56x32x128x128 (extractStridedSlice S56x32x1x128x128 ![0, 0, 1, 0, 0] x slices_S56x32x3x128x128_S56x32x1x128x128_0_0_1_0_0) shapeCasts_S56x32x1x128x128_S56x32x128x128 : FVec Ideal S56x32x128x128 .bf16) bitsLt_bf16_f32))
      (extf .f32 (shapeCast S56x32x128x128 (extractStridedSlice S56x32x1x128x128 ![0, 0, 2, 0, 0] x slices_S56x32x3x128x128_S56x32x1x128x128_0_0_2_0_0) shapeCasts_S56x32x1x128x128_S56x32x128x128 : FVec Ideal S56x32x128x128 .bf16) bitsLt_bf16_f32) : S56x32x128x128.Idx → EReal) (ix4 h n a b)
      = ((Rr x h.val n.val a.val b.val : ℝ) : EReal) := by
  have k : ∀ p : Fin 3, x (ix5 h n p a b) = (((rd5 x h.val n.val p.val a.val b.val).toReal : ℝ) : EReal) := fun p => by
    obtain ⟨r, hr⟩ := hx (ix5 h n p a b)
    have e : x (ix5 h n p a b) = rd5 x h.val n.val p.val a.val b.val := rd5_of _ _ rfl rfl rfl rfl rfl
    rw [← e, hr]; rfl
  have k0 := k 0
  have k1 := k 1
  have k2 := k 2
  unfold Rr
  pointwise
  rw [EReal.coe_add, EReal.coe_add]
  erw [k0, k1, k2]
  rfl

theorem p8 (x : S56x2048x128.Idx → EReal) (hx : ∀ i, ∃ r : ℝ, x i = (r : EReal)) (h : Fin 56) (n : Fin 32) (a : Fin 64) (e : Fin 128) :
    shapeCast S56x32x64x128 x shapeCasts_S56x2048x128_S56x32x64x128 (ix4 h n a e) = ((Kr x h.val (64 * n.val + a.val) e.val : ℝ) : EReal) := by
  have hn := n.isLt
  have ha := a.isLt
  obtain ⟨r, hr⟩ := hx (ix3 h ⟨64 * n.val + a.val, by omega⟩ e)
  have k : x (ix3 h ⟨64 * n.val + a.val, by omega⟩ e) = rd3 x h.val (64 * n.val + a.val) e.val := rd3_of _ _ rfl rfl rfl
  unfold Kr
  rw [← k, hr]
  refine Eq.trans ?_ hr
  pointwise
  congr 1
  funext b
  match b with
  | 0 => rfl
  | 1 => exact Fin.ext (by show _ = 64 * n.val + a.val; simp [ix3]; omega)
  | 2 => rfl

/-- The transitions and the keys are finite on every core. -/
def Fin01 : Prop := ∀ c : Dev nD,
  (∀ x : S56x32x3x128x128.Idx, ∃ r : ℝ, m ((c : Thread nD τ).loc main_arg0) x = (r : EReal))
  ∧ (∀ x : S56x2048x128.Idx, ∃ r : ℝ, m ((c : Thread nD τ).loc main_arg1) x = (r : EReal))

/-- What the loop is entered with. -/
theorem carried0 (hf : Fin01 m) : Carried (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) 0 (entryContents preI m c) where
  h0 h n x k := (congrFun (e0 m c) _).trans (p0 _ h n x k)
  h1 n := (congrFun (e1 m c) _).trans (p1 n)
  h2 h n a k := (congrFun (e2 m c) _).trans (p2 _ h n a k)
  h3 := (congrFun (e3 m c) _).trans p3
  h4 h n k := (congrFun (e4 m c) _).trans (p4 _ h n k)
  h5 a k := (congrFun (e5 m c) _).trans (p5 a k)
  h6 h j e := (congrFun (e6 m c) _).trans (p6 _ h j e)
  h7 h n x e := (congrFun (e7 m c) _).trans (p7 _ (hf c).1 h n x e)
  h8 h n a e := (congrFun (e8 m c) _).trans (p8 _ (hf c).2 h n a e)
  h10 := e10 m c
  h11 _ _ _ _ hh := absurd hh (Nat.not_lt_zero _)
  h12 _ _ _ _ hh := absurd hh (Nat.not_lt_zero _)

end Cert.ReferenceIdeal.Hand

end
-- ==== Proof.Soft.lean ====
/-
  The two spellings of the softmax agree on every extended real: the kernel's exponentials in base two of scores scaled by the
  base's logarithm, shifted by the row's sum of logarithms apart from the largest score, and the reference's in base `e`.
-/
module

public import proofs.«01_k».proof.Proof.Data
public import proofs.«01_k».proof.Proof.RefStep

@[expose] public section

noncomputable section

namespace Cert.ReferenceIdeal.Hand

open Idealize.ShloMosaic
open Cert.KernelIdeal.Hand (rd3 rd4 rd5 Rr Kr Sc Yf sv c0 c1 Fc tt mq pw outv attnOut)
open scoped BigOperators

set_option maxHeartbeats 400000

theorem c0_pos : (0 : ℝ) < (Real.log 2)⁻¹ := inv_pos.mpr (Real.log_pos (by norm_num))

theorem c0_nonneg : (0 : EReal) ≤ c0 := by unfold c0; exact_mod_cast c0_pos.le

theorem c0_ne_top : c0 ≠ ⊤ := by unfold c0; exact EReal.coe_ne_top _

theorem bot_c0 : (⊥ : EReal) * c0 = ⊥ := EReal.bot_mul_coe_of_pos c0_pos

theorem top_c0 : (⊤ : EReal) * c0 = ⊤ := EReal.top_mul_coe_of_pos c0_pos

theorem add_c0 (a b : EReal) : (a + b) * c0 = a * c0 + b * c0 := EReal.right_distrib_of_nonneg_of_ne_top c0_nonneg c0_ne_top a b

theorem sub_c0 (a b : EReal) : (a - b) * c0 = a * c0 - b * c0 := by
  rw [sub_eq_add_neg, add_c0, EReal.neg_mul, ← sub_eq_add_neg]

theorem scl_c0 : scl * c0 = c1 := by
  unfold scl c0 c1
  rw [EReal.coe_mul]

theorem exp_eq (x : EReal) : Ideal.exp x = Ideal.exp2 (x * c0) := by
  induction x with
  | bot => rw [bot_c0]; rfl
  | top => rw [top_c0]; rfl
  | coe r =>
    have e : ((r : EReal)) * c0 = ((r * (Real.log 2)⁻¹ : ℝ) : EReal) := by unfold c0; rw [EReal.coe_mul]
    rw [e]
    show ((Real.exp r : ℝ) : EReal) = ((Real.rpow 2 (r * (Real.log 2)⁻¹) : ℝ) : EReal)
    congr 1
    show _ = (2 : ℝ) ^ (r * (Real.log 2)⁻¹)
    rw [Real.rpow_def_of_pos (by norm_num)]
    congr 1
    have h : Real.log 2 ≠ 0 := (Real.log_pos (by norm_num)).ne'
    field_simp

theorem sup_c0 (f : ℕ → EReal) : (Finset.range 2048).sup f * c0 = (Finset.range 2048).sup fun j => f j * c0 :=
  Finset.apply_sup_eq_sup_comp_of_linearOrder (fun x : EReal => x * c0) (fun _ _ h => mul_le_mul_of_nonneg_right h c0_nonneg) bot_c0

theorem sup_add (f : ℕ → EReal) (g : EReal) : (Finset.range 2048).sup f + g = (Finset.range 2048).sup fun j => f j + g :=
  Finset.apply_sup_eq_sup_comp_of_linearOrder (fun x : EReal => x + g) (fun _ _ h => add_le_add_left h g) (EReal.bot_add g)

/-- The two exponents agree. -/
theorem expo_eq (s F : ℕ → EReal) (i j : ℕ) (hj : j < 2048) (u t : ℕ → EReal)
    (hu : ∀ j, u j = if j ≤ i then s j * scl + F i - F j else ⊥)
    (ht : ∀ j, t j = if j ≤ i then s j * c1 - F j * c0 else ⊥) :
    (u j - (Finset.range 2048).sup u) * c0 = t j + (F i * c0 - ((Finset.range 2048).sup t + F i * c0)) := by
  have hut : u j ≤ (Finset.range 2048).sup u := Finset.le_sup (Finset.mem_range.mpr hj)
  have htt : t j ≤ (Finset.range 2048).sup t := Finset.le_sup (Finset.mem_range.mpr hj)
  rcases eq_or_ne (F i) ⊥ with hb | hb
  · have e : u j = ⊥ := by
      rw [hu]; split
      · rw [hb, EReal.add_bot, sub_eq_add_neg, EReal.bot_add]
      · rfl
    rw [e, hb, bot_c0, sub_eq_add_neg, EReal.bot_add, bot_c0, sub_eq_add_neg, EReal.bot_add, EReal.add_bot]
  rcases eq_or_ne (F i) ⊤ with hp | hp
  · have l : u j - (Finset.range 2048).sup u = ⊥ := by
      have e : u j = ⊥ ∨ u j = ⊤ := by
        rw [hu]; split
        · rw [hp]
          rcases eq_or_ne (s j * scl) ⊥ with h1 | h1
          · left; rw [h1, EReal.bot_add, sub_eq_add_neg, EReal.bot_add]
          · rw [EReal.add_top_of_ne_bot h1, sub_eq_add_neg]
            rcases eq_or_ne (-F j) ⊥ with h2 | h2
            · left; rw [h2, EReal.add_bot]
            · right; rw [EReal.top_add_of_ne_bot h2]
        · exact Or.inl rfl
      rcases e with e | e
      · rw [e, sub_eq_add_neg, EReal.bot_add]
      · rw [e] at hut
        rw [top_le_iff.mp hut, sub_eq_add_neg, EReal.neg_top, EReal.add_bot]
    rw [l, hp, bot_c0, top_c0]
    rcases eq_or_ne ((Finset.range 2048).sup t) ⊥ with h1 | h1
    · rw [h1, le_bot_iff] at htt
      rw [htt, EReal.bot_add]
    · rw [EReal.add_top_of_ne_bot h1, sub_eq_add_neg, EReal.neg_top, EReal.add_bot, EReal.add_bot]
  · lift F i to ℝ using ⟨hp, hb⟩ with f hf
    have k : ∀ j, u j * c0 = t j + (f : EReal) * c0 := by
      intro j
      rw [hu, ht]
      split
      · rw [sub_c0, add_c0, mul_assoc, scl_c0, sub_eq_add_neg, sub_eq_add_neg, add_assoc, add_assoc, add_comm ((f : EReal) * c0)]
      · rw [bot_c0, EReal.bot_add]
    rw [sub_c0, sup_c0, sup_add, k j]
    rw [show (fun j => u j * c0) = fun j => t j + (f : EReal) * c0 from funext k, sub_eq_add_neg, sub_eq_add_neg, add_assoc]

variable (A0 : (⟨5, ![56, 32, 3, 128, 128]⟩ : Shape).Idx → EReal) (A1 : (⟨3, ![56, 2048, 128]⟩ : Shape).Idx → EReal)
  (A2 : (⟨4, ![56, 16, 128, 128]⟩ : Shape).Idx → EReal) (A3 : (⟨4, ![56, 16, 64, 128]⟩ : Shape).Idx → EReal)
  (A4 : (⟨4, ![1, 2048, 56, 128]⟩ : Shape).Idx → EReal) (A5 : (⟨3, ![1, 2048, 56]⟩ : Shape).Idx → EReal)

theorem weight_eq (h i j : ℕ) (hj : j < 2048) :
    rw_ A0 A1 A2 A3 A5 h i j = pw (Sc A0 A1 A2 A3 h) (Fc fun j => rd3 A5 0 j h) i j := by
  unfold rw_ pw mq
  rw [exp_eq, expo_eq (Sc A0 A1 A2 A3 h i) (Fs A5 h) i j hj (ru A0 A1 A2 A3 A5 h i) (tt (Sc A0 A1 A2 A3 h) (Fc fun j => rd3 A5 0 j h) i) (fun _ => rfl) (fun _ => rfl)]
  rfl

/-- The reference's output is the kernel's. -/
theorem ro_eq (i col : ℕ) : ro A0 A1 A2 A3 A4 A5 (col / 128) i (col % 128) = attnOut A0 A1 A2 A3 A4 A5 i col := by
  unfold ro attnOut outv
  congr 1
  · refine Finset.sum_congr rfl fun j hj => ?_
    rw [weight_eq A0 A1 A2 A3 A5 _ _ _ (Finset.mem_range.mp hj), mul_comm]
  · exact Finset.sum_congr rfl fun j hj => weight_eq A0 A1 A2 A3 A5 _ _ _ (Finset.mem_range.mp hj)

end Cert.ReferenceIdeal.Hand

end
-- ==== Proof.Values.lean ====
/-
  The claims: the two programs' results agree where the transports and the keys are finite.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch
public import proofs.«01_k».proof.Proof.RefEntry
public import proofs.«01_k».proof.Proof.Soft
import Idealize.ShloMosaic.Lib.Quiescent

@[expose] public section

noncomputable section

namespace Cert.HandC

open Idealize.ShloMosaic Idealize.SL.Sem

instance preFacts : Cert.Pre_finite.Facts := ⟨by decide, by decide⟩

theorem inf16 : Ideal.ofBits .bf16 0x7F80#16 = ⊤ := by simp [Ideal.ofBits, Ideal.ieee]

theorem inf32 : Ideal.ofBits .f32 0x7F800000#32 = ⊤ := by simp [Ideal.ofBits, Ideal.ieee]

/-- What is below infinity in magnitude is a real number. -/
theorem real_of_lt (x t : EReal) (ht : t = ⊤) (h : Ideal.cmp .olt (max x (-x)) t = 1#1) : ∃ r : ℝ, x = (r : EReal) := by
  subst ht
  have h' : max x (-x) < ⊤ := by
    by_contra hc
    simp [Ideal.cmp, hc] at h
  induction x with
  | bot => simp at h'
  | top => simp at h'
  | coe r => exact ⟨r, rfl⟩

theorem fin01 (m : (ℓ : Loc Cert.KernelIdeal.nD Cert.KernelIdeal.τ Cert.KernelIdeal.sig) → Buf (Elt Ideal) ℓ)
    (h : Cert.Pre_KernelIdeal_finite m) : Cert.KernelIdeal.HandV.Fin01 m := fun c =>
  ⟨fun x => real_of_lt _ _ inf16 (congrFun (h c).1 x), fun x => real_of_lt _ _ inf32 (congrFun (h c).2 x)⟩

theorem frame_ri (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0) :=
  (θ_run Cert.ReferenceIdeal.defs _ _).mono (fun r h => ⟨fun c => (h c).2, Idealize.ShloMosaic.sem_eq_zero_of_no_sems (by decide) r.2⟩)
    (Cert.ReferenceIdeal.Value.run (F := Ideal) m g)

theorem preserves : Cert.preserves_Kernel_KernelIdeal :=
  ⟨IdealRules.named_const.statement Cert.KernelIdeal.κ "log2e" .f32 0x3FB8AA3B#32 (((Real.log 2)⁻¹ : ℝ) : EReal) rfl,
   IdealRules.named_const.statement Cert.KernelIdeal.κ "scale_log2e" .f32 0x3E0293EE#32 (((Real.sqrt 128)⁻¹ * (Real.log 2)⁻¹ : ℝ) : EReal) rfl⟩

/-- The reference's result, from the arguments. -/
theorem ref_value (m' : (ℓ : Loc Cert.ReferenceIdeal.nD Cert.ReferenceIdeal.τ Cert.ReferenceIdeal.sig) → Buf (Elt Ideal) ℓ)
    (hf : Cert.ReferenceIdeal.Hand.Fin01 m') (c : Dev Cert.ReferenceIdeal.nD) (ι : Cert.ReferenceIdeal.S2048x7168.Idx) :
    Cert.ReferenceIdeal.Value.out_main_v34 (F := Ideal) (Cert.ReferenceIdeal.Value.STEP^[32] (StableHlo.entryContents Cert.ReferenceIdeal.Value.preI m' c)) ι
      = Cert.KernelIdeal.Hand.attnOut (m' ((c.tc : Thread _ Cert.ReferenceIdeal.τ).loc Cert.ReferenceIdeal.main_arg0)) (m' ((c.tc : Thread _ Cert.ReferenceIdeal.τ).loc Cert.ReferenceIdeal.main_arg1))
          (m' ((c.tc : Thread _ Cert.ReferenceIdeal.τ).loc Cert.ReferenceIdeal.main_arg2)) (m' ((c.tc : Thread _ Cert.ReferenceIdeal.τ).loc Cert.ReferenceIdeal.main_arg3))
          (m' ((c.tc : Thread _ Cert.ReferenceIdeal.τ).loc Cert.ReferenceIdeal.main_arg4)) (m' ((c.tc : Thread _ Cert.ReferenceIdeal.τ).loc Cert.ReferenceIdeal.main_arg5)) (ι 0).val (ι 1).val :=
  (Cert.ReferenceIdeal.Hand.result_at _ (Cert.ReferenceIdeal.Hand.carried0 m' c hf) ι).trans
    (Cert.ReferenceIdeal.Hand.ro_eq _ _ _ _ _ _ _ _)

theorem algebraic : Cert.algebraic_KernelIdeal_ReferenceIdeal_pre_finite := fun m g m' g' hpre hag =>
  have hf := fin01 m hpre
  have hf' : Cert.ReferenceIdeal.Hand.Fin01 m' := fun c =>
    ⟨fun x => by rw [(hag c).1]; exact (hf c).1 x, fun x => by rw [(hag c).2.1]; exact (hf c).2 x⟩
  ⟨fun c => Cert.KernelIdeal.HandV.G m c, Cert.KernelIdeal.HandV.run m g hf,
    (θ_run Cert.ReferenceIdeal.defs _ _).mono (fun r h c => ⟨(h c).1.trans (funext fun ι => by
        refine (ref_value m' hf' c ι).trans ?_
        obtain ⟨a0, a1, a2, a3, a4, a5⟩ := hag c
        rw [a0, a1, a2, a3, a4, a5]
        rfl), (h c).2⟩) (Cert.ReferenceIdeal.Value.run (F := Ideal) m' g')⟩

end Cert.HandC

end
-- ==== Proof.lean ====
module

public import proofs.«01_k».proof.Defs
public import proofs.«01_k».proof.Proof.Gen.ReferenceIdeal.Run
public import proofs.«01_k».proof.Proof.FrameK
public import proofs.«01_k».proof.Proof.FrameKI
public import proofs.«01_k».proof.Proof.Values
import Idealize.ShloMosaic.Lib.Tactic

@[expose] public section

namespace Cert.Proof

open Idealize.ShloMosaic Idealize.SL.Sem Cert.Kernel

theorem claim : Cert.Claim := ⟨Cert.Kernel.Gen.facts, Cert.KernelIdeal.Gen.facts, Cert.ReferenceIdeal.Gen.facts, Cert.HandC.preFacts,
  fun m ρ _ => Cert.Kernel.Hand.frame (F := Bits) m ρ,
  fun m ρ _ => Cert.KernelIdeal.Hand.frame (F := Ideal) m ρ,
  fun m ρ _ => Cert.KernelIdeal.Hand.frame (F := Ideal) m ρ,
  fun m ρ _ => Cert.HandC.frame_ri m ρ,
  fun m ρ _ => Cert.HandC.frame_ri m ρ,
  Cert.HandC.preserves,
  Cert.HandC.algebraic⟩

end Cert.Proof

end
